-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel4 [hPre_blocks_named : Cert.Pre_blocks_named.Facts] (m : (ℓ : Loc Cert.Kernel4.nD Cert.Kernel4.τ Cert.Kernel4.sig) → Buf (Elt Bits) ℓ) : Prop :=
  ∀ c : Dev Cert.Kernel4.nD,
    (Cert.Pre_blocks_named.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4)) (m ((c.tc : Thread Cert.Kernel4.nD Cert.Kernel4.τ).loc Cert.Kernel4.main_arg5))) = (fun _ => 1#1)

def Pre_Kernel4Ideal [hPre_blocks_named : Cert.Pre_blocks_named.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_blocks_named.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal [hPre_blocks_named : Cert.Pre_blocks_named.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_blocks_named.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8)
      ∧ r.2.mem ((c.tc : Thread Cert.Kernel2.nD Cert.Kernel2.τ).loc Cert.Kernel2.main_arg9) = m ((c.tc : Thread Cert.Kernel2.nD Cert.Kernel2.τ).loc Cert.Kernel2.main_arg9)
      ∧ r.2.mem ((c.tc : Thread Cert.Kernel2.nD Cert.Kernel2.τ).loc Cert.Kernel2.main_arg10) = m ((c.tc : Thread Cert.Kernel2.nD Cert.Kernel2.τ).loc Cert.Kernel2.main_arg10)
      ∧ r.2.mem ((c.tc : Thread Cert.Kernel2.nD Cert.Kernel2.τ).loc Cert.Kernel2.main_arg11) = m ((c.tc : Thread Cert.Kernel2.nD Cert.Kernel2.τ).loc Cert.Kernel2.main_arg11)
      ∧ r.2.mem ((c.tc : Thread Cert.Kernel2.nD Cert.Kernel2.τ).loc Cert.Kernel2.main_arg12) = m ((c.tc : Thread Cert.Kernel2.nD Cert.Kernel2.τ).loc Cert.Kernel2.main_arg12)
      ∧ r.2.mem ((c.tc : Thread Cert.Kernel2.nD Cert.Kernel2.τ).loc Cert.Kernel2.main_arg13) = m ((c.tc : Thread Cert.Kernel2.nD Cert.Kernel2.τ).loc Cert.Kernel2.main_arg13)
      ∧ r.2.mem ((c.tc : Thread Cert.Kernel2.nD Cert.Kernel2.τ).loc Cert.Kernel2.main_arg14) = m ((c.tc : Thread Cert.Kernel2.nD Cert.Kernel2.τ).loc Cert.Kernel2.main_arg14)
      ∧ r.2.mem ((c.tc : Thread Cert.Kernel2.nD Cert.Kernel2.τ).loc Cert.Kernel2.main_arg15) = m ((c.tc : Thread Cert.Kernel2.nD Cert.Kernel2.τ).loc Cert.Kernel2.main_arg15)
      ∧ r.2.mem ((c.tc : Thread Cert.Kernel2.nD Cert.Kernel2.τ).loc Cert.Kernel2.main_arg16) = m ((c.tc : Thread Cert.Kernel2.nD Cert.Kernel2.τ).loc Cert.Kernel2.main_arg16))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
      ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
      ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
      ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
      ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
      ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
      ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
      ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
      ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8)
      ∧ r.2.mem ((c.tc : Thread Cert.Reference2Ideal.nD Cert.Reference2Ideal.τ).loc Cert.Reference2Ideal.main_arg9) = m ((c.tc : Thread Cert.Reference2Ideal.nD Cert.Reference2Ideal.τ).loc Cert.Reference2Ideal.main_arg9)
      ∧ r.2.mem ((c.tc : Thread Cert.Reference2Ideal.nD Cert.Reference2Ideal.τ).loc Cert.Reference2Ideal.main_arg10) = m ((c.tc : Thread Cert.Reference2Ideal.nD Cert.Reference2Ideal.τ).loc Cert.Reference2Ideal.main_arg10)
      ∧ r.2.mem ((c.tc : Thread Cert.Reference2Ideal.nD Cert.Reference2Ideal.τ).loc Cert.Reference2Ideal.main_arg11) = m ((c.tc : Thread Cert.Reference2Ideal.nD Cert.Reference2Ideal.τ).loc Cert.Reference2Ideal.main_arg11)
      ∧ r.2.mem ((c.tc : Thread Cert.Reference2Ideal.nD Cert.Reference2Ideal.τ).loc Cert.Reference2Ideal.main_arg12) = m ((c.tc : Thread Cert.Reference2Ideal.nD Cert.Reference2Ideal.τ).loc Cert.Reference2Ideal.main_arg12)
      ∧ r.2.mem ((c.tc : Thread Cert.Reference2Ideal.nD Cert.Reference2Ideal.τ).loc Cert.Reference2Ideal.main_arg13) = m ((c.tc : Thread Cert.Reference2Ideal.nD Cert.Reference2Ideal.τ).loc Cert.Reference2Ideal.main_arg13)
      ∧ r.2.mem ((c.tc : Thread Cert.Reference2Ideal.nD Cert.Reference2Ideal.τ).loc Cert.Reference2Ideal.main_arg14) = m ((c.tc : Thread Cert.Reference2Ideal.nD Cert.Reference2Ideal.τ).loc Cert.Reference2Ideal.main_arg14)
      ∧ r.2.mem ((c.tc : Thread Cert.Reference2Ideal.nD Cert.Reference2Ideal.τ).loc Cert.Reference2Ideal.main_arg15) = m ((c.tc : Thread Cert.Reference2Ideal.nD Cert.Reference2Ideal.τ).loc Cert.Reference2Ideal.main_arg15)
      ∧ r.2.mem ((c.tc : Thread Cert.Reference2Ideal.nD Cert.Reference2Ideal.τ).loc Cert.Reference2Ideal.main_arg16) = m ((c.tc : Thread Cert.Reference2Ideal.nD Cert.Reference2Ideal.τ).loc Cert.Reference2Ideal.main_arg16))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13)
      ∧ r.2.mem ((c.tc : Thread Cert.Kernel3.nD Cert.Kernel3.τ).loc Cert.Kernel3.main_arg14) = m ((c.tc : Thread Cert.Kernel3.nD Cert.Kernel3.τ).loc Cert.Kernel3.main_arg14)
      ∧ r.2.mem ((c.tc : Thread Cert.Kernel3.nD Cert.Kernel3.τ).loc Cert.Kernel3.main_arg15) = m ((c.tc : Thread Cert.Kernel3.nD Cert.Kernel3.τ).loc Cert.Kernel3.main_arg15))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
      ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
      ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13)
      ∧ r.2.mem ((c.tc : Thread Cert.Reference3Ideal.nD Cert.Reference3Ideal.τ).loc Cert.Reference3Ideal.main_arg14) = m ((c.tc : Thread Cert.Reference3Ideal.nD Cert.Reference3Ideal.τ).loc Cert.Reference3Ideal.main_arg14)
      ∧ r.2.mem ((c.tc : Thread Cert.Reference3Ideal.nD Cert.Reference3Ideal.τ).loc Cert.Reference3Ideal.main_arg15) = m ((c.tc : Thread Cert.Reference3Ideal.nD Cert.Reference3Ideal.τ).loc Cert.Reference3Ideal.main_arg15))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5)
      ∧ r.2.mem ((c.tc : Thread Cert.Kernel5.nD Cert.Kernel5.τ).loc Cert.Kernel5.main_arg6) = m ((c.tc : Thread Cert.Kernel5.nD Cert.Kernel5.τ).loc Cert.Kernel5.main_arg6)
      ∧ r.2.mem ((c.tc : Thread Cert.Kernel5.nD Cert.Kernel5.τ).loc Cert.Kernel5.main_arg7) = m ((c.tc : Thread Cert.Kernel5.nD Cert.Kernel5.τ).loc Cert.Kernel5.main_arg7)
      ∧ r.2.mem ((c.tc : Thread Cert.Kernel5.nD Cert.Kernel5.τ).loc Cert.Kernel5.main_arg8) = m ((c.tc : Thread Cert.Kernel5.nD Cert.Kernel5.τ).loc Cert.Kernel5.main_arg8)
      ∧ r.2.mem ((c.tc : Thread Cert.Kernel5.nD Cert.Kernel5.τ).loc Cert.Kernel5.main_arg9) = m ((c.tc : Thread Cert.Kernel5.nD Cert.Kernel5.τ).loc Cert.Kernel5.main_arg9)
      ∧ r.2.mem ((c.tc : Thread Cert.Kernel5.nD Cert.Kernel5.τ).loc Cert.Kernel5.main_arg10) = m ((c.tc : Thread Cert.Kernel5.nD Cert.Kernel5.τ).loc Cert.Kernel5.main_arg10)
      ∧ r.2.mem ((c.tc : Thread Cert.Kernel5.nD Cert.Kernel5.τ).loc Cert.Kernel5.main_arg11) = m ((c.tc : Thread Cert.Kernel5.nD Cert.Kernel5.τ).loc Cert.Kernel5.main_arg11)
      ∧ r.2.mem ((c.tc : Thread Cert.Kernel5.nD Cert.Kernel5.τ).loc Cert.Kernel5.main_arg12) = m ((c.tc : Thread Cert.Kernel5.nD Cert.Kernel5.τ).loc Cert.Kernel5.main_arg12)
      ∧ r.2.mem ((c.tc : Thread Cert.Kernel5.nD Cert.Kernel5.τ).loc Cert.Kernel5.main_arg13) = m ((c.tc : Thread Cert.Kernel5.nD Cert.Kernel5.τ).loc Cert.Kernel5.main_arg13)
      ∧ r.2.mem ((c.tc : Thread Cert.Kernel5.nD Cert.Kernel5.τ).loc Cert.Kernel5.main_arg14) = m ((c.tc : Thread Cert.Kernel5.nD Cert.Kernel5.τ).loc Cert.Kernel5.main_arg14)
      ∧ r.2.mem ((c.tc : Thread Cert.Kernel5.nD Cert.Kernel5.τ).loc Cert.Kernel5.main_arg15) = m ((c.tc : Thread Cert.Kernel5.nD Cert.Kernel5.τ).loc Cert.Kernel5.main_arg15)
      ∧ r.2.mem ((c.tc : Thread Cert.Kernel5.nD Cert.Kernel5.τ).loc Cert.Kernel5.main_arg16) = m ((c.tc : Thread Cert.Kernel5.nD Cert.Kernel5.τ).loc Cert.Kernel5.main_arg16)
      ∧ r.2.mem ((c.tc : Thread Cert.Kernel5.nD Cert.Kernel5.τ).loc Cert.Kernel5.main_arg17) = m ((c.tc : Thread Cert.Kernel5.nD Cert.Kernel5.τ).loc Cert.Kernel5.main_arg17)
      ∧ r.2.mem ((c.tc : Thread Cert.Kernel5.nD Cert.Kernel5.τ).loc Cert.Kernel5.main_arg18) = m ((c.tc : Thread Cert.Kernel5.nD Cert.Kernel5.τ).loc Cert.Kernel5.main_arg18)
      ∧ r.2.mem ((c.tc : Thread Cert.Kernel5.nD Cert.Kernel5.τ).loc Cert.Kernel5.main_arg19) = m ((c.tc : Thread Cert.Kernel5.nD Cert.Kernel5.τ).loc Cert.Kernel5.main_arg19)
      ∧ r.2.mem ((c.tc : Thread Cert.Kernel5.nD Cert.Kernel5.τ).loc Cert.Kernel5.main_arg20) = m ((c.tc : Thread Cert.Kernel5.nD Cert.Kernel5.τ).loc Cert.Kernel5.main_arg20)
      ∧ r.2.mem ((c.tc : Thread Cert.Kernel5.nD Cert.Kernel5.τ).loc Cert.Kernel5.main_arg21) = m ((c.tc : Thread Cert.Kernel5.nD Cert.Kernel5.τ).loc Cert.Kernel5.main_arg21))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
      ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
      ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
      ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
      ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
      ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
      ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
      ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
      ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
      ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
      ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
      ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
      ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
      ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
      ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
      ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20)
      ∧ r.2.mem ((c.tc : Thread Cert.Kernel5Ideal.nD Cert.Kernel5Ideal.τ).loc Cert.Kernel5Ideal.main_arg21) = m ((c.tc : Thread Cert.Kernel5Ideal.nD Cert.Kernel5Ideal.τ).loc Cert.Kernel5Ideal.main_arg21))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5)
      ∧ r.2.mem ((c.tc : Thread Cert.Reference5Ideal.nD Cert.Reference5Ideal.τ).loc Cert.Reference5Ideal.main_arg6) = m ((c.tc : Thread Cert.Reference5Ideal.nD Cert.Reference5Ideal.τ).loc Cert.Reference5Ideal.main_arg6)
      ∧ r.2.mem ((c.tc : Thread Cert.Reference5Ideal.nD Cert.Reference5Ideal.τ).loc Cert.Reference5Ideal.main_arg7) = m ((c.tc : Thread Cert.Reference5Ideal.nD Cert.Reference5Ideal.τ).loc Cert.Reference5Ideal.main_arg7)
      ∧ r.2.mem ((c.tc : Thread Cert.Reference5Ideal.nD Cert.Reference5Ideal.τ).loc Cert.Reference5Ideal.main_arg8) = m ((c.tc : Thread Cert.Reference5Ideal.nD Cert.Reference5Ideal.τ).loc Cert.Reference5Ideal.main_arg8)
      ∧ r.2.mem ((c.tc : Thread Cert.Reference5Ideal.nD Cert.Reference5Ideal.τ).loc Cert.Reference5Ideal.main_arg9) = m ((c.tc : Thread Cert.Reference5Ideal.nD Cert.Reference5Ideal.τ).loc Cert.Reference5Ideal.main_arg9)
      ∧ r.2.mem ((c.tc : Thread Cert.Reference5Ideal.nD Cert.Reference5Ideal.τ).loc Cert.Reference5Ideal.main_arg10) = m ((c.tc : Thread Cert.Reference5Ideal.nD Cert.Reference5Ideal.τ).loc Cert.Reference5Ideal.main_arg10)
      ∧ r.2.mem ((c.tc : Thread Cert.Reference5Ideal.nD Cert.Reference5Ideal.τ).loc Cert.Reference5Ideal.main_arg11) = m ((c.tc : Thread Cert.Reference5Ideal.nD Cert.Reference5Ideal.τ).loc Cert.Reference5Ideal.main_arg11)
      ∧ r.2.mem ((c.tc : Thread Cert.Reference5Ideal.nD Cert.Reference5Ideal.τ).loc Cert.Reference5Ideal.main_arg12) = m ((c.tc : Thread Cert.Reference5Ideal.nD Cert.Reference5Ideal.τ).loc Cert.Reference5Ideal.main_arg12)
      ∧ r.2.mem ((c.tc : Thread Cert.Reference5Ideal.nD Cert.Reference5Ideal.τ).loc Cert.Reference5Ideal.main_arg13) = m ((c.tc : Thread Cert.Reference5Ideal.nD Cert.Reference5Ideal.τ).loc Cert.Reference5Ideal.main_arg13)
      ∧ r.2.mem ((c.tc : Thread Cert.Reference5Ideal.nD Cert.Reference5Ideal.τ).loc Cert.Reference5Ideal.main_arg14) = m ((c.tc : Thread Cert.Reference5Ideal.nD Cert.Reference5Ideal.τ).loc Cert.Reference5Ideal.main_arg14)
      ∧ r.2.mem ((c.tc : Thread Cert.Reference5Ideal.nD Cert.Reference5Ideal.τ).loc Cert.Reference5Ideal.main_arg15) = m ((c.tc : Thread Cert.Reference5Ideal.nD Cert.Reference5Ideal.τ).loc Cert.Reference5Ideal.main_arg15)
      ∧ r.2.mem ((c.tc : Thread Cert.Reference5Ideal.nD Cert.Reference5Ideal.τ).loc Cert.Reference5Ideal.main_arg16) = m ((c.tc : Thread Cert.Reference5Ideal.nD Cert.Reference5Ideal.τ).loc Cert.Reference5Ideal.main_arg16)
      ∧ r.2.mem ((c.tc : Thread Cert.Reference5Ideal.nD Cert.Reference5Ideal.τ).loc Cert.Reference5Ideal.main_arg17) = m ((c.tc : Thread Cert.Reference5Ideal.nD Cert.Reference5Ideal.τ).loc Cert.Reference5Ideal.main_arg17)
      ∧ r.2.mem ((c.tc : Thread Cert.Reference5Ideal.nD Cert.Reference5Ideal.τ).loc Cert.Reference5Ideal.main_arg18) = m ((c.tc : Thread Cert.Reference5Ideal.nD Cert.Reference5Ideal.τ).loc Cert.Reference5Ideal.main_arg18)
      ∧ r.2.mem ((c.tc : Thread Cert.Reference5Ideal.nD Cert.Reference5Ideal.τ).loc Cert.Reference5Ideal.main_arg19) = m ((c.tc : Thread Cert.Reference5Ideal.nD Cert.Reference5Ideal.τ).loc Cert.Reference5Ideal.main_arg19)
      ∧ r.2.mem ((c.tc : Thread Cert.Reference5Ideal.nD Cert.Reference5Ideal.τ).loc Cert.Reference5Ideal.main_arg20) = m ((c.tc : Thread Cert.Reference5Ideal.nD Cert.Reference5Ideal.τ).loc Cert.Reference5Ideal.main_arg20)
      ∧ r.2.mem ((c.tc : Thread Cert.Reference5Ideal.nD Cert.Reference5Ideal.τ).loc Cert.Reference5Ideal.main_arg21) = m ((c.tc : Thread Cert.Reference5Ideal.nD Cert.Reference5Ideal.τ).loc Cert.Reference5Ideal.main_arg21))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel4 [hKernel4 : Cert.Kernel4.Facts] [hPre_blocks_named : Cert.Pre_blocks_named.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] [hPre_blocks_named : Cert.Pre_blocks_named.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] [hPre_blocks_named : Cert.Pre_blocks_named.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v9) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v54) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  IdealRules.bf16_pair.BufferStatement Cert.Kernel2Ideal.S4x8192x2x512 Cert.Kernel2Ideal.S4x8192x1x512
  ∧ IdealRules.bf16_pair.BufferStatement Cert.Kernel2Ideal.S1x512x2x512 Cert.Kernel2Ideal.S1x512x1x512
  ∧ IdealRules.bf16_pair.PackStatement Cert.Kernel2Ideal.S512x512
  ∧ IdealRules.bf16_pair.Statement Cert.Kernel2Ideal.S1x512x2x512 Cert.Kernel2Ideal.S1x512x1x512

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)
      ∧ m' ((c.tc : Thread Cert.Reference2Ideal.nD Cert.Reference2Ideal.τ).loc Cert.Reference2Ideal.main_arg9) = m ((c.tc : Thread Cert.Kernel2Ideal.nD Cert.Kernel2Ideal.τ).loc Cert.Kernel2Ideal.main_arg9)
      ∧ m' ((c.tc : Thread Cert.Reference2Ideal.nD Cert.Reference2Ideal.τ).loc Cert.Reference2Ideal.main_arg10) = m ((c.tc : Thread Cert.Kernel2Ideal.nD Cert.Kernel2Ideal.τ).loc Cert.Kernel2Ideal.main_arg10)
      ∧ m' ((c.tc : Thread Cert.Reference2Ideal.nD Cert.Reference2Ideal.τ).loc Cert.Reference2Ideal.main_arg11) = m ((c.tc : Thread Cert.Kernel2Ideal.nD Cert.Kernel2Ideal.τ).loc Cert.Kernel2Ideal.main_arg11)
      ∧ m' ((c.tc : Thread Cert.Reference2Ideal.nD Cert.Reference2Ideal.τ).loc Cert.Reference2Ideal.main_arg12) = m ((c.tc : Thread Cert.Kernel2Ideal.nD Cert.Kernel2Ideal.τ).loc Cert.Kernel2Ideal.main_arg12)
      ∧ m' ((c.tc : Thread Cert.Reference2Ideal.nD Cert.Reference2Ideal.τ).loc Cert.Reference2Ideal.main_arg13) = m ((c.tc : Thread Cert.Kernel2Ideal.nD Cert.Kernel2Ideal.τ).loc Cert.Kernel2Ideal.main_arg13)
      ∧ m' ((c.tc : Thread Cert.Reference2Ideal.nD Cert.Reference2Ideal.τ).loc Cert.Reference2Ideal.main_arg14) = m ((c.tc : Thread Cert.Kernel2Ideal.nD Cert.Kernel2Ideal.τ).loc Cert.Kernel2Ideal.main_arg14)
      ∧ m' ((c.tc : Thread Cert.Reference2Ideal.nD Cert.Reference2Ideal.τ).loc Cert.Reference2Ideal.main_arg15) = m ((c.tc : Thread Cert.Kernel2Ideal.nD Cert.Kernel2Ideal.τ).loc Cert.Kernel2Ideal.main_arg15)
      ∧ m' ((c.tc : Thread Cert.Reference2Ideal.nD Cert.Reference2Ideal.τ).loc Cert.Reference2Ideal.main_arg16) = m ((c.tc : Thread Cert.Kernel2Ideal.nD Cert.Kernel2Ideal.τ).loc Cert.Kernel2Ideal.main_arg16)) →
    ∃ (v0 : (c : Dev Cert.Kernel2Ideal.nD) → Buf (Elt Ideal) ((c.tc : Thread Cert.Kernel2Ideal.nD Cert.Kernel2Ideal.τ).loc Cert.Kernel2Ideal.main_v40_0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v40_0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8)
          ∧ r.2.mem ((c.tc : Thread Cert.Kernel2Ideal.nD Cert.Kernel2Ideal.τ).loc Cert.Kernel2Ideal.main_arg9) = m ((c.tc : Thread Cert.Kernel2Ideal.nD Cert.Kernel2Ideal.τ).loc Cert.Kernel2Ideal.main_arg9)
          ∧ r.2.mem ((c.tc : Thread Cert.Kernel2Ideal.nD Cert.Kernel2Ideal.τ).loc Cert.Kernel2Ideal.main_arg10) = m ((c.tc : Thread Cert.Kernel2Ideal.nD Cert.Kernel2Ideal.τ).loc Cert.Kernel2Ideal.main_arg10)
          ∧ r.2.mem ((c.tc : Thread Cert.Kernel2Ideal.nD Cert.Kernel2Ideal.τ).loc Cert.Kernel2Ideal.main_arg11) = m ((c.tc : Thread Cert.Kernel2Ideal.nD Cert.Kernel2Ideal.τ).loc Cert.Kernel2Ideal.main_arg11)
          ∧ r.2.mem ((c.tc : Thread Cert.Kernel2Ideal.nD Cert.Kernel2Ideal.τ).loc Cert.Kernel2Ideal.main_arg12) = m ((c.tc : Thread Cert.Kernel2Ideal.nD Cert.Kernel2Ideal.τ).loc Cert.Kernel2Ideal.main_arg12)
          ∧ r.2.mem ((c.tc : Thread Cert.Kernel2Ideal.nD Cert.Kernel2Ideal.τ).loc Cert.Kernel2Ideal.main_arg13) = m ((c.tc : Thread Cert.Kernel2Ideal.nD Cert.Kernel2Ideal.τ).loc Cert.Kernel2Ideal.main_arg13)
          ∧ r.2.mem ((c.tc : Thread Cert.Kernel2Ideal.nD Cert.Kernel2Ideal.τ).loc Cert.Kernel2Ideal.main_arg14) = m ((c.tc : Thread Cert.Kernel2Ideal.nD Cert.Kernel2Ideal.τ).loc Cert.Kernel2Ideal.main_arg14)
          ∧ r.2.mem ((c.tc : Thread Cert.Kernel2Ideal.nD Cert.Kernel2Ideal.τ).loc Cert.Kernel2Ideal.main_arg15) = m ((c.tc : Thread Cert.Kernel2Ideal.nD Cert.Kernel2Ideal.τ).loc Cert.Kernel2Ideal.main_arg15)
          ∧ r.2.mem ((c.tc : Thread Cert.Kernel2Ideal.nD Cert.Kernel2Ideal.τ).loc Cert.Kernel2Ideal.main_arg16) = m ((c.tc : Thread Cert.Kernel2Ideal.nD Cert.Kernel2Ideal.τ).loc Cert.Kernel2Ideal.main_arg16))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v128) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8)
          ∧ r.2.mem ((c.tc : Thread Cert.Reference2Ideal.nD Cert.Reference2Ideal.τ).loc Cert.Reference2Ideal.main_arg9) = m' ((c.tc : Thread Cert.Reference2Ideal.nD Cert.Reference2Ideal.τ).loc Cert.Reference2Ideal.main_arg9)
          ∧ r.2.mem ((c.tc : Thread Cert.Reference2Ideal.nD Cert.Reference2Ideal.τ).loc Cert.Reference2Ideal.main_arg10) = m' ((c.tc : Thread Cert.Reference2Ideal.nD Cert.Reference2Ideal.τ).loc Cert.Reference2Ideal.main_arg10)
          ∧ r.2.mem ((c.tc : Thread Cert.Reference2Ideal.nD Cert.Reference2Ideal.τ).loc Cert.Reference2Ideal.main_arg11) = m' ((c.tc : Thread Cert.Reference2Ideal.nD Cert.Reference2Ideal.τ).loc Cert.Reference2Ideal.main_arg11)
          ∧ r.2.mem ((c.tc : Thread Cert.Reference2Ideal.nD Cert.Reference2Ideal.τ).loc Cert.Reference2Ideal.main_arg12) = m' ((c.tc : Thread Cert.Reference2Ideal.nD Cert.Reference2Ideal.τ).loc Cert.Reference2Ideal.main_arg12)
          ∧ r.2.mem ((c.tc : Thread Cert.Reference2Ideal.nD Cert.Reference2Ideal.τ).loc Cert.Reference2Ideal.main_arg13) = m' ((c.tc : Thread Cert.Reference2Ideal.nD Cert.Reference2Ideal.τ).loc Cert.Reference2Ideal.main_arg13)
          ∧ r.2.mem ((c.tc : Thread Cert.Reference2Ideal.nD Cert.Reference2Ideal.τ).loc Cert.Reference2Ideal.main_arg14) = m' ((c.tc : Thread Cert.Reference2Ideal.nD Cert.Reference2Ideal.τ).loc Cert.Reference2Ideal.main_arg14)
          ∧ r.2.mem ((c.tc : Thread Cert.Reference2Ideal.nD Cert.Reference2Ideal.τ).loc Cert.Reference2Ideal.main_arg15) = m' ((c.tc : Thread Cert.Reference2Ideal.nD Cert.Reference2Ideal.τ).loc Cert.Reference2Ideal.main_arg15)
          ∧ r.2.mem ((c.tc : Thread Cert.Reference2Ideal.nD Cert.Reference2Ideal.τ).loc Cert.Reference2Ideal.main_arg16) = m' ((c.tc : Thread Cert.Reference2Ideal.nD Cert.Reference2Ideal.τ).loc Cert.Reference2Ideal.main_arg16))

def preserves_Kernel3_Kernel3Ideal : Prop :=
  IdealRules.bf16_pair.BufferStatement Cert.Kernel3Ideal.S4x8192x2x512 Cert.Kernel3Ideal.S4x8192x1x512
  ∧ IdealRules.bf16_pair.BufferStatement Cert.Kernel3Ideal.S1x512x2x512 Cert.Kernel3Ideal.S1x512x1x512
  ∧ IdealRules.bf16_pair.PackStatement Cert.Kernel3Ideal.S512x512
  ∧ IdealRules.bf16_pair.Statement Cert.Kernel3Ideal.S1x512x2x512 Cert.Kernel3Ideal.S1x512x1x512

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)
      ∧ m' ((c.tc : Thread Cert.Reference3Ideal.nD Cert.Reference3Ideal.τ).loc Cert.Reference3Ideal.main_arg14) = m ((c.tc : Thread Cert.Kernel3Ideal.nD Cert.Kernel3Ideal.τ).loc Cert.Kernel3Ideal.main_arg14)
      ∧ m' ((c.tc : Thread Cert.Reference3Ideal.nD Cert.Reference3Ideal.τ).loc Cert.Reference3Ideal.main_arg15) = m ((c.tc : Thread Cert.Kernel3Ideal.nD Cert.Kernel3Ideal.τ).loc Cert.Kernel3Ideal.main_arg15)) →
    ∃ (v0 : (c : Dev Cert.Kernel3Ideal.nD) → Buf (Elt Ideal) ((c.tc : Thread Cert.Kernel3Ideal.nD Cert.Kernel3Ideal.τ).loc Cert.Kernel3Ideal.main_v37_0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v37_0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13)
          ∧ r.2.mem ((c.tc : Thread Cert.Kernel3Ideal.nD Cert.Kernel3Ideal.τ).loc Cert.Kernel3Ideal.main_arg14) = m ((c.tc : Thread Cert.Kernel3Ideal.nD Cert.Kernel3Ideal.τ).loc Cert.Kernel3Ideal.main_arg14)
          ∧ r.2.mem ((c.tc : Thread Cert.Kernel3Ideal.nD Cert.Kernel3Ideal.τ).loc Cert.Kernel3Ideal.main_arg15) = m ((c.tc : Thread Cert.Kernel3Ideal.nD Cert.Kernel3Ideal.τ).loc Cert.Kernel3Ideal.main_arg15))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v307) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13)
          ∧ r.2.mem ((c.tc : Thread Cert.Reference3Ideal.nD Cert.Reference3Ideal.τ).loc Cert.Reference3Ideal.main_arg14) = m' ((c.tc : Thread Cert.Reference3Ideal.nD Cert.Reference3Ideal.τ).loc Cert.Reference3Ideal.main_arg14)
          ∧ r.2.mem ((c.tc : Thread Cert.Reference3Ideal.nD Cert.Reference3Ideal.τ).loc Cert.Reference3Ideal.main_arg15) = m' ((c.tc : Thread Cert.Reference3Ideal.nD Cert.Reference3Ideal.τ).loc Cert.Reference3Ideal.main_arg15))

def preserves_Kernel5_Kernel5Ideal : Prop :=
  IdealRules.bf16_pair.BufferStatement Cert.Kernel5Ideal.S4x8192x2x512 Cert.Kernel5Ideal.S4x8192x1x512
  ∧ IdealRules.bf16_pair.BufferStatement Cert.Kernel5Ideal.S1x512x2x512 Cert.Kernel5Ideal.S1x512x1x512
  ∧ IdealRules.bf16_pair.PackStatement Cert.Kernel5Ideal.S512x512
  ∧ IdealRules.bf16_pair.Statement Cert.Kernel5Ideal.S1x512x2x512 Cert.Kernel5Ideal.S1x512x1x512

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)
      ∧ m' ((c.tc : Thread Cert.Reference5Ideal.nD Cert.Reference5Ideal.τ).loc Cert.Reference5Ideal.main_arg6) = m ((c.tc : Thread Cert.Kernel5Ideal.nD Cert.Kernel5Ideal.τ).loc Cert.Kernel5Ideal.main_arg6)
      ∧ m' ((c.tc : Thread Cert.Reference5Ideal.nD Cert.Reference5Ideal.τ).loc Cert.Reference5Ideal.main_arg7) = m ((c.tc : Thread Cert.Kernel5Ideal.nD Cert.Kernel5Ideal.τ).loc Cert.Kernel5Ideal.main_arg7)
      ∧ m' ((c.tc : Thread Cert.Reference5Ideal.nD Cert.Reference5Ideal.τ).loc Cert.Reference5Ideal.main_arg8) = m ((c.tc : Thread Cert.Kernel5Ideal.nD Cert.Kernel5Ideal.τ).loc Cert.Kernel5Ideal.main_arg8)
      ∧ m' ((c.tc : Thread Cert.Reference5Ideal.nD Cert.Reference5Ideal.τ).loc Cert.Reference5Ideal.main_arg9) = m ((c.tc : Thread Cert.Kernel5Ideal.nD Cert.Kernel5Ideal.τ).loc Cert.Kernel5Ideal.main_arg9)
      ∧ m' ((c.tc : Thread Cert.Reference5Ideal.nD Cert.Reference5Ideal.τ).loc Cert.Reference5Ideal.main_arg10) = m ((c.tc : Thread Cert.Kernel5Ideal.nD Cert.Kernel5Ideal.τ).loc Cert.Kernel5Ideal.main_arg10)
      ∧ m' ((c.tc : Thread Cert.Reference5Ideal.nD Cert.Reference5Ideal.τ).loc Cert.Reference5Ideal.main_arg11) = m ((c.tc : Thread Cert.Kernel5Ideal.nD Cert.Kernel5Ideal.τ).loc Cert.Kernel5Ideal.main_arg11)
      ∧ m' ((c.tc : Thread Cert.Reference5Ideal.nD Cert.Reference5Ideal.τ).loc Cert.Reference5Ideal.main_arg12) = m ((c.tc : Thread Cert.Kernel5Ideal.nD Cert.Kernel5Ideal.τ).loc Cert.Kernel5Ideal.main_arg12)
      ∧ m' ((c.tc : Thread Cert.Reference5Ideal.nD Cert.Reference5Ideal.τ).loc Cert.Reference5Ideal.main_arg13) = m ((c.tc : Thread Cert.Kernel5Ideal.nD Cert.Kernel5Ideal.τ).loc Cert.Kernel5Ideal.main_arg13)
      ∧ m' ((c.tc : Thread Cert.Reference5Ideal.nD Cert.Reference5Ideal.τ).loc Cert.Reference5Ideal.main_arg14) = m ((c.tc : Thread Cert.Kernel5Ideal.nD Cert.Kernel5Ideal.τ).loc Cert.Kernel5Ideal.main_arg14)
      ∧ m' ((c.tc : Thread Cert.Reference5Ideal.nD Cert.Reference5Ideal.τ).loc Cert.Reference5Ideal.main_arg15) = m ((c.tc : Thread Cert.Kernel5Ideal.nD Cert.Kernel5Ideal.τ).loc Cert.Kernel5Ideal.main_arg15)
      ∧ m' ((c.tc : Thread Cert.Reference5Ideal.nD Cert.Reference5Ideal.τ).loc Cert.Reference5Ideal.main_arg16) = m ((c.tc : Thread Cert.Kernel5Ideal.nD Cert.Kernel5Ideal.τ).loc Cert.Kernel5Ideal.main_arg16)
      ∧ m' ((c.tc : Thread Cert.Reference5Ideal.nD Cert.Reference5Ideal.τ).loc Cert.Reference5Ideal.main_arg17) = m ((c.tc : Thread Cert.Kernel5Ideal.nD Cert.Kernel5Ideal.τ).loc Cert.Kernel5Ideal.main_arg17)
      ∧ m' ((c.tc : Thread Cert.Reference5Ideal.nD Cert.Reference5Ideal.τ).loc Cert.Reference5Ideal.main_arg18) = m ((c.tc : Thread Cert.Kernel5Ideal.nD Cert.Kernel5Ideal.τ).loc Cert.Kernel5Ideal.main_arg18)
      ∧ m' ((c.tc : Thread Cert.Reference5Ideal.nD Cert.Reference5Ideal.τ).loc Cert.Reference5Ideal.main_arg19) = m ((c.tc : Thread Cert.Kernel5Ideal.nD Cert.Kernel5Ideal.τ).loc Cert.Kernel5Ideal.main_arg19)
      ∧ m' ((c.tc : Thread Cert.Reference5Ideal.nD Cert.Reference5Ideal.τ).loc Cert.Reference5Ideal.main_arg20) = m ((c.tc : Thread Cert.Kernel5Ideal.nD Cert.Kernel5Ideal.τ).loc Cert.Kernel5Ideal.main_arg20)
      ∧ m' ((c.tc : Thread Cert.Reference5Ideal.nD Cert.Reference5Ideal.τ).loc Cert.Reference5Ideal.main_arg21) = m ((c.tc : Thread Cert.Kernel5Ideal.nD Cert.Kernel5Ideal.τ).loc Cert.Kernel5Ideal.main_arg21)) →
    ∃ (v0 : (c : Dev Cert.Kernel5Ideal.nD) → Buf (Elt Ideal) ((c.tc : Thread Cert.Kernel5Ideal.nD Cert.Kernel5Ideal.τ).loc Cert.Kernel5Ideal.main_v46_0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v46_0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5)
          ∧ r.2.mem ((c.tc : Thread Cert.Kernel5Ideal.nD Cert.Kernel5Ideal.τ).loc Cert.Kernel5Ideal.main_arg6) = m ((c.tc : Thread Cert.Kernel5Ideal.nD Cert.Kernel5Ideal.τ).loc Cert.Kernel5Ideal.main_arg6)
          ∧ r.2.mem ((c.tc : Thread Cert.Kernel5Ideal.nD Cert.Kernel5Ideal.τ).loc Cert.Kernel5Ideal.main_arg7) = m ((c.tc : Thread Cert.Kernel5Ideal.nD Cert.Kernel5Ideal.τ).loc Cert.Kernel5Ideal.main_arg7)
          ∧ r.2.mem ((c.tc : Thread Cert.Kernel5Ideal.nD Cert.Kernel5Ideal.τ).loc Cert.Kernel5Ideal.main_arg8) = m ((c.tc : Thread Cert.Kernel5Ideal.nD Cert.Kernel5Ideal.τ).loc Cert.Kernel5Ideal.main_arg8)
          ∧ r.2.mem ((c.tc : Thread Cert.Kernel5Ideal.nD Cert.Kernel5Ideal.τ).loc Cert.Kernel5Ideal.main_arg9) = m ((c.tc : Thread Cert.Kernel5Ideal.nD Cert.Kernel5Ideal.τ).loc Cert.Kernel5Ideal.main_arg9)
          ∧ r.2.mem ((c.tc : Thread Cert.Kernel5Ideal.nD Cert.Kernel5Ideal.τ).loc Cert.Kernel5Ideal.main_arg10) = m ((c.tc : Thread Cert.Kernel5Ideal.nD Cert.Kernel5Ideal.τ).loc Cert.Kernel5Ideal.main_arg10)
          ∧ r.2.mem ((c.tc : Thread Cert.Kernel5Ideal.nD Cert.Kernel5Ideal.τ).loc Cert.Kernel5Ideal.main_arg11) = m ((c.tc : Thread Cert.Kernel5Ideal.nD Cert.Kernel5Ideal.τ).loc Cert.Kernel5Ideal.main_arg11)
          ∧ r.2.mem ((c.tc : Thread Cert.Kernel5Ideal.nD Cert.Kernel5Ideal.τ).loc Cert.Kernel5Ideal.main_arg12) = m ((c.tc : Thread Cert.Kernel5Ideal.nD Cert.Kernel5Ideal.τ).loc Cert.Kernel5Ideal.main_arg12)
          ∧ r.2.mem ((c.tc : Thread Cert.Kernel5Ideal.nD Cert.Kernel5Ideal.τ).loc Cert.Kernel5Ideal.main_arg13) = m ((c.tc : Thread Cert.Kernel5Ideal.nD Cert.Kernel5Ideal.τ).loc Cert.Kernel5Ideal.main_arg13)
          ∧ r.2.mem ((c.tc : Thread Cert.Kernel5Ideal.nD Cert.Kernel5Ideal.τ).loc Cert.Kernel5Ideal.main_arg14) = m ((c.tc : Thread Cert.Kernel5Ideal.nD Cert.Kernel5Ideal.τ).loc Cert.Kernel5Ideal.main_arg14)
          ∧ r.2.mem ((c.tc : Thread Cert.Kernel5Ideal.nD Cert.Kernel5Ideal.τ).loc Cert.Kernel5Ideal.main_arg15) = m ((c.tc : Thread Cert.Kernel5Ideal.nD Cert.Kernel5Ideal.τ).loc Cert.Kernel5Ideal.main_arg15)
          ∧ r.2.mem ((c.tc : Thread Cert.Kernel5Ideal.nD Cert.Kernel5Ideal.τ).loc Cert.Kernel5Ideal.main_arg16) = m ((c.tc : Thread Cert.Kernel5Ideal.nD Cert.Kernel5Ideal.τ).loc Cert.Kernel5Ideal.main_arg16)
          ∧ r.2.mem ((c.tc : Thread Cert.Kernel5Ideal.nD Cert.Kernel5Ideal.τ).loc Cert.Kernel5Ideal.main_arg17) = m ((c.tc : Thread Cert.Kernel5Ideal.nD Cert.Kernel5Ideal.τ).loc Cert.Kernel5Ideal.main_arg17)
          ∧ r.2.mem ((c.tc : Thread Cert.Kernel5Ideal.nD Cert.Kernel5Ideal.τ).loc Cert.Kernel5Ideal.main_arg18) = m ((c.tc : Thread Cert.Kernel5Ideal.nD Cert.Kernel5Ideal.τ).loc Cert.Kernel5Ideal.main_arg18)
          ∧ r.2.mem ((c.tc : Thread Cert.Kernel5Ideal.nD Cert.Kernel5Ideal.τ).loc Cert.Kernel5Ideal.main_arg19) = m ((c.tc : Thread Cert.Kernel5Ideal.nD Cert.Kernel5Ideal.τ).loc Cert.Kernel5Ideal.main_arg19)
          ∧ r.2.mem ((c.tc : Thread Cert.Kernel5Ideal.nD Cert.Kernel5Ideal.τ).loc Cert.Kernel5Ideal.main_arg20) = m ((c.tc : Thread Cert.Kernel5Ideal.nD Cert.Kernel5Ideal.τ).loc Cert.Kernel5Ideal.main_arg20)
          ∧ r.2.mem ((c.tc : Thread Cert.Kernel5Ideal.nD Cert.Kernel5Ideal.τ).loc Cert.Kernel5Ideal.main_arg21) = m ((c.tc : Thread Cert.Kernel5Ideal.nD Cert.Kernel5Ideal.τ).loc Cert.Kernel5Ideal.main_arg21))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v362) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5)
          ∧ r.2.mem ((c.tc : Thread Cert.Reference5Ideal.nD Cert.Reference5Ideal.τ).loc Cert.Reference5Ideal.main_arg6) = m' ((c.tc : Thread Cert.Reference5Ideal.nD Cert.Reference5Ideal.τ).loc Cert.Reference5Ideal.main_arg6)
          ∧ r.2.mem ((c.tc : Thread Cert.Reference5Ideal.nD Cert.Reference5Ideal.τ).loc Cert.Reference5Ideal.main_arg7) = m' ((c.tc : Thread Cert.Reference5Ideal.nD Cert.Reference5Ideal.τ).loc Cert.Reference5Ideal.main_arg7)
          ∧ r.2.mem ((c.tc : Thread Cert.Reference5Ideal.nD Cert.Reference5Ideal.τ).loc Cert.Reference5Ideal.main_arg8) = m' ((c.tc : Thread Cert.Reference5Ideal.nD Cert.Reference5Ideal.τ).loc Cert.Reference5Ideal.main_arg8)
          ∧ r.2.mem ((c.tc : Thread Cert.Reference5Ideal.nD Cert.Reference5Ideal.τ).loc Cert.Reference5Ideal.main_arg9) = m' ((c.tc : Thread Cert.Reference5Ideal.nD Cert.Reference5Ideal.τ).loc Cert.Reference5Ideal.main_arg9)
          ∧ r.2.mem ((c.tc : Thread Cert.Reference5Ideal.nD Cert.Reference5Ideal.τ).loc Cert.Reference5Ideal.main_arg10) = m' ((c.tc : Thread Cert.Reference5Ideal.nD Cert.Reference5Ideal.τ).loc Cert.Reference5Ideal.main_arg10)
          ∧ r.2.mem ((c.tc : Thread Cert.Reference5Ideal.nD Cert.Reference5Ideal.τ).loc Cert.Reference5Ideal.main_arg11) = m' ((c.tc : Thread Cert.Reference5Ideal.nD Cert.Reference5Ideal.τ).loc Cert.Reference5Ideal.main_arg11)
          ∧ r.2.mem ((c.tc : Thread Cert.Reference5Ideal.nD Cert.Reference5Ideal.τ).loc Cert.Reference5Ideal.main_arg12) = m' ((c.tc : Thread Cert.Reference5Ideal.nD Cert.Reference5Ideal.τ).loc Cert.Reference5Ideal.main_arg12)
          ∧ r.2.mem ((c.tc : Thread Cert.Reference5Ideal.nD Cert.Reference5Ideal.τ).loc Cert.Reference5Ideal.main_arg13) = m' ((c.tc : Thread Cert.Reference5Ideal.nD Cert.Reference5Ideal.τ).loc Cert.Reference5Ideal.main_arg13)
          ∧ r.2.mem ((c.tc : Thread Cert.Reference5Ideal.nD Cert.Reference5Ideal.τ).loc Cert.Reference5Ideal.main_arg14) = m' ((c.tc : Thread Cert.Reference5Ideal.nD Cert.Reference5Ideal.τ).loc Cert.Reference5Ideal.main_arg14)
          ∧ r.2.mem ((c.tc : Thread Cert.Reference5Ideal.nD Cert.Reference5Ideal.τ).loc Cert.Reference5Ideal.main_arg15) = m' ((c.tc : Thread Cert.Reference5Ideal.nD Cert.Reference5Ideal.τ).loc Cert.Reference5Ideal.main_arg15)
          ∧ r.2.mem ((c.tc : Thread Cert.Reference5Ideal.nD Cert.Reference5Ideal.τ).loc Cert.Reference5Ideal.main_arg16) = m' ((c.tc : Thread Cert.Reference5Ideal.nD Cert.Reference5Ideal.τ).loc Cert.Reference5Ideal.main_arg16)
          ∧ r.2.mem ((c.tc : Thread Cert.Reference5Ideal.nD Cert.Reference5Ideal.τ).loc Cert.Reference5Ideal.main_arg17) = m' ((c.tc : Thread Cert.Reference5Ideal.nD Cert.Reference5Ideal.τ).loc Cert.Reference5Ideal.main_arg17)
          ∧ r.2.mem ((c.tc : Thread Cert.Reference5Ideal.nD Cert.Reference5Ideal.τ).loc Cert.Reference5Ideal.main_arg18) = m' ((c.tc : Thread Cert.Reference5Ideal.nD Cert.Reference5Ideal.τ).loc Cert.Reference5Ideal.main_arg18)
          ∧ r.2.mem ((c.tc : Thread Cert.Reference5Ideal.nD Cert.Reference5Ideal.τ).loc Cert.Reference5Ideal.main_arg19) = m' ((c.tc : Thread Cert.Reference5Ideal.nD Cert.Reference5Ideal.τ).loc Cert.Reference5Ideal.main_arg19)
          ∧ r.2.mem ((c.tc : Thread Cert.Reference5Ideal.nD Cert.Reference5Ideal.τ).loc Cert.Reference5Ideal.main_arg20) = m' ((c.tc : Thread Cert.Reference5Ideal.nD Cert.Reference5Ideal.τ).loc Cert.Reference5Ideal.main_arg20)
          ∧ r.2.mem ((c.tc : Thread Cert.Reference5Ideal.nD Cert.Reference5Ideal.τ).loc Cert.Reference5Ideal.main_arg21) = m' ((c.tc : Thread Cert.Reference5Ideal.nD Cert.Reference5Ideal.τ).loc Cert.Reference5Ideal.main_arg21))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v38) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel4_Kernel4Ideal : Prop :=
  True

def algebraic_Kernel4Ideal_Reference4Ideal_on_rows_used [hKernel4Ideal : Cert.Kernel4Ideal.Facts] [hReference4Ideal : Cert.Reference4Ideal.Facts] [hPre_blocks_named : Cert.Pre_blocks_named.Facts] [hOn_rows_used : Cert.On_rows_used.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          (∀ i : (⟨2, ![73728, 1024]⟩ : Shape).Idx, (Cert.On_rows_used.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) i = 1#1 → r.2.mem ((c.tc : Thread Cert.Kernel4Ideal.nD Cert.Kernel4Ideal.τ).loc Cert.Kernel4Ideal.main_v0) i = v0 c i)
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          (∀ i : (⟨2, ![73728, 1024]⟩ : Shape).Idx, (Cert.On_rows_used.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) i = 1#1 → r.2.mem ((c.tc : Thread Cert.Reference4Ideal.nD Cert.Reference4Ideal.τ).loc Cert.Reference4Ideal.main_v11) i = v0 c i)
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel7_Kernel7Ideal : Prop :=
  True

def algebraic_Kernel7Ideal_Reference7Ideal_on_experts_named [hKernel7Ideal : Cert.Kernel7Ideal.Facts] [hReference7Ideal : Cert.Reference7Ideal.Facts] [hOn_experts_named : Cert.On_experts_named.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          (∀ i : (⟨2, ![2, 32768]⟩ : Shape).Idx, (Cert.On_experts_named.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))) i = 1#1 → r.2.mem ((c.tc : Thread Cert.Kernel7Ideal.nD Cert.Kernel7Ideal.τ).loc Cert.Kernel7Ideal.main_v1) i = v0 c i)
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          (∀ i : (⟨2, ![2, 32768]⟩ : Shape).Idx, (Cert.On_experts_named.fn (F := Ideal) (m ((c.tc : Thread Cert.Kernel7Ideal.nD Cert.Kernel7Ideal.τ).loc Cert.Kernel7Ideal.main_arg0)) (m ((c.tc : Thread Cert.Kernel7Ideal.nD Cert.Kernel7Ideal.τ).loc Cert.Kernel7Ideal.main_arg1))) i = 1#1 → r.2.mem ((c.tc : Thread Cert.Reference7Ideal.nD Cert.Reference7Ideal.τ).loc Cert.Reference7Ideal.main_v9) i = v0 c i)
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel4 : Cert.Kernel4.Facts) (hKernel4Ideal : Cert.Kernel4Ideal.Facts) (hReference4Ideal : Cert.Reference4Ideal.Facts) (hKernel7 : Cert.Kernel7.Facts) (hKernel7Ideal : Cert.Kernel7Ideal.Facts) (hReference7Ideal : Cert.Reference7Ideal.Facts) (hPre_blocks_named : Cert.Pre_blocks_named.Facts) (hOn_rows_used : Cert.On_rows_used.Facts) (hOn_experts_named : Cert.On_experts_named.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel4 (hKernel4 := hKernel4) (hPre_blocks_named := hPre_blocks_named)
    ∧ quiescent_Kernel4Ideal (hKernel4Ideal := hKernel4Ideal) (hPre_blocks_named := hPre_blocks_named)
    ∧ quiescent_Reference4Ideal (hReference4Ideal := hReference4Ideal) (hPre_blocks_named := hPre_blocks_named)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel4_Kernel4Ideal
    ∧ algebraic_Kernel4Ideal_Reference4Ideal_on_rows_used (hKernel4Ideal := hKernel4Ideal) (hReference4Ideal := hReference4Ideal) (hPre_blocks_named := hPre_blocks_named) (hOn_rows_used := hOn_rows_used)
    ∧ preserves_Kernel7_Kernel7Ideal
    ∧ algebraic_Kernel7Ideal_Reference7Ideal_on_experts_named (hKernel7Ideal := hKernel7Ideal) (hReference7Ideal := hReference7Ideal) (hOn_experts_named := hOn_experts_named)
-- ==== On_experts_named.lean ====
abbrev S32 : Shape := ⟨1, ![32]⟩
abbrev S8x32768 : Shape := ⟨2, ![8, 32768]⟩
abbrev S2x32768 : Shape := ⟨2, ![2, 32768]⟩
abbrev S_ : Shape := ⟨0, ![]⟩

class Facts : Prop where
  slices_S8x32768_S2x32768_0_0 : S8x32768.Slices ![0, 0] S2x32768
  bcast_S_S2x32768 : S_.BroadcastsInDim S2x32768 (![] : Fin 0 → Fin S2x32768.rank)

variable [Facts]

def fn {F : FTy → Type} [FloatOps F] (main_arg0 : IVec S32 32) (main_arg1 : IVec S8x32768 32) : IVec S2x32768 1 :=
  let main_v0 : IVec S2x32768 32 := (extractStridedSlice S2x32768 ![0, 0] · slices_S8x32768_S2x32768_0_0) main_arg1
  let main_c : IVec S_ 32 := constantI S_ 32 0#32
  let main_v1 : IVec S2x32768 32 := broadcastInDim S2x32768 ![] bcast_S_S2x32768 main_c
  let main_v2 : IVec S2x32768 1 := cmpi .sge main_v0 main_v1
  let main_v3 : IVec S2x32768 32 := (extractStridedSlice S2x32768 ![0, 0] · slices_S8x32768_S2x32768_0_0) main_arg1
  let main_c_0 : IVec S_ 32 := constantI S_ 32 32#32
  let main_v4 : IVec S2x32768 32 := broadcastInDim S2x32768 ![] bcast_S_S2x32768 main_c_0
  let main_v5 : IVec S2x32768 1 := cmpi .slt main_v3 main_v4
  let main_v6 : IVec S2x32768 1 := andi main_v2 main_v5
  main_v6
-- ==== On_rows_used.lean ====
abbrev S288 : Shape := ⟨1, ![288]⟩
abbrev S1 : Shape := ⟨1, ![1]⟩
abbrev S73728x512 : Shape := ⟨2, ![73728, 512]⟩
abbrev S32x1024x512 : Shape := ⟨3, ![32, 1024, 512]⟩
abbrev S32x512x1024 : Shape := ⟨3, ![32, 512, 1024]⟩
abbrev S73728 : Shape := ⟨1, ![73728]⟩
abbrev S_ : Shape := ⟨0, ![]⟩
abbrev S73728x1 : Shape := ⟨2, ![73728, 1]⟩
abbrev S73728x1024 : Shape := ⟨2, ![73728, 1024]⟩

class Facts : Prop where
  shapeCasts_S1_S_ : S1.ShapeCasts S_
  bcast_S_S73728 : S_.BroadcastsInDim S73728 (![] : Fin 0 → Fin S73728.rank)
  bcast_S73728_S73728x1_0 : S73728.BroadcastsInDim S73728x1 (![0] : Fin 1 → Fin S73728x1.rank)
  bcast_S73728x1_S73728x1024_0_1 : S73728x1.BroadcastsInDim S73728x1024 (![0, 1] : Fin 2 → Fin S73728x1024.rank)

variable [Facts]

def fn {F : FTy → Type} [FloatOps F] (main_arg0 : IVec S288 32) (main_arg1 : IVec S1 32) (main_arg2 : IVec S73728x512 32) (main_arg3 : FVec F S32x1024x512 .f32) (main_arg4 : FVec F S32x1024x512 .f32) (main_arg5 : FVec F S32x512x1024 .f32) : IVec S73728x1024 1 :=
  let main_v0 : IVec S73728 32 := iotaInDim S73728 32 0
  let main_v1 : IVec S_ 32 := shapeCast S_ main_arg1 shapeCasts_S1_S_
  let main_c : IVec S_ 32 := constantI S_ 32 256#32
  let main_v2 : IVec S_ 32 := muli main_v1 main_c
  let main_v3 : IVec S73728 32 := broadcastInDim S73728 ![] bcast_S_S73728 main_v2
  let main_v4 : IVec S73728 1 := cmpi .slt main_v0 main_v3
  let main_v5 : IVec S73728x1 1 := broadcastInDim S73728x1 ![0] bcast_S73728_S73728x1_0 main_v4
  let main_v6 : IVec S73728x1024 1 := broadcastInDim S73728x1024 ![0, 1] bcast_S73728x1_S73728x1024_0_1 main_v5
  main_v6
-- ==== Pre_blocks_named.lean ====
abbrev S288 : Shape := ⟨1, ![288]⟩
abbrev S1 : Shape := ⟨1, ![1]⟩
abbrev S73728x512 : Shape := ⟨2, ![73728, 512]⟩
abbrev S32x1024x512 : Shape := ⟨3, ![32, 1024, 512]⟩
abbrev S32x512x1024 : Shape := ⟨3, ![32, 512, 1024]⟩
abbrev S_ : Shape := ⟨0, ![]⟩

class Facts : Prop where
  bcast_S_S288 : S_.BroadcastsInDim S288 (![] : Fin 0 → Fin S288.rank)
  shapeCasts_S1_S_ : S1.ShapeCasts S_

variable [Facts]

def fn {F : FTy → Type} [FloatOps F] (main_arg0 : IVec S288 32) (main_arg1 : IVec S1 32) (main_arg2 : IVec S73728x512 32) (main_arg3 : FVec F S32x1024x512 .f32) (main_arg4 : FVec F S32x1024x512 .f32) (main_arg5 : FVec F S32x512x1024 .f32) : IVec S288 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_v5 : IVec S_ 32 := shapeCast S_ main_arg1 shapeCasts_S1_S_
  let main_c_1 : IVec S_ 32 := constantI S_ 32 1#32
  let main_v6 : IVec S_ 1 := cmpi .sge main_v5 main_c_1
  let main_v7 : IVec S288 1 := broadcastInDim S288 ![] bcast_S_S288 main_v6
  let main_v8 : IVec S288 1 := andi main_v4 main_v7
  main_v8
-- ==== Kernel.lean ====
abbrev S4x8192x1024 : Shape := ⟨3, ![4, 8192, 1024]⟩
abbrev S4x8192x512 : Shape := ⟨3, ![4, 8192, 512]⟩
abbrev S4x8192x2 : Shape := ⟨3, ![4, 8192, 2]⟩
abbrev S4x6x1024 : Shape := ⟨3, ![4, 6, 1024]⟩
abbrev S1024 : Shape := ⟨1, ![1024]⟩
abbrev S4x8192x1 : Shape := ⟨3, ![4, 8192, 1]⟩
abbrev S4x8192x128 : Shape := ⟨3, ![4, 8192, 128]⟩
abbrev S4x8192x256 : Shape := ⟨3, ![4, 8192, 256]⟩
abbrev S1x4x6x1024 : Shape := ⟨4, ![1, 4, 6, 1024]⟩
abbrev S1x1024 : Shape := ⟨2, ![1, 1024]⟩
abbrev S2x1024 : Shape := ⟨2, ![2, 1024]⟩
abbrev S1x512x1024 : Shape := ⟨3, ![1, 512, 1024]⟩
abbrev S1x512x512 : Shape := ⟨3, ![1, 512, 512]⟩
abbrev S1x512x256 : Shape := ⟨3, ![1, 512, 256]⟩
abbrev S1x1x6x1024 : Shape := ⟨4, ![1, 1, 6, 1024]⟩
abbrev S512x1024 : Shape := ⟨2, ![512, 1024]⟩
abbrev S6x1024 : Shape := ⟨2, ![6, 1024]⟩
abbrev S512x256 : Shape := ⟨2, ![512, 256]⟩
abbrev S512x128 : Shape := ⟨2, ![512, 128]⟩
abbrev S512x512 : Shape := ⟨2, ![512, 512]⟩
abbrev S512 : Shape := ⟨1, ![512]⟩
abbrev S512x1 : Shape := ⟨2, ![512, 1]⟩

abbrev nBuf : Space → Nat
  | .hbm => 17
  | .vmem => 13
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .i32⟩
  | .hbm, ⟨2, _⟩ => ⟨S4x8192x512, .i32⟩
  | .hbm, ⟨3, _⟩ => ⟨S4x8192x2, .f32⟩
  | .hbm, ⟨4, _⟩ => ⟨S4x6x1024, .f32⟩
  | .hbm, ⟨5, _⟩ => ⟨S1024, .f32⟩
  | .hbm, ⟨6, _⟩ => ⟨S1024, .f32⟩
  | .hbm, ⟨7, _⟩ => ⟨S4x8192x1, .f32⟩
  | .hbm, ⟨8, _⟩ => ⟨S4x8192x128, .f32⟩
  | .hbm, ⟨9, _⟩ => ⟨S4x8192x1, .f32⟩
  | .hbm, ⟨10, _⟩ => ⟨S4x8192x128, .f32⟩
  | .hbm, ⟨11, _⟩ => ⟨S4x8192x256, .f32⟩
  | .hbm, ⟨12, _⟩ => ⟨S1x4x6x1024, .f32⟩
  | .hbm, ⟨13, _⟩ => ⟨S1x1024, .f32⟩
  | .hbm, ⟨14, _⟩ => ⟨S1x1024, .f32⟩
  | .hbm, ⟨15, _⟩ => ⟨S2x1024, .f32⟩
  | .hbm, ⟨16, _⟩ => ⟨S4x8192x1024, .f32⟩
  | .local _ .vmem, ⟨0, _⟩ => ⟨S1x512x1024, .f32⟩
  | .local _ .vmem, ⟨1, _⟩ => ⟨S1x512x1024, .f32⟩
  | .local _ .vmem, ⟨2, _⟩ => ⟨S1x512x512, .i32⟩
  | .local _ .vmem, ⟨3, _⟩ => ⟨S1x512x512, .i32⟩
  | .local _ .vmem, ⟨4, _⟩ => ⟨S1x512x512, .i32⟩
  | .local _ .vmem, ⟨5, _⟩ => ⟨S1x512x512, .i32⟩
  | .local _ .vmem, ⟨6, _⟩ => ⟨S1x512x256, .f32⟩
  | .local _ .vmem, ⟨7, _⟩ => ⟨S1x512x256, .f32⟩
  | .local _ .vmem, ⟨8, _⟩ => ⟨S1x1x6x1024, .f32⟩
  | .local _ .vmem, ⟨9, _⟩ => ⟨S1x1x6x1024, .f32⟩
  | .local _ .vmem, ⟨10, _⟩ => ⟨S2x1024, .f32⟩
  | .local _ .vmem, ⟨11, _⟩ => ⟨S1x512x1024, .f32⟩
  | .local _ .vmem, ⟨12, _⟩ => ⟨S1x512x1024, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== ReferenceIdeal.lean ====
abbrev S4x8192x1024 : Shape := ⟨3, ![4, 8192, 1024]⟩
abbrev S4x8192x512 : Shape := ⟨3, ![4, 8192, 512]⟩
abbrev S4x8192x2 : Shape := ⟨3, ![4, 8192, 2]⟩
abbrev S4x6x1024 : Shape := ⟨3, ![4, 6, 1024]⟩
abbrev S1024 : Shape := ⟨1, ![1024]⟩
abbrev S4x8192x1 : Shape := ⟨3, ![4, 8192, 1]⟩
abbrev S4x8192x512x2 : Shape := ⟨4, ![4, 8192, 512, 2]⟩
abbrev S4x8192x512x1 : Shape := ⟨4, ![4, 8192, 512, 1]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S1x1x1024 : Shape := ⟨3, ![1, 1, 1024]⟩

abbrev nBuf : Space → Nat
  | .hbm => 69
  | .vmem => 0
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .i32⟩
  | .hbm, ⟨2, _⟩ => ⟨S4x8192x512, .i32⟩
  | .hbm, ⟨3, _⟩ => ⟨S4x8192x2, .f32⟩
  | .hbm, ⟨4, _⟩ => ⟨S4x6x1024, .f32⟩
  | .hbm, ⟨5, _⟩ => ⟨S1024, .f32⟩
  | .hbm, ⟨6, _⟩ => ⟨S1024, .f32⟩
  | .hbm, ⟨7, _⟩ => ⟨S4x8192x1, .f32⟩
  | .hbm, ⟨8, _⟩ => ⟨S4x8192x512x2, .bf16⟩
  | .hbm, ⟨9, _⟩ => ⟨S4x8192x512x2, .f32⟩
  | .hbm, ⟨10, _⟩ => ⟨S4x8192x512x1, .f32⟩
  | .hbm, ⟨11, _⟩ => ⟨S4x8192x512, .f32⟩
  | .hbm, ⟨12, _⟩ => ⟨S4x8192x512x1, .f32⟩
  | .hbm, ⟨13, _⟩ => ⟨S4x8192x512, .f32⟩
  | .hbm, ⟨14, _⟩ => ⟨S4x8192x1024, .f32⟩
  | .hbm, ⟨15, _⟩ => ⟨S4x8192x1024, .f32⟩
  | .hbm, ⟨16, _⟩ => ⟨S4x8192x1024, .f32⟩
  | .hbm, ⟨17, _⟩ => ⟨S4x8192x1, .f32⟩
  | .hbm, ⟨18, _⟩ => ⟨S4x8192x512x2, .bf16⟩
  | .hbm, ⟨19, _⟩ => ⟨S4x8192x512x2, .f32⟩
  | .hbm, ⟨20, _⟩ => ⟨S4x8192x512x1, .f32⟩
  | .hbm, ⟨21, _⟩ => ⟨S4x8192x512, .f32⟩
  | .hbm, ⟨22, _⟩ => ⟨S4x8192x512x1, .f32⟩
  | .hbm, ⟨23, _⟩ => ⟨S4x8192x512, .f32⟩
  | .hbm, ⟨24, _⟩ => ⟨S4x8192x1024, .f32⟩
  | .hbm, ⟨25, _⟩ => ⟨S4x8192x1024, .f32⟩
  | .hbm, ⟨26, _⟩ => ⟨S4x8192x1024, .f32⟩
  | .hbm, ⟨27, _⟩ => ⟨S4x8192x1024, .f32⟩
  | .hbm, ⟨28, _⟩ => ⟨S4x1x1024, .f32⟩
  | .hbm, ⟨29, _⟩ => ⟨S4x1024, .f32⟩
  | .hbm, ⟨30, _⟩ => ⟨S4x1x1024, .f32⟩
  | .hbm, ⟨31, _⟩ => ⟨S_, .f32⟩
  | .hbm, ⟨32, _⟩ => ⟨S4x8192x1024, .f32⟩
  | .hbm, ⟨33, _⟩ => ⟨S4x8192x1024, .f32⟩
  | .hbm, ⟨34, _⟩ => ⟨S_, .f32⟩
  | .hbm, ⟨35, _⟩ => ⟨S4x1x1024, .f32⟩
  | .hbm, ⟨36, _⟩ => ⟨S4x1x1024, .f32⟩
  | .hbm, ⟨37, _⟩ => ⟨S4x8192x1024, .f32⟩
  | .hbm, ⟨38, _⟩ => ⟨S4x8192x1024, .f32⟩
  | .hbm, ⟨39, _⟩ => ⟨S4x8192x1024, .f32⟩
  | .hbm, ⟨40, _⟩ => ⟨S_, .f32⟩
  | .hbm, ⟨41, _⟩ => ⟨S4x8192, .f32⟩
  | .hbm, ⟨42, _⟩ => ⟨S4x8192x1, .f32⟩
  | .hbm, ⟨43, _⟩ => ⟨S_, .f32⟩
  | .hbm, ⟨44, _⟩ => ⟨S4x8192x1, .f32⟩
  | .hbm, ⟨45, _⟩ => ⟨S4x8192x1, .f32⟩
  | .hbm, ⟨46, _⟩ => ⟨S4x8192x1024, .f32⟩
  | .hbm, ⟨47, _⟩ => ⟨S4x8192x1024, .f32⟩
  | .hbm, ⟨48, _⟩ => ⟨S4x8192x1024, .f32⟩
  | .hbm, ⟨49, _⟩ => ⟨S_, .f32⟩
  | .hbm, ⟨50, _⟩ => ⟨S4x8192, .f32⟩
  | .hbm, ⟨51, _⟩ => ⟨S4x8192x1, .f32⟩
  | .hbm, ⟨52, _⟩ => ⟨S_, .f32⟩
  | .hbm, ⟨53, _⟩ => ⟨S4x8192x1, .f32⟩
  | .hbm, ⟨54, _⟩ => ⟨S4x8192x1, .f32⟩
  | .hbm, ⟨55, _⟩ => ⟨S4x8192x1024, .f32⟩
  | .hbm, ⟨56, _⟩ => ⟨S4x8192x1024, .f32⟩
  | .hbm, ⟨57, _⟩ => ⟨S_, .f32⟩
  | .hbm, ⟨58, _⟩ => ⟨S4x8192x1, .f32⟩
  | .hbm, ⟨59, _⟩ => ⟨S4x8192x1, .f32⟩
  | .hbm, ⟨60, _⟩ => ⟨S4x8192x1, .f32⟩
  | .hbm, ⟨61, _⟩ => ⟨S4x8192x1024, .f32⟩
  | .hbm, ⟨62, _⟩ => ⟨S4x8192x1024, .f32⟩
  | .hbm, ⟨63, _⟩ => ⟨S1x1x1024, .f32⟩
  | .hbm, ⟨64, _⟩ => ⟨S4x8192x1024, .f32⟩
  | .hbm, ⟨65, _⟩ => ⟨S4x8192x1024, .f32⟩
  | .hbm, ⟨66, _⟩ => ⟨S1x1x1024, .f32⟩
  | .hbm, ⟨67, _⟩ => ⟨S4x8192x1024, .f32⟩
  | .hbm, ⟨68, _⟩ => ⟨S4x8192x1024, .f32⟩
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_cst : Ref sig .tc := ⟨.hbm, 31, rfl⟩
abbrev main_v24 : Ref sig .tc := ⟨.hbm, 32, rfl⟩
abbrev main_v25 : Ref sig .tc := ⟨.hbm, 33, rfl⟩
abbrev main_cst_0 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_1 : Ref sig .tc := ⟨.hbm, 40, rfl⟩
abbrev main_v31 : Ref sig .tc := ⟨.hbm, 41, rfl⟩
abbrev main_v32 : Ref sig .tc := ⟨.hbm, 42, rfl⟩
abbrev main_cst_2 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_cst_3 : Ref sig .tc := ⟨.hbm, 49, rfl⟩
abbrev main_v38 : Ref sig .tc := ⟨.hbm, 50, rfl⟩
abbrev main_v39 : Ref sig .tc := ⟨.hbm, 51, rfl⟩
abbrev main_cst_4 : Ref sig .tc := ⟨.hbm, 52, rfl⟩
abbrev main_v40 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_cst_5 : Ref sig .tc := ⟨.hbm, 57, rfl⟩
abbrev main_v44 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩

abbrev nD : Nat := 1
abbrev τ : Topo := Topo.v7x

variable {F : FTy → Type} [FloatOps F]
-- ==== Kernel2.lean ====
abbrev S4x8192x1024 : Shape := ⟨3, ![4, 8192, 1024]⟩
abbrev S4x8192x512 : Shape := ⟨3, ![4, 8192, 512]⟩
abbrev S4x8192x2 : Shape := ⟨3, ![4, 8192, 2]⟩
abbrev S4x6x1024 : Shape := ⟨3, ![4, 6, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S4x8192x1 : Shape := ⟨3, ![4, 8192, 1]⟩
abbrev S4x8192x128 : Shape := ⟨3, ![4, 8192, 128]⟩
abbrev S4x8192x256 : Shape := ⟨3, ![4, 8192, 256]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S48x1024 : Shape := ⟨2, ![48, 1024]⟩
abbrev S4x1024 : Shape := ⟨2, ![4, 1024]⟩
abbrev S1 : Shape := ⟨1, ![1]⟩
abbrev S32x1024 : Shape := ⟨2, ![32, 1024]⟩
abbrev S48 : Shape := ⟨1, ![48]⟩
abbrev S8 : Shape := ⟨1, ![8]⟩
abbrev S48x1 : Shape := ⟨2, ![48, 1]⟩
abbrev S1x4x6x1024 : Shape := ⟨4, ![1, 4, 6, 1024]⟩
abbrev S1x1024 : Shape := ⟨2, ![1, 1024]⟩
abbrev S2x1024 : Shape := ⟨2, ![2, 1024]⟩
abbrev S8x32768 : Shape := ⟨2, ![8, 32768]⟩
abbrev S32x128 : Shape := ⟨2, ![32, 128]⟩
abbrev S1x512x1024 : Shape := ⟨3, ![1, 512, 1024]⟩
abbrev S1x512x512 : Shape := ⟨3, ![1, 512, 512]⟩
abbrev S1x512x256 : Shape := ⟨3, ![1, 512, 256]⟩
abbrev S1x1x6x1024 : Shape := ⟨4, ![1, 1, 6, 1024]⟩
abbrev S8x512 : Shape := ⟨2, ![8, 512]⟩
abbrev S520x1024 : Shape := ⟨2, ![520, 1024]⟩
abbrev S6x1024 : Shape := ⟨2, ![6, 1024]⟩
abbrev S512x1024 : Shape := ⟨2, ![512, 1024]⟩
abbrev S512x256 : Shape := ⟨2, ![512, 256]⟩
abbrev S512x128 : Shape := ⟨2, ![512, 128]⟩
abbrev S512x3072 : Shape := ⟨2, ![512, 3072]⟩
abbrev S8x1024 : Shape := ⟨2, ![8, 1024]⟩
abbrev S48x512 : Shape := ⟨2, ![48, 512]⟩
abbrev S32x512 : Shape := ⟨2, ![32, 512]⟩
abbrev S64x512 : Shape := ⟨2, ![64, 512]⟩
abbrev S64 : Shape := ⟨1, ![64]⟩
abbrev S64x1 : Shape := ⟨2, ![64, 1]⟩
abbrev S32x1 : Shape := ⟨2, ![32, 1]⟩
abbrev S4x512 : Shape := ⟨2, ![4, 512]⟩
abbrev S128x512 : Shape := ⟨2, ![128, 512]⟩
abbrev S1x512x128 : Shape := ⟨3, ![1, 512, 128]⟩

abbrev nBuf : Space → Nat
  | .hbm => 70
  | .vmem => 31
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .i32⟩
  | .hbm, ⟨2, _⟩ => ⟨S4x8192x512, .i32⟩
  | .hbm, ⟨3, _⟩ => ⟨S4x8192x2, .f32⟩
  | .hbm, ⟨4, _⟩ => ⟨S4x6x1024, .f32⟩
  | .hbm, ⟨5, _⟩ => ⟨S1024, .f32⟩
  | .hbm, ⟨6, _⟩ => ⟨S1024, .f32⟩
  | .hbm, ⟨7, _⟩ => ⟨S4x6x1024, .f32⟩
  | .hbm, ⟨8, _⟩ => ⟨S1024, .f32⟩
  | .hbm, ⟨9, _⟩ => ⟨S1024, .f32⟩
  | .hbm, ⟨10, _⟩ => ⟨S1024x3072, .f32⟩
  | .hbm, ⟨11, _⟩ => ⟨S3x1024, .f32⟩
  | .hbm, ⟨12, _⟩ => ⟨S1024x1024, .f32⟩
  | .hbm, ⟨13, _⟩ => ⟨S1024x4, .f32⟩
  | .hbm, ⟨14, _⟩ => ⟨S4, .f32⟩
  | .hbm, ⟨15, _⟩ => ⟨S1024x32, .f32⟩
  | .hbm, ⟨16, _⟩ => ⟨S32, .f32⟩
  | .hbm, ⟨17, _⟩ => ⟨S4x8192x1, .f32⟩
  | .hbm, ⟨18, _⟩ => ⟨S4x8192x128, .f32⟩
  | .hbm, ⟨19, _⟩ => ⟨S4x8192x1, .f32⟩
  | .hbm, ⟨20, _⟩ => ⟨S4x8192x128, .f32⟩
  | .hbm, ⟨21, _⟩ => ⟨S4x8192x256, .f32⟩
  | .hbm, ⟨22, _⟩ => ⟨S512, .i32⟩
  | .hbm, ⟨23, _⟩ => ⟨S512x1, .i32⟩
  | .hbm, ⟨24, _⟩ => ⟨S512, .i32⟩
  | .hbm, ⟨25, _⟩ => ⟨S1x512, .i32⟩
  | .hbm, ⟨26, _⟩ => ⟨S512x512, .i32⟩
  | .hbm, ⟨27, _⟩ => ⟨S512x512, .i32⟩
  | .hbm, ⟨28, _⟩ => ⟨S512x512, .i1⟩
  | .hbm, ⟨29, _⟩ => ⟨S512x512, .bf16⟩
  | .hbm, ⟨30, _⟩ => ⟨S_, .f32⟩
  | .hbm, ⟨31, _⟩ => ⟨S48x1024, .f32⟩
  | .hbm, ⟨32, _⟩ => ⟨S4x1024, .f32⟩
  | .hbm, ⟨33, _⟩ => ⟨S_, .i32⟩
  | .hbm, ⟨34, _⟩ => ⟨S1, .i32⟩
  | .hbm, ⟨35, _⟩ => ⟨S48x1024, .f32⟩
  | .hbm, ⟨36, _⟩ => ⟨S32x1024, .f32⟩
  | .hbm, ⟨37, _⟩ => ⟨S_, .i32⟩
  | .hbm, ⟨38, _⟩ => ⟨S1, .i32⟩
  | .hbm, ⟨39, _⟩ => ⟨S48x1024, .f32⟩
  | .hbm, ⟨40, _⟩ => ⟨S_, .f32⟩
  | .hbm, ⟨41, _⟩ => ⟨S48, .f32⟩
  | .hbm, ⟨42, _⟩ => ⟨S_, .i32⟩
  | .hbm, ⟨43, _⟩ => ⟨S1, .i32⟩
  | .hbm, ⟨44, _⟩ => ⟨S48, .f32⟩
  | .hbm, ⟨45, _⟩ => ⟨S_, .i32⟩
  | .hbm, ⟨46, _⟩ => ⟨S1, .i32⟩
  | .hbm, ⟨47, _⟩ => ⟨S48, .f32⟩
  | .hbm, ⟨48, _⟩ => ⟨S_, .i32⟩
  | .hbm, ⟨49, _⟩ => ⟨S1, .i32⟩
  | .hbm, ⟨50, _⟩ => ⟨S_, .f32⟩
  | .hbm, ⟨51, _⟩ => ⟨S8, .f32⟩
  | .hbm, ⟨52, _⟩ => ⟨S48, .f32⟩
  | .hbm, ⟨53, _⟩ => ⟨S48x1024, .bf16⟩
  | .hbm, ⟨54, _⟩ => ⟨S48x1, .f32⟩
  | .hbm, ⟨55, _⟩ => ⟨S1x4x6x1024, .f32⟩
  | .hbm, ⟨56, _⟩ => ⟨S1x1024, .f32⟩
  | .hbm, ⟨57, _⟩ => ⟨S1x1024, .f32⟩
  | .hbm, ⟨58, _⟩ => ⟨S2x1024, .f32⟩
  | .hbm, ⟨59, _⟩ => ⟨S1x4x6x1024, .f32⟩
  | .hbm, ⟨60, _⟩ => ⟨S1x1024, .f32⟩
  | .hbm, ⟨61, _⟩ => ⟨S1x1024, .f32⟩
  | .hbm, ⟨62, _⟩ => ⟨S2x1024, .f32⟩
  | .hbm, ⟨63, _⟩ => ⟨S1024x3072, .bf16⟩
  | .hbm, ⟨64, _⟩ => ⟨S1024x1024, .bf16⟩
  | .hbm, ⟨65, _⟩ => ⟨S4x8192x1024, .f32⟩
  | .hbm, ⟨66, _⟩ => ⟨S4x8192x512, .i32⟩
  | .hbm, ⟨67, _⟩ => ⟨S8x32768, .i32⟩
  | .hbm, ⟨68, _⟩ => ⟨S4x8192x256, .f32⟩
  | .hbm, ⟨69, _⟩ => ⟨S32x128, .i32⟩
  | .local _ .vmem, ⟨0, _⟩ => ⟨S1x512x1024, .f32⟩
  | .local _ .vmem, ⟨1, _⟩ => ⟨S1x512x1024, .f32⟩
  | .local _ .vmem, ⟨2, _⟩ => ⟨S1x512x512, .i32⟩
  | .local _ .vmem, ⟨3, _⟩ => ⟨S1x512x512, .i32⟩
  | .local _ .vmem, ⟨4, _⟩ => ⟨S1x512x512, .i32⟩
  | .local _ .vmem, ⟨5, _⟩ => ⟨S1x512x512, .i32⟩
  | .local _ .vmem, ⟨6, _⟩ => ⟨S1x512x256, .f32⟩
  | .local _ .vmem, ⟨7, _⟩ => ⟨S1x512x256, .f32⟩
  | .local _ .vmem, ⟨8, _⟩ => ⟨S1x1x6x1024, .f32⟩
  | .local _ .vmem, ⟨9, _⟩ => ⟨S1x1x6x1024, .f32⟩
  | .local _ .vmem, ⟨10, _⟩ => ⟨S2x1024, .f32⟩
  | .local _ .vmem, ⟨11, _⟩ => ⟨S1x1x6x1024, .f32⟩
  | .local _ .vmem, ⟨12, _⟩ => ⟨S1x1x6x1024, .f32⟩
  | .local _ .vmem, ⟨13, _⟩ => ⟨S2x1024, .f32⟩
  | .local _ .vmem, ⟨14, _⟩ => ⟨S1024x3072, .bf16⟩
  | .local _ .vmem, ⟨15, _⟩ => ⟨S3x1024, .f32⟩
  | .local _ .vmem, ⟨16, _⟩ => ⟨S1024x1024, .bf16⟩
  | .local _ .vmem, ⟨17, _⟩ => ⟨S48x1024, .bf16⟩
  | .local _ .vmem, ⟨18, _⟩ => ⟨S48x1, .f32⟩
  | .local _ .vmem, ⟨19, _⟩ => ⟨S512x512, .bf16⟩
  | .local _ .vmem, ⟨20, _⟩ => ⟨S1x512x1024, .f32⟩
  | .local _ .vmem, ⟨21, _⟩ => ⟨S1x512x1024, .f32⟩
  | .local _ .vmem, ⟨22, _⟩ => ⟨S1x512x512, .i32⟩
  | .local _ .vmem, ⟨23, _⟩ => ⟨S1x512x512, .i32⟩
  | .local _ .vmem, ⟨24, _⟩ => ⟨S8x512, .i32⟩
  | .local _ .vmem, ⟨25, _⟩ => ⟨S8x512, .i32⟩
  | .local _ .vmem, ⟨26, _⟩ => ⟨S1x512x256, .f32⟩
  | .local _ .vmem, ⟨27, _⟩ => ⟨S1x512x256, .f32⟩
  | .local _ .vmem, ⟨28, _⟩ => ⟨S32x128, .i32⟩
  | .local _ .vmem, ⟨29, _⟩ => ⟨S520x1024, .f32⟩
  | .local _ .vmem, ⟨30, _⟩ => ⟨S32x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_0 : Ref sig .tc := ⟨.hbm, 37, rfl⟩
abbrev main_v18 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_c_2 : Ref sig .tc := ⟨.hbm, 42, rfl⟩
abbrev main_v21 : Ref sig .tc := ⟨.hbm, 43, rfl⟩
abbrev main_v22 : Ref sig .tc := ⟨.hbm, 44, rfl⟩
abbrev main_c_3 : Ref sig .tc := ⟨.hbm, 45, rfl⟩
abbrev main_v23 : Ref sig .tc := ⟨.hbm, 46, rfl⟩
abbrev main_v24 : Ref sig .tc := ⟨.hbm, 47, rfl⟩
abbrev main_c_4 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40_0 : Ref sig .tc := ⟨.hbm, 65, rfl⟩
abbrev main_v40_1 : Ref sig .tc := ⟨.hbm, 66, rfl⟩
abbrev main_v40_2 : Ref sig .tc := ⟨.hbm, 67, rfl⟩
abbrev main_v40_3 : Ref sig .tc := ⟨.hbm, 68, rfl⟩
abbrev main_v40_4 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28

abbrev nD : Nat := 1
abbrev τ : Topo := Topo.v7x

variable {F : FTy → Type} [BitOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S48x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S48x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x512 .i32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S8x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 1 → Memref sig .tc .vmem S32x128 .i32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== Kernel2Ideal.lean ====
abbrev S4x8192x1024 : Shape := ⟨3, ![4, 8192, 1024]⟩
abbrev S4x8192x512 : Shape := ⟨3, ![4, 8192, 512]⟩
abbrev S4x8192x2 : Shape := ⟨3, ![4, 8192, 2]⟩
abbrev S4x6x1024 : Shape := ⟨3, ![4, 6, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S4x8192x1 : Shape := ⟨3, ![4, 8192, 1]⟩
abbrev S4x8192x128 : Shape := ⟨3, ![4, 8192, 128]⟩
abbrev S4x8192x256 : Shape := ⟨3, ![4, 8192, 256]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S48x1024 : Shape := ⟨2, ![48, 1024]⟩
abbrev S4x1024 : Shape := ⟨2, ![4, 1024]⟩
abbrev S1 : Shape := ⟨1, ![1]⟩
abbrev S32x1024 : Shape := ⟨2, ![32, 1024]⟩
abbrev S48 : Shape := ⟨1, ![48]⟩
abbrev S8 : Shape := ⟨1, ![8]⟩
abbrev S48x1 : Shape := ⟨2, ![48, 1]⟩
abbrev S1x4x6x1024 : Shape := ⟨4, ![1, 4, 6, 1024]⟩
abbrev S1x1024 : Shape := ⟨2, ![1, 1024]⟩
abbrev S2x1024 : Shape := ⟨2, ![2, 1024]⟩
abbrev S4x8192x2x512 : Shape := ⟨4, ![4, 8192, 2, 512]⟩
abbrev S8x32768 : Shape := ⟨2, ![8, 32768]⟩
abbrev S32x128 : Shape := ⟨2, ![32, 128]⟩
abbrev S4x8192x1x512 : Shape := ⟨4, ![4, 8192, 1, 512]⟩
abbrev S1x512x1024 : Shape := ⟨3, ![1, 512, 1024]⟩
abbrev S1x512x512 : Shape := ⟨3, ![1, 512, 512]⟩
abbrev S1x512x256 : Shape := ⟨3, ![1, 512, 256]⟩
abbrev S1x1x6x1024 : Shape := ⟨4, ![1, 1, 6, 1024]⟩
abbrev S1x512x2x512 : Shape := ⟨4, ![1, 512, 2, 512]⟩
abbrev S1x512x1x512 : Shape := ⟨4, ![1, 512, 1, 512]⟩
abbrev S8x512 : Shape := ⟨2, ![8, 512]⟩
abbrev S520x1024 : Shape := ⟨2, ![520, 1024]⟩
abbrev S6x1024 : Shape := ⟨2, ![6, 1024]⟩
abbrev S512x1024 : Shape := ⟨2, ![512, 1024]⟩
abbrev S512x256 : Shape := ⟨2, ![512, 256]⟩
abbrev S512x128 : Shape := ⟨2, ![512, 128]⟩
abbrev S512x3072 : Shape := ⟨2, ![512, 3072]⟩
abbrev S8x1024 : Shape := ⟨2, ![8, 1024]⟩
abbrev S48x512 : Shape := ⟨2, ![48, 512]⟩
abbrev S32x512 : Shape := ⟨2, ![32, 512]⟩
abbrev S64x512 : Shape := ⟨2, ![64, 512]⟩
abbrev S64 : Shape := ⟨1, ![64]⟩
abbrev S64x1 : Shape := ⟨2, ![64, 1]⟩
abbrev S32x1 : Shape := ⟨2, ![32, 1]⟩
abbrev S4x512 : Shape := ⟨2, ![4, 512]⟩
abbrev S128x512 : Shape := ⟨2, ![128, 512]⟩
abbrev S1x512x128 : Shape := ⟨3, ![1, 512, 128]⟩

abbrev nBuf : Space → Nat
  | .hbm => 70
  | .vmem => 31
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .i32⟩
  | .hbm, ⟨2, _⟩ => ⟨S4x8192x512, .i32⟩
  | .hbm, ⟨3, _⟩ => ⟨S4x8192x2, .f32⟩
  | .hbm, ⟨4, _⟩ => ⟨S4x6x1024, .f32⟩
  | .hbm, ⟨5, _⟩ => ⟨S1024, .f32⟩
  | .hbm, ⟨6, _⟩ => ⟨S1024, .f32⟩
  | .hbm, ⟨7, _⟩ => ⟨S4x6x1024, .f32⟩
  | .hbm, ⟨8, _⟩ => ⟨S1024, .f32⟩
  | .hbm, ⟨9, _⟩ => ⟨S1024, .f32⟩
  | .hbm, ⟨10, _⟩ => ⟨S1024x3072, .f32⟩
  | .hbm, ⟨11, _⟩ => ⟨S3x1024, .f32⟩
  | .hbm, ⟨12, _⟩ => ⟨S1024x1024, .f32⟩
  | .hbm, ⟨13, _⟩ => ⟨S1024x4, .f32⟩
  | .hbm, ⟨14, _⟩ => ⟨S4, .f32⟩
  | .hbm, ⟨15, _⟩ => ⟨S1024x32, .f32⟩
  | .hbm, ⟨16, _⟩ => ⟨S32, .f32⟩
  | .hbm, ⟨17, _⟩ => ⟨S4x8192x1, .f32⟩
  | .hbm, ⟨18, _⟩ => ⟨S4x8192x128, .f32⟩
  | .hbm, ⟨19, _⟩ => ⟨S4x8192x1, .f32⟩
  | .hbm, ⟨20, _⟩ => ⟨S4x8192x128, .f32⟩
  | .hbm, ⟨21, _⟩ => ⟨S4x8192x256, .f32⟩
  | .hbm, ⟨22, _⟩ => ⟨S512, .i32⟩
  | .hbm, ⟨23, _⟩ => ⟨S512x1, .i32⟩
  | .hbm, ⟨24, _⟩ => ⟨S512, .i32⟩
  | .hbm, ⟨25, _⟩ => ⟨S1x512, .i32⟩
  | .hbm, ⟨26, _⟩ => ⟨S512x512, .i32⟩
  | .hbm, ⟨27, _⟩ => ⟨S512x512, .i32⟩
  | .hbm, ⟨28, _⟩ => ⟨S512x512, .i1⟩
  | .hbm, ⟨29, _⟩ => ⟨S512x512, .bf16⟩
  | .hbm, ⟨30, _⟩ => ⟨S_, .f32⟩
  | .hbm, ⟨31, _⟩ => ⟨S48x1024, .f32⟩
  | .hbm, ⟨32, _⟩ => ⟨S4x1024, .f32⟩
  | .hbm, ⟨33, _⟩ => ⟨S_, .i32⟩
  | .hbm, ⟨34, _⟩ => ⟨S1, .i32⟩
  | .hbm, ⟨35, _⟩ => ⟨S48x1024, .f32⟩
  | .hbm, ⟨36, _⟩ => ⟨S32x1024, .f32⟩
  | .hbm, ⟨37, _⟩ => ⟨S_, .i32⟩
  | .hbm, ⟨38, _⟩ => ⟨S1, .i32⟩
  | .hbm, ⟨39, _⟩ => ⟨S48x1024, .f32⟩
  | .hbm, ⟨40, _⟩ => ⟨S_, .f32⟩
  | .hbm, ⟨41, _⟩ => ⟨S48, .f32⟩
  | .hbm, ⟨42, _⟩ => ⟨S_, .i32⟩
  | .hbm, ⟨43, _⟩ => ⟨S1, .i32⟩
  | .hbm, ⟨44, _⟩ => ⟨S48, .f32⟩
  | .hbm, ⟨45, _⟩ => ⟨S_, .i32⟩
  | .hbm, ⟨46, _⟩ => ⟨S1, .i32⟩
  | .hbm, ⟨47, _⟩ => ⟨S48, .f32⟩
  | .hbm, ⟨48, _⟩ => ⟨S_, .i32⟩
  | .hbm, ⟨49, _⟩ => ⟨S1, .i32⟩
  | .hbm, ⟨50, _⟩ => ⟨S_, .f32⟩
  | .hbm, ⟨51, _⟩ => ⟨S8, .f32⟩
  | .hbm, ⟨52, _⟩ => ⟨S48, .f32⟩
  | .hbm, ⟨53, _⟩ => ⟨S48x1024, .bf16⟩
  | .hbm, ⟨54, _⟩ => ⟨S48x1, .f32⟩
  | .hbm, ⟨55, _⟩ => ⟨S1x4x6x1024, .f32⟩
  | .hbm, ⟨56, _⟩ => ⟨S1x1024, .f32⟩
  | .hbm, ⟨57, _⟩ => ⟨S1x1024, .f32⟩
  | .hbm, ⟨58, _⟩ => ⟨S2x1024, .f32⟩
  | .hbm, ⟨59, _⟩ => ⟨S1x4x6x1024, .f32⟩
  | .hbm, ⟨60, _⟩ => ⟨S1x1024, .f32⟩
  | .hbm, ⟨61, _⟩ => ⟨S1x1024, .f32⟩
  | .hbm, ⟨62, _⟩ => ⟨S2x1024, .f32⟩
  | .hbm, ⟨63, _⟩ => ⟨S1024x3072, .bf16⟩
  | .hbm, ⟨64, _⟩ => ⟨S1024x1024, .bf16⟩
  | .hbm, ⟨65, _⟩ => ⟨S4x8192x1024, .f32⟩
  | .hbm, ⟨66, _⟩ => ⟨S4x8192x2x512, .bf16⟩
  | .hbm, ⟨67, _⟩ => ⟨S8x32768, .i32⟩
  | .hbm, ⟨68, _⟩ => ⟨S4x8192x256, .f32⟩
  | .hbm, ⟨69, _⟩ => ⟨S32x128, .i32⟩
  | .local _ .vmem, ⟨0, _⟩ => ⟨S1x512x1024, .f32⟩
  | .local _ .vmem, ⟨1, _⟩ => ⟨S1x512x1024, .f32⟩
  | .local _ .vmem, ⟨2, _⟩ => ⟨S1x512x512, .i32⟩
  | .local _ .vmem, ⟨3, _⟩ => ⟨S1x512x512, .i32⟩
  | .local _ .vmem, ⟨4, _⟩ => ⟨S1x512x512, .i32⟩
  | .local _ .vmem, ⟨5, _⟩ => ⟨S1x512x512, .i32⟩
  | .local _ .vmem, ⟨6, _⟩ => ⟨S1x512x256, .f32⟩
  | .local _ .vmem, ⟨7, _⟩ => ⟨S1x512x256, .f32⟩
  | .local _ .vmem, ⟨8, _⟩ => ⟨S1x1x6x1024, .f32⟩
  | .local _ .vmem, ⟨9, _⟩ => ⟨S1x1x6x1024, .f32⟩
  | .local _ .vmem, ⟨10, _⟩ => ⟨S2x1024, .f32⟩
  | .local _ .vmem, ⟨11, _⟩ => ⟨S1x1x6x1024, .f32⟩
  | .local _ .vmem, ⟨12, _⟩ => ⟨S1x1x6x1024, .f32⟩
  | .local _ .vmem, ⟨13, _⟩ => ⟨S2x1024, .f32⟩
  | .local _ .vmem, ⟨14, _⟩ => ⟨S1024x3072, .bf16⟩
  | .local _ .vmem, ⟨15, _⟩ => ⟨S3x1024, .f32⟩
  | .local _ .vmem, ⟨16, _⟩ => ⟨S1024x1024, .bf16⟩
  | .local _ .vmem, ⟨17, _⟩ => ⟨S48x1024, .bf16⟩
  | .local _ .vmem, ⟨18, _⟩ => ⟨S48x1, .f32⟩
  | .local _ .vmem, ⟨19, _⟩ => ⟨S512x512, .bf16⟩
  | .local _ .vmem, ⟨20, _⟩ => ⟨S1x512x1024, .f32⟩
  | .local _ .vmem, ⟨21, _⟩ => ⟨S1x512x1024, .f32⟩
  | .local _ .vmem, ⟨22, _⟩ => ⟨S1x512x2x512, .bf16⟩
  | .local _ .vmem, ⟨23, _⟩ => ⟨S1x512x2x512, .bf16⟩
  | .local _ .vmem, ⟨24, _⟩ => ⟨S8x512, .i32⟩
  | .local _ .vmem, ⟨25, _⟩ => ⟨S8x512, .i32⟩
  | .local _ .vmem, ⟨26, _⟩ => ⟨S1x512x256, .f32⟩
  | .local _ .vmem, ⟨27, _⟩ => ⟨S1x512x256, .f32⟩
  | .local _ .vmem, ⟨28, _⟩ => ⟨S32x128, .i32⟩
  | .local _ .vmem, ⟨29, _⟩ => ⟨S520x1024, .f32⟩
  | .local _ .vmem, ⟨30, _⟩ => ⟨S32x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_cst : Ref sig .tc := ⟨.hbm, 30, rfl⟩
abbrev main_v13 : Ref sig .tc := ⟨.hbm, 31, rfl⟩
abbrev main_v14 : Ref sig .tc := ⟨.hbm, 32, rfl⟩
abbrev main_c : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_c_0 : Ref sig .tc := ⟨.hbm, 37, rfl⟩
abbrev main_v18 : Ref sig .tc := ⟨.hbm, 38, rfl⟩
abbrev main_v19 : Ref sig .tc := ⟨.hbm, 39, rfl⟩
abbrev main_cst_1 : Ref sig .tc := ⟨.hbm, 40, rfl⟩
abbrev main_v20 : Ref sig .tc := ⟨.hbm, 41, rfl⟩
abbrev main_c_2 : Ref sig .tc := ⟨.hbm, 42, rfl⟩
abbrev main_v21 : Ref sig .tc := ⟨.hbm, 43, rfl⟩
abbrev main_v22 : Ref sig .tc := ⟨.hbm, 44, rfl⟩
abbrev main_c_3 : Ref sig .tc := ⟨.hbm, 45, rfl⟩
abbrev main_v23 : Ref sig .tc := ⟨.hbm, 46, rfl⟩
abbrev main_v24 : Ref sig .tc := ⟨.hbm, 47, rfl⟩
abbrev main_c_4 : Ref sig .tc := ⟨.hbm, 48, rfl⟩
abbrev main_v25 : Ref sig .tc := ⟨.hbm, 49, rfl⟩
abbrev main_cst_5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_v32 : Ref sig .tc := ⟨.hbm, 57, rfl⟩
abbrev main_v33 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40_0 : Ref sig .tc := ⟨.hbm, 65, rfl⟩
abbrev main_v40_1 : Ref sig .tc := ⟨.hbm, 66, rfl⟩
abbrev main_v40_2 : Ref sig .tc := ⟨.hbm, 67, rfl⟩
abbrev main_v40_3 : Ref sig .tc := ⟨.hbm, 68, rfl⟩
abbrev main_v40_4 : Ref sig .tc := ⟨.hbm, 69, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg14_1 : Ref sig .tc := ⟨.vmem, 21, rfl⟩
abbrev cc0_stg15_0 : Ref sig .tc := ⟨.vmem, 22, rfl⟩
abbrev cc0_stg15_1 : Ref sig .tc := ⟨.vmem, 23, rfl⟩
abbrev cc0_stg16_0 : Ref sig .tc := ⟨.vmem, 24, rfl⟩
abbrev cc0_stg16_1 : Ref sig .tc := ⟨.vmem, 25, rfl⟩
abbrev cc0_stg17_0 : Ref sig .tc := ⟨.vmem, 26, rfl⟩
abbrev cc0_stg17_1 : Ref sig .tc := ⟨.vmem, 27, rfl⟩
abbrev cc0_stg18_0 : Ref sig .tc := ⟨.vmem, 28, rfl⟩
abbrev cc0_scratch0 : Ref sig .tc := ⟨.vmem, 29, rfl⟩
abbrev cc0_scratch1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem14_1 : DmaSem sig := 21
abbrev cc0_sem15_0 : DmaSem sig := 22
abbrev cc0_sem15_1 : DmaSem sig := 23
abbrev cc0_sem16_0 : DmaSem sig := 24
abbrev cc0_sem16_1 : DmaSem sig := 25
abbrev cc0_sem17_0 : DmaSem sig := 26
abbrev cc0_sem17_1 : DmaSem sig := 27
abbrev cc0_sem18_0 : DmaSem sig := 28

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, 0, c0_i32.toNat]

def cc0_transform_16 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x3072 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S3x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1024x1024 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S48x1024 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S48x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S512x512 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 2 → Memref sig .tc .vmem S1x512x1024 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 2 → Memref sig .tc .vmem S1x512x2x512 .bf16 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true, true]

abbrev stage0_16 : Fin 2 → Memref sig .tc .vmem S8x512 .i32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x256 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 1 → Memref sig .tc .vmem S32x128 .i32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))
abbrev reads0_18 : Fin grid0.rank → Bool := ![false, false]
-- ==== Reference2Ideal.lean ====
abbrev S4x8192x1024 : Shape := ⟨3, ![4, 8192, 1024]⟩
abbrev S4x8192x512 : Shape := ⟨3, ![4, 8192, 512]⟩
abbrev S4x8192x2 : Shape := ⟨3, ![4, 8192, 2]⟩
abbrev S4x6x1024 : Shape := ⟨3, ![4, 6, 1024]⟩
abbrev S1024 : Shape := ⟨1, ![1024]⟩
abbrev S1024x3072 : Shape := ⟨2, ![1024, 3072]⟩
abbrev S3x1024 : Shape := ⟨2, ![3, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S4x8192x1 : Shape := ⟨3, ![4, 8192, 1]⟩
abbrev S4x8192x512x2 : Shape := ⟨4, ![4, 8192, 512, 2]⟩
abbrev S4x8192x512x1 : Shape := ⟨4, ![4, 8192, 512, 1]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S1x1x1024 : Shape := ⟨3, ![1, 1, 1024]⟩
abbrev S4x8192x3072 : Shape := ⟨3, ![4, 8192, 3072]⟩
abbrev S4x8194x1024 : Shape := ⟨3, ![4, 8194, 1024]⟩
abbrev S1x1024 : Shape := ⟨2, ![1, 1024]⟩

abbrev nBuf : Space → Nat
  | .hbm => 163
  | .vmem => 0
  | .smem => 0
  | _ => 0

abbrev hbmTy0_0 (i : Nat) : BufTy := match i % 128 with
  | 0 => ⟨S4x8192x1024, .f32⟩
  | 1 => ⟨S4x8192x512, .i32⟩
  | 2 => ⟨S4x8192x512, .i32⟩
  | 3 => ⟨S4x8192x2, .f32⟩
  | 4 => ⟨S4x6x1024, .f32⟩
  | 5 => ⟨S1024, .f32⟩
  | 6 => ⟨S1024, .f32⟩
  | 7 => ⟨S4x6x1024, .f32⟩
  | 8 => ⟨S1024, .f32⟩
  | 9 => ⟨S1024, .f32⟩
  | 10 => ⟨S1024x3072, .f32⟩
  | 11 => ⟨S3x1024, .f32⟩
  | 12 => ⟨S1024x1024, .f32⟩
  | 13 => ⟨S1024x4, .f32⟩
  | 14 => ⟨S4, .f32⟩
  | 15 => ⟨S1024x32, .f32⟩
  | 16 => ⟨S32, .f32⟩
  | 17 => ⟨S4x8192x1, .f32⟩
  | 18 => ⟨S4x8192x512x2, .bf16⟩
  | 19 => ⟨S4x8192x512x2, .f32⟩
  | 20 => ⟨S4x8192x512x1, .f32⟩
  | 21 => ⟨S4x8192x512, .f32⟩
  | 22 => ⟨S4x8192x512x1, .f32⟩
  | 23 => ⟨S4x8192x512, .f32⟩
  | 24 => ⟨S4x8192x1024, .f32⟩
  | 25 => ⟨S4x8192x1024, .f32⟩
  | 26 => ⟨S4x8192x1024, .f32⟩
  | 27 => ⟨S4x8192x1, .f32⟩
  | 28 => ⟨S4x8192x512x2, .bf16⟩
  | 29 => ⟨S4x8192x512x2, .f32⟩
  | 30 => ⟨S4x8192x512x1, .f32⟩
  | 31 => ⟨S4x8192x512, .f32⟩
  | 32 => ⟨S4x8192x512x1, .f32⟩
  | 33 => ⟨S4x8192x512, .f32⟩
  | 34 => ⟨S4x8192x1024, .f32⟩
  | 35 => ⟨S4x8192x1024, .f32⟩
  | 36 => ⟨S4x8192x1024, .f32⟩
  | 37 => ⟨S4x8192x1024, .f32⟩
  | 38 => ⟨S4x1x1024, .f32⟩
  | 39 => ⟨S4x1024, .f32⟩
  | 40 => ⟨S4x1x1024, .f32⟩
  | 41 => ⟨S_, .f32⟩
  | 42 => ⟨S4x8192x1024, .f32⟩
  | 43 => ⟨S4x8192x1024, .f32⟩
  | 44 => ⟨S_, .f32⟩
  | 45 => ⟨S4x1x1024, .f32⟩
  | 46 => ⟨S4x1x1024, .f32⟩
  | 47 => ⟨S4x8192x1024, .f32⟩
  | 48 => ⟨S4x8192x1024, .f32⟩
  | 49 => ⟨S4x8192x1024, .f32⟩
  | 50 => ⟨S_, .f32⟩
  | 51 => ⟨S4x8192, .f32⟩
  | 52 => ⟨S4x8192x1, .f32⟩
  | 53 => ⟨S_, .f32⟩
  | 54 => ⟨S4x8192x1, .f32⟩
  | 55 => ⟨S4x8192x1, .f32⟩
  | 56 => ⟨S4x8192x1024, .f32⟩
  | 57 => ⟨S4x8192x1024, .f32⟩
  | 58 => ⟨S4x8192x1024, .f32⟩
  | 59 => ⟨S_, .f32⟩
  | 60 => ⟨S4x8192, .f32⟩
  | 61 => ⟨S4x8192x1, .f32⟩
  | 62 => ⟨S_, .f32⟩
  | 63 => ⟨S4x8192x1, .f32⟩
  | 64 => ⟨S4x8192x1, .f32⟩
  | 65 => ⟨S4x8192x1024, .f32⟩
  | 66 => ⟨S4x8192x1024, .f32⟩
  | 67 => ⟨S_, .f32⟩
  | 68 => ⟨S4x8192x1, .f32⟩
  | 69 => ⟨S4x8192x1, .f32⟩
  | 70 => ⟨S4x8192x1, .f32⟩
  | 71 => ⟨S4x8192x1024, .f32⟩
  | 72 => ⟨S4x8192x1024, .f32⟩
  | 73 => ⟨S1x1x1024, .f32⟩
  | 74 => ⟨S4x8192x1024, .f32⟩
  | 75 => ⟨S4x8192x1024, .f32⟩
  | 76 => ⟨S1x1x1024, .f32⟩
  | 77 => ⟨S4x8192x1024, .f32⟩
  | 78 => ⟨S4x8192x1024, .f32⟩
  | 79 => ⟨S4x1x1024, .f32⟩
  | 80 => ⟨S4x1024, .f32⟩
  | 81 => ⟨S4x1x1024, .f32⟩
  | 82 => ⟨S4x1x1024, .f32⟩
  | 83 => ⟨S4x1024, .f32⟩
  | 84 => ⟨S4x1x1024, .f32⟩
  | 85 => ⟨S4x1x1024, .f32⟩
  | 86 => ⟨S4x1024, .f32⟩
  | 87 => ⟨S4x1x1024, .f32⟩
  | 88 => ⟨S_, .f32⟩
  | 89 => ⟨S4x1x1024, .f32⟩
  | 90 => ⟨S4x1x1024, .f32⟩
  | 91 => ⟨S4x8192x1024, .f32⟩
  | 92 => ⟨S4x8192x1024, .f32⟩
  | 93 => ⟨S4x8192x1024, .f32⟩
  | 94 => ⟨S4x8192x1024, .f32⟩
  | 95 => ⟨S4x8192x3072, .f32⟩
  | 96 => ⟨S4x8192x1024, .f32⟩
  | 97 => ⟨S4x8192x1024, .f32⟩
  | 98 => ⟨S4x8192x1024, .f32⟩
  | 99 => ⟨S4x8192x1024, .f32⟩
  | 100 => ⟨S_, .i32⟩
  | 101 => ⟨S_, .f32⟩
  | 102 => ⟨S4x8194x1024, .f32⟩
  | 103 => ⟨S1x1024, .f32⟩
  | 104 => ⟨S1024, .f32⟩
  | 105 => ⟨S4x8192x1024, .f32⟩
  | 106 => ⟨S1x1x1024, .f32⟩
  | 107 => ⟨S4x8192x1024, .f32⟩
  | 108 => ⟨S4x8192x1024, .f32⟩
  | 109 => ⟨S1x1024, .f32⟩
  | 110 => ⟨S1024, .f32⟩
  | 111 => ⟨S4x8192x1024, .f32⟩
  | 112 => ⟨S1x1x1024, .f32⟩
  | 113 => ⟨S4x8192x1024, .f32⟩
  | 114 => ⟨S4x8192x1024, .f32⟩
  | 115 => ⟨S4x8192x1024, .f32⟩
  | 116 => ⟨S1x1024, .f32⟩
  | 117 => ⟨S1024, .f32⟩
  | 118 => ⟨S4x8192x1024, .f32⟩
  | 119 => ⟨S1x1x1024, .f32⟩
  | 120 => ⟨S4x8192x1024, .f32⟩
  | 121 => ⟨S4x8192x1024, .f32⟩
  | 122 => ⟨S4x8192x1024, .f32⟩
  | 123 => ⟨S4x8192x1024, .f32⟩
  | 124 => ⟨S4x8192x1024, .f32⟩
  | 125 => ⟨S_, .f32⟩
  | 126 => ⟨S4x8192x1024, .f32⟩
  | 127 => ⟨S4x8192x1024, .f32⟩
  | _ => ⟨S4x8192x1024, .f32⟩

abbrev hbmTy0_1 (i : Nat) : BufTy := match i % 128 with
  | 0 => ⟨S_, .f32⟩
  | 1 => ⟨S4x1x1024, .f32⟩
  | 2 => ⟨S4x1x1024, .f32⟩
  | 3 => ⟨S4x8192x1024, .f32⟩
  | 4 => ⟨S4x8192x1024, .f32⟩
  | 5 => ⟨S4x8192x1024, .f32⟩
  | 6 => ⟨S_, .f32⟩
  | 7 => ⟨S4x8192, .f32⟩
  | 8 => ⟨S4x8192x1, .f32⟩
  | 9 => ⟨S_, .f32⟩
  | 10 => ⟨S4x8192x1, .f32⟩
  | 11 => ⟨S4x8192x1, .f32⟩
  | 12 => ⟨S4x8192x1024, .f32⟩
  | 13 => ⟨S4x8192x1024, .f32⟩
  | 14 => ⟨S4x8192x1024, .f32⟩
  | 15 => ⟨S_, .f32⟩
  | 16 => ⟨S4x8192, .f32⟩
  | 17 => ⟨S4x8192x1, .f32⟩
  | 18 => ⟨S_, .f32⟩
  | 19 => ⟨S4x8192x1, .f32⟩
  | 20 => ⟨S4x8192x1, .f32⟩
  | 21 => ⟨S4x8192x1024, .f32⟩
  | 22 => ⟨S4x8192x1024, .f32⟩
  | 23 => ⟨S_, .f32⟩
  | 24 => ⟨S4x8192x1, .f32⟩
  | 25 => ⟨S4x8192x1, .f32⟩
  | 26 => ⟨S4x8192x1, .f32⟩
  | 27 => ⟨S4x8192x1024, .f32⟩
  | 28 => ⟨S4x8192x1024, .f32⟩
  | 29 => ⟨S1x1x1024, .f32⟩
  | 30 => ⟨S4x8192x1024, .f32⟩
  | 31 => ⟨S4x8192x1024, .f32⟩
  | 32 => ⟨S1x1x1024, .f32⟩
  | 33 => ⟨S4x8192x1024, .f32⟩
  | 34 => ⟨S4x8192x1024, .f32⟩
  | _ => ⟨S4x8192x1024, .f32⟩

abbrev hbmTy (i : Nat) : BufTy := match i / 128 with
  | 0 => hbmTy0_0 i
  | 1 => hbmTy0_1 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_v0 : Ref sig .tc := ⟨.hbm, 17, rfl⟩
abbrev main_v1 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_cst : Ref sig .tc := ⟨.hbm, 41, rfl⟩
abbrev main_v24 : Ref sig .tc := ⟨.hbm, 42, rfl⟩
abbrev main_v25 : Ref sig .tc := ⟨.hbm, 43, rfl⟩
abbrev main_cst_0 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_1 : Ref sig .tc := ⟨.hbm, 50, rfl⟩
abbrev main_v31 : Ref sig .tc := ⟨.hbm, 51, rfl⟩
abbrev main_v32 : Ref sig .tc := ⟨.hbm, 52, rfl⟩
abbrev main_cst_2 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_cst_3 : Ref sig .tc := ⟨.hbm, 59, rfl⟩
abbrev main_v38 : Ref sig .tc := ⟨.hbm, 60, rfl⟩
abbrev main_v39 : Ref sig .tc := ⟨.hbm, 61, rfl⟩
abbrev main_cst_4 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_cst_5 : Ref sig .tc := ⟨.hbm, 67, rfl⟩
abbrev main_v44 : Ref sig .tc := ⟨.hbm, 68, rfl⟩
abbrev main_v45 : Ref sig .tc := ⟨.hbm, 69, rfl⟩
abbrev main_v46 : Ref sig .tc := ⟨.hbm, 70, rfl⟩
abbrev main_v47 : Ref sig .tc := ⟨.hbm, 71, rfl⟩
abbrev main_v48 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_cst_6 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩
abbrev main_v74 : Ref sig .tc := ⟨.hbm, 99, rfl⟩
abbrev main_c : Ref sig .tc := ⟨.hbm, 100, rfl⟩
abbrev main_call0_v0 : Ref sig .tc := ⟨.hbm, 101, rfl⟩
abbrev main_v75 : Ref sig .tc := ⟨.hbm, 102, rfl⟩
abbrev main_v76 : Ref sig .tc := ⟨.hbm, 103, rfl⟩
abbrev main_v77 : Ref sig .tc := ⟨.hbm, 104, rfl⟩
abbrev main_v78 : Ref sig .tc := ⟨.hbm, 105, rfl⟩
abbrev main_v79 : Ref sig .tc := ⟨.hbm, 106, rfl⟩
abbrev main_v80 : Ref sig .tc := ⟨.hbm, 107, rfl⟩
abbrev main_v81 : Ref sig .tc := ⟨.hbm, 108, rfl⟩
abbrev main_v82 : Ref sig .tc := ⟨.hbm, 109, rfl⟩
abbrev main_v83 : Ref sig .tc := ⟨.hbm, 110, rfl⟩
abbrev main_v84 : Ref sig .tc := ⟨.hbm, 111, rfl⟩
abbrev main_v85 : Ref sig .tc := ⟨.hbm, 112, rfl⟩
abbrev main_v86 : Ref sig .tc := ⟨.hbm, 113, rfl⟩
abbrev main_v87 : Ref sig .tc := ⟨.hbm, 114, rfl⟩
abbrev main_v88 : Ref sig .tc := ⟨.hbm, 115, rfl⟩
abbrev main_v89 : Ref sig .tc := ⟨.hbm, 116, rfl⟩
abbrev main_v90 : Ref sig .tc := ⟨.hbm, 117, rfl⟩
abbrev main_v91 : Ref sig .tc := ⟨.hbm, 118, rfl⟩
abbrev main_v92 : Ref sig .tc := ⟨.hbm, 119, rfl⟩
abbrev main_v93 : Ref sig .tc := ⟨.hbm, 120, rfl⟩
abbrev main_v94 : Ref sig .tc := ⟨.hbm, 121, rfl⟩
abbrev main_v95 : Ref sig .tc := ⟨.hbm, 122, rfl⟩
abbrev main_v96 : Ref sig .tc := ⟨.hbm, 123, rfl⟩
abbrev main_v97 : Ref sig .tc := ⟨.hbm, 124, rfl⟩
abbrev main_cst_7 : Ref sig .tc := ⟨.hbm, 125, rfl⟩
abbrev main_v98 : Ref sig .tc := ⟨.hbm, 126, rfl⟩
abbrev main_v99 : Ref sig .tc := ⟨.hbm, 127, rfl⟩
abbrev main_cst_8 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_cst_9 : Ref sig .tc := ⟨.hbm, 134, rfl⟩
abbrev main_v105 : Ref sig .tc := ⟨.hbm, 135, rfl⟩
abbrev main_v106 : Ref sig .tc := ⟨.hbm, 136, rfl⟩
abbrev main_cst_10 : Ref sig .tc := ⟨.hbm, 137, rfl⟩
abbrev main_v107 : Ref sig .tc := ⟨.hbm, 138, rfl⟩
abbrev main_v108 : Ref sig .tc := ⟨.hbm, 139, rfl⟩
abbrev main_v109 : Ref sig .tc := ⟨.hbm, 140, rfl⟩
abbrev main_v110 : Ref sig .tc := ⟨.hbm, 141, rfl⟩
abbrev main_v111 : Ref sig .tc := ⟨.hbm, 142, rfl⟩
abbrev main_cst_11 : Ref sig .tc := ⟨.hbm, 143, rfl⟩
abbrev main_v112 : Ref sig .tc := ⟨.hbm, 144, rfl⟩
abbrev main_v113 : Ref sig .tc := ⟨.hbm, 145, rfl⟩
abbrev main_cst_12 : Ref sig .tc := ⟨.hbm, 146, rfl⟩
abbrev main_v114 : Ref sig .tc := ⟨.hbm, 147, rfl⟩
abbrev main_v115 : Ref sig .tc := ⟨.hbm, 148, rfl⟩
abbrev main_v116 : Ref sig .tc := ⟨.hbm, 149, rfl⟩
abbrev main_v117 : Ref sig .tc := ⟨.hbm, 150, rfl⟩
abbrev main_cst_13 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩

abbrev nD : Nat := 1
abbrev τ : Topo := Topo.v7x

variable {F : FTy → Type} [FloatOps F]
-- ==== Kernel3.lean ====
abbrev S4x8192x1024 : Shape := ⟨3, ![4, 8192, 1024]⟩
abbrev S4x6x1024 : Shape := ⟨3, ![4, 6, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S48x1024 : Shape := ⟨2, ![48, 1024]⟩
abbrev S4x1024 : Shape := ⟨2, ![4, 1024]⟩
abbrev S1 : Shape := ⟨1, ![1]⟩
abbrev S32x1024 : Shape := ⟨2, ![32, 1024]⟩
abbrev S48 : Shape := ⟨1, ![48]⟩
abbrev S8 : Shape := ⟨1, ![8]⟩
abbrev S48x1 : Shape := ⟨2, ![48, 1]⟩
abbrev S1x4x6x1024 : Shape := ⟨4, ![1, 4, 6, 1024]⟩
abbrev S1x1024 : Shape := ⟨2, ![1, 1024]⟩
abbrev S2x1024 : Shape := ⟨2, ![2, 1024]⟩
abbrev S1x2048 : Shape := ⟨2, ![1, 2048]⟩
abbrev S4x8192x512 : Shape := ⟨3, ![4, 8192, 512]⟩
abbrev S8x32768 : Shape := ⟨2, ![8, 32768]⟩
abbrev S4x8192x256 : Shape := ⟨3, ![4, 8192, 256]⟩
abbrev S32x128 : Shape := ⟨2, ![32, 128]⟩
abbrev S1x512x1024 : Shape := ⟨3, ![1, 512, 1024]⟩
abbrev S1x1x6x1024 : Shape := ⟨4, ![1, 1, 6, 1024]⟩
abbrev S1x512x512 : Shape := ⟨3, ![1, 512, 512]⟩
abbrev S8x512 : Shape := ⟨2, ![8, 512]⟩
abbrev S1x512x256 : Shape := ⟨3, ![1, 512, 256]⟩
abbrev S544x1024 : Shape := ⟨2, ![544, 1024]⟩
abbrev S6x1024 : Shape := ⟨2, ![6, 1024]⟩
abbrev S512x1024 : Shape := ⟨2, ![512, 1024]⟩
abbrev S512x2048 : Shape := ⟨2, ![512, 2048]⟩
abbrev S48x512 : Shape := ⟨2, ![48, 512]⟩
abbrev S32x512 : Shape := ⟨2, ![32, 512]⟩
abbrev S64x512 : Shape := ⟨2, ![64, 512]⟩
abbrev S64 : Shape := ⟨1, ![64]⟩
abbrev S64x1 : Shape := ⟨2, ![64, 1]⟩
abbrev S32x1 : Shape := ⟨2, ![32, 1]⟩
abbrev S4x512 : Shape := ⟨2, ![4, 512]⟩
abbrev S128x512 : Shape := ⟨2, ![128, 512]⟩
abbrev S512x128 : Shape := ⟨2, ![512, 128]⟩
abbrev S1x512x128 : Shape := ⟨3, ![1, 512, 128]⟩

abbrev nBuf : Space → Nat
  | .hbm => 66
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S4x6x1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S31x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x4, .f32⟩
  | .hbm, ⟨13, _⟩ => ⟨S4, .f32⟩
  | .hbm, ⟨14, _⟩ => ⟨S1024x32, .f32⟩
  | .hbm, ⟨15, _⟩ => ⟨S32, .f32⟩
  | .hbm, ⟨16, _⟩ => ⟨S512, .i32⟩
  | .hbm, ⟨17, _⟩ => ⟨S512x1, .i32⟩
  | .hbm, ⟨18, _⟩ => ⟨S512, .i32⟩
  | .hbm, ⟨19, _⟩ => ⟨S1x512, .i32⟩
  | .hbm, ⟨20, _⟩ => ⟨S512x512, .i32⟩
  | .hbm, ⟨21, _⟩ => ⟨S512x512, .i32⟩
  | .hbm, ⟨22, _⟩ => ⟨S512x512, .i1⟩
  | .hbm, ⟨23, _⟩ => ⟨S512x512, .bf16⟩
  | .hbm, ⟨24, _⟩ => ⟨S_, .f32⟩
  | .hbm, ⟨25, _⟩ => ⟨S48x1024, .f32⟩
  | .hbm, ⟨26, _⟩ => ⟨S4x1024, .f32⟩
  | .hbm, ⟨27, _⟩ => ⟨S_, .i32⟩
  | .hbm, ⟨28, _⟩ => ⟨S1, .i32⟩
  | .hbm, ⟨29, _⟩ => ⟨S48x1024, .f32⟩
  | .hbm, ⟨30, _⟩ => ⟨S32x1024, .f32⟩
  | .hbm, ⟨31, _⟩ => ⟨S_, .i32⟩
  | .hbm, ⟨32, _⟩ => ⟨S1, .i32⟩
  | .hbm, ⟨33, _⟩ => ⟨S48x1024, .f32⟩
  | .hbm, ⟨34, _⟩ => ⟨S_, .f32⟩
  | .hbm, ⟨35, _⟩ => ⟨S48, .f32⟩
  | .hbm, ⟨36, _⟩ => ⟨S_, .i32⟩
  | .hbm, ⟨37, _⟩ => ⟨S1, .i32⟩
  | .hbm, ⟨38, _⟩ => ⟨S48, .f32⟩
  | .hbm, ⟨39, _⟩ => ⟨S_, .i32⟩
  | .hbm, ⟨40, _⟩ => ⟨S1, .i32⟩
  | .hbm, ⟨41, _⟩ => ⟨S48, .f32⟩
  | .hbm, ⟨42, _⟩ => ⟨S_, .i32⟩
  | .hbm, ⟨43, _⟩ => ⟨S1, .i32⟩
  | .hbm, ⟨44, _⟩ => ⟨S_, .f32⟩
  | .hbm, ⟨45, _⟩ => ⟨S8, .f32⟩
  | .hbm, ⟨46, _⟩ => ⟨S48, .f32⟩
  | .hbm, ⟨47, _⟩ => ⟨S48x1024, .bf16⟩
  | .hbm, ⟨48, _⟩ => ⟨S48x1, .f32⟩
  | .hbm, ⟨49, _⟩ => ⟨S1x4x6x1024, .f32⟩
  | .hbm, ⟨50, _⟩ => ⟨S1x1024, .f32⟩
  | .hbm, ⟨51, _⟩ => ⟨S1x1024, .f32⟩
  | .hbm, ⟨52, _⟩ => ⟨S2x1024, .f32⟩
  | .hbm, ⟨53, _⟩ => ⟨S1024x2048, .bf16⟩
  | .hbm, ⟨54, _⟩ => ⟨S1x2048, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S4x1024, .f32⟩
  | .hbm, ⟨60, _⟩ => ⟨S1024x1024, .bf16⟩
  | .hbm, ⟨61, _⟩ => ⟨S4x8192x1024, .f32⟩
  | .hbm, ⟨62, _⟩ => ⟨S4x8192x512, .i32⟩
  | .hbm, ⟨63, _⟩ => ⟨S8x32768, .i32⟩
  | .hbm, ⟨64, _⟩ => ⟨S4x8192x256, .f32⟩
  | .hbm, ⟨65, _⟩ => ⟨S32x128, .i32⟩
  | .local _ .vmem, ⟨0, _⟩ => ⟨S1x512x1024, .f32⟩
  | .local _ .vmem, ⟨1, _⟩ => ⟨S1x512x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S2x1024, .f32⟩
  | .local _ .vmem, ⟨5, _⟩ => ⟨S1024x2048, .bf16⟩
  | .local _ .vmem, ⟨6, _⟩ => ⟨S1x2048, .f32⟩
  | .local _ .vmem, ⟨7, _⟩ => ⟨S31x1024, .f32⟩
  | .local _ .vmem, ⟨8, _⟩ => ⟨S4x1024, .f32⟩
  | .local _ .vmem, ⟨9, _⟩ => ⟨S1024x1024, .bf16⟩
  | .local _ .vmem, ⟨10, _⟩ => ⟨S48x1024, .bf16⟩
  | .local _ .vmem, ⟨11, _⟩ => ⟨S48x1, .f32⟩
  | .local _ .vmem, ⟨12, _⟩ => ⟨S512x512, .bf16⟩
  | .local _ .vmem, ⟨13, _⟩ => ⟨S1x512x1024, .f32⟩
  | .local _ .vmem, ⟨14, _⟩ => ⟨S1x512x1024, .f32⟩
  | .local _ .vmem, ⟨15, _⟩ => ⟨S1x512x512, .i32⟩
  | .local _ .vmem, ⟨16, _⟩ => ⟨S1x512x512, .i32⟩
  | .local _ .vmem, ⟨17, _⟩ => ⟨S8x512, .i32⟩
  | .local _ .vmem, ⟨18, _⟩ => ⟨S8x512, .i32⟩
  | .local _ .vmem, ⟨19, _⟩ => ⟨S1x512x256, .f32⟩
  | .local _ .vmem, ⟨20, _⟩ => ⟨S1x512x256, .f32⟩
  | .local _ .vmem, ⟨21, _⟩ => ⟨S32x128, .i32⟩
  | .local _ .vmem, ⟨22, _⟩ => ⟨S544x1024, .f32⟩
  | .local _ .vmem, ⟨23, _⟩ => ⟨S32x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_0 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37_0 : Ref sig .tc := ⟨.hbm, 61, rfl⟩
abbrev main_v37_1 : Ref sig .tc := ⟨.hbm, 62, rfl⟩
abbrev main_v37_2 : Ref sig .tc := ⟨.hbm, 63, rfl⟩
abbrev main_v37_3 : Ref sig .tc := ⟨.hbm, 64, rfl⟩
abbrev main_v37_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21

abbrev nD : Nat := 1
abbrev τ : Topo := Topo.v7x

variable {F : FTy → Type} [BitOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S31x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S48x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S48x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x512 .i32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x512 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S32x128 .i32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== Kernel3Ideal.lean ====
abbrev S4x8192x1024 : Shape := ⟨3, ![4, 8192, 1024]⟩
abbrev S4x6x1024 : Shape := ⟨3, ![4, 6, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S48x1024 : Shape := ⟨2, ![48, 1024]⟩
abbrev S4x1024 : Shape := ⟨2, ![4, 1024]⟩
abbrev S1 : Shape := ⟨1, ![1]⟩
abbrev S32x1024 : Shape := ⟨2, ![32, 1024]⟩
abbrev S48 : Shape := ⟨1, ![48]⟩
abbrev S8 : Shape := ⟨1, ![8]⟩
abbrev S48x1 : Shape := ⟨2, ![48, 1]⟩
abbrev S1x4x6x1024 : Shape := ⟨4, ![1, 4, 6, 1024]⟩
abbrev S1x1024 : Shape := ⟨2, ![1, 1024]⟩
abbrev S2x1024 : Shape := ⟨2, ![2, 1024]⟩
abbrev S1x2048 : Shape := ⟨2, ![1, 2048]⟩
abbrev S4x8192x2x512 : Shape := ⟨4, ![4, 8192, 2, 512]⟩
abbrev S8x32768 : Shape := ⟨2, ![8, 32768]⟩
abbrev S4x8192x256 : Shape := ⟨3, ![4, 8192, 256]⟩
abbrev S32x128 : Shape := ⟨2, ![32, 128]⟩
abbrev S4x8192x1x512 : Shape := ⟨4, ![4, 8192, 1, 512]⟩
abbrev S4x8192x512 : Shape := ⟨3, ![4, 8192, 512]⟩
abbrev S1x512x1024 : Shape := ⟨3, ![1, 512, 1024]⟩
abbrev S1x1x6x1024 : Shape := ⟨4, ![1, 1, 6, 1024]⟩
abbrev S1x512x512 : Shape := ⟨3, ![1, 512, 512]⟩
abbrev S1x512x2x512 : Shape := ⟨4, ![1, 512, 2, 512]⟩
abbrev S1x512x1x512 : Shape := ⟨4, ![1, 512, 1, 512]⟩
abbrev S8x512 : Shape := ⟨2, ![8, 512]⟩
abbrev S1x512x256 : Shape := ⟨3, ![1, 512, 256]⟩
abbrev S544x1024 : Shape := ⟨2, ![544, 1024]⟩
abbrev S6x1024 : Shape := ⟨2, ![6, 1024]⟩
abbrev S512x1024 : Shape := ⟨2, ![512, 1024]⟩
abbrev S512x2048 : Shape := ⟨2, ![512, 2048]⟩
abbrev S48x512 : Shape := ⟨2, ![48, 512]⟩
abbrev S32x512 : Shape := ⟨2, ![32, 512]⟩
abbrev S64x512 : Shape := ⟨2, ![64, 512]⟩
abbrev S64 : Shape := ⟨1, ![64]⟩
abbrev S64x1 : Shape := ⟨2, ![64, 1]⟩
abbrev S32x1 : Shape := ⟨2, ![32, 1]⟩
abbrev S4x512 : Shape := ⟨2, ![4, 512]⟩
abbrev S128x512 : Shape := ⟨2, ![128, 512]⟩
abbrev S512x128 : Shape := ⟨2, ![512, 128]⟩
abbrev S1x512x128 : Shape := ⟨3, ![1, 512, 128]⟩

abbrev nBuf : Space → Nat
  | .hbm => 66
  | .vmem => 24
  | .smem => 0
  | _ => 0

abbrev bufTy : (tb : Table) → Fin (tcTables nBuf tb) → BufTy
  | .hbm, ⟨0, _⟩ => ⟨S4x8192x1024, .f32⟩
  | .hbm, ⟨1, _⟩ => ⟨S4x6x1024, .f32⟩
  | .hbm, ⟨2, _⟩ => ⟨S1024, .f32⟩
  | .hbm, ⟨3, _⟩ => ⟨S1024, .f32⟩
  | .hbm, ⟨4, _⟩ => ⟨S1024x2048, .f32⟩
  | .hbm, ⟨5, _⟩ => ⟨S2048, .f32⟩
  | .hbm, ⟨6, _⟩ => ⟨S31x1024, .f32⟩
  | .hbm, ⟨7, _⟩ => ⟨S1024, .f32⟩
  | .hbm, ⟨8, _⟩ => ⟨S1024, .f32⟩
  | .hbm, ⟨9, _⟩ => ⟨S1024, .f32⟩
  | .hbm, ⟨10, _⟩ => ⟨S1024x1024, .f32⟩
  | .hbm, ⟨11, _⟩ => ⟨S1024, .f32⟩
  | .hbm, ⟨12, _⟩ => ⟨S1024x4, .f32⟩
  | .hbm, ⟨13, _⟩ => ⟨S4, .f32⟩
  | .hbm, ⟨14, _⟩ => ⟨S1024x32, .f32⟩
  | .hbm, ⟨15, _⟩ => ⟨S32, .f32⟩
  | .hbm, ⟨16, _⟩ => ⟨S512, .i32⟩
  | .hbm, ⟨17, _⟩ => ⟨S512x1, .i32⟩
  | .hbm, ⟨18, _⟩ => ⟨S512, .i32⟩
  | .hbm, ⟨19, _⟩ => ⟨S1x512, .i32⟩
  | .hbm, ⟨20, _⟩ => ⟨S512x512, .i32⟩
  | .hbm, ⟨21, _⟩ => ⟨S512x512, .i32⟩
  | .hbm, ⟨22, _⟩ => ⟨S512x512, .i1⟩
  | .hbm, ⟨23, _⟩ => ⟨S512x512, .bf16⟩
  | .hbm, ⟨24, _⟩ => ⟨S_, .f32⟩
  | .hbm, ⟨25, _⟩ => ⟨S48x1024, .f32⟩
  | .hbm, ⟨26, _⟩ => ⟨S4x1024, .f32⟩
  | .hbm, ⟨27, _⟩ => ⟨S_, .i32⟩
  | .hbm, ⟨28, _⟩ => ⟨S1, .i32⟩
  | .hbm, ⟨29, _⟩ => ⟨S48x1024, .f32⟩
  | .hbm, ⟨30, _⟩ => ⟨S32x1024, .f32⟩
  | .hbm, ⟨31, _⟩ => ⟨S_, .i32⟩
  | .hbm, ⟨32, _⟩ => ⟨S1, .i32⟩
  | .hbm, ⟨33, _⟩ => ⟨S48x1024, .f32⟩
  | .hbm, ⟨34, _⟩ => ⟨S_, .f32⟩
  | .hbm, ⟨35, _⟩ => ⟨S48, .f32⟩
  | .hbm, ⟨36, _⟩ => ⟨S_, .i32⟩
  | .hbm, ⟨37, _⟩ => ⟨S1, .i32⟩
  | .hbm, ⟨38, _⟩ => ⟨S48, .f32⟩
  | .hbm, ⟨39, _⟩ => ⟨S_, .i32⟩
  | .hbm, ⟨40, _⟩ => ⟨S1, .i32⟩
  | .hbm, ⟨41, _⟩ => ⟨S48, .f32⟩
  | .hbm, ⟨42, _⟩ => ⟨S_, .i32⟩
  | .hbm, ⟨43, _⟩ => ⟨S1, .i32⟩
  | .hbm, ⟨44, _⟩ => ⟨S_, .f32⟩
  | .hbm, ⟨45, _⟩ => ⟨S8, .f32⟩
  | .hbm, ⟨46, _⟩ => ⟨S48, .f32⟩
  | .hbm, ⟨47, _⟩ => ⟨S48x1024, .bf16⟩
  | .hbm, ⟨48, _⟩ => ⟨S48x1, .f32⟩
  | .hbm, ⟨49, _⟩ => ⟨S1x4x6x1024, .f32⟩
  | .hbm, ⟨50, _⟩ => ⟨S1x1024, .f32⟩
  | .hbm, ⟨51, _⟩ => ⟨S1x1024, .f32⟩
  | .hbm, ⟨52, _⟩ => ⟨S2x1024, .f32⟩
  | .hbm, ⟨53, _⟩ => ⟨S1024x2048, .bf16⟩
  | .hbm, ⟨54, _⟩ => ⟨S1x2048, .f32⟩
  | .hbm, ⟨55, _⟩ => ⟨S1x1024, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S4x1024, .f32⟩
  | .hbm, ⟨60, _⟩ => ⟨S1024x1024, .bf16⟩
  | .hbm, ⟨61, _⟩ => ⟨S4x8192x1024, .f32⟩
  | .hbm, ⟨62, _⟩ => ⟨S4x8192x2x512, .bf16⟩
  | .hbm, ⟨63, _⟩ => ⟨S8x32768, .i32⟩
  | .hbm, ⟨64, _⟩ => ⟨S4x8192x256, .f32⟩
  | .hbm, ⟨65, _⟩ => ⟨S32x128, .i32⟩
  | .local _ .vmem, ⟨0, _⟩ => ⟨S1x512x1024, .f32⟩
  | .local _ .vmem, ⟨1, _⟩ => ⟨S1x512x1024, .f32⟩
  | .local _ .vmem, ⟨2, _⟩ => ⟨S1x1x6x1024, .f32⟩
  | .local _ .vmem, ⟨3, _⟩ => ⟨S1x1x6x1024, .f32⟩
  | .local _ .vmem, ⟨4, _⟩ => ⟨S2x1024, .f32⟩
  | .local _ .vmem, ⟨5, _⟩ => ⟨S1024x2048, .bf16⟩
  | .local _ .vmem, ⟨6, _⟩ => ⟨S1x2048, .f32⟩
  | .local _ .vmem, ⟨7, _⟩ => ⟨S31x1024, .f32⟩
  | .local _ .vmem, ⟨8, _⟩ => ⟨S4x1024, .f32⟩
  | .local _ .vmem, ⟨9, _⟩ => ⟨S1024x1024, .bf16⟩
  | .local _ .vmem, ⟨10, _⟩ => ⟨S48x1024, .bf16⟩
  | .local _ .vmem, ⟨11, _⟩ => ⟨S48x1, .f32⟩
  | .local _ .vmem, ⟨12, _⟩ => ⟨S512x512, .bf16⟩
  | .local _ .vmem, ⟨13, _⟩ => ⟨S1x512x1024, .f32⟩
  | .local _ .vmem, ⟨14, _⟩ => ⟨S1x512x1024, .f32⟩
  | .local _ .vmem, ⟨15, _⟩ => ⟨S1x512x2x512, .bf16⟩
  | .local _ .vmem, ⟨16, _⟩ => ⟨S1x512x2x512, .bf16⟩
  | .local _ .vmem, ⟨17, _⟩ => ⟨S8x512, .i32⟩
  | .local _ .vmem, ⟨18, _⟩ => ⟨S8x512, .i32⟩
  | .local _ .vmem, ⟨19, _⟩ => ⟨S1x512x256, .f32⟩
  | .local _ .vmem, ⟨20, _⟩ => ⟨S1x512x256, .f32⟩
  | .local _ .vmem, ⟨21, _⟩ => ⟨S32x128, .i32⟩
  | .local _ .vmem, ⟨22, _⟩ => ⟨S544x1024, .f32⟩
  | .local _ .vmem, ⟨23, _⟩ => ⟨S32x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_cst : Ref sig .tc := ⟨.hbm, 24, rfl⟩
abbrev main_v8 : Ref sig .tc := ⟨.hbm, 25, rfl⟩
abbrev main_v9 : Ref sig .tc := ⟨.hbm, 26, rfl⟩
abbrev main_c : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_c_0 : Ref sig .tc := ⟨.hbm, 31, rfl⟩
abbrev main_v13 : Ref sig .tc := ⟨.hbm, 32, rfl⟩
abbrev main_v14 : Ref sig .tc := ⟨.hbm, 33, rfl⟩
abbrev main_cst_1 : Ref sig .tc := ⟨.hbm, 34, rfl⟩
abbrev main_v15 : Ref sig .tc := ⟨.hbm, 35, rfl⟩
abbrev main_c_2 : Ref sig .tc := ⟨.hbm, 36, rfl⟩
abbrev main_v16 : Ref sig .tc := ⟨.hbm, 37, rfl⟩
abbrev main_v17 : Ref sig .tc := ⟨.hbm, 38, rfl⟩
abbrev main_c_3 : Ref sig .tc := ⟨.hbm, 39, rfl⟩
abbrev main_v18 : Ref sig .tc := ⟨.hbm, 40, rfl⟩
abbrev main_v19 : Ref sig .tc := ⟨.hbm, 41, rfl⟩
abbrev main_c_4 : Ref sig .tc := ⟨.hbm, 42, rfl⟩
abbrev main_v20 : Ref sig .tc := ⟨.hbm, 43, rfl⟩
abbrev main_cst_5 : Ref sig .tc := ⟨.hbm, 44, rfl⟩
abbrev main_v21 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37_0 : Ref sig .tc := ⟨.hbm, 61, rfl⟩
abbrev main_v37_1 : Ref sig .tc := ⟨.hbm, 62, rfl⟩
abbrev main_v37_2 : Ref sig .tc := ⟨.hbm, 63, rfl⟩
abbrev main_v37_3 : Ref sig .tc := ⟨.hbm, 64, rfl⟩
abbrev main_v37_4 : Ref sig .tc := ⟨.hbm, 65, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg11_1 : Ref sig .tc := ⟨.vmem, 14, rfl⟩
abbrev cc0_stg12_0 : Ref sig .tc := ⟨.vmem, 15, rfl⟩
abbrev cc0_stg12_1 : Ref sig .tc := ⟨.vmem, 16, rfl⟩
abbrev cc0_stg13_0 : Ref sig .tc := ⟨.vmem, 17, rfl⟩
abbrev cc0_stg13_1 : Ref sig .tc := ⟨.vmem, 18, rfl⟩
abbrev cc0_stg14_0 : Ref sig .tc := ⟨.vmem, 19, rfl⟩
abbrev cc0_stg14_1 : Ref sig .tc := ⟨.vmem, 20, rfl⟩
abbrev cc0_stg15_0 : Ref sig .tc := ⟨.vmem, 21, rfl⟩
abbrev cc0_scratch0 : Ref sig .tc := ⟨.vmem, 22, rfl⟩
abbrev cc0_scratch1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem11_1 : DmaSem sig := 14
abbrev cc0_sem12_0 : DmaSem sig := 15
abbrev cc0_sem12_1 : DmaSem sig := 16
abbrev cc0_sem13_0 : DmaSem sig := 17
abbrev cc0_sem13_1 : DmaSem sig := 18
abbrev cc0_sem14_0 : DmaSem sig := 19
abbrev cc0_sem14_1 : DmaSem sig := 20
abbrev cc0_sem15_0 : DmaSem sig := 21

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, 0, c0_i32.toNat]

def cc0_transform_13 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_14 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x6x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1024x2048 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S31x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S4x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S48x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S48x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S512x512 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x512x1024 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x512x2x512 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]

abbrev stage0_13 : Fin 2 → Memref sig .tc .vmem S8x512 .i32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true, true]

abbrev stage0_14 : Fin 2 → Memref sig .tc .vmem S1x512x256 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true, true]

abbrev stage0_15 : Fin 1 → Memref sig .tc .vmem S32x128 .i32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]
-- ==== Reference3Ideal.lean ====
abbrev S4x8192x1024 : Shape := ⟨3, ![4, 8192, 1024]⟩
abbrev S4x6x1024 : Shape := ⟨3, ![4, 6, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S4x1x1024 : Shape := ⟨3, ![4, 1, 1024]⟩
abbrev S4x1024 : Shape := ⟨2, ![4, 1024]⟩
abbrev S_ : Shape := ⟨0, ![]⟩
abbrev S4x8192x2048 : Shape := ⟨3, ![4, 8192, 2048]⟩
abbrev S1x1x2048 : Shape := ⟨3, ![1, 1, 2048]⟩
abbrev S4x8222x1024 : Shape := ⟨3, ![4, 8222, 1024]⟩
abbrev S1x1024 : Shape := ⟨2, ![1, 1024]⟩
abbrev S1x1x1024 : Shape := ⟨3, ![1, 1, 1024]⟩
abbrev S4x8192 : Shape := ⟨2, ![4, 8192]⟩
abbrev S4x8192x1 : Shape := ⟨3, ![4, 8192, 1]⟩

abbrev nBuf : Space → Nat
  | .hbm => 349
  | .vmem => 0
  | .smem => 0
  | _ => 0

abbrev hbmTy0_0 (i : Nat) : BufTy := match i % 128 with
  | 0 => ⟨S4x8192x1024, .f32⟩
  | 1 => ⟨S4x6x1024, .f32⟩
  | 2 => ⟨S1024, .f32⟩
  | 3 => ⟨S1024, .f32⟩
  | 4 => ⟨S1024x2048, .f32⟩
  | 5 => ⟨S2048, .f32⟩
  | 6 => ⟨S31x1024, .f32⟩
  | 7 => ⟨S1024, .f32⟩
  | 8 => ⟨S1024, .f32⟩
  | 9 => ⟨S1024, .f32⟩
  | 10 => ⟨S1024x1024, .f32⟩
  | 11 => ⟨S1024, .f32⟩
  | 12 => ⟨S1024x4, .f32⟩
  | 13 => ⟨S4, .f32⟩
  | 14 => ⟨S1024x32, .f32⟩
  | 15 => ⟨S32, .f32⟩
  | 16 => ⟨S4x1x1024, .f32⟩
  | 17 => ⟨S4x1024, .f32⟩
  | 18 => ⟨S4x1x1024, .f32⟩
  | 19 => ⟨S4x1x1024, .f32⟩
  | 20 => ⟨S4x1024, .f32⟩
  | 21 => ⟨S4x1x1024, .f32⟩
  | 22 => ⟨S4x1x1024, .f32⟩
  | 23 => ⟨S4x1024, .f32⟩
  | 24 => ⟨S4x1x1024, .f32⟩
  | 25 => ⟨S_, .f32⟩
  | 26 => ⟨S4x1x1024, .f32⟩
  | 27 => ⟨S4x1x1024, .f32⟩
  | 28 => ⟨S4x8192x1024, .f32⟩
  | 29 => ⟨S4x8192x1024, .f32⟩
  | 30 => ⟨S4x8192x1024, .f32⟩
  | 31 => ⟨S4x8192x1024, .f32⟩
  | 32 => ⟨S4x8192x2048, .f32⟩
  | 33 => ⟨S1x1x2048, .f32⟩
  | 34 => ⟨S4x8192x2048, .f32⟩
  | 35 => ⟨S4x8192x2048, .f32⟩
  | 36 => ⟨S4x8192x1024, .f32⟩
  | 37 => ⟨S4x8192x1024, .f32⟩
  | 38 => ⟨S4x8192x1024, .f32⟩
  | 39 => ⟨S4x8192x1024, .f32⟩
  | 40 => ⟨S_, .f32⟩
  | 41 => ⟨S4x8192x1024, .f32⟩
  | 42 => ⟨S4x8192x1024, .f32⟩
  | 43 => ⟨S_, .f32⟩
  | 44 => ⟨S4x8192x1024, .f32⟩
  | 45 => ⟨S4x8192x1024, .f32⟩
  | 46 => ⟨S4x8192x1024, .f32⟩
  | 47 => ⟨S_, .i32⟩
  | 48 => ⟨S_, .f32⟩
  | 49 => ⟨S4x8222x1024, .f32⟩
  | 50 => ⟨S1x1024, .f32⟩
  | 51 => ⟨S1024, .f32⟩
  | 52 => ⟨S4x8192x1024, .f32⟩
  | 53 => ⟨S1x1x1024, .f32⟩
  | 54 => ⟨S4x8192x1024, .f32⟩
  | 55 => ⟨S4x8192x1024, .f32⟩
  | 56 => ⟨S1x1024, .f32⟩
  | 57 => ⟨S1024, .f32⟩
  | 58 => ⟨S4x8192x1024, .f32⟩
  | 59 => ⟨S1x1x1024, .f32⟩
  | 60 => ⟨S4x8192x1024, .f32⟩
  | 61 => ⟨S4x8192x1024, .f32⟩
  | 62 => ⟨S4x8192x1024, .f32⟩
  | 63 => ⟨S1x1024, .f32⟩
  | 64 => ⟨S1024, .f32⟩
  | 65 => ⟨S4x8192x1024, .f32⟩
  | 66 => ⟨S1x1x1024, .f32⟩
  | 67 => ⟨S4x8192x1024, .f32⟩
  | 68 => ⟨S4x8192x1024, .f32⟩
  | 69 => ⟨S4x8192x1024, .f32⟩
  | 70 => ⟨S1x1024, .f32⟩
  | 71 => ⟨S1024, .f32⟩
  | 72 => ⟨S4x8192x1024, .f32⟩
  | 73 => ⟨S1x1x1024, .f32⟩
  | 74 => ⟨S4x8192x1024, .f32⟩
  | 75 => ⟨S4x8192x1024, .f32⟩
  | 76 => ⟨S4x8192x1024, .f32⟩
  | 77 => ⟨S1x1024, .f32⟩
  | 78 => ⟨S1024, .f32⟩
  | 79 => ⟨S4x8192x1024, .f32⟩
  | 80 => ⟨S1x1x1024, .f32⟩
  | 81 => ⟨S4x8192x1024, .f32⟩
  | 82 => ⟨S4x8192x1024, .f32⟩
  | 83 => ⟨S4x8192x1024, .f32⟩
  | 84 => ⟨S1x1024, .f32⟩
  | 85 => ⟨S1024, .f32⟩
  | 86 => ⟨S4x8192x1024, .f32⟩
  | 87 => ⟨S1x1x1024, .f32⟩
  | 88 => ⟨S4x8192x1024, .f32⟩
  | 89 => ⟨S4x8192x1024, .f32⟩
  | 90 => ⟨S4x8192x1024, .f32⟩
  | 91 => ⟨S1x1024, .f32⟩
  | 92 => ⟨S1024, .f32⟩
  | 93 => ⟨S4x8192x1024, .f32⟩
  | 94 => ⟨S1x1x1024, .f32⟩
  | 95 => ⟨S4x8192x1024, .f32⟩
  | 96 => ⟨S4x8192x1024, .f32⟩
  | 97 => ⟨S4x8192x1024, .f32⟩
  | 98 => ⟨S1x1024, .f32⟩
  | 99 => ⟨S1024, .f32⟩
  | 100 => ⟨S4x8192x1024, .f32⟩
  | 101 => ⟨S1x1x1024, .f32⟩
  | 102 => ⟨S4x8192x1024, .f32⟩
  | 103 => ⟨S4x8192x1024, .f32⟩
  | 104 => ⟨S4x8192x1024, .f32⟩
  | 105 => ⟨S1x1024, .f32⟩
  | 106 => ⟨S1024, .f32⟩
  | 107 => ⟨S4x8192x1024, .f32⟩
  | 108 => ⟨S1x1x1024, .f32⟩
  | 109 => ⟨S4x8192x1024, .f32⟩
  | 110 => ⟨S4x8192x1024, .f32⟩
  | 111 => ⟨S4x8192x1024, .f32⟩
  | 112 => ⟨S1x1024, .f32⟩
  | 113 => ⟨S1024, .f32⟩
  | 114 => ⟨S4x8192x1024, .f32⟩
  | 115 => ⟨S1x1x1024, .f32⟩
  | 116 => ⟨S4x8192x1024, .f32⟩
  | 117 => ⟨S4x8192x1024, .f32⟩
  | 118 => ⟨S4x8192x1024, .f32⟩
  | 119 => ⟨S1x1024, .f32⟩
  | 120 => ⟨S1024, .f32⟩
  | 121 => ⟨S4x8192x1024, .f32⟩
  | 122 => ⟨S1x1x1024, .f32⟩
  | 123 => ⟨S4x8192x1024, .f32⟩
  | 124 => ⟨S4x8192x1024, .f32⟩
  | 125 => ⟨S4x8192x1024, .f32⟩
  | 126 => ⟨S1x1024, .f32⟩
  | 127 => ⟨S1024, .f32⟩
  | _ => ⟨S4x8192x1024, .f32⟩

abbrev hbmTy0_1 (i : Nat) : BufTy := match i % 128 with
  | 0 => ⟨S4x8192x1024, .f32⟩
  | 1 => ⟨S1x1x1024, .f32⟩
  | 2 => ⟨S4x8192x1024, .f32⟩
  | 3 => ⟨S4x8192x1024, .f32⟩
  | 4 => ⟨S4x8192x1024, .f32⟩
  | 5 => ⟨S1x1024, .f32⟩
  | 6 => ⟨S1024, .f32⟩
  | 7 => ⟨S4x8192x1024, .f32⟩
  | 8 => ⟨S1x1x1024, .f32⟩
  | 9 => ⟨S4x8192x1024, .f32⟩
  | 10 => ⟨S4x8192x1024, .f32⟩
  | 11 => ⟨S4x8192x1024, .f32⟩
  | 12 => ⟨S1x1024, .f32⟩
  | 13 => ⟨S1024, .f32⟩
  | 14 => ⟨S4x8192x1024, .f32⟩
  | 15 => ⟨S1x1x1024, .f32⟩
  | 16 => ⟨S4x8192x1024, .f32⟩
  | 17 => ⟨S4x8192x1024, .f32⟩
  | 18 => ⟨S4x8192x1024, .f32⟩
  | 19 => ⟨S1x1024, .f32⟩
  | 20 => ⟨S1024, .f32⟩
  | 21 => ⟨S4x8192x1024, .f32⟩
  | 22 => ⟨S1x1x1024, .f32⟩
  | 23 => ⟨S4x8192x1024, .f32⟩
  | 24 => ⟨S4x8192x1024, .f32⟩
  | 25 => ⟨S4x8192x1024, .f32⟩
  | 26 => ⟨S1x1024, .f32⟩
  | 27 => ⟨S1024, .f32⟩
  | 28 => ⟨S4x8192x1024, .f32⟩
  | 29 => ⟨S1x1x1024, .f32⟩
  | 30 => ⟨S4x8192x1024, .f32⟩
  | 31 => ⟨S4x8192x1024, .f32⟩
  | 32 => ⟨S4x8192x1024, .f32⟩
  | 33 => ⟨S1x1024, .f32⟩
  | 34 => ⟨S1024, .f32⟩
  | 35 => ⟨S4x8192x1024, .f32⟩
  | 36 => ⟨S1x1x1024, .f32⟩
  | 37 => ⟨S4x8192x1024, .f32⟩
  | 38 => ⟨S4x8192x1024, .f32⟩
  | 39 => ⟨S4x8192x1024, .f32⟩
  | 40 => ⟨S1x1024, .f32⟩
  | 41 => ⟨S1024, .f32⟩
  | 42 => ⟨S4x8192x1024, .f32⟩
  | 43 => ⟨S1x1x1024, .f32⟩
  | 44 => ⟨S4x8192x1024, .f32⟩
  | 45 => ⟨S4x8192x1024, .f32⟩
  | 46 => ⟨S4x8192x1024, .f32⟩
  | 47 => ⟨S1x1024, .f32⟩
  | 48 => ⟨S1024, .f32⟩
  | 49 => ⟨S4x8192x1024, .f32⟩
  | 50 => ⟨S1x1x1024, .f32⟩
  | 51 => ⟨S4x8192x1024, .f32⟩
  | 52 => ⟨S4x8192x1024, .f32⟩
  | 53 => ⟨S4x8192x1024, .f32⟩
  | 54 => ⟨S1x1024, .f32⟩
  | 55 => ⟨S1024, .f32⟩
  | 56 => ⟨S4x8192x1024, .f32⟩
  | 57 => ⟨S1x1x1024, .f32⟩
  | 58 => ⟨S4x8192x1024, .f32⟩
  | 59 => ⟨S4x8192x1024, .f32⟩
  | 60 => ⟨S4x8192x1024, .f32⟩
  | 61 => ⟨S1x1024, .f32⟩
  | 62 => ⟨S1024, .f32⟩
  | 63 => ⟨S4x8192x1024, .f32⟩
  | 64 => ⟨S1x1x1024, .f32⟩
  | 65 => ⟨S4x8192x1024, .f32⟩
  | 66 => ⟨S4x8192x1024, .f32⟩
  | 67 => ⟨S4x8192x1024, .f32⟩
  | 68 => ⟨S1x1024, .f32⟩
  | 69 => ⟨S1024, .f32⟩
  | 70 => ⟨S4x8192x1024, .f32⟩
  | 71 => ⟨S1x1x1024, .f32⟩
  | 72 => ⟨S4x8192x1024, .f32⟩
  | 73 => ⟨S4x8192x1024, .f32⟩
  | 74 => ⟨S4x8192x1024, .f32⟩
  | 75 => ⟨S1x1024, .f32⟩
  | 76 => ⟨S1024, .f32⟩
  | 77 => ⟨S4x8192x1024, .f32⟩
  | 78 => ⟨S1x1x1024, .f32⟩
  | 79 => ⟨S4x8192x1024, .f32⟩
  | 80 => ⟨S4x8192x1024, .f32⟩
  | 81 => ⟨S4x8192x1024, .f32⟩
  | 82 => ⟨S1x1024, .f32⟩
  | 83 => ⟨S1024, .f32⟩
  | 84 => ⟨S4x8192x1024, .f32⟩
  | 85 => ⟨S1x1x1024, .f32⟩
  | 86 => ⟨S4x8192x1024, .f32⟩
  | 87 => ⟨S4x8192x1024, .f32⟩
  | 88 => ⟨S4x8192x1024, .f32⟩
  | 89 => ⟨S1x1024, .f32⟩
  | 90 => ⟨S1024, .f32⟩
  | 91 => ⟨S4x8192x1024, .f32⟩
  | 92 => ⟨S1x1x1024, .f32⟩
  | 93 => ⟨S4x8192x1024, .f32⟩
  | 94 => ⟨S4x8192x1024, .f32⟩
  | 95 => ⟨S4x8192x1024, .f32⟩
  | 96 => ⟨S1x1024, .f32⟩
  | 97 => ⟨S1024, .f32⟩
  | 98 => ⟨S4x8192x1024, .f32⟩
  | 99 => ⟨S1x1x1024, .f32⟩
  | 100 => ⟨S4x8192x1024, .f32⟩
  | 101 => ⟨S4x8192x1024, .f32⟩
  | 102 => ⟨S4x8192x1024, .f32⟩
  | 103 => ⟨S1x1024, .f32⟩
  | 104 => ⟨S1024, .f32⟩
  | 105 => ⟨S4x8192x1024, .f32⟩
  | 106 => ⟨S1x1x1024, .f32⟩
  | 107 => ⟨S4x8192x1024, .f32⟩
  | 108 => ⟨S4x8192x1024, .f32⟩
  | 109 => ⟨S4x8192x1024, .f32⟩
  | 110 => ⟨S1x1024, .f32⟩
  | 111 => ⟨S1024, .f32⟩
  | 112 => ⟨S4x8192x1024, .f32⟩
  | 113 => ⟨S1x1x1024, .f32⟩
  | 114 => ⟨S4x8192x1024, .f32⟩
  | 115 => ⟨S4x8192x1024, .f32⟩
  | 116 => ⟨S4x8192x1024, .f32⟩
  | 117 => ⟨S1x1024, .f32⟩
  | 118 => ⟨S1024, .f32⟩
  | 119 => ⟨S4x8192x1024, .f32⟩
  | 120 => ⟨S1x1x1024, .f32⟩
  | 121 => ⟨S4x8192x1024, .f32⟩
  | 122 => ⟨S4x8192x1024, .f32⟩
  | 123 => ⟨S4x8192x1024, .f32⟩
  | 124 => ⟨S1x1024, .f32⟩
  | 125 => ⟨S1024, .f32⟩
  | 126 => ⟨S4x8192x1024, .f32⟩
  | 127 => ⟨S1x1x1024, .f32⟩
  | _ => ⟨S4x8192x1024, .f32⟩

abbrev hbmTy0_2 (i : Nat) : BufTy := match i % 128 with
  | 0 => ⟨S4x8192x1024, .f32⟩
  | 1 => ⟨S4x8192x1024, .f32⟩
  | 2 => ⟨S4x8192x1024, .f32⟩
  | 3 => ⟨S1x1024, .f32⟩
  | 4 => ⟨S1024, .f32⟩
  | 5 => ⟨S4x8192x1024, .f32⟩
  | 6 => ⟨S1x1x1024, .f32⟩
  | 7 => ⟨S4x8192x1024, .f32⟩
  | 8 => ⟨S4x8192x1024, .f32⟩
  | 9 => ⟨S4x8192x1024, .f32⟩
  | 10 => ⟨S1x1x1024, .f32⟩
  | 11 => ⟨S4x8192x1024, .f32⟩
  | 12 => ⟨S4x8192x1024, .f32⟩
  | 13 => ⟨S_, .f32⟩
  | 14 => ⟨S4x8192, .f32⟩
  | 15 => ⟨S4x8192x1, .f32⟩
  | 16 => ⟨S_, .f32⟩
  | 17 => ⟨S4x8192x1, .f32⟩
  | 18 => ⟨S4x8192x1, .f32⟩
  | 19 => ⟨S4x8192x1024, .f32⟩
  | 20 => ⟨S4x8192x1024, .f32⟩
  | 21 => ⟨S4x8192x1024, .f32⟩
  | 22 => ⟨S_, .f32⟩
  | 23 => ⟨S4x8192, .f32⟩
  | 24 => ⟨S4x8192x1, .f32⟩
  | 25 => ⟨S_, .f32⟩
  | 26 => ⟨S4x8192x1, .f32⟩
  | 27 => ⟨S4x8192x1, .f32⟩
  | 28 => ⟨S4x8192x1024, .f32⟩
  | 29 => ⟨S4x8192x1024, .f32⟩
  | 30 => ⟨S_, .f32⟩
  | 31 => ⟨S4x8192x1, .f32⟩
  | 32 => ⟨S4x8192x1, .f32⟩
  | 33 => ⟨S4x8192x1, .f32⟩
  | 34 => ⟨S4x8192x1024, .f32⟩
  | 35 => ⟨S4x8192x1024, .f32⟩
  | 36 => ⟨S1x1x1024, .f32⟩
  | 37 => ⟨S4x8192x1024, .f32⟩
  | 38 => ⟨S4x8192x1024, .f32⟩
  | 39 => ⟨S1x1x1024, .f32⟩
  | 40 => ⟨S4x8192x1024, .f32⟩
  | 41 => ⟨S4x8192x1024, .f32⟩
  | 42 => ⟨S4x8192x1024, .f32⟩
  | 43 => ⟨S4x8192x1024, .f32⟩
  | 44 => ⟨S_, .f32⟩
  | 45 => ⟨S4x8192x1024, .f32⟩
  | 46 => ⟨S4x8192x1024, .f32⟩
  | 47 => ⟨S_, .f32⟩
  | 48 => ⟨S4x8192x1024, .f32⟩
  | 49 => ⟨S4x8192x1024, .f32⟩
  | 50 => ⟨S4x8192x1024, .f32⟩
  | 51 => ⟨S4x8192x1024, .f32⟩
  | 52 => ⟨S1x1x1024, .f32⟩
  | 53 => ⟨S4x8192x1024, .f32⟩
  | 54 => ⟨S4x8192x1024, .f32⟩
  | 55 => ⟨S_, .f32⟩
  | 56 => ⟨S4x8192x1024, .f32⟩
  | 57 => ⟨S4x8192x1024, .f32⟩
  | 58 => ⟨S_, .f32⟩
  | 59 => ⟨S4x1x1024, .f32⟩
  | 60 => ⟨S4x1x1024, .f32⟩
  | 61 => ⟨S4x8192x1024, .f32⟩
  | 62 => ⟨S4x8192x1024, .f32⟩
  | 63 => ⟨S4x8192x1024, .f32⟩
  | 64 => ⟨S_, .f32⟩
  | 65 => ⟨S4x8192, .f32⟩
  | 66 => ⟨S4x8192x1, .f32⟩
  | 67 => ⟨S_, .f32⟩
  | 68 => ⟨S4x8192x1, .f32⟩
  | 69 => ⟨S4x8192x1, .f32⟩
  | 70 => ⟨S4x8192x1024, .f32⟩
  | 71 => ⟨S4x8192x1024, .f32⟩
  | 72 => ⟨S4x8192x1024, .f32⟩
  | 73 => ⟨S_, .f32⟩
  | 74 => ⟨S4x8192, .f32⟩
  | 75 => ⟨S4x8192x1, .f32⟩
  | 76 => ⟨S_, .f32⟩
  | 77 => ⟨S4x8192x1, .f32⟩
  | 78 => ⟨S4x8192x1, .f32⟩
  | 79 => ⟨S4x8192x1024, .f32⟩
  | 80 => ⟨S4x8192x1024, .f32⟩
  | 81 => ⟨S_, .f32⟩
  | 82 => ⟨S4x8192x1, .f32⟩
  | 83 => ⟨S4x8192x1, .f32⟩
  | 84 => ⟨S4x8192x1, .f32⟩
  | 85 => ⟨S4x8192x1024, .f32⟩
  | 86 => ⟨S4x8192x1024, .f32⟩
  | 87 => ⟨S1x1x1024, .f32⟩
  | 88 => ⟨S4x8192x1024, .f32⟩
  | 89 => ⟨S4x8192x1024, .f32⟩
  | 90 => ⟨S1x1x1024, .f32⟩
  | 91 => ⟨S4x8192x1024, .f32⟩
  | 92 => ⟨S4x8192x1024, .f32⟩
  | _ => ⟨S4x8192x1024, .f32⟩

abbrev hbmTy (i : Nat) : BufTy := match i / 128 with
  | 0 => hbmTy0_0 i
  | 1 => hbmTy0_1 i
  | 2 => hbmTy0_2 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_cst : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_cst_0 : Ref sig .tc := ⟨.hbm, 40, rfl⟩
abbrev main_v23 : Ref sig .tc := ⟨.hbm, 41, rfl⟩
abbrev main_v24 : Ref sig .tc := ⟨.hbm, 42, rfl⟩
abbrev main_cst_1 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_c : Ref sig .tc := ⟨.hbm, 47, rfl⟩
abbrev main_call0_v0 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_v63 : Ref sig .tc := ⟨.hbm, 84, rfl⟩
abbrev main_v64 : Ref sig .tc := ⟨.hbm, 85, rfl⟩
abbrev main_v65 : Ref sig .tc := ⟨.hbm, 86, rfl⟩
abbrev main_v66 : Ref sig .tc := ⟨.hbm, 87, rfl⟩
abbrev main_v67 : Ref sig .tc := ⟨.hbm, 88, rfl⟩
abbrev main_v68 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_v76 : Ref sig .tc := ⟨.hbm, 97, rfl⟩
abbrev main_v77 : Ref sig .tc := ⟨.hbm, 98, rfl⟩
abbrev main_v78 : Ref sig .tc := ⟨.hbm, 99, rfl⟩
abbrev main_v79 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_v86 : Ref sig .tc := ⟨.hbm, 107, rfl⟩
abbrev main_v87 : Ref sig .tc := ⟨.hbm, 108, rfl⟩
abbrev main_v88 : Ref sig .tc := ⟨.hbm, 109, rfl⟩
abbrev main_v89 : Ref sig .tc := ⟨.hbm, 110, rfl⟩
abbrev main_v90 : Ref sig .tc := ⟨.hbm, 111, rfl⟩
abbrev main_v91 : Ref sig .tc := ⟨.hbm, 112, rfl⟩
abbrev main_v92 : Ref sig .tc := ⟨.hbm, 113, rfl⟩
abbrev main_v93 : Ref sig .tc := ⟨.hbm, 114, rfl⟩
abbrev main_v94 : Ref sig .tc := ⟨.hbm, 115, rfl⟩
abbrev main_v95 : Ref sig .tc := ⟨.hbm, 116, rfl⟩
abbrev main_v96 : Ref sig .tc := ⟨.hbm, 117, rfl⟩
abbrev main_v97 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_v101 : Ref sig .tc := ⟨.hbm, 122, rfl⟩
abbrev main_v102 : Ref sig .tc := ⟨.hbm, 123, rfl⟩
abbrev main_v103 : Ref sig .tc := ⟨.hbm, 124, rfl⟩
abbrev main_v104 : Ref sig .tc := ⟨.hbm, 125, rfl⟩
abbrev main_v105 : Ref sig .tc := ⟨.hbm, 126, rfl⟩
abbrev main_v106 : Ref sig .tc := ⟨.hbm, 127, rfl⟩
abbrev main_v107 : Ref sig .tc := ⟨.hbm, 128, rfl⟩
abbrev main_v108 : Ref sig .tc := ⟨.hbm, 129, rfl⟩
abbrev main_v109 : Ref sig .tc := ⟨.hbm, 130, rfl⟩
abbrev main_v110 : Ref sig .tc := ⟨.hbm, 131, rfl⟩
abbrev main_v111 : Ref sig .tc := ⟨.hbm, 132, rfl⟩
abbrev main_v112 : Ref sig .tc := ⟨.hbm, 133, rfl⟩
abbrev main_v113 : Ref sig .tc := ⟨.hbm, 134, rfl⟩
abbrev main_v114 : Ref sig .tc := ⟨.hbm, 135, rfl⟩
abbrev main_v115 : Ref sig .tc := ⟨.hbm, 136, rfl⟩
abbrev main_v116 : Ref sig .tc := ⟨.hbm, 137, rfl⟩
abbrev main_v117 : Ref sig .tc := ⟨.hbm, 138, rfl⟩
abbrev main_v118 : Ref sig .tc := ⟨.hbm, 139, rfl⟩
abbrev main_v119 : Ref sig .tc := ⟨.hbm, 140, rfl⟩
abbrev main_v120 : Ref sig .tc := ⟨.hbm, 141, rfl⟩
abbrev main_v121 : Ref sig .tc := ⟨.hbm, 142, rfl⟩
abbrev main_v122 : Ref sig .tc := ⟨.hbm, 143, rfl⟩
abbrev main_v123 : Ref sig .tc := ⟨.hbm, 144, rfl⟩
abbrev main_v124 : Ref sig .tc := ⟨.hbm, 145, rfl⟩
abbrev main_v125 : Ref sig .tc := ⟨.hbm, 146, rfl⟩
abbrev main_v126 : Ref sig .tc := ⟨.hbm, 147, rfl⟩
abbrev main_v127 : Ref sig .tc := ⟨.hbm, 148, rfl⟩
abbrev main_v128 : Ref sig .tc := ⟨.hbm, 149, rfl⟩
abbrev main_v129 : Ref sig .tc := ⟨.hbm, 150, rfl⟩
abbrev main_v130 : Ref sig .tc := ⟨.hbm, 151, rfl⟩
abbrev main_v131 : Ref sig .tc := ⟨.hbm, 152, rfl⟩
abbrev main_v132 : Ref sig .tc := ⟨.hbm, 153, rfl⟩
abbrev main_v133 : Ref sig .tc := ⟨.hbm, 154, rfl⟩
abbrev main_v134 : Ref sig .tc := ⟨.hbm, 155, rfl⟩
abbrev main_v135 : Ref sig .tc := ⟨.hbm, 156, rfl⟩
abbrev main_v136 : Ref sig .tc := ⟨.hbm, 157, rfl⟩
abbrev main_v137 : Ref sig .tc := ⟨.hbm, 158, rfl⟩
abbrev main_v138 : Ref sig .tc := ⟨.hbm, 159, rfl⟩
abbrev main_v139 : Ref sig .tc := ⟨.hbm, 160, rfl⟩
abbrev main_v140 : Ref sig .tc := ⟨.hbm, 161, rfl⟩
abbrev main_v141 : Ref sig .tc := ⟨.hbm, 162, rfl⟩
abbrev main_v142 : Ref sig .tc := ⟨.hbm, 163, rfl⟩
abbrev main_v143 : Ref sig .tc := ⟨.hbm, 164, rfl⟩
abbrev main_v144 : Ref sig .tc := ⟨.hbm, 165, rfl⟩
abbrev main_v145 : Ref sig .tc := ⟨.hbm, 166, rfl⟩
abbrev main_v146 : Ref sig .tc := ⟨.hbm, 167, rfl⟩
abbrev main_v147 : Ref sig .tc := ⟨.hbm, 168, rfl⟩
abbrev main_v148 : Ref sig .tc := ⟨.hbm, 169, rfl⟩
abbrev main_v149 : Ref sig .tc := ⟨.hbm, 170, rfl⟩
abbrev main_v150 : Ref sig .tc := ⟨.hbm, 171, rfl⟩
abbrev main_v151 : Ref sig .tc := ⟨.hbm, 172, rfl⟩
abbrev main_v152 : Ref sig .tc := ⟨.hbm, 173, rfl⟩
abbrev main_v153 : Ref sig .tc := ⟨.hbm, 174, rfl⟩
abbrev main_v154 : Ref sig .tc := ⟨.hbm, 175, rfl⟩
abbrev main_v155 : Ref sig .tc := ⟨.hbm, 176, rfl⟩
abbrev main_v156 : Ref sig .tc := ⟨.hbm, 177, rfl⟩
abbrev main_v157 : Ref sig .tc := ⟨.hbm, 178, rfl⟩
abbrev main_v158 : Ref sig .tc := ⟨.hbm, 179, rfl⟩
abbrev main_v159 : Ref sig .tc := ⟨.hbm, 180, rfl⟩
abbrev main_v160 : Ref sig .tc := ⟨.hbm, 181, rfl⟩
abbrev main_v161 : Ref sig .tc := ⟨.hbm, 182, rfl⟩
abbrev main_v162 : Ref sig .tc := ⟨.hbm, 183, rfl⟩
abbrev main_v163 : Ref sig .tc := ⟨.hbm, 184, rfl⟩
abbrev main_v164 : Ref sig .tc := ⟨.hbm, 185, rfl⟩
abbrev main_v165 : Ref sig .tc := ⟨.hbm, 186, rfl⟩
abbrev main_v166 : Ref sig .tc := ⟨.hbm, 187, rfl⟩
abbrev main_v167 : Ref sig .tc := ⟨.hbm, 188, rfl⟩
abbrev main_v168 : Ref sig .tc := ⟨.hbm, 189, rfl⟩
abbrev main_v169 : Ref sig .tc := ⟨.hbm, 190, rfl⟩
abbrev main_v170 : Ref sig .tc := ⟨.hbm, 191, rfl⟩
abbrev main_v171 : Ref sig .tc := ⟨.hbm, 192, rfl⟩
abbrev main_v172 : Ref sig .tc := ⟨.hbm, 193, rfl⟩
abbrev main_v173 : Ref sig .tc := ⟨.hbm, 194, rfl⟩
abbrev main_v174 : Ref sig .tc := ⟨.hbm, 195, rfl⟩
abbrev main_v175 : Ref sig .tc := ⟨.hbm, 196, rfl⟩
abbrev main_v176 : Ref sig .tc := ⟨.hbm, 197, rfl⟩
abbrev main_v177 : Ref sig .tc := ⟨.hbm, 198, rfl⟩
abbrev main_v178 : Ref sig .tc := ⟨.hbm, 199, rfl⟩
abbrev main_v179 : Ref sig .tc := ⟨.hbm, 200, rfl⟩
abbrev main_v180 : Ref sig .tc := ⟨.hbm, 201, rfl⟩
abbrev main_v181 : Ref sig .tc := ⟨.hbm, 202, rfl⟩
abbrev main_v182 : Ref sig .tc := ⟨.hbm, 203, rfl⟩
abbrev main_v183 : Ref sig .tc := ⟨.hbm, 204, rfl⟩
abbrev main_v184 : Ref sig .tc := ⟨.hbm, 205, rfl⟩
abbrev main_v185 : Ref sig .tc := ⟨.hbm, 206, rfl⟩
abbrev main_v186 : Ref sig .tc := ⟨.hbm, 207, rfl⟩
abbrev main_v187 : Ref sig .tc := ⟨.hbm, 208, rfl⟩
abbrev main_v188 : Ref sig .tc := ⟨.hbm, 209, rfl⟩
abbrev main_v189 : Ref sig .tc := ⟨.hbm, 210, rfl⟩
abbrev main_v190 : Ref sig .tc := ⟨.hbm, 211, rfl⟩
abbrev main_v191 : Ref sig .tc := ⟨.hbm, 212, rfl⟩
abbrev main_v192 : Ref sig .tc := ⟨.hbm, 213, rfl⟩
abbrev main_v193 : Ref sig .tc := ⟨.hbm, 214, rfl⟩
abbrev main_v194 : Ref sig .tc := ⟨.hbm, 215, rfl⟩
abbrev main_v195 : Ref sig .tc := ⟨.hbm, 216, rfl⟩
abbrev main_v196 : Ref sig .tc := ⟨.hbm, 217, rfl⟩
abbrev main_v197 : Ref sig .tc := ⟨.hbm, 218, rfl⟩
abbrev main_v198 : Ref sig .tc := ⟨.hbm, 219, rfl⟩
abbrev main_v199 : Ref sig .tc := ⟨.hbm, 220, rfl⟩
abbrev main_v200 : Ref sig .tc := ⟨.hbm, 221, rfl⟩
abbrev main_v201 : Ref sig .tc := ⟨.hbm, 222, rfl⟩
abbrev main_v202 : Ref sig .tc := ⟨.hbm, 223, rfl⟩
abbrev main_v203 : Ref sig .tc := ⟨.hbm, 224, rfl⟩
abbrev main_v204 : Ref sig .tc := ⟨.hbm, 225, rfl⟩
abbrev main_v205 : Ref sig .tc := ⟨.hbm, 226, rfl⟩
abbrev main_v206 : Ref sig .tc := ⟨.hbm, 227, rfl⟩
abbrev main_v207 : Ref sig .tc := ⟨.hbm, 228, rfl⟩
abbrev main_v208 : Ref sig .tc := ⟨.hbm, 229, rfl⟩
abbrev main_v209 : Ref sig .tc := ⟨.hbm, 230, rfl⟩
abbrev main_v210 : Ref sig .tc := ⟨.hbm, 231, rfl⟩
abbrev main_v211 : Ref sig .tc := ⟨.hbm, 232, rfl⟩
abbrev main_v212 : Ref sig .tc := ⟨.hbm, 233, rfl⟩
abbrev main_v213 : Ref sig .tc := ⟨.hbm, 234, rfl⟩
abbrev main_v214 : Ref sig .tc := ⟨.hbm, 235, rfl⟩
abbrev main_v215 : Ref sig .tc := ⟨.hbm, 236, rfl⟩
abbrev main_v216 : Ref sig .tc := ⟨.hbm, 237, rfl⟩
abbrev main_v217 : Ref sig .tc := ⟨.hbm, 238, rfl⟩
abbrev main_v218 : Ref sig .tc := ⟨.hbm, 239, rfl⟩
abbrev main_v219 : Ref sig .tc := ⟨.hbm, 240, rfl⟩
abbrev main_v220 : Ref sig .tc := ⟨.hbm, 241, rfl⟩
abbrev main_v221 : Ref sig .tc := ⟨.hbm, 242, rfl⟩
abbrev main_v222 : Ref sig .tc := ⟨.hbm, 243, rfl⟩
abbrev main_v223 : Ref sig .tc := ⟨.hbm, 244, rfl⟩
abbrev main_v224 : Ref sig .tc := ⟨.hbm, 245, rfl⟩
abbrev main_v225 : Ref sig .tc := ⟨.hbm, 246, rfl⟩
abbrev main_v226 : Ref sig .tc := ⟨.hbm, 247, rfl⟩
abbrev main_v227 : Ref sig .tc := ⟨.hbm, 248, rfl⟩
abbrev main_v228 : Ref sig .tc := ⟨.hbm, 249, rfl⟩
abbrev main_v229 : Ref sig .tc := ⟨.hbm, 250, rfl⟩
abbrev main_v230 : Ref sig .tc := ⟨.hbm, 251, rfl⟩
abbrev main_v231 : Ref sig .tc := ⟨.hbm, 252, rfl⟩
abbrev main_v232 : Ref sig .tc := ⟨.hbm, 253, rfl⟩
abbrev main_v233 : Ref sig .tc := ⟨.hbm, 254, rfl⟩
abbrev main_v234 : Ref sig .tc := ⟨.hbm, 255, rfl⟩
abbrev main_v235 : Ref sig .tc := ⟨.hbm, 256, rfl⟩
abbrev main_v236 : Ref sig .tc := ⟨.hbm, 257, rfl⟩
abbrev main_v237 : Ref sig .tc := ⟨.hbm, 258, rfl⟩
abbrev main_v238 : Ref sig .tc := ⟨.hbm, 259, rfl⟩
abbrev main_v239 : Ref sig .tc := ⟨.hbm, 260, rfl⟩
abbrev main_v240 : Ref sig .tc := ⟨.hbm, 261, rfl⟩
abbrev main_v241 : Ref sig .tc := ⟨.hbm, 262, rfl⟩
abbrev main_v242 : Ref sig .tc := ⟨.hbm, 263, rfl⟩
abbrev main_v243 : Ref sig .tc := ⟨.hbm, 264, rfl⟩
abbrev main_v244 : Ref sig .tc := ⟨.hbm, 265, rfl⟩
abbrev main_v245 : Ref sig .tc := ⟨.hbm, 266, rfl⟩
abbrev main_v246 : Ref sig .tc := ⟨.hbm, 267, rfl⟩
abbrev main_v247 : Ref sig .tc := ⟨.hbm, 268, rfl⟩
abbrev main_cst_2 : Ref sig .tc := ⟨.hbm, 269, rfl⟩
abbrev main_v248 : Ref sig .tc := ⟨.hbm, 270, rfl⟩
abbrev main_v249 : Ref sig .tc := ⟨.hbm, 271, rfl⟩
abbrev main_cst_3 : Ref sig .tc := ⟨.hbm, 272, rfl⟩
abbrev main_v250 : Ref sig .tc := ⟨.hbm, 273, rfl⟩
abbrev main_v251 : Ref sig .tc := ⟨.hbm, 274, rfl⟩
abbrev main_v252 : Ref sig .tc := ⟨.hbm, 275, rfl⟩
abbrev main_v253 : Ref sig .tc := ⟨.hbm, 276, rfl⟩
abbrev main_v254 : Ref sig .tc := ⟨.hbm, 277, rfl⟩
abbrev main_cst_4 : Ref sig .tc := ⟨.hbm, 278, rfl⟩
abbrev main_v255 : Ref sig .tc := ⟨.hbm, 279, rfl⟩
abbrev main_v256 : Ref sig .tc := ⟨.hbm, 280, rfl⟩
abbrev main_cst_5 : Ref sig .tc := ⟨.hbm, 281, rfl⟩
abbrev main_v257 : Ref sig .tc := ⟨.hbm, 282, rfl⟩
abbrev main_v258 : Ref sig .tc := ⟨.hbm, 283, rfl⟩
abbrev main_v259 : Ref sig .tc := ⟨.hbm, 284, rfl⟩
abbrev main_v260 : Ref sig .tc := ⟨.hbm, 285, rfl⟩
abbrev main_cst_6 : Ref sig .tc := ⟨.hbm, 286, rfl⟩
abbrev main_v261 : Ref sig .tc := ⟨.hbm, 287, rfl⟩
abbrev main_v262 : Ref sig .tc := ⟨.hbm, 288, rfl⟩
abbrev main_v263 : Ref sig .tc := ⟨.hbm, 289, rfl⟩
abbrev main_v264 : Ref sig .tc := ⟨.hbm, 290, rfl⟩
abbrev main_v265 : Ref sig .tc := ⟨.hbm, 291, rfl⟩
abbrev main_v266 : Ref sig .tc := ⟨.hbm, 292, rfl⟩
abbrev main_v267 : Ref sig .tc := ⟨.hbm, 293, rfl⟩
abbrev main_v268 : Ref sig .tc := ⟨.hbm, 294, rfl⟩
abbrev main_v269 : Ref sig .tc := ⟨.hbm, 295, rfl⟩
abbrev main_v270 : Ref sig .tc := ⟨.hbm, 296, rfl⟩
abbrev main_v271 : Ref sig .tc := ⟨.hbm, 297, rfl⟩
abbrev main_call1_v0 : Ref sig .tc := ⟨.hbm, 298, rfl⟩
abbrev main_call1_v1 : Ref sig .tc := ⟨.hbm, 299, rfl⟩
abbrev main_call1_cst : Ref sig .tc := ⟨.hbm, 300, rfl⟩
abbrev main_call1_v2 : Ref sig .tc := ⟨.hbm, 301, rfl⟩
abbrev main_call1_v3 : Ref sig .tc := ⟨.hbm, 302, rfl⟩
abbrev main_call1_cst_0 : Ref sig .tc := ⟨.hbm, 303, rfl⟩
abbrev main_call1_v4 : Ref sig .tc := ⟨.hbm, 304, rfl⟩
abbrev main_call1_v5 : Ref sig .tc := ⟨.hbm, 305, rfl⟩
abbrev main_v272 : Ref sig .tc := ⟨.hbm, 306, rfl⟩
abbrev main_v273 : Ref sig .tc := ⟨.hbm, 307, rfl⟩
abbrev main_v274 : Ref sig .tc := ⟨.hbm, 308, rfl⟩
abbrev main_v275 : Ref sig .tc := ⟨.hbm, 309, rfl⟩
abbrev main_v276 : Ref sig .tc := ⟨.hbm, 310, rfl⟩
abbrev main_cst_7 : Ref sig .tc := ⟨.hbm, 311, rfl⟩
abbrev main_v277 : Ref sig .tc := ⟨.hbm, 312, rfl⟩
abbrev main_v278 : Ref sig .tc := ⟨.hbm, 313, rfl⟩
abbrev main_cst_8 : Ref sig .tc := ⟨.hbm, 314, rfl⟩
abbrev main_v279 : Ref sig .tc := ⟨.hbm, 315, rfl⟩
abbrev main_v280 : Ref sig .tc := ⟨.hbm, 316, rfl⟩
abbrev main_v281 : Ref sig .tc := ⟨.hbm, 317, rfl⟩
abbrev main_v282 : Ref sig .tc := ⟨.hbm, 318, rfl⟩
abbrev main_v283 : Ref sig .tc := ⟨.hbm, 319, rfl⟩
abbrev main_cst_9 : Ref sig .tc := ⟨.hbm, 320, rfl⟩
abbrev main_v284 : Ref sig .tc := ⟨.hbm, 321, rfl⟩
abbrev main_v285 : Ref sig .tc := ⟨.hbm, 322, rfl⟩
abbrev main_cst_10 : Ref sig .tc := ⟨.hbm, 323, rfl⟩
abbrev main_v286 : Ref sig .tc := ⟨.hbm, 324, rfl⟩
abbrev main_v287 : Ref sig .tc := ⟨.hbm, 325, rfl⟩
abbrev main_v288 : Ref sig .tc := ⟨.hbm, 326, rfl⟩
abbrev main_v289 : Ref sig .tc := ⟨.hbm, 327, rfl⟩
abbrev main_v290 : Ref sig .tc := ⟨.hbm, 328, rfl⟩
abbrev main_cst_11 : Ref sig .tc := ⟨.hbm, 329, rfl⟩
abbrev main_v291 : Ref sig .tc := ⟨.hbm, 330, rfl⟩
abbrev main_v292 : Ref sig .tc := ⟨.hbm, 331, rfl⟩
abbrev main_cst_12 : Ref sig .tc := ⟨.hbm, 332, rfl⟩
abbrev main_v293 : Ref sig .tc := ⟨.hbm, 333, rfl⟩
abbrev main_v294 : Ref sig .tc := ⟨.hbm, 334, rfl⟩
abbrev main_v295 : Ref sig .tc := ⟨.hbm, 335, rfl⟩
abbrev main_v296 : Ref sig .tc := ⟨.hbm, 336, rfl⟩
abbrev main_cst_13 : Ref sig .tc := ⟨.hbm, 337, rfl⟩
abbrev main_v297 : Ref sig .tc := ⟨.hbm, 338, rfl⟩
abbrev main_v298 : Ref sig .tc := ⟨.hbm, 339, rfl⟩
abbrev main_v299 : Ref sig .tc := ⟨.hbm, 340, rfl⟩
abbrev main_v300 : Ref sig .tc := ⟨.hbm, 341, rfl⟩
abbrev main_v301 : Ref sig .tc := ⟨.hbm, 342, rfl⟩
abbrev main_v302 : Ref sig .tc := ⟨.hbm, 343, rfl⟩
abbrev main_v303 : Ref sig .tc := ⟨.hbm, 344, rfl⟩
abbrev main_v304 : Ref sig .tc := ⟨.hbm, 345, rfl⟩
abbrev main_v305 : Ref sig .tc := ⟨.hbm, 346, rfl⟩
abbrev main_v306 : Ref sig .tc := ⟨.hbm, 347, rfl⟩
abbrev main_v307 : Ref sig .tc := ⟨.hbm, 348, rfl⟩

abbrev nD : Nat := 1
abbrev τ : Topo := Topo.v7x

variable {F : FTy → Type} [FloatOps F]
-- ==== Kernel5.lean ====
abbrev S4x8192x1024 : Shape := ⟨3, ![4, 8192, 1024]⟩
abbrev S4x8192x512 : Shape := ⟨3, ![4, 8192, 512]⟩
abbrev S4x8192x2 : Shape := ⟨3, ![4, 8192, 2]⟩
abbrev S4x6x1024 : Shape := ⟨3, ![4, 6, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S4x8192x1 : Shape := ⟨3, ![4, 8192, 1]⟩
abbrev S4x8192x128 : Shape := ⟨3, ![4, 8192, 128]⟩
abbrev S4x8192x256 : Shape := ⟨3, ![4, 8192, 256]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S48x1024 : Shape := ⟨2, ![48, 1024]⟩
abbrev S4x1024 : Shape := ⟨2, ![4, 1024]⟩
abbrev S1 : Shape := ⟨1, ![1]⟩
abbrev S32x1024 : Shape := ⟨2, ![32, 1024]⟩
abbrev S48 : Shape := ⟨1, ![48]⟩
abbrev S8 : Shape := ⟨1, ![8]⟩
abbrev S48x1 : Shape := ⟨2, ![48, 1]⟩
abbrev S1x4x6x1024 : Shape := ⟨4, ![1, 4, 6, 1024]⟩
abbrev S1x1024 : Shape := ⟨2, ![1, 1024]⟩
abbrev S2x1024 : Shape := ⟨2, ![2, 1024]⟩
abbrev S1x2048 : Shape := ⟨2, ![1, 2048]⟩
abbrev S8x32768 : Shape := ⟨2, ![8, 32768]⟩
abbrev S32x128 : Shape := ⟨2, ![32, 128]⟩
abbrev S1x512x1024 : Shape := ⟨3, ![1, 512, 1024]⟩
abbrev S1x512x512 : Shape := ⟨3, ![1, 512, 512]⟩
abbrev S1x512x256 : Shape := ⟨3, ![1, 512, 256]⟩
abbrev S1x1x6x1024 : Shape := ⟨4, ![1, 1, 6, 1024]⟩
abbrev S8x512 : Shape := ⟨2, ![8, 512]⟩
abbrev S544x1024 : Shape := ⟨2, ![544, 1024]⟩
abbrev S6x1024 : Shape := ⟨2, ![6, 1024]⟩
abbrev S512x1024 : Shape := ⟨2, ![512, 1024]⟩
abbrev S512x256 : Shape := ⟨2, ![512, 256]⟩
abbrev S512x128 : Shape := ⟨2, ![512, 128]⟩
abbrev S512x2048 : Shape := ⟨2, ![512, 2048]⟩
abbrev S48x512 : Shape := ⟨2, ![48, 512]⟩
abbrev S32x512 : Shape := ⟨2, ![32, 512]⟩
abbrev S64x512 : Shape := ⟨2, ![64, 512]⟩
abbrev S64 : Shape := ⟨1, ![64]⟩
abbrev S64x1 : Shape := ⟨2, ![64, 1]⟩
abbrev S32x1 : Shape := ⟨2, ![32, 1]⟩
abbrev S4x512 : Shape := ⟨2, ![4, 512]⟩
abbrev S128x512 : Shape := ⟨2, ![128, 512]⟩
abbrev S1x512x128 : Shape := ⟨3, ![1, 512, 128]⟩

abbrev nBuf : Space → Nat
  | .hbm => 81
  | .vmem => 33
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .i32⟩
  | .hbm, ⟨2, _⟩ => ⟨S4x8192x512, .i32⟩
  | .hbm, ⟨3, _⟩ => ⟨S4x8192x2, .f32⟩
  | .hbm, ⟨4, _⟩ => ⟨S4x6x1024, .f32⟩
  | .hbm, ⟨5, _⟩ => ⟨S1024, .f32⟩
  | .hbm, ⟨6, _⟩ => ⟨S1024, .f32⟩
  | .hbm, ⟨7, _⟩ => ⟨S4x6x1024, .f32⟩
  | .hbm, ⟨8, _⟩ => ⟨S1024, .f32⟩
  | .hbm, ⟨9, _⟩ => ⟨S1024, .f32⟩
  | .hbm, ⟨10, _⟩ => ⟨S1024x2048, .f32⟩
  | .hbm, ⟨11, _⟩ => ⟨S2048, .f32⟩
  | .hbm, ⟨12, _⟩ => ⟨S31x1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024x1024, .f32⟩
  | .hbm, ⟨17, _⟩ => ⟨S1024, .f32⟩
  | .hbm, ⟨18, _⟩ => ⟨S1024x4, .f32⟩
  | .hbm, ⟨19, _⟩ => ⟨S4, .f32⟩
  | .hbm, ⟨20, _⟩ => ⟨S1024x32, .f32⟩
  | .hbm, ⟨21, _⟩ => ⟨S32, .f32⟩
  | .hbm, ⟨22, _⟩ => ⟨S4x8192x1, .f32⟩
  | .hbm, ⟨23, _⟩ => ⟨S4x8192x128, .f32⟩
  | .hbm, ⟨24, _⟩ => ⟨S4x8192x1, .f32⟩
  | .hbm, ⟨25, _⟩ => ⟨S4x8192x128, .f32⟩
  | .hbm, ⟨26, _⟩ => ⟨S4x8192x256, .f32⟩
  | .hbm, ⟨27, _⟩ => ⟨S512, .i32⟩
  | .hbm, ⟨28, _⟩ => ⟨S512x1, .i32⟩
  | .hbm, ⟨29, _⟩ => ⟨S512, .i32⟩
  | .hbm, ⟨30, _⟩ => ⟨S1x512, .i32⟩
  | .hbm, ⟨31, _⟩ => ⟨S512x512, .i32⟩
  | .hbm, ⟨32, _⟩ => ⟨S512x512, .i32⟩
  | .hbm, ⟨33, _⟩ => ⟨S512x512, .i1⟩
  | .hbm, ⟨34, _⟩ => ⟨S512x512, .bf16⟩
  | .hbm, ⟨35, _⟩ => ⟨S_, .f32⟩
  | .hbm, ⟨36, _⟩ => ⟨S48x1024, .f32⟩
  | .hbm, ⟨37, _⟩ => ⟨S4x1024, .f32⟩
  | .hbm, ⟨38, _⟩ => ⟨S_, .i32⟩
  | .hbm, ⟨39, _⟩ => ⟨S1, .i32⟩
  | .hbm, ⟨40, _⟩ => ⟨S48x1024, .f32⟩
  | .hbm, ⟨41, _⟩ => ⟨S32x1024, .f32⟩
  | .hbm, ⟨42, _⟩ => ⟨S_, .i32⟩
  | .hbm, ⟨43, _⟩ => ⟨S1, .i32⟩
  | .hbm, ⟨44, _⟩ => ⟨S48x1024, .f32⟩
  | .hbm, ⟨45, _⟩ => ⟨S_, .f32⟩
  | .hbm, ⟨46, _⟩ => ⟨S48, .f32⟩
  | .hbm, ⟨47, _⟩ => ⟨S_, .i32⟩
  | .hbm, ⟨48, _⟩ => ⟨S1, .i32⟩
  | .hbm, ⟨49, _⟩ => ⟨S48, .f32⟩
  | .hbm, ⟨50, _⟩ => ⟨S_, .i32⟩
  | .hbm, ⟨51, _⟩ => ⟨S1, .i32⟩
  | .hbm, ⟨52, _⟩ => ⟨S48, .f32⟩
  | .hbm, ⟨53, _⟩ => ⟨S_, .i32⟩
  | .hbm, ⟨54, _⟩ => ⟨S1, .i32⟩
  | .hbm, ⟨55, _⟩ => ⟨S_, .f32⟩
  | .hbm, ⟨56, _⟩ => ⟨S8, .f32⟩
  | .hbm, ⟨57, _⟩ => ⟨S48, .f32⟩
  | .hbm, ⟨58, _⟩ => ⟨S48x1024, .bf16⟩
  | .hbm, ⟨59, _⟩ => ⟨S48x1, .f32⟩
  | .hbm, ⟨60, _⟩ => ⟨S1x4x6x1024, .f32⟩
  | .hbm, ⟨61, _⟩ => ⟨S1x1024, .f32⟩
  | .hbm, ⟨62, _⟩ => ⟨S1x1024, .f32⟩
  | .hbm, ⟨63, _⟩ => ⟨S2x1024, .f32⟩
  | .hbm, ⟨64, _⟩ => ⟨S1x4x6x1024, .f32⟩
  | .hbm, ⟨65, _⟩ => ⟨S1x1024, .f32⟩
  | .hbm, ⟨66, _⟩ => ⟨S1x1024, .f32⟩
  | .hbm, ⟨67, _⟩ => ⟨S2x1024, .f32⟩
  | .hbm, ⟨68, _⟩ => ⟨S1024x2048, .bf16⟩
  | .hbm, ⟨69, _⟩ => ⟨S1x2048, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S4x1024, .f32⟩
  | .hbm, ⟨75, _⟩ => ⟨S1024x1024, .bf16⟩
  | .hbm, ⟨76, _⟩ => ⟨S4x8192x1024, .f32⟩
  | .hbm, ⟨77, _⟩ => ⟨S4x8192x512, .i32⟩
  | .hbm, ⟨78, _⟩ => ⟨S8x32768, .i32⟩
  | .hbm, ⟨79, _⟩ => ⟨S4x8192x256, .f32⟩
  | .hbm, ⟨80, _⟩ => ⟨S32x128, .i32⟩
  | .local _ .vmem, ⟨0, _⟩ => ⟨S1x512x1024, .f32⟩
  | .local _ .vmem, ⟨1, _⟩ => ⟨S1x512x1024, .f32⟩
  | .local _ .vmem, ⟨2, _⟩ => ⟨S1x512x512, .i32⟩
  | .local _ .vmem, ⟨3, _⟩ => ⟨S1x512x512, .i32⟩
  | .local _ .vmem, ⟨4, _⟩ => ⟨S1x512x512, .i32⟩
  | .local _ .vmem, ⟨5, _⟩ => ⟨S1x512x512, .i32⟩
  | .local _ .vmem, ⟨6, _⟩ => ⟨S1x512x256, .f32⟩
  | .local _ .vmem, ⟨7, _⟩ => ⟨S1x512x256, .f32⟩
  | .local _ .vmem, ⟨8, _⟩ => ⟨S1x1x6x1024, .f32⟩
  | .local _ .vmem, ⟨9, _⟩ => ⟨S1x1x6x1024, .f32⟩
  | .local _ .vmem, ⟨10, _⟩ => ⟨S2x1024, .f32⟩
  | .local _ .vmem, ⟨11, _⟩ => ⟨S1x1x6x1024, .f32⟩
  | .local _ .vmem, ⟨12, _⟩ => ⟨S1x1x6x1024, .f32⟩
  | .local _ .vmem, ⟨13, _⟩ => ⟨S2x1024, .f32⟩
  | .local _ .vmem, ⟨14, _⟩ => ⟨S1024x2048, .bf16⟩
  | .local _ .vmem, ⟨15, _⟩ => ⟨S1x2048, .f32⟩
  | .local _ .vmem, ⟨16, _⟩ => ⟨S31x1024, .f32⟩
  | .local _ .vmem, ⟨17, _⟩ => ⟨S4x1024, .f32⟩
  | .local _ .vmem, ⟨18, _⟩ => ⟨S1024x1024, .bf16⟩
  | .local _ .vmem, ⟨19, _⟩ => ⟨S48x1024, .bf16⟩
  | .local _ .vmem, ⟨20, _⟩ => ⟨S48x1, .f32⟩
  | .local _ .vmem, ⟨21, _⟩ => ⟨S512x512, .bf16⟩
  | .local _ .vmem, ⟨22, _⟩ => ⟨S1x512x1024, .f32⟩
  | .local _ .vmem, ⟨23, _⟩ => ⟨S1x512x1024, .f32⟩
  | .local _ .vmem, ⟨24, _⟩ => ⟨S1x512x512, .i32⟩
  | .local _ .vmem, ⟨25, _⟩ => ⟨S1x512x512, .i32⟩
  | .local _ .vmem, ⟨26, _⟩ => ⟨S8x512, .i32⟩
  | .local _ .vmem, ⟨27, _⟩ => ⟨S8x512, .i32⟩
  | .local _ .vmem, ⟨28, _⟩ => ⟨S1x512x256, .f32⟩
  | .local _ .vmem, ⟨29, _⟩ => ⟨S1x512x256, .f32⟩
  | .local _ .vmem, ⟨30, _⟩ => ⟨S32x128, .i32⟩
  | .local _ .vmem, ⟨31, _⟩ => ⟨S544x1024, .f32⟩
  | .local _ .vmem, ⟨32, _⟩ => ⟨S32x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_0 : Ref sig .tc := ⟨.hbm, 42, rfl⟩
abbrev main_v18 : Ref sig .tc := ⟨.hbm, 43, rfl⟩
abbrev main_v19 : Ref sig .tc := ⟨.hbm, 44, rfl⟩
abbrev main_cst_1 : Ref sig .tc := ⟨.hbm, 45, rfl⟩
abbrev main_v20 : Ref sig .tc := ⟨.hbm, 46, rfl⟩
abbrev main_c_2 : Ref sig .tc := ⟨.hbm, 47, rfl⟩
abbrev main_v21 : Ref sig .tc := ⟨.hbm, 48, rfl⟩
abbrev main_v22 : Ref sig .tc := ⟨.hbm, 49, rfl⟩
abbrev main_c_3 : Ref sig .tc := ⟨.hbm, 50, rfl⟩
abbrev main_v23 : Ref sig .tc := ⟨.hbm, 51, rfl⟩
abbrev main_v24 : Ref sig .tc := ⟨.hbm, 52, rfl⟩
abbrev main_c_4 : Ref sig .tc := ⟨.hbm, 53, rfl⟩
abbrev main_v25 : Ref sig .tc := ⟨.hbm, 54, rfl⟩
abbrev main_cst_5 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46_0 : Ref sig .tc := ⟨.hbm, 76, rfl⟩
abbrev main_v46_1 : Ref sig .tc := ⟨.hbm, 77, rfl⟩
abbrev main_v46_2 : Ref sig .tc := ⟨.hbm, 78, rfl⟩
abbrev main_v46_3 : Ref sig .tc := ⟨.hbm, 79, rfl⟩
abbrev main_v46_4 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30

abbrev nD : Nat := 1
abbrev τ : Topo := Topo.v7x

variable {F : FTy → Type} [BitOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S31x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S48x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S48x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x512 .i32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S8x512 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 1 → Memref sig .tc .vmem S32x128 .i32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== Kernel5Ideal.lean ====
abbrev S4x8192x1024 : Shape := ⟨3, ![4, 8192, 1024]⟩
abbrev S4x8192x512 : Shape := ⟨3, ![4, 8192, 512]⟩
abbrev S4x8192x2 : Shape := ⟨3, ![4, 8192, 2]⟩
abbrev S4x6x1024 : Shape := ⟨3, ![4, 6, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S4x8192x1 : Shape := ⟨3, ![4, 8192, 1]⟩
abbrev S4x8192x128 : Shape := ⟨3, ![4, 8192, 128]⟩
abbrev S4x8192x256 : Shape := ⟨3, ![4, 8192, 256]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S_ : Shape := ⟨0, ![]⟩
abbrev S48x1024 : Shape := ⟨2, ![48, 1024]⟩
abbrev S4x1024 : Shape := ⟨2, ![4, 1024]⟩
abbrev S1 : Shape := ⟨1, ![1]⟩
abbrev S32x1024 : Shape := ⟨2, ![32, 1024]⟩
abbrev S48 : Shape := ⟨1, ![48]⟩
abbrev S8 : Shape := ⟨1, ![8]⟩
abbrev S48x1 : Shape := ⟨2, ![48, 1]⟩
abbrev S1x4x6x1024 : Shape := ⟨4, ![1, 4, 6, 1024]⟩
abbrev S1x1024 : Shape := ⟨2, ![1, 1024]⟩
abbrev S2x1024 : Shape := ⟨2, ![2, 1024]⟩
abbrev S1x2048 : Shape := ⟨2, ![1, 2048]⟩
abbrev S4x8192x2x512 : Shape := ⟨4, ![4, 8192, 2, 512]⟩
abbrev S8x32768 : Shape := ⟨2, ![8, 32768]⟩
abbrev S32x128 : Shape := ⟨2, ![32, 128]⟩
abbrev S4x8192x1x512 : Shape := ⟨4, ![4, 8192, 1, 512]⟩
abbrev S1x512x1024 : Shape := ⟨3, ![1, 512, 1024]⟩
abbrev S1x512x512 : Shape := ⟨3, ![1, 512, 512]⟩
abbrev S1x512x256 : Shape := ⟨3, ![1, 512, 256]⟩
abbrev S1x1x6x1024 : Shape := ⟨4, ![1, 1, 6, 1024]⟩
abbrev S1x512x2x512 : Shape := ⟨4, ![1, 512, 2, 512]⟩
abbrev S1x512x1x512 : Shape := ⟨4, ![1, 512, 1, 512]⟩
abbrev S8x512 : Shape := ⟨2, ![8, 512]⟩
abbrev S544x1024 : Shape := ⟨2, ![544, 1024]⟩
abbrev S6x1024 : Shape := ⟨2, ![6, 1024]⟩
abbrev S512x1024 : Shape := ⟨2, ![512, 1024]⟩
abbrev S512x256 : Shape := ⟨2, ![512, 256]⟩
abbrev S512x128 : Shape := ⟨2, ![512, 128]⟩
abbrev S512x2048 : Shape := ⟨2, ![512, 2048]⟩
abbrev S48x512 : Shape := ⟨2, ![48, 512]⟩
abbrev S32x512 : Shape := ⟨2, ![32, 512]⟩
abbrev S64x512 : Shape := ⟨2, ![64, 512]⟩
abbrev S64 : Shape := ⟨1, ![64]⟩
abbrev S64x1 : Shape := ⟨2, ![64, 1]⟩
abbrev S32x1 : Shape := ⟨2, ![32, 1]⟩
abbrev S4x512 : Shape := ⟨2, ![4, 512]⟩
abbrev S128x512 : Shape := ⟨2, ![128, 512]⟩
abbrev S1x512x128 : Shape := ⟨3, ![1, 512, 128]⟩

abbrev nBuf : Space → Nat
  | .hbm => 81
  | .vmem => 33
  | .smem => 0
  | _ => 0

abbrev bufTy : (tb : Table) → Fin (tcTables nBuf tb) → BufTy
  | .hbm, ⟨0, _⟩ => ⟨S4x8192x1024, .f32⟩
  | .hbm, ⟨1, _⟩ => ⟨S4x8192x512, .i32⟩
  | .hbm, ⟨2, _⟩ => ⟨S4x8192x512, .i32⟩
  | .hbm, ⟨3, _⟩ => ⟨S4x8192x2, .f32⟩
  | .hbm, ⟨4, _⟩ => ⟨S4x6x1024, .f32⟩
  | .hbm, ⟨5, _⟩ => ⟨S1024, .f32⟩
  | .hbm, ⟨6, _⟩ => ⟨S1024, .f32⟩
  | .hbm, ⟨7, _⟩ => ⟨S4x6x1024, .f32⟩
  | .hbm, ⟨8, _⟩ => ⟨S1024, .f32⟩
  | .hbm, ⟨9, _⟩ => ⟨S1024, .f32⟩
  | .hbm, ⟨10, _⟩ => ⟨S1024x2048, .f32⟩
  | .hbm, ⟨11, _⟩ => ⟨S2048, .f32⟩
  | .hbm, ⟨12, _⟩ => ⟨S31x1024, .f32⟩
  | .hbm, ⟨13, _⟩ => ⟨S1024, .f32⟩
  | .hbm, ⟨14, _⟩ => ⟨S1024, .f32⟩
  | .hbm, ⟨15, _⟩ => ⟨S1024, .f32⟩
  | .hbm, ⟨16, _⟩ => ⟨S1024x1024, .f32⟩
  | .hbm, ⟨17, _⟩ => ⟨S1024, .f32⟩
  | .hbm, ⟨18, _⟩ => ⟨S1024x4, .f32⟩
  | .hbm, ⟨19, _⟩ => ⟨S4, .f32⟩
  | .hbm, ⟨20, _⟩ => ⟨S1024x32, .f32⟩
  | .hbm, ⟨21, _⟩ => ⟨S32, .f32⟩
  | .hbm, ⟨22, _⟩ => ⟨S4x8192x1, .f32⟩
  | .hbm, ⟨23, _⟩ => ⟨S4x8192x128, .f32⟩
  | .hbm, ⟨24, _⟩ => ⟨S4x8192x1, .f32⟩
  | .hbm, ⟨25, _⟩ => ⟨S4x8192x128, .f32⟩
  | .hbm, ⟨26, _⟩ => ⟨S4x8192x256, .f32⟩
  | .hbm, ⟨27, _⟩ => ⟨S512, .i32⟩
  | .hbm, ⟨28, _⟩ => ⟨S512x1, .i32⟩
  | .hbm, ⟨29, _⟩ => ⟨S512, .i32⟩
  | .hbm, ⟨30, _⟩ => ⟨S1x512, .i32⟩
  | .hbm, ⟨31, _⟩ => ⟨S512x512, .i32⟩
  | .hbm, ⟨32, _⟩ => ⟨S512x512, .i32⟩
  | .hbm, ⟨33, _⟩ => ⟨S512x512, .i1⟩
  | .hbm, ⟨34, _⟩ => ⟨S512x512, .bf16⟩
  | .hbm, ⟨35, _⟩ => ⟨S_, .f32⟩
  | .hbm, ⟨36, _⟩ => ⟨S48x1024, .f32⟩
  | .hbm, ⟨37, _⟩ => ⟨S4x1024, .f32⟩
  | .hbm, ⟨38, _⟩ => ⟨S_, .i32⟩
  | .hbm, ⟨39, _⟩ => ⟨S1, .i32⟩
  | .hbm, ⟨40, _⟩ => ⟨S48x1024, .f32⟩
  | .hbm, ⟨41, _⟩ => ⟨S32x1024, .f32⟩
  | .hbm, ⟨42, _⟩ => ⟨S_, .i32⟩
  | .hbm, ⟨43, _⟩ => ⟨S1, .i32⟩
  | .hbm, ⟨44, _⟩ => ⟨S48x1024, .f32⟩
  | .hbm, ⟨45, _⟩ => ⟨S_, .f32⟩
  | .hbm, ⟨46, _⟩ => ⟨S48, .f32⟩
  | .hbm, ⟨47, _⟩ => ⟨S_, .i32⟩
  | .hbm, ⟨48, _⟩ => ⟨S1, .i32⟩
  | .hbm, ⟨49, _⟩ => ⟨S48, .f32⟩
  | .hbm, ⟨50, _⟩ => ⟨S_, .i32⟩
  | .hbm, ⟨51, _⟩ => ⟨S1, .i32⟩
  | .hbm, ⟨52, _⟩ => ⟨S48, .f32⟩
  | .hbm, ⟨53, _⟩ => ⟨S_, .i32⟩
  | .hbm, ⟨54, _⟩ => ⟨S1, .i32⟩
  | .hbm, ⟨55, _⟩ => ⟨S_, .f32⟩
  | .hbm, ⟨56, _⟩ => ⟨S8, .f32⟩
  | .hbm, ⟨57, _⟩ => ⟨S48, .f32⟩
  | .hbm, ⟨58, _⟩ => ⟨S48x1024, .bf16⟩
  | .hbm, ⟨59, _⟩ => ⟨S48x1, .f32⟩
  | .hbm, ⟨60, _⟩ => ⟨S1x4x6x1024, .f32⟩
  | .hbm, ⟨61, _⟩ => ⟨S1x1024, .f32⟩
  | .hbm, ⟨62, _⟩ => ⟨S1x1024, .f32⟩
  | .hbm, ⟨63, _⟩ => ⟨S2x1024, .f32⟩
  | .hbm, ⟨64, _⟩ => ⟨S1x4x6x1024, .f32⟩
  | .hbm, ⟨65, _⟩ => ⟨S1x1024, .f32⟩
  | .hbm, ⟨66, _⟩ => ⟨S1x1024, .f32⟩
  | .hbm, ⟨67, _⟩ => ⟨S2x1024, .f32⟩
  | .hbm, ⟨68, _⟩ => ⟨S1024x2048, .bf16⟩
  | .hbm, ⟨69, _⟩ => ⟨S1x2048, .f32⟩
  | .hbm, ⟨70, _⟩ => ⟨S1x1024, .f32⟩
  | .hbm, ⟨71, _⟩ => ⟨S1x1024, .f32⟩
  | .hbm, ⟨72, _⟩ => ⟨S1x1024, .f32⟩
  | .hbm, ⟨73, _⟩ => ⟨S1x1024, .f32⟩
  | .hbm, ⟨74, _⟩ => ⟨S4x1024, .f32⟩
  | .hbm, ⟨75, _⟩ => ⟨S1024x1024, .bf16⟩
  | .hbm, ⟨76, _⟩ => ⟨S4x8192x1024, .f32⟩
  | .hbm, ⟨77, _⟩ => ⟨S4x8192x2x512, .bf16⟩
  | .hbm, ⟨78, _⟩ => ⟨S8x32768, .i32⟩
  | .hbm, ⟨79, _⟩ => ⟨S4x8192x256, .f32⟩
  | .hbm, ⟨80, _⟩ => ⟨S32x128, .i32⟩
  | .local _ .vmem, ⟨0, _⟩ => ⟨S1x512x1024, .f32⟩
  | .local _ .vmem, ⟨1, _⟩ => ⟨S1x512x1024, .f32⟩
  | .local _ .vmem, ⟨2, _⟩ => ⟨S1x512x512, .i32⟩
  | .local _ .vmem, ⟨3, _⟩ => ⟨S1x512x512, .i32⟩
  | .local _ .vmem, ⟨4, _⟩ => ⟨S1x512x512, .i32⟩
  | .local _ .vmem, ⟨5, _⟩ => ⟨S1x512x512, .i32⟩
  | .local _ .vmem, ⟨6, _⟩ => ⟨S1x512x256, .f32⟩
  | .local _ .vmem, ⟨7, _⟩ => ⟨S1x512x256, .f32⟩
  | .local _ .vmem, ⟨8, _⟩ => ⟨S1x1x6x1024, .f32⟩
  | .local _ .vmem, ⟨9, _⟩ => ⟨S1x1x6x1024, .f32⟩
  | .local _ .vmem, ⟨10, _⟩ => ⟨S2x1024, .f32⟩
  | .local _ .vmem, ⟨11, _⟩ => ⟨S1x1x6x1024, .f32⟩
  | .local _ .vmem, ⟨12, _⟩ => ⟨S1x1x6x1024, .f32⟩
  | .local _ .vmem, ⟨13, _⟩ => ⟨S2x1024, .f32⟩
  | .local _ .vmem, ⟨14, _⟩ => ⟨S1024x2048, .bf16⟩
  | .local _ .vmem, ⟨15, _⟩ => ⟨S1x2048, .f32⟩
  | .local _ .vmem, ⟨16, _⟩ => ⟨S31x1024, .f32⟩
  | .local _ .vmem, ⟨17, _⟩ => ⟨S4x1024, .f32⟩
  | .local _ .vmem, ⟨18, _⟩ => ⟨S1024x1024, .bf16⟩
  | .local _ .vmem, ⟨19, _⟩ => ⟨S48x1024, .bf16⟩
  | .local _ .vmem, ⟨20, _⟩ => ⟨S48x1, .f32⟩
  | .local _ .vmem, ⟨21, _⟩ => ⟨S512x512, .bf16⟩
  | .local _ .vmem, ⟨22, _⟩ => ⟨S1x512x1024, .f32⟩
  | .local _ .vmem, ⟨23, _⟩ => ⟨S1x512x1024, .f32⟩
  | .local _ .vmem, ⟨24, _⟩ => ⟨S1x512x2x512, .bf16⟩
  | .local _ .vmem, ⟨25, _⟩ => ⟨S1x512x2x512, .bf16⟩
  | .local _ .vmem, ⟨26, _⟩ => ⟨S8x512, .i32⟩
  | .local _ .vmem, ⟨27, _⟩ => ⟨S8x512, .i32⟩
  | .local _ .vmem, ⟨28, _⟩ => ⟨S1x512x256, .f32⟩
  | .local _ .vmem, ⟨29, _⟩ => ⟨S1x512x256, .f32⟩
  | .local _ .vmem, ⟨30, _⟩ => ⟨S32x128, .i32⟩
  | .local _ .vmem, ⟨31, _⟩ => ⟨S544x1024, .f32⟩
  | .local _ .vmem, ⟨32, _⟩ => ⟨S32x128, .f32⟩
  | _, _ => ⟨S4x8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_cst : Ref sig .tc := ⟨.hbm, 35, rfl⟩
abbrev main_v13 : Ref sig .tc := ⟨.hbm, 36, rfl⟩
abbrev main_v14 : Ref sig .tc := ⟨.hbm, 37, rfl⟩
abbrev main_c : Ref sig .tc := ⟨.hbm, 38, rfl⟩
abbrev main_v15 : Ref sig .tc := ⟨.hbm, 39, rfl⟩
abbrev main_v16 : Ref sig .tc := ⟨.hbm, 40, rfl⟩
abbrev main_v17 : Ref sig .tc := ⟨.hbm, 41, rfl⟩
abbrev main_c_0 : Ref sig .tc := ⟨.hbm, 42, rfl⟩
abbrev main_v18 : Ref sig .tc := ⟨.hbm, 43, rfl⟩
abbrev main_v19 : Ref sig .tc := ⟨.hbm, 44, rfl⟩
abbrev main_cst_1 : Ref sig .tc := ⟨.hbm, 45, rfl⟩
abbrev main_v20 : Ref sig .tc := ⟨.hbm, 46, rfl⟩
abbrev main_c_2 : Ref sig .tc := ⟨.hbm, 47, rfl⟩
abbrev main_v21 : Ref sig .tc := ⟨.hbm, 48, rfl⟩
abbrev main_v22 : Ref sig .tc := ⟨.hbm, 49, rfl⟩
abbrev main_c_3 : Ref sig .tc := ⟨.hbm, 50, rfl⟩
abbrev main_v23 : Ref sig .tc := ⟨.hbm, 51, rfl⟩
abbrev main_v24 : Ref sig .tc := ⟨.hbm, 52, rfl⟩
abbrev main_c_4 : Ref sig .tc := ⟨.hbm, 53, rfl⟩
abbrev main_v25 : Ref sig .tc := ⟨.hbm, 54, rfl⟩
abbrev main_cst_5 : Ref sig .tc := ⟨.hbm, 55, rfl⟩
abbrev main_v26 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46_0 : Ref sig .tc := ⟨.hbm, 76, rfl⟩
abbrev main_v46_1 : Ref sig .tc := ⟨.hbm, 77, rfl⟩
abbrev main_v46_2 : Ref sig .tc := ⟨.hbm, 78, rfl⟩
abbrev main_v46_3 : Ref sig .tc := ⟨.hbm, 79, rfl⟩
abbrev main_v46_4 : Ref sig .tc := ⟨.hbm, 80, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg6_1 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_stg14_0 : Ref sig .tc := ⟨.vmem, 20, rfl⟩
abbrev cc0_stg15_0 : Ref sig .tc := ⟨.vmem, 21, rfl⟩
abbrev cc0_stg16_0 : Ref sig .tc := ⟨.vmem, 22, rfl⟩
abbrev cc0_stg16_1 : Ref sig .tc := ⟨.vmem, 23, rfl⟩
abbrev cc0_stg17_0 : Ref sig .tc := ⟨.vmem, 24, rfl⟩
abbrev cc0_stg17_1 : Ref sig .tc := ⟨.vmem, 25, rfl⟩
abbrev cc0_stg18_0 : Ref sig .tc := ⟨.vmem, 26, rfl⟩
abbrev cc0_stg18_1 : Ref sig .tc := ⟨.vmem, 27, rfl⟩
abbrev cc0_stg19_0 : Ref sig .tc := ⟨.vmem, 28, rfl⟩
abbrev cc0_stg19_1 : Ref sig .tc := ⟨.vmem, 29, rfl⟩
abbrev cc0_stg20_0 : Ref sig .tc := ⟨.vmem, 30, rfl⟩
abbrev cc0_scratch0 : Ref sig .tc := ⟨.vmem, 31, rfl⟩
abbrev cc0_scratch1 : Ref sig .tc := ⟨.vmem, 32, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem6_1 : DmaSem sig := 12
abbrev cc0_sem7_0 : DmaSem sig := 13
abbrev cc0_sem8_0 : DmaSem sig := 14
abbrev cc0_sem9_0 : DmaSem sig := 15
abbrev cc0_sem10_0 : DmaSem sig := 16
abbrev cc0_sem11_0 : DmaSem sig := 17
abbrev cc0_sem12_0 : DmaSem sig := 18
abbrev cc0_sem13_0 : DmaSem sig := 19
abbrev cc0_sem14_0 : DmaSem sig := 20
abbrev cc0_sem15_0 : DmaSem sig := 21
abbrev cc0_sem16_0 : DmaSem sig := 22
abbrev cc0_sem16_1 : DmaSem sig := 23
abbrev cc0_sem17_0 : DmaSem sig := 24
abbrev cc0_sem17_1 : DmaSem sig := 25
abbrev cc0_sem18_0 : DmaSem sig := 26
abbrev cc0_sem18_1 : DmaSem sig := 27
abbrev cc0_sem19_0 : DmaSem sig := 28
abbrev cc0_sem19_1 : DmaSem sig := 29
abbrev cc0_sem20_0 : DmaSem sig := 30

abbrev nD : Nat := 1
abbrev τ : Topo := Topo.v7x

variable {F : FTy → Type} [FloatOps F]

abbrev grid0 : Pipeline.Grid := ⟨2, ![4, 16], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_16 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_17 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, 0, c0_i32.toNat]

def cc0_transform_18 (i : grid0.Coords) : Fin 2 → Nat :=
  let arg0 : BitVec 32 := BitVec.ofNat 32 (i 0).val
  let arg1 : BitVec 32 := BitVec.ofNat 32 (i 1).val
  let c16_i32 : BitVec 32 := 16#32
  let v0 : BitVec 32 := Scalar.muli arg0 c16_i32
  let v1 : BitVec 32 := Scalar.addi v0 arg1
  let c0_i32 : BitVec 32 := 0#32
  let c0_i32_0 : BitVec 32 := 0#32
  ![c0_i32.toNat, v1.toNat]

def cc0_transform_19 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_20 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x512x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x512x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x512x256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x6x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 1 → Memref sig .tc .vmem S2x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S1x1x6x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1024x2048 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S31x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 1 → Memref sig .tc .vmem S4x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false, false]

abbrev stage0_12 : Fin 1 → Memref sig .tc .vmem S1024x1024 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false, false]

abbrev stage0_13 : Fin 1 → Memref sig .tc .vmem S48x1024 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false, false]

abbrev stage0_14 : Fin 1 → Memref sig .tc .vmem S48x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false, false]

abbrev stage0_15 : Fin 1 → Memref sig .tc .vmem S512x512 .bf16 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false, false]

abbrev stage0_16 : Fin 2 → Memref sig .tc .vmem S1x512x1024 .f32 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true, true]

abbrev stage0_17 : Fin 2 → Memref sig .tc .vmem S1x512x2x512 .bf16 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true, true]

abbrev stage0_18 : Fin 2 → Memref sig .tc .vmem S8x512 .i32 := fun | 0 => Memref.whole cc0_stg18_0 | 1 => Memref.whole cc0_stg18_1 | ⟨_ + 2, h⟩ => absurd h (Nat.not_lt.2 (Nat.le_add_left _ _))
abbrev sem0_18 : Fin 2 → DmaSem sig := fun | 0 => cc0_sem18_0 | 1 => cc0_sem18_1 | ⟨_ + 2, h⟩ => absurd h (Nat.not_lt.2 (Nat.le_add_left _ _))
abbrev reads0_18 : Fin grid0.rank → Bool := ![true, true]

abbrev stage0_19 : Fin 2 → Memref sig .tc .vmem S1x512x256 .f32 := fun | 0 => Memref.whole cc0_stg19_0 | 1 => Memref.whole cc0_stg19_1 | ⟨_ + 2, h⟩ => absurd h (Nat.not_lt.2 (Nat.le_add_left _ _))
abbrev sem0_19 : Fin 2 → DmaSem sig := fun | 0 => cc0_sem19_0 | 1 => cc0_sem19_1 | ⟨_ + 2, h⟩ => absurd h (Nat.not_lt.2 (Nat.le_add_left _ _))
abbrev reads0_19 : Fin grid0.rank → Bool := ![true, true]

abbrev stage0_20 : Fin 1 → Memref sig .tc .vmem S32x128 .i32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))
abbrev reads0_20 : Fin grid0.rank → Bool := ![false, false]
-- ==== Reference5Ideal.lean ====
abbrev S4x8192x1024 : Shape := ⟨3, ![4, 8192, 1024]⟩
abbrev S4x8192x512 : Shape := ⟨3, ![4, 8192, 512]⟩
abbrev S4x8192x2 : Shape := ⟨3, ![4, 8192, 2]⟩
abbrev S4x6x1024 : Shape := ⟨3, ![4, 6, 1024]⟩
abbrev S1024 : Shape := ⟨1, ![1024]⟩
abbrev S1024x2048 : Shape := ⟨2, ![1024, 2048]⟩
abbrev S2048 : Shape := ⟨1, ![2048]⟩
abbrev S31x1024 : Shape := ⟨2, ![31, 1024]⟩
abbrev S1024x1024 : Shape := ⟨2, ![1024, 1024]⟩
abbrev S1024x4 : Shape := ⟨2, ![1024, 4]⟩
abbrev S4 : Shape := ⟨1, ![4]⟩
abbrev S1024x32 : Shape := ⟨2, ![1024, 32]⟩
abbrev S32 : Shape := ⟨1, ![32]⟩
abbrev S4x8192x1 : Shape := ⟨3, ![4, 8192, 1]⟩
abbrev S4x8192x512x2 : Shape := ⟨4, ![4, 8192, 512, 2]⟩
abbrev S4x8192x512x1 : Shape := ⟨4, ![4, 8192, 512, 1]⟩
abbrev S4x1x1024 : Shape := ⟨3, ![4, 1, 1024]⟩
abbrev S4x1024 : Shape := ⟨2, ![4, 1024]⟩
abbrev S_ : Shape := ⟨0, ![]⟩
abbrev S4x8192 : Shape := ⟨2, ![4, 8192]⟩
abbrev S1x1x1024 : Shape := ⟨3, ![1, 1, 1024]⟩
abbrev S4x8192x2048 : Shape := ⟨3, ![4, 8192, 2048]⟩
abbrev S1x1x2048 : Shape := ⟨3, ![1, 1, 2048]⟩
abbrev S4x8222x1024 : Shape := ⟨3, ![4, 8222, 1024]⟩
abbrev S1x1024 : Shape := ⟨2, ![1, 1024]⟩

abbrev nBuf : Space → Nat
  | .hbm => 417
  | .vmem => 0
  | .smem => 0
  | _ => 0

abbrev hbmTy0_0 (i : Nat) : BufTy := match i % 128 with
  | 0 => ⟨S4x8192x1024, .f32⟩
  | 1 => ⟨S4x8192x512, .i32⟩
  | 2 => ⟨S4x8192x512, .i32⟩
  | 3 => ⟨S4x8192x2, .f32⟩
  | 4 => ⟨S4x6x1024, .f32⟩
  | 5 => ⟨S1024, .f32⟩
  | 6 => ⟨S1024, .f32⟩
  | 7 => ⟨S4x6x1024, .f32⟩
  | 8 => ⟨S1024, .f32⟩
  | 9 => ⟨S1024, .f32⟩
  | 10 => ⟨S1024x2048, .f32⟩
  | 11 => ⟨S2048, .f32⟩
  | 12 => ⟨S31x1024, .f32⟩
  | 13 => ⟨S1024, .f32⟩
  | 14 => ⟨S1024, .f32⟩
  | 15 => ⟨S1024, .f32⟩
  | 16 => ⟨S1024x1024, .f32⟩
  | 17 => ⟨S1024, .f32⟩
  | 18 => ⟨S1024x4, .f32⟩
  | 19 => ⟨S4, .f32⟩
  | 20 => ⟨S1024x32, .f32⟩
  | 21 => ⟨S32, .f32⟩
  | 22 => ⟨S4x8192x1, .f32⟩
  | 23 => ⟨S4x8192x512x2, .bf16⟩
  | 24 => ⟨S4x8192x512x2, .f32⟩
  | 25 => ⟨S4x8192x512x1, .f32⟩
  | 26 => ⟨S4x8192x512, .f32⟩
  | 27 => ⟨S4x8192x512x1, .f32⟩
  | 28 => ⟨S4x8192x512, .f32⟩
  | 29 => ⟨S4x8192x1024, .f32⟩
  | 30 => ⟨S4x8192x1024, .f32⟩
  | 31 => ⟨S4x8192x1024, .f32⟩
  | 32 => ⟨S4x8192x1, .f32⟩
  | 33 => ⟨S4x8192x512x2, .bf16⟩
  | 34 => ⟨S4x8192x512x2, .f32⟩
  | 35 => ⟨S4x8192x512x1, .f32⟩
  | 36 => ⟨S4x8192x512, .f32⟩
  | 37 => ⟨S4x8192x512x1, .f32⟩
  | 38 => ⟨S4x8192x512, .f32⟩
  | 39 => ⟨S4x8192x1024, .f32⟩
  | 40 => ⟨S4x8192x1024, .f32⟩
  | 41 => ⟨S4x8192x1024, .f32⟩
  | 42 => ⟨S4x8192x1024, .f32⟩
  | 43 => ⟨S4x1x1024, .f32⟩
  | 44 => ⟨S4x1024, .f32⟩
  | 45 => ⟨S4x1x1024, .f32⟩
  | 46 => ⟨S_, .f32⟩
  | 47 => ⟨S4x8192x1024, .f32⟩
  | 48 => ⟨S4x8192x1024, .f32⟩
  | 49 => ⟨S_, .f32⟩
  | 50 => ⟨S4x1x1024, .f32⟩
  | 51 => ⟨S4x1x1024, .f32⟩
  | 52 => ⟨S4x8192x1024, .f32⟩
  | 53 => ⟨S4x8192x1024, .f32⟩
  | 54 => ⟨S4x8192x1024, .f32⟩
  | 55 => ⟨S_, .f32⟩
  | 56 => ⟨S4x8192, .f32⟩
  | 57 => ⟨S4x8192x1, .f32⟩
  | 58 => ⟨S_, .f32⟩
  | 59 => ⟨S4x8192x1, .f32⟩
  | 60 => ⟨S4x8192x1, .f32⟩
  | 61 => ⟨S4x8192x1024, .f32⟩
  | 62 => ⟨S4x8192x1024, .f32⟩
  | 63 => ⟨S4x8192x1024, .f32⟩
  | 64 => ⟨S_, .f32⟩
  | 65 => ⟨S4x8192, .f32⟩
  | 66 => ⟨S4x8192x1, .f32⟩
  | 67 => ⟨S_, .f32⟩
  | 68 => ⟨S4x8192x1, .f32⟩
  | 69 => ⟨S4x8192x1, .f32⟩
  | 70 => ⟨S4x8192x1024, .f32⟩
  | 71 => ⟨S4x8192x1024, .f32⟩
  | 72 => ⟨S_, .f32⟩
  | 73 => ⟨S4x8192x1, .f32⟩
  | 74 => ⟨S4x8192x1, .f32⟩
  | 75 => ⟨S4x8192x1, .f32⟩
  | 76 => ⟨S4x8192x1024, .f32⟩
  | 77 => ⟨S4x8192x1024, .f32⟩
  | 78 => ⟨S1x1x1024, .f32⟩
  | 79 => ⟨S4x8192x1024, .f32⟩
  | 80 => ⟨S4x8192x1024, .f32⟩
  | 81 => ⟨S1x1x1024, .f32⟩
  | 82 => ⟨S4x8192x1024, .f32⟩
  | 83 => ⟨S4x8192x1024, .f32⟩
  | 84 => ⟨S4x1x1024, .f32⟩
  | 85 => ⟨S4x1024, .f32⟩
  | 86 => ⟨S4x1x1024, .f32⟩
  | 87 => ⟨S4x1x1024, .f32⟩
  | 88 => ⟨S4x1024, .f32⟩
  | 89 => ⟨S4x1x1024, .f32⟩
  | 90 => ⟨S4x1x1024, .f32⟩
  | 91 => ⟨S4x1024, .f32⟩
  | 92 => ⟨S4x1x1024, .f32⟩
  | 93 => ⟨S_, .f32⟩
  | 94 => ⟨S4x1x1024, .f32⟩
  | 95 => ⟨S4x1x1024, .f32⟩
  | 96 => ⟨S4x8192x1024, .f32⟩
  | 97 => ⟨S4x8192x1024, .f32⟩
  | 98 => ⟨S4x8192x1024, .f32⟩
  | 99 => ⟨S4x8192x1024, .f32⟩
  | 100 => ⟨S4x8192x2048, .f32⟩
  | 101 => ⟨S1x1x2048, .f32⟩
  | 102 => ⟨S4x8192x2048, .f32⟩
  | 103 => ⟨S4x8192x2048, .f32⟩
  | 104 => ⟨S4x8192x1024, .f32⟩
  | 105 => ⟨S4x8192x1024, .f32⟩
  | 106 => ⟨S4x8192x1024, .f32⟩
  | 107 => ⟨S4x8192x1024, .f32⟩
  | 108 => ⟨S_, .f32⟩
  | 109 => ⟨S4x8192x1024, .f32⟩
  | 110 => ⟨S4x8192x1024, .f32⟩
  | 111 => ⟨S_, .f32⟩
  | 112 => ⟨S4x8192x1024, .f32⟩
  | 113 => ⟨S4x8192x1024, .f32⟩
  | 114 => ⟨S4x8192x1024, .f32⟩
  | 115 => ⟨S_, .i32⟩
  | 116 => ⟨S_, .f32⟩
  | 117 => ⟨S4x8222x1024, .f32⟩
  | 118 => ⟨S1x1024, .f32⟩
  | 119 => ⟨S1024, .f32⟩
  | 120 => ⟨S4x8192x1024, .f32⟩
  | 121 => ⟨S1x1x1024, .f32⟩
  | 122 => ⟨S4x8192x1024, .f32⟩
  | 123 => ⟨S4x8192x1024, .f32⟩
  | 124 => ⟨S1x1024, .f32⟩
  | 125 => ⟨S1024, .f32⟩
  | 126 => ⟨S4x8192x1024, .f32⟩
  | 127 => ⟨S1x1x1024, .f32⟩
  | _ => ⟨S4x8192x1024, .f32⟩

abbrev hbmTy0_1 (i : Nat) : BufTy := match i % 128 with
  | 0 => ⟨S4x8192x1024, .f32⟩
  | 1 => ⟨S4x8192x1024, .f32⟩
  | 2 => ⟨S4x8192x1024, .f32⟩
  | 3 => ⟨S1x1024, .f32⟩
  | 4 => ⟨S1024, .f32⟩
  | 5 => ⟨S4x8192x1024, .f32⟩
  | 6 => ⟨S1x1x1024, .f32⟩
  | 7 => ⟨S4x8192x1024, .f32⟩
  | 8 => ⟨S4x8192x1024, .f32⟩
  | 9 => ⟨S4x8192x1024, .f32⟩
  | 10 => ⟨S1x1024, .f32⟩
  | 11 => ⟨S1024, .f32⟩
  | 12 => ⟨S4x8192x1024, .f32⟩
  | 13 => ⟨S1x1x1024, .f32⟩
  | 14 => ⟨S4x8192x1024, .f32⟩
  | 15 => ⟨S4x8192x1024, .f32⟩
  | 16 => ⟨S4x8192x1024, .f32⟩
  | 17 => ⟨S1x1024, .f32⟩
  | 18 => ⟨S1024, .f32⟩
  | 19 => ⟨S4x8192x1024, .f32⟩
  | 20 => ⟨S1x1x1024, .f32⟩
  | 21 => ⟨S4x8192x1024, .f32⟩
  | 22 => ⟨S4x8192x1024, .f32⟩
  | 23 => ⟨S4x8192x1024, .f32⟩
  | 24 => ⟨S1x1024, .f32⟩
  | 25 => ⟨S1024, .f32⟩
  | 26 => ⟨S4x8192x1024, .f32⟩
  | 27 => ⟨S1x1x1024, .f32⟩
  | 28 => ⟨S4x8192x1024, .f32⟩
  | 29 => ⟨S4x8192x1024, .f32⟩
  | 30 => ⟨S4x8192x1024, .f32⟩
  | 31 => ⟨S1x1024, .f32⟩
  | 32 => ⟨S1024, .f32⟩
  | 33 => ⟨S4x8192x1024, .f32⟩
  | 34 => ⟨S1x1x1024, .f32⟩
  | 35 => ⟨S4x8192x1024, .f32⟩
  | 36 => ⟨S4x8192x1024, .f32⟩
  | 37 => ⟨S4x8192x1024, .f32⟩
  | 38 => ⟨S1x1024, .f32⟩
  | 39 => ⟨S1024, .f32⟩
  | 40 => ⟨S4x8192x1024, .f32⟩
  | 41 => ⟨S1x1x1024, .f32⟩
  | 42 => ⟨S4x8192x1024, .f32⟩
  | 43 => ⟨S4x8192x1024, .f32⟩
  | 44 => ⟨S4x8192x1024, .f32⟩
  | 45 => ⟨S1x1024, .f32⟩
  | 46 => ⟨S1024, .f32⟩
  | 47 => ⟨S4x8192x1024, .f32⟩
  | 48 => ⟨S1x1x1024, .f32⟩
  | 49 => ⟨S4x8192x1024, .f32⟩
  | 50 => ⟨S4x8192x1024, .f32⟩
  | 51 => ⟨S4x8192x1024, .f32⟩
  | 52 => ⟨S1x1024, .f32⟩
  | 53 => ⟨S1024, .f32⟩
  | 54 => ⟨S4x8192x1024, .f32⟩
  | 55 => ⟨S1x1x1024, .f32⟩
  | 56 => ⟨S4x8192x1024, .f32⟩
  | 57 => ⟨S4x8192x1024, .f32⟩
  | 58 => ⟨S4x8192x1024, .f32⟩
  | 59 => ⟨S1x1024, .f32⟩
  | 60 => ⟨S1024, .f32⟩
  | 61 => ⟨S4x8192x1024, .f32⟩
  | 62 => ⟨S1x1x1024, .f32⟩
  | 63 => ⟨S4x8192x1024, .f32⟩
  | 64 => ⟨S4x8192x1024, .f32⟩
  | 65 => ⟨S4x8192x1024, .f32⟩
  | 66 => ⟨S1x1024, .f32⟩
  | 67 => ⟨S1024, .f32⟩
  | 68 => ⟨S4x8192x1024, .f32⟩
  | 69 => ⟨S1x1x1024, .f32⟩
  | 70 => ⟨S4x8192x1024, .f32⟩
  | 71 => ⟨S4x8192x1024, .f32⟩
  | 72 => ⟨S4x8192x1024, .f32⟩
  | 73 => ⟨S1x1024, .f32⟩
  | 74 => ⟨S1024, .f32⟩
  | 75 => ⟨S4x8192x1024, .f32⟩
  | 76 => ⟨S1x1x1024, .f32⟩
  | 77 => ⟨S4x8192x1024, .f32⟩
  | 78 => ⟨S4x8192x1024, .f32⟩
  | 79 => ⟨S4x8192x1024, .f32⟩
  | 80 => ⟨S1x1024, .f32⟩
  | 81 => ⟨S1024, .f32⟩
  | 82 => ⟨S4x8192x1024, .f32⟩
  | 83 => ⟨S1x1x1024, .f32⟩
  | 84 => ⟨S4x8192x1024, .f32⟩
  | 85 => ⟨S4x8192x1024, .f32⟩
  | 86 => ⟨S4x8192x1024, .f32⟩
  | 87 => ⟨S1x1024, .f32⟩
  | 88 => ⟨S1024, .f32⟩
  | 89 => ⟨S4x8192x1024, .f32⟩
  | 90 => ⟨S1x1x1024, .f32⟩
  | 91 => ⟨S4x8192x1024, .f32⟩
  | 92 => ⟨S4x8192x1024, .f32⟩
  | 93 => ⟨S4x8192x1024, .f32⟩
  | 94 => ⟨S1x1024, .f32⟩
  | 95 => ⟨S1024, .f32⟩
  | 96 => ⟨S4x8192x1024, .f32⟩
  | 97 => ⟨S1x1x1024, .f32⟩
  | 98 => ⟨S4x8192x1024, .f32⟩
  | 99 => ⟨S4x8192x1024, .f32⟩
  | 100 => ⟨S4x8192x1024, .f32⟩
  | 101 => ⟨S1x1024, .f32⟩
  | 102 => ⟨S1024, .f32⟩
  | 103 => ⟨S4x8192x1024, .f32⟩
  | 104 => ⟨S1x1x1024, .f32⟩
  | 105 => ⟨S4x8192x1024, .f32⟩
  | 106 => ⟨S4x8192x1024, .f32⟩
  | 107 => ⟨S4x8192x1024, .f32⟩
  | 108 => ⟨S1x1024, .f32⟩
  | 109 => ⟨S1024, .f32⟩
  | 110 => ⟨S4x8192x1024, .f32⟩
  | 111 => ⟨S1x1x1024, .f32⟩
  | 112 => ⟨S4x8192x1024, .f32⟩
  | 113 => ⟨S4x8192x1024, .f32⟩
  | 114 => ⟨S4x8192x1024, .f32⟩
  | 115 => ⟨S1x1024, .f32⟩
  | 116 => ⟨S1024, .f32⟩
  | 117 => ⟨S4x8192x1024, .f32⟩
  | 118 => ⟨S1x1x1024, .f32⟩
  | 119 => ⟨S4x8192x1024, .f32⟩
  | 120 => ⟨S4x8192x1024, .f32⟩
  | 121 => ⟨S4x8192x1024, .f32⟩
  | 122 => ⟨S1x1024, .f32⟩
  | 123 => ⟨S1024, .f32⟩
  | 124 => ⟨S4x8192x1024, .f32⟩
  | 125 => ⟨S1x1x1024, .f32⟩
  | 126 => ⟨S4x8192x1024, .f32⟩
  | 127 => ⟨S4x8192x1024, .f32⟩
  | _ => ⟨S4x8192x1024, .f32⟩

abbrev hbmTy0_2 (i : Nat) : BufTy := match i % 128 with
  | 0 => ⟨S4x8192x1024, .f32⟩
  | 1 => ⟨S1x1024, .f32⟩
  | 2 => ⟨S1024, .f32⟩
  | 3 => ⟨S4x8192x1024, .f32⟩
  | 4 => ⟨S1x1x1024, .f32⟩
  | 5 => ⟨S4x8192x1024, .f32⟩
  | 6 => ⟨S4x8192x1024, .f32⟩
  | 7 => ⟨S4x8192x1024, .f32⟩
  | 8 => ⟨S1x1024, .f32⟩
  | 9 => ⟨S1024, .f32⟩
  | 10 => ⟨S4x8192x1024, .f32⟩
  | 11 => ⟨S1x1x1024, .f32⟩
  | 12 => ⟨S4x8192x1024, .f32⟩
  | 13 => ⟨S4x8192x1024, .f32⟩
  | 14 => ⟨S4x8192x1024, .f32⟩
  | 15 => ⟨S1x1024, .f32⟩
  | 16 => ⟨S1024, .f32⟩
  | 17 => ⟨S4x8192x1024, .f32⟩
  | 18 => ⟨S1x1x1024, .f32⟩
  | 19 => ⟨S4x8192x1024, .f32⟩
  | 20 => ⟨S4x8192x1024, .f32⟩
  | 21 => ⟨S4x8192x1024, .f32⟩
  | 22 => ⟨S1x1024, .f32⟩
  | 23 => ⟨S1024, .f32⟩
  | 24 => ⟨S4x8192x1024, .f32⟩
  | 25 => ⟨S1x1x1024, .f32⟩
  | 26 => ⟨S4x8192x1024, .f32⟩
  | 27 => ⟨S4x8192x1024, .f32⟩
  | 28 => ⟨S4x8192x1024, .f32⟩
  | 29 => ⟨S1x1024, .f32⟩
  | 30 => ⟨S1024, .f32⟩
  | 31 => ⟨S4x8192x1024, .f32⟩
  | 32 => ⟨S1x1x1024, .f32⟩
  | 33 => ⟨S4x8192x1024, .f32⟩
  | 34 => ⟨S4x8192x1024, .f32⟩
  | 35 => ⟨S4x8192x1024, .f32⟩
  | 36 => ⟨S1x1024, .f32⟩
  | 37 => ⟨S1024, .f32⟩
  | 38 => ⟨S4x8192x1024, .f32⟩
  | 39 => ⟨S1x1x1024, .f32⟩
  | 40 => ⟨S4x8192x1024, .f32⟩
  | 41 => ⟨S4x8192x1024, .f32⟩
  | 42 => ⟨S4x8192x1024, .f32⟩
  | 43 => ⟨S1x1024, .f32⟩
  | 44 => ⟨S1024, .f32⟩
  | 45 => ⟨S4x8192x1024, .f32⟩
  | 46 => ⟨S1x1x1024, .f32⟩
  | 47 => ⟨S4x8192x1024, .f32⟩
  | 48 => ⟨S4x8192x1024, .f32⟩
  | 49 => ⟨S4x8192x1024, .f32⟩
  | 50 => ⟨S1x1024, .f32⟩
  | 51 => ⟨S1024, .f32⟩
  | 52 => ⟨S4x8192x1024, .f32⟩
  | 53 => ⟨S1x1x1024, .f32⟩
  | 54 => ⟨S4x8192x1024, .f32⟩
  | 55 => ⟨S4x8192x1024, .f32⟩
  | 56 => ⟨S4x8192x1024, .f32⟩
  | 57 => ⟨S1x1024, .f32⟩
  | 58 => ⟨S1024, .f32⟩
  | 59 => ⟨S4x8192x1024, .f32⟩
  | 60 => ⟨S1x1x1024, .f32⟩
  | 61 => ⟨S4x8192x1024, .f32⟩
  | 62 => ⟨S4x8192x1024, .f32⟩
  | 63 => ⟨S4x8192x1024, .f32⟩
  | 64 => ⟨S1x1024, .f32⟩
  | 65 => ⟨S1024, .f32⟩
  | 66 => ⟨S4x8192x1024, .f32⟩
  | 67 => ⟨S1x1x1024, .f32⟩
  | 68 => ⟨S4x8192x1024, .f32⟩
  | 69 => ⟨S4x8192x1024, .f32⟩
  | 70 => ⟨S4x8192x1024, .f32⟩
  | 71 => ⟨S1x1024, .f32⟩
  | 72 => ⟨S1024, .f32⟩
  | 73 => ⟨S4x8192x1024, .f32⟩
  | 74 => ⟨S1x1x1024, .f32⟩
  | 75 => ⟨S4x8192x1024, .f32⟩
  | 76 => ⟨S4x8192x1024, .f32⟩
  | 77 => ⟨S4x8192x1024, .f32⟩
  | 78 => ⟨S1x1x1024, .f32⟩
  | 79 => ⟨S4x8192x1024, .f32⟩
  | 80 => ⟨S4x8192x1024, .f32⟩
  | 81 => ⟨S_, .f32⟩
  | 82 => ⟨S4x8192, .f32⟩
  | 83 => ⟨S4x8192x1, .f32⟩
  | 84 => ⟨S_, .f32⟩
  | 85 => ⟨S4x8192x1, .f32⟩
  | 86 => ⟨S4x8192x1, .f32⟩
  | 87 => ⟨S4x8192x1024, .f32⟩
  | 88 => ⟨S4x8192x1024, .f32⟩
  | 89 => ⟨S4x8192x1024, .f32⟩
  | 90 => ⟨S_, .f32⟩
  | 91 => ⟨S4x8192, .f32⟩
  | 92 => ⟨S4x8192x1, .f32⟩
  | 93 => ⟨S_, .f32⟩
  | 94 => ⟨S4x8192x1, .f32⟩
  | 95 => ⟨S4x8192x1, .f32⟩
  | 96 => ⟨S4x8192x1024, .f32⟩
  | 97 => ⟨S4x8192x1024, .f32⟩
  | 98 => ⟨S_, .f32⟩
  | 99 => ⟨S4x8192x1, .f32⟩
  | 100 => ⟨S4x8192x1, .f32⟩
  | 101 => ⟨S4x8192x1, .f32⟩
  | 102 => ⟨S4x8192x1024, .f32⟩
  | 103 => ⟨S4x8192x1024, .f32⟩
  | 104 => ⟨S1x1x1024, .f32⟩
  | 105 => ⟨S4x8192x1024, .f32⟩
  | 106 => ⟨S4x8192x1024, .f32⟩
  | 107 => ⟨S1x1x1024, .f32⟩
  | 108 => ⟨S4x8192x1024, .f32⟩
  | 109 => ⟨S4x8192x1024, .f32⟩
  | 110 => ⟨S4x8192x1024, .f32⟩
  | 111 => ⟨S4x8192x1024, .f32⟩
  | 112 => ⟨S_, .f32⟩
  | 113 => ⟨S4x8192x1024, .f32⟩
  | 114 => ⟨S4x8192x1024, .f32⟩
  | 115 => ⟨S_, .f32⟩
  | 116 => ⟨S4x8192x1024, .f32⟩
  | 117 => ⟨S4x8192x1024, .f32⟩
  | 118 => ⟨S4x8192x1024, .f32⟩
  | 119 => ⟨S4x8192x1024, .f32⟩
  | 120 => ⟨S1x1x1024, .f32⟩
  | 121 => ⟨S4x8192x1024, .f32⟩
  | 122 => ⟨S4x8192x1024, .f32⟩
  | 123 => ⟨S_, .f32⟩
  | 124 => ⟨S4x8192x1024, .f32⟩
  | 125 => ⟨S4x8192x1024, .f32⟩
  | 126 => ⟨S_, .f32⟩
  | 127 => ⟨S4x1x1024, .f32⟩
  | _ => ⟨S4x8192x1024, .f32⟩

abbrev hbmTy0_3 (i : Nat) : BufTy := match i % 128 with
  | 0 => ⟨S4x1x1024, .f32⟩
  | 1 => ⟨S4x8192x1024, .f32⟩
  | 2 => ⟨S4x8192x1024, .f32⟩
  | 3 => ⟨S4x8192x1024, .f32⟩
  | 4 => ⟨S_, .f32⟩
  | 5 => ⟨S4x8192, .f32⟩
  | 6 => ⟨S4x8192x1, .f32⟩
  | 7 => ⟨S_, .f32⟩
  | 8 => ⟨S4x8192x1, .f32⟩
  | 9 => ⟨S4x8192x1, .f32⟩
  | 10 => ⟨S4x8192x1024, .f32⟩
  | 11 => ⟨S4x8192x1024, .f32⟩
  | 12 => ⟨S4x8192x1024, .f32⟩
  | 13 => ⟨S_, .f32⟩
  | 14 => ⟨S4x8192, .f32⟩
  | 15 => ⟨S4x8192x1, .f32⟩
  | 16 => ⟨S_, .f32⟩
  | 17 => ⟨S4x8192x1, .f32⟩
  | 18 => ⟨S4x8192x1, .f32⟩
  | 19 => ⟨S4x8192x1024, .f32⟩
  | 20 => ⟨S4x8192x1024, .f32⟩
  | 21 => ⟨S_, .f32⟩
  | 22 => ⟨S4x8192x1, .f32⟩
  | 23 => ⟨S4x8192x1, .f32⟩
  | 24 => ⟨S4x8192x1, .f32⟩
  | 25 => ⟨S4x8192x1024, .f32⟩
  | 26 => ⟨S4x8192x1024, .f32⟩
  | 27 => ⟨S1x1x1024, .f32⟩
  | 28 => ⟨S4x8192x1024, .f32⟩
  | 29 => ⟨S4x8192x1024, .f32⟩
  | 30 => ⟨S1x1x1024, .f32⟩
  | 31 => ⟨S4x8192x1024, .f32⟩
  | 32 => ⟨S4x8192x1024, .f32⟩
  | _ => ⟨S4x8192x1024, .f32⟩

abbrev hbmTy (i : Nat) : BufTy := match i / 128 with
  | 0 => hbmTy0_0 i
  | 1 => hbmTy0_1 i
  | 2 => hbmTy0_2 i
  | 3 => hbmTy0_3 i
  | _ => ⟨S4x8192x1024, .f32⟩

abbrev bufTy : (tb : Table) → Fin (tcTables nBuf tb) → BufTy
  | .hbm, ⟨i, _⟩ => hbmTy i
  | _, _ => ⟨S4x8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_v0 : Ref sig .tc := ⟨.hbm, 22, rfl⟩
abbrev main_v1 : Ref sig .tc := ⟨.hbm, 23, rfl⟩
abbrev main_v2 : Ref sig .tc := ⟨.hbm, 24, rfl⟩
abbrev main_v3 : Ref sig .tc := ⟨.hbm, 25, rfl⟩
abbrev main_v4 : Ref sig .tc := ⟨.hbm, 26, rfl⟩
abbrev main_v5 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_v11 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_cst : Ref sig .tc := ⟨.hbm, 46, rfl⟩
abbrev main_v24 : Ref sig .tc := ⟨.hbm, 47, rfl⟩
abbrev main_v25 : Ref sig .tc := ⟨.hbm, 48, rfl⟩
abbrev main_cst_0 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_cst_1 : Ref sig .tc := ⟨.hbm, 55, rfl⟩
abbrev main_v31 : Ref sig .tc := ⟨.hbm, 56, rfl⟩
abbrev main_v32 : Ref sig .tc := ⟨.hbm, 57, rfl⟩
abbrev main_cst_2 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_cst_3 : Ref sig .tc := ⟨.hbm, 64, rfl⟩
abbrev main_v38 : Ref sig .tc := ⟨.hbm, 65, rfl⟩
abbrev main_v39 : Ref sig .tc := ⟨.hbm, 66, rfl⟩
abbrev main_cst_4 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_cst_5 : Ref sig .tc := ⟨.hbm, 72, rfl⟩
abbrev main_v44 : Ref sig .tc := ⟨.hbm, 73, rfl⟩
abbrev main_v45 : Ref sig .tc := ⟨.hbm, 74, rfl⟩
abbrev main_v46 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_cst_6 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_cst_7 : Ref sig .tc := ⟨.hbm, 108, rfl⟩
abbrev main_v78 : Ref sig .tc := ⟨.hbm, 109, rfl⟩
abbrev main_v79 : Ref sig .tc := ⟨.hbm, 110, rfl⟩
abbrev main_cst_8 : Ref sig .tc := ⟨.hbm, 111, rfl⟩
abbrev main_v80 : Ref sig .tc := ⟨.hbm, 112, rfl⟩
abbrev main_v81 : Ref sig .tc := ⟨.hbm, 113, rfl⟩
abbrev main_v82 : Ref sig .tc := ⟨.hbm, 114, rfl⟩
abbrev main_c : Ref sig .tc := ⟨.hbm, 115, rfl⟩
abbrev main_call0_v0 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_v89 : Ref sig .tc := ⟨.hbm, 123, rfl⟩
abbrev main_v90 : Ref sig .tc := ⟨.hbm, 124, rfl⟩
abbrev main_v91 : Ref sig .tc := ⟨.hbm, 125, rfl⟩
abbrev main_v92 : Ref sig .tc := ⟨.hbm, 126, rfl⟩
abbrev main_v93 : Ref sig .tc := ⟨.hbm, 127, rfl⟩
abbrev main_v94 : Ref sig .tc := ⟨.hbm, 128, rfl⟩
abbrev main_v95 : Ref sig .tc := ⟨.hbm, 129, rfl⟩
abbrev main_v96 : Ref sig .tc := ⟨.hbm, 130, rfl⟩
abbrev main_v97 : Ref sig .tc := ⟨.hbm, 131, rfl⟩
abbrev main_v98 : Ref sig .tc := ⟨.hbm, 132, rfl⟩
abbrev main_v99 : Ref sig .tc := ⟨.hbm, 133, rfl⟩
abbrev main_v100 : Ref sig .tc := ⟨.hbm, 134, rfl⟩
abbrev main_v101 : Ref sig .tc := ⟨.hbm, 135, rfl⟩
abbrev main_v102 : Ref sig .tc := ⟨.hbm, 136, rfl⟩
abbrev main_v103 : Ref sig .tc := ⟨.hbm, 137, rfl⟩
abbrev main_v104 : Ref sig .tc := ⟨.hbm, 138, rfl⟩
abbrev main_v105 : Ref sig .tc := ⟨.hbm, 139, rfl⟩
abbrev main_v106 : Ref sig .tc := ⟨.hbm, 140, rfl⟩
abbrev main_v107 : Ref sig .tc := ⟨.hbm, 141, rfl⟩
abbrev main_v108 : Ref sig .tc := ⟨.hbm, 142, rfl⟩
abbrev main_v109 : Ref sig .tc := ⟨.hbm, 143, rfl⟩
abbrev main_v110 : Ref sig .tc := ⟨.hbm, 144, rfl⟩
abbrev main_v111 : Ref sig .tc := ⟨.hbm, 145, rfl⟩
abbrev main_v112 : Ref sig .tc := ⟨.hbm, 146, rfl⟩
abbrev main_v113 : Ref sig .tc := ⟨.hbm, 147, rfl⟩
abbrev main_v114 : Ref sig .tc := ⟨.hbm, 148, rfl⟩
abbrev main_v115 : Ref sig .tc := ⟨.hbm, 149, rfl⟩
abbrev main_v116 : Ref sig .tc := ⟨.hbm, 150, rfl⟩
abbrev main_v117 : Ref sig .tc := ⟨.hbm, 151, rfl⟩
abbrev main_v118 : Ref sig .tc := ⟨.hbm, 152, rfl⟩
abbrev main_v119 : Ref sig .tc := ⟨.hbm, 153, rfl⟩
abbrev main_v120 : Ref sig .tc := ⟨.hbm, 154, rfl⟩
abbrev main_v121 : Ref sig .tc := ⟨.hbm, 155, rfl⟩
abbrev main_v122 : Ref sig .tc := ⟨.hbm, 156, rfl⟩
abbrev main_v123 : Ref sig .tc := ⟨.hbm, 157, rfl⟩
abbrev main_v124 : Ref sig .tc := ⟨.hbm, 158, rfl⟩
abbrev main_v125 : Ref sig .tc := ⟨.hbm, 159, rfl⟩
abbrev main_v126 : Ref sig .tc := ⟨.hbm, 160, rfl⟩
abbrev main_v127 : Ref sig .tc := ⟨.hbm, 161, rfl⟩
abbrev main_v128 : Ref sig .tc := ⟨.hbm, 162, rfl⟩
abbrev main_v129 : Ref sig .tc := ⟨.hbm, 163, rfl⟩
abbrev main_v130 : Ref sig .tc := ⟨.hbm, 164, rfl⟩
abbrev main_v131 : Ref sig .tc := ⟨.hbm, 165, rfl⟩
abbrev main_v132 : Ref sig .tc := ⟨.hbm, 166, rfl⟩
abbrev main_v133 : Ref sig .tc := ⟨.hbm, 167, rfl⟩
abbrev main_v134 : Ref sig .tc := ⟨.hbm, 168, rfl⟩
abbrev main_v135 : Ref sig .tc := ⟨.hbm, 169, rfl⟩
abbrev main_v136 : Ref sig .tc := ⟨.hbm, 170, rfl⟩
abbrev main_v137 : Ref sig .tc := ⟨.hbm, 171, rfl⟩
abbrev main_v138 : Ref sig .tc := ⟨.hbm, 172, rfl⟩
abbrev main_v139 : Ref sig .tc := ⟨.hbm, 173, rfl⟩
abbrev main_v140 : Ref sig .tc := ⟨.hbm, 174, rfl⟩
abbrev main_v141 : Ref sig .tc := ⟨.hbm, 175, rfl⟩
abbrev main_v142 : Ref sig .tc := ⟨.hbm, 176, rfl⟩
abbrev main_v143 : Ref sig .tc := ⟨.hbm, 177, rfl⟩
abbrev main_v144 : Ref sig .tc := ⟨.hbm, 178, rfl⟩
abbrev main_v145 : Ref sig .tc := ⟨.hbm, 179, rfl⟩
abbrev main_v146 : Ref sig .tc := ⟨.hbm, 180, rfl⟩
abbrev main_v147 : Ref sig .tc := ⟨.hbm, 181, rfl⟩
abbrev main_v148 : Ref sig .tc := ⟨.hbm, 182, rfl⟩
abbrev main_v149 : Ref sig .tc := ⟨.hbm, 183, rfl⟩
abbrev main_v150 : Ref sig .tc := ⟨.hbm, 184, rfl⟩
abbrev main_v151 : Ref sig .tc := ⟨.hbm, 185, rfl⟩
abbrev main_v152 : Ref sig .tc := ⟨.hbm, 186, rfl⟩
abbrev main_v153 : Ref sig .tc := ⟨.hbm, 187, rfl⟩
abbrev main_v154 : Ref sig .tc := ⟨.hbm, 188, rfl⟩
abbrev main_v155 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_v160 : Ref sig .tc := ⟨.hbm, 194, rfl⟩
abbrev main_v161 : Ref sig .tc := ⟨.hbm, 195, rfl⟩
abbrev main_v162 : Ref sig .tc := ⟨.hbm, 196, rfl⟩
abbrev main_v163 : Ref sig .tc := ⟨.hbm, 197, rfl⟩
abbrev main_v164 : Ref sig .tc := ⟨.hbm, 198, rfl⟩
abbrev main_v165 : Ref sig .tc := ⟨.hbm, 199, rfl⟩
abbrev main_v166 : Ref sig .tc := ⟨.hbm, 200, rfl⟩
abbrev main_v167 : Ref sig .tc := ⟨.hbm, 201, rfl⟩
abbrev main_v168 : Ref sig .tc := ⟨.hbm, 202, rfl⟩
abbrev main_v169 : Ref sig .tc := ⟨.hbm, 203, rfl⟩
abbrev main_v170 : Ref sig .tc := ⟨.hbm, 204, rfl⟩
abbrev main_v171 : Ref sig .tc := ⟨.hbm, 205, rfl⟩
abbrev main_v172 : Ref sig .tc := ⟨.hbm, 206, rfl⟩
abbrev main_v173 : Ref sig .tc := ⟨.hbm, 207, rfl⟩
abbrev main_v174 : Ref sig .tc := ⟨.hbm, 208, rfl⟩
abbrev main_v175 : Ref sig .tc := ⟨.hbm, 209, rfl⟩
abbrev main_v176 : Ref sig .tc := ⟨.hbm, 210, rfl⟩
abbrev main_v177 : Ref sig .tc := ⟨.hbm, 211, rfl⟩
abbrev main_v178 : Ref sig .tc := ⟨.hbm, 212, rfl⟩
abbrev main_v179 : Ref sig .tc := ⟨.hbm, 213, rfl⟩
abbrev main_v180 : Ref sig .tc := ⟨.hbm, 214, rfl⟩
abbrev main_v181 : Ref sig .tc := ⟨.hbm, 215, rfl⟩
abbrev main_v182 : Ref sig .tc := ⟨.hbm, 216, rfl⟩
abbrev main_v183 : Ref sig .tc := ⟨.hbm, 217, rfl⟩
abbrev main_v184 : Ref sig .tc := ⟨.hbm, 218, rfl⟩
abbrev main_v185 : Ref sig .tc := ⟨.hbm, 219, rfl⟩
abbrev main_v186 : Ref sig .tc := ⟨.hbm, 220, rfl⟩
abbrev main_v187 : Ref sig .tc := ⟨.hbm, 221, rfl⟩
abbrev main_v188 : Ref sig .tc := ⟨.hbm, 222, rfl⟩
abbrev main_v189 : Ref sig .tc := ⟨.hbm, 223, rfl⟩
abbrev main_v190 : Ref sig .tc := ⟨.hbm, 224, rfl⟩
abbrev main_v191 : Ref sig .tc := ⟨.hbm, 225, rfl⟩
abbrev main_v192 : Ref sig .tc := ⟨.hbm, 226, rfl⟩
abbrev main_v193 : Ref sig .tc := ⟨.hbm, 227, rfl⟩
abbrev main_v194 : Ref sig .tc := ⟨.hbm, 228, rfl⟩
abbrev main_v195 : Ref sig .tc := ⟨.hbm, 229, rfl⟩
abbrev main_v196 : Ref sig .tc := ⟨.hbm, 230, rfl⟩
abbrev main_v197 : Ref sig .tc := ⟨.hbm, 231, rfl⟩
abbrev main_v198 : Ref sig .tc := ⟨.hbm, 232, rfl⟩
abbrev main_v199 : Ref sig .tc := ⟨.hbm, 233, rfl⟩
abbrev main_v200 : Ref sig .tc := ⟨.hbm, 234, rfl⟩
abbrev main_v201 : Ref sig .tc := ⟨.hbm, 235, rfl⟩
abbrev main_v202 : Ref sig .tc := ⟨.hbm, 236, rfl⟩
abbrev main_v203 : Ref sig .tc := ⟨.hbm, 237, rfl⟩
abbrev main_v204 : Ref sig .tc := ⟨.hbm, 238, rfl⟩
abbrev main_v205 : Ref sig .tc := ⟨.hbm, 239, rfl⟩
abbrev main_v206 : Ref sig .tc := ⟨.hbm, 240, rfl⟩
abbrev main_v207 : Ref sig .tc := ⟨.hbm, 241, rfl⟩
abbrev main_v208 : Ref sig .tc := ⟨.hbm, 242, rfl⟩
abbrev main_v209 : Ref sig .tc := ⟨.hbm, 243, rfl⟩
abbrev main_v210 : Ref sig .tc := ⟨.hbm, 244, rfl⟩
abbrev main_v211 : Ref sig .tc := ⟨.hbm, 245, rfl⟩
abbrev main_v212 : Ref sig .tc := ⟨.hbm, 246, rfl⟩
abbrev main_v213 : Ref sig .tc := ⟨.hbm, 247, rfl⟩
abbrev main_v214 : Ref sig .tc := ⟨.hbm, 248, rfl⟩
abbrev main_v215 : Ref sig .tc := ⟨.hbm, 249, rfl⟩
abbrev main_v216 : Ref sig .tc := ⟨.hbm, 250, rfl⟩
abbrev main_v217 : Ref sig .tc := ⟨.hbm, 251, rfl⟩
abbrev main_v218 : Ref sig .tc := ⟨.hbm, 252, rfl⟩
abbrev main_v219 : Ref sig .tc := ⟨.hbm, 253, rfl⟩
abbrev main_v220 : Ref sig .tc := ⟨.hbm, 254, rfl⟩
abbrev main_v221 : Ref sig .tc := ⟨.hbm, 255, rfl⟩
abbrev main_v222 : Ref sig .tc := ⟨.hbm, 256, rfl⟩
abbrev main_v223 : Ref sig .tc := ⟨.hbm, 257, rfl⟩
abbrev main_v224 : Ref sig .tc := ⟨.hbm, 258, rfl⟩
abbrev main_v225 : Ref sig .tc := ⟨.hbm, 259, rfl⟩
abbrev main_v226 : Ref sig .tc := ⟨.hbm, 260, rfl⟩
abbrev main_v227 : Ref sig .tc := ⟨.hbm, 261, rfl⟩
abbrev main_v228 : Ref sig .tc := ⟨.hbm, 262, rfl⟩
abbrev main_v229 : Ref sig .tc := ⟨.hbm, 263, rfl⟩
abbrev main_v230 : Ref sig .tc := ⟨.hbm, 264, rfl⟩
abbrev main_v231 : Ref sig .tc := ⟨.hbm, 265, rfl⟩
abbrev main_v232 : Ref sig .tc := ⟨.hbm, 266, rfl⟩
abbrev main_v233 : Ref sig .tc := ⟨.hbm, 267, rfl⟩
abbrev main_v234 : Ref sig .tc := ⟨.hbm, 268, rfl⟩
abbrev main_v235 : Ref sig .tc := ⟨.hbm, 269, rfl⟩
abbrev main_v236 : Ref sig .tc := ⟨.hbm, 270, rfl⟩
abbrev main_v237 : Ref sig .tc := ⟨.hbm, 271, rfl⟩
abbrev main_v238 : Ref sig .tc := ⟨.hbm, 272, rfl⟩
abbrev main_v239 : Ref sig .tc := ⟨.hbm, 273, rfl⟩
abbrev main_v240 : Ref sig .tc := ⟨.hbm, 274, rfl⟩
abbrev main_v241 : Ref sig .tc := ⟨.hbm, 275, rfl⟩
abbrev main_v242 : Ref sig .tc := ⟨.hbm, 276, rfl⟩
abbrev main_v243 : Ref sig .tc := ⟨.hbm, 277, rfl⟩
abbrev main_v244 : Ref sig .tc := ⟨.hbm, 278, rfl⟩
abbrev main_v245 : Ref sig .tc := ⟨.hbm, 279, rfl⟩
abbrev main_v246 : Ref sig .tc := ⟨.hbm, 280, rfl⟩
abbrev main_v247 : Ref sig .tc := ⟨.hbm, 281, rfl⟩
abbrev main_v248 : Ref sig .tc := ⟨.hbm, 282, rfl⟩
abbrev main_v249 : Ref sig .tc := ⟨.hbm, 283, rfl⟩
abbrev main_v250 : Ref sig .tc := ⟨.hbm, 284, rfl⟩
abbrev main_v251 : Ref sig .tc := ⟨.hbm, 285, rfl⟩
abbrev main_v252 : Ref sig .tc := ⟨.hbm, 286, rfl⟩
abbrev main_v253 : Ref sig .tc := ⟨.hbm, 287, rfl⟩
abbrev main_v254 : Ref sig .tc := ⟨.hbm, 288, rfl⟩
abbrev main_v255 : Ref sig .tc := ⟨.hbm, 289, rfl⟩
abbrev main_v256 : Ref sig .tc := ⟨.hbm, 290, rfl⟩
abbrev main_v257 : Ref sig .tc := ⟨.hbm, 291, rfl⟩
abbrev main_v258 : Ref sig .tc := ⟨.hbm, 292, rfl⟩
abbrev main_v259 : Ref sig .tc := ⟨.hbm, 293, rfl⟩
abbrev main_v260 : Ref sig .tc := ⟨.hbm, 294, rfl⟩
abbrev main_v261 : Ref sig .tc := ⟨.hbm, 295, rfl⟩
abbrev main_v262 : Ref sig .tc := ⟨.hbm, 296, rfl⟩
abbrev main_v263 : Ref sig .tc := ⟨.hbm, 297, rfl⟩
abbrev main_v264 : Ref sig .tc := ⟨.hbm, 298, rfl⟩
abbrev main_v265 : Ref sig .tc := ⟨.hbm, 299, rfl⟩
abbrev main_v266 : Ref sig .tc := ⟨.hbm, 300, rfl⟩
abbrev main_v267 : Ref sig .tc := ⟨.hbm, 301, rfl⟩
abbrev main_v268 : Ref sig .tc := ⟨.hbm, 302, rfl⟩
abbrev main_v269 : Ref sig .tc := ⟨.hbm, 303, rfl⟩
abbrev main_v270 : Ref sig .tc := ⟨.hbm, 304, rfl⟩
abbrev main_v271 : Ref sig .tc := ⟨.hbm, 305, rfl⟩
abbrev main_v272 : Ref sig .tc := ⟨.hbm, 306, rfl⟩
abbrev main_v273 : Ref sig .tc := ⟨.hbm, 307, rfl⟩
abbrev main_v274 : Ref sig .tc := ⟨.hbm, 308, rfl⟩
abbrev main_v275 : Ref sig .tc := ⟨.hbm, 309, rfl⟩
abbrev main_v276 : Ref sig .tc := ⟨.hbm, 310, rfl⟩
abbrev main_v277 : Ref sig .tc := ⟨.hbm, 311, rfl⟩
abbrev main_v278 : Ref sig .tc := ⟨.hbm, 312, rfl⟩
abbrev main_v279 : Ref sig .tc := ⟨.hbm, 313, rfl⟩
abbrev main_v280 : Ref sig .tc := ⟨.hbm, 314, rfl⟩
abbrev main_v281 : Ref sig .tc := ⟨.hbm, 315, rfl⟩
abbrev main_v282 : Ref sig .tc := ⟨.hbm, 316, rfl⟩
abbrev main_v283 : Ref sig .tc := ⟨.hbm, 317, rfl⟩
abbrev main_v284 : Ref sig .tc := ⟨.hbm, 318, rfl⟩
abbrev main_v285 : Ref sig .tc := ⟨.hbm, 319, rfl⟩
abbrev main_v286 : Ref sig .tc := ⟨.hbm, 320, rfl⟩
abbrev main_v287 : Ref sig .tc := ⟨.hbm, 321, rfl⟩
abbrev main_v288 : Ref sig .tc := ⟨.hbm, 322, rfl⟩
abbrev main_v289 : Ref sig .tc := ⟨.hbm, 323, rfl⟩
abbrev main_v290 : Ref sig .tc := ⟨.hbm, 324, rfl⟩
abbrev main_v291 : Ref sig .tc := ⟨.hbm, 325, rfl⟩
abbrev main_v292 : Ref sig .tc := ⟨.hbm, 326, rfl⟩
abbrev main_v293 : Ref sig .tc := ⟨.hbm, 327, rfl⟩
abbrev main_v294 : Ref sig .tc := ⟨.hbm, 328, rfl⟩
abbrev main_v295 : Ref sig .tc := ⟨.hbm, 329, rfl⟩
abbrev main_v296 : Ref sig .tc := ⟨.hbm, 330, rfl⟩
abbrev main_v297 : Ref sig .tc := ⟨.hbm, 331, rfl⟩
abbrev main_v298 : Ref sig .tc := ⟨.hbm, 332, rfl⟩
abbrev main_v299 : Ref sig .tc := ⟨.hbm, 333, rfl⟩
abbrev main_v300 : Ref sig .tc := ⟨.hbm, 334, rfl⟩
abbrev main_v301 : Ref sig .tc := ⟨.hbm, 335, rfl⟩
abbrev main_v302 : Ref sig .tc := ⟨.hbm, 336, rfl⟩
abbrev main_cst_9 : Ref sig .tc := ⟨.hbm, 337, rfl⟩
abbrev main_v303 : Ref sig .tc := ⟨.hbm, 338, rfl⟩
abbrev main_v304 : Ref sig .tc := ⟨.hbm, 339, rfl⟩
abbrev main_cst_10 : Ref sig .tc := ⟨.hbm, 340, rfl⟩
abbrev main_v305 : Ref sig .tc := ⟨.hbm, 341, rfl⟩
abbrev main_v306 : Ref sig .tc := ⟨.hbm, 342, rfl⟩
abbrev main_v307 : Ref sig .tc := ⟨.hbm, 343, rfl⟩
abbrev main_v308 : Ref sig .tc := ⟨.hbm, 344, rfl⟩
abbrev main_v309 : Ref sig .tc := ⟨.hbm, 345, rfl⟩
abbrev main_cst_11 : Ref sig .tc := ⟨.hbm, 346, rfl⟩
abbrev main_v310 : Ref sig .tc := ⟨.hbm, 347, rfl⟩
abbrev main_v311 : Ref sig .tc := ⟨.hbm, 348, rfl⟩
abbrev main_cst_12 : Ref sig .tc := ⟨.hbm, 349, rfl⟩
abbrev main_v312 : Ref sig .tc := ⟨.hbm, 350, rfl⟩
abbrev main_v313 : Ref sig .tc := ⟨.hbm, 351, rfl⟩
abbrev main_v314 : Ref sig .tc := ⟨.hbm, 352, rfl⟩
abbrev main_v315 : Ref sig .tc := ⟨.hbm, 353, rfl⟩
abbrev main_cst_13 : Ref sig .tc := ⟨.hbm, 354, rfl⟩
abbrev main_v316 : Ref sig .tc := ⟨.hbm, 355, rfl⟩
abbrev main_v317 : Ref sig .tc := ⟨.hbm, 356, rfl⟩
abbrev main_v318 : Ref sig .tc := ⟨.hbm, 357, rfl⟩
abbrev main_v319 : Ref sig .tc := ⟨.hbm, 358, rfl⟩
abbrev main_v320 : Ref sig .tc := ⟨.hbm, 359, rfl⟩
abbrev main_v321 : Ref sig .tc := ⟨.hbm, 360, rfl⟩
abbrev main_v322 : Ref sig .tc := ⟨.hbm, 361, rfl⟩
abbrev main_v323 : Ref sig .tc := ⟨.hbm, 362, rfl⟩
abbrev main_v324 : Ref sig .tc := ⟨.hbm, 363, rfl⟩
abbrev main_v325 : Ref sig .tc := ⟨.hbm, 364, rfl⟩
abbrev main_v326 : Ref sig .tc := ⟨.hbm, 365, rfl⟩
abbrev main_call1_v0 : Ref sig .tc := ⟨.hbm, 366, rfl⟩
abbrev main_call1_v1 : Ref sig .tc := ⟨.hbm, 367, rfl⟩
abbrev main_call1_cst : Ref sig .tc := ⟨.hbm, 368, rfl⟩
abbrev main_call1_v2 : Ref sig .tc := ⟨.hbm, 369, rfl⟩
abbrev main_call1_v3 : Ref sig .tc := ⟨.hbm, 370, rfl⟩
abbrev main_call1_cst_0 : Ref sig .tc := ⟨.hbm, 371, rfl⟩
abbrev main_call1_v4 : Ref sig .tc := ⟨.hbm, 372, rfl⟩
abbrev main_call1_v5 : Ref sig .tc := ⟨.hbm, 373, rfl⟩
abbrev main_v327 : Ref sig .tc := ⟨.hbm, 374, rfl⟩
abbrev main_v328 : Ref sig .tc := ⟨.hbm, 375, rfl⟩
abbrev main_v329 : Ref sig .tc := ⟨.hbm, 376, rfl⟩
abbrev main_v330 : Ref sig .tc := ⟨.hbm, 377, rfl⟩
abbrev main_v331 : Ref sig .tc := ⟨.hbm, 378, rfl⟩
abbrev main_cst_14 : Ref sig .tc := ⟨.hbm, 379, rfl⟩
abbrev main_v332 : Ref sig .tc := ⟨.hbm, 380, rfl⟩
abbrev main_v333 : Ref sig .tc := ⟨.hbm, 381, rfl⟩
abbrev main_cst_15 : Ref sig .tc := ⟨.hbm, 382, rfl⟩
abbrev main_v334 : Ref sig .tc := ⟨.hbm, 383, rfl⟩
abbrev main_v335 : Ref sig .tc := ⟨.hbm, 384, rfl⟩
abbrev main_v336 : Ref sig .tc := ⟨.hbm, 385, rfl⟩
abbrev main_v337 : Ref sig .tc := ⟨.hbm, 386, rfl⟩
abbrev main_v338 : Ref sig .tc := ⟨.hbm, 387, rfl⟩
abbrev main_cst_16 : Ref sig .tc := ⟨.hbm, 388, rfl⟩
abbrev main_v339 : Ref sig .tc := ⟨.hbm, 389, rfl⟩
abbrev main_v340 : Ref sig .tc := ⟨.hbm, 390, rfl⟩
abbrev main_cst_17 : Ref sig .tc := ⟨.hbm, 391, rfl⟩
abbrev main_v341 : Ref sig .tc := ⟨.hbm, 392, rfl⟩
abbrev main_v342 : Ref sig .tc := ⟨.hbm, 393, rfl⟩
abbrev main_v343 : Ref sig .tc := ⟨.hbm, 394, rfl⟩
abbrev main_v344 : Ref sig .tc := ⟨.hbm, 395, rfl⟩
abbrev main_v345 : Ref sig .tc := ⟨.hbm, 396, rfl⟩
abbrev main_cst_18 : Ref sig .tc := ⟨.hbm, 397, rfl⟩
abbrev main_v346 : Ref sig .tc := ⟨.hbm, 398, rfl⟩
abbrev main_v347 : Ref sig .tc := ⟨.hbm, 399, rfl⟩
abbrev main_cst_19 : Ref sig .tc := ⟨.hbm, 400, rfl⟩
abbrev main_v348 : Ref sig .tc := ⟨.hbm, 401, rfl⟩
abbrev main_v349 : Ref sig .tc := ⟨.hbm, 402, rfl⟩
abbrev main_v350 : Ref sig .tc := ⟨.hbm, 403, rfl⟩
abbrev main_v351 : Ref sig .tc := ⟨.hbm, 404, rfl⟩
abbrev main_cst_20 : Ref sig .tc := ⟨.hbm, 405, rfl⟩
abbrev main_v352 : Ref sig .tc := ⟨.hbm, 406, rfl⟩
abbrev main_v353 : Ref sig .tc := ⟨.hbm, 407, rfl⟩
abbrev main_v354 : Ref sig .tc := ⟨.hbm, 408, rfl⟩
abbrev main_v355 : Ref sig .tc := ⟨.hbm, 409, rfl⟩
abbrev main_v356 : Ref sig .tc := ⟨.hbm, 410, rfl⟩
abbrev main_v357 : Ref sig .tc := ⟨.hbm, 411, rfl⟩
abbrev main_v358 : Ref sig .tc := ⟨.hbm, 412, rfl⟩
abbrev main_v359 : Ref sig .tc := ⟨.hbm, 413, rfl⟩
abbrev main_v360 : Ref sig .tc := ⟨.hbm, 414, rfl⟩
abbrev main_v361 : Ref sig .tc := ⟨.hbm, 415, rfl⟩
abbrev main_v362 : Ref sig .tc := ⟨.hbm, 416, rfl⟩

abbrev nD : Nat := 1
abbrev τ : Topo := Topo.v7x

variable {F : FTy → Type} [FloatOps F]
-- ==== Kernel6.lean ====
abbrev S4x1024 : Shape := ⟨2, ![4, 1024]⟩
abbrev S4x1024x6144 : Shape := ⟨3, ![4, 1024, 6144]⟩
abbrev S4x6144 : Shape := ⟨2, ![4, 6144]⟩
abbrev S4x1x6144 : Shape := ⟨3, ![4, 1, 6144]⟩
abbrev S4x4x6144 : Shape := ⟨3, ![4, 4, 6144]⟩
abbrev S1x1024x1536 : Shape := ⟨3, ![1, 1024, 1536]⟩
abbrev S1x1x1536 : Shape := ⟨3, ![1, 1, 1536]⟩
abbrev S1x4x1536 : Shape := ⟨3, ![1, 4, 1536]⟩
abbrev S1024x1536 : Shape := ⟨2, ![1024, 1536]⟩
abbrev S4x1536 : Shape := ⟨2, ![4, 1536]⟩
abbrev S1x1536 : Shape := ⟨2, ![1, 1536]⟩
abbrev S4x4x6x1024 : Shape := ⟨4, ![4, 4, 6, 1024]⟩

abbrev nBuf : Space → Nat
  | .hbm => 6
  | .vmem => 7
  | .smem => 0
  | _ => 0

abbrev bufTy : (tb : Table) → Fin (tcTables nBuf tb) → BufTy
  | .hbm, ⟨0, _⟩ => ⟨S4x1024, .f32⟩
  | .hbm, ⟨1, _⟩ => ⟨S4x1024x6144, .f32⟩
  | .hbm, ⟨2, _⟩ => ⟨S4x6144, .f32⟩
  | .hbm, ⟨3, _⟩ => ⟨S4x1x6144, .f32⟩
  | .hbm, ⟨4, _⟩ => ⟨S4x4x6144, .f32⟩
  | .hbm, ⟨5, _⟩ => ⟨S4x4x6x1024, .f32⟩
  | .local _ .vmem, ⟨0, _⟩ => ⟨S4x1024, .f32⟩
  | .local _ .vmem, ⟨1, _⟩ => ⟨S1x1024x1536, .f32⟩
  | .local _ .vmem, ⟨2, _⟩ => ⟨S1x1024x1536, .f32⟩
  | .local _ .vmem, ⟨3, _⟩ => ⟨S1x1x1536, .f32⟩
  | .local _ .vmem, ⟨4, _⟩ => ⟨S1x1x1536, .f32⟩
  | .local _ .vmem, ⟨5, _⟩ => ⟨S1x4x1536, .f32⟩
  | .local _ .vmem, ⟨6, _⟩ => ⟨S1x4x1536, .f32⟩
  | _, _ => ⟨S4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S4x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x4x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S4x1024 : Shape := ⟨2, ![4, 1024]⟩
abbrev S4x1024x6144 : Shape := ⟨3, ![4, 1024, 6144]⟩
abbrev S4x6144 : Shape := ⟨2, ![4, 6144]⟩
abbrev S_ : Shape := ⟨0, ![]⟩
abbrev S1x1024x6144 : Shape := ⟨3, ![1, 1024, 6144]⟩
abbrev S1024x6144 : Shape := ⟨2, ![1024, 6144]⟩
abbrev S1x6144 : Shape := ⟨2, ![1, 6144]⟩
abbrev S6144 : Shape := ⟨1, ![6144]⟩
abbrev S1x4x6144 : Shape := ⟨3, ![1, 4, 6144]⟩
abbrev S4x4x6144 : Shape := ⟨3, ![4, 4, 6144]⟩
abbrev S4x4x6x1024 : Shape := ⟨4, ![4, 4, 6, 1024]⟩

abbrev nBuf : Space → Nat
  | .hbm => 50
  | .vmem => 0
  | .smem => 0
  | _ => 0

abbrev bufTy : (tb : Table) → Fin (tcTables nBuf tb) → BufTy
  | .hbm, ⟨0, _⟩ => ⟨S4x1024, .f32⟩
  | .hbm, ⟨1, _⟩ => ⟨S4x1024x6144, .f32⟩
  | .hbm, ⟨2, _⟩ => ⟨S4x6144, .f32⟩
  | .hbm, ⟨3, _⟩ => ⟨S4x1024, .f32⟩
  | .hbm, ⟨4, _⟩ => ⟨S4x1024, .f32⟩
  | .hbm, ⟨5, _⟩ => ⟨S_, .f32⟩
  | .hbm, ⟨6, _⟩ => ⟨S4x1024, .f32⟩
  | .hbm, ⟨7, _⟩ => ⟨S4x1024, .f32⟩
  | .hbm, ⟨8, _⟩ => ⟨S_, .f32⟩
  | .hbm, ⟨9, _⟩ => ⟨S4x1024, .f32⟩
  | .hbm, ⟨10, _⟩ => ⟨S4x1024, .f32⟩
  | .hbm, ⟨11, _⟩ => ⟨S4x1024, .f32⟩
  | .hbm, ⟨12, _⟩ => ⟨S1x1024x6144, .f32⟩
  | .hbm, ⟨13, _⟩ => ⟨S1024x6144, .f32⟩
  | .hbm, ⟨14, _⟩ => ⟨S4x6144, .f32⟩
  | .hbm, ⟨15, _⟩ => ⟨S1x6144, .f32⟩
  | .hbm, ⟨16, _⟩ => ⟨S6144, .f32⟩
  | .hbm, ⟨17, _⟩ => ⟨S1x6144, .f32⟩
  | .hbm, ⟨18, _⟩ => ⟨S4x6144, .f32⟩
  | .hbm, ⟨19, _⟩ => ⟨S4x6144, .f32⟩
  | .hbm, ⟨20, _⟩ => ⟨S1x1024x6144, .f32⟩
  | .hbm, ⟨21, _⟩ => ⟨S1024x6144, .f32⟩
  | .hbm, ⟨22, _⟩ => ⟨S4x6144, .f32⟩
  | .hbm, ⟨23, _⟩ => ⟨S1x6144, .f32⟩
  | .hbm, ⟨24, _⟩ => ⟨S6144, .f32⟩
  | .hbm, ⟨25, _⟩ => ⟨S1x6144, .f32⟩
  | .hbm, ⟨26, _⟩ => ⟨S4x6144, .f32⟩
  | .hbm, ⟨27, _⟩ => ⟨S4x6144, .f32⟩
  | .hbm, ⟨28, _⟩ => ⟨S1x1024x6144, .f32⟩
  | .hbm, ⟨29, _⟩ => ⟨S1024x6144, .f32⟩
  | .hbm, ⟨30, _⟩ => ⟨S4x6144, .f32⟩
  | .hbm, ⟨31, _⟩ => ⟨S1x6144, .f32⟩
  | .hbm, ⟨32, _⟩ => ⟨S6144, .f32⟩
  | .hbm, ⟨33, _⟩ => ⟨S1x6144, .f32⟩
  | .hbm, ⟨34, _⟩ => ⟨S4x6144, .f32⟩
  | .hbm, ⟨35, _⟩ => ⟨S4x6144, .f32⟩
  | .hbm, ⟨36, _⟩ => ⟨S1x1024x6144, .f32⟩
  | .hbm, ⟨37, _⟩ => ⟨S1024x6144, .f32⟩
  | .hbm, ⟨38, _⟩ => ⟨S4x6144, .f32⟩
  | .hbm, ⟨39, _⟩ => ⟨S1x6144, .f32⟩
  | .hbm, ⟨40, _⟩ => ⟨S6144, .f32⟩
  | .hbm, ⟨41, _⟩ => ⟨S1x6144, .f32⟩
  | .hbm, ⟨42, _⟩ => ⟨S4x6144, .f32⟩
  | .hbm, ⟨43, _⟩ => ⟨S4x6144, .f32⟩
  | .hbm, ⟨44, _⟩ => ⟨S1x4x6144, .f32⟩
  | .hbm, ⟨45, _⟩ => ⟨S1x4x6144, .f32⟩
  | .hbm, ⟨46, _⟩ => ⟨S1x4x6144, .f32⟩
  | .hbm, ⟨47, _⟩ => ⟨S1x4x6144, .f32⟩
  | .hbm, ⟨48, _⟩ => ⟨S4x4x6144, .f32⟩
  | .hbm, ⟨49, _⟩ => ⟨S4x4x6x1024, .f32⟩
  | _, _ => ⟨S4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Kernel4.lean ====
abbrev S288 : Shape := ⟨1, ![288]⟩
abbrev S1 : Shape := ⟨1, ![1]⟩
abbrev S73728x512 : Shape := ⟨2, ![73728, 512]⟩
abbrev S32x1024x512 : Shape := ⟨3, ![32, 1024, 512]⟩
abbrev S32x512x1024 : Shape := ⟨3, ![32, 512, 1024]⟩
abbrev S73728x1024 : Shape := ⟨2, ![73728, 1024]⟩
abbrev S256x512 : Shape := ⟨2, ![256, 512]⟩
abbrev S1x1024x512 : Shape := ⟨3, ![1, 1024, 512]⟩
abbrev S1x512x1024 : Shape := ⟨3, ![1, 512, 1024]⟩
abbrev S256x1024 : Shape := ⟨2, ![256, 1024]⟩
abbrev S1024x1024 : Shape := ⟨2, ![1024, 1024]⟩
abbrev S512x1024 : Shape := ⟨2, ![512, 1024]⟩
abbrev S1024x512 : Shape := ⟨2, ![1024, 512]⟩

abbrev nBuf : Space → Nat
  | .hbm => 5
  | .vmem => 12
  | .smem => 2
  | _ => 0

abbrev bufTy : (tb : Table) → Fin (tcTables nBuf tb) → BufTy
  | .hbm, ⟨0, _⟩ => ⟨S73728x512, .i32⟩
  | .hbm, ⟨1, _⟩ => ⟨S32x1024x512, .f32⟩
  | .hbm, ⟨2, _⟩ => ⟨S32x1024x512, .f32⟩
  | .hbm, ⟨3, _⟩ => ⟨S32x512x1024, .f32⟩
  | .hbm, ⟨4, _⟩ => ⟨S73728x1024, .bf16⟩
  | .local _ .vmem, ⟨0, _⟩ => ⟨S256x512, .i32⟩
  | .local _ .vmem, ⟨1, _⟩ => ⟨S256x512, .i32⟩
  | .local _ .vmem, ⟨2, _⟩ => ⟨S1x1024x512, .f32⟩
  | .local _ .vmem, ⟨3, _⟩ => ⟨S1x1024x512, .f32⟩
  | .local _ .vmem, ⟨4, _⟩ => ⟨S1x1024x512, .f32⟩
  | .local _ .vmem, ⟨5, _⟩ => ⟨S1x1024x512, .f32⟩
  | .local _ .vmem, ⟨6, _⟩ => ⟨S1x512x1024, .f32⟩
  | .local _ .vmem, ⟨7, _⟩ => ⟨S1x512x1024, .f32⟩
  | .local _ .vmem, ⟨8, _⟩ => ⟨S256x1024, .bf16⟩
  | .local _ .vmem, ⟨9, _⟩ => ⟨S256x1024, .bf16⟩
  | .local _ .vmem, ⟨10, _⟩ => ⟨S1024x1024, .bf16⟩
  | .local _ .vmem, ⟨11, _⟩ => ⟨S512x1024, .bf16⟩
  | .local _ .smem, ⟨0, _⟩ => ⟨S288, .i32⟩
  | .local _ .smem, ⟨1, _⟩ => ⟨S1, .i32⟩
  | _, _ => ⟨S73728x512, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_arg5 : Ref sig .tc := ⟨.hbm, 3, rfl⟩
abbrev main_v0 : Ref sig .tc := ⟨.hbm, 4, rfl⟩
abbrev main_arg0 : Ref sig .tc := ⟨.smem, 0, rfl⟩
abbrev main_arg1 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![288], ![false]⟩

abbrev pre0 : Pipeline.Prefetch sig := ⟨2, ![main_arg0.idx, main_arg1.idx], fun | 0 => main_arg0.names | 1 => main_arg1.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 1 → Nat :=
  let arg0 : BitVec 32 := BitVec.ofNat 32 (i 0).val
  let c1_i32 : BitVec 32 := 1#32
  let v4 : BitVec 32 := Scalar.subi arg0 c1_i32
  let c0_i32_0 : BitVec 32 := 0#32
  let v5 : BitVec 32 := Scalar.maxsi v4 c0_i32_0
  let v6 : Index := Scalar.indexCast v5
  ![v6.toNat]
def k0_off3 (i : grid0.Coords) : Fin 1 → Nat :=
  let arg0 : BitVec 32 := BitVec.ofNat 32 (i 0).val
  let v9 : Index := Scalar.indexCast arg0
  ![v9.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S288) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg0 v1
  let c0_i32 : BitVec 32 := 0#32
  let c0_i32_0 : BitVec 32 := 0#32
  ![v2.toNat, c0_i32.toNat]

abbrev stage0_0 : Fin 2 → Memref sig .tc .vmem S256x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference4Ideal.lean ====
abbrev S288 : Shape := ⟨1, ![288]⟩
abbrev S1 : Shape := ⟨1, ![1]⟩
abbrev S73728x512 : Shape := ⟨2, ![73728, 512]⟩
abbrev S32x1024x512 : Shape := ⟨3, ![32, 1024, 512]⟩
abbrev S32x512x1024 : Shape := ⟨3, ![32, 512, 1024]⟩
abbrev S73728x512x2 : Shape := ⟨3, ![73728, 512, 2]⟩
abbrev S73728x512x1 : Shape := ⟨3, ![73728, 512, 1]⟩
abbrev S73728x1024 : Shape := ⟨2, ![73728, 1024]⟩
abbrev S288x256x1024 : Shape := ⟨3, ![288, 256, 1024]⟩
abbrev S_ : Shape := ⟨0, ![]⟩
abbrev S1x256x1024 : Shape := ⟨3, ![1, 256, 1024]⟩
abbrev S256x1024 : Shape := ⟨2, ![256, 1024]⟩
abbrev S1x1024x512 : Shape := ⟨3, ![1, 1024, 512]⟩
abbrev S1024x512 : Shape := ⟨2, ![1024, 512]⟩
abbrev S256x512 : Shape := ⟨2, ![256, 512]⟩
abbrev S1x512x1024 : Shape := ⟨3, ![1, 512, 1024]⟩
abbrev S512x1024 : Shape := ⟨2, ![512, 1024]⟩

abbrev nBuf : Space → Nat
  | .hbm => 122
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x512, .i32⟩
  | .hbm, ⟨3, _⟩ => ⟨S32x1024x512, .f32⟩
  | .hbm, ⟨4, _⟩ => ⟨S32x1024x512, .f32⟩
  | .hbm, ⟨5, _⟩ => ⟨S32x512x1024, .f32⟩
  | .hbm, ⟨6, _⟩ => ⟨S73728x512x2, .bf16⟩
  | .hbm, ⟨7, _⟩ => ⟨S73728x512x2, .f32⟩
  | .hbm, ⟨8, _⟩ => ⟨S73728x512x1, .f32⟩
  | .hbm, ⟨9, _⟩ => ⟨S73728x512, .f32⟩
  | .hbm, ⟨10, _⟩ => ⟨S73728x512x1, .f32⟩
  | .hbm, ⟨11, _⟩ => ⟨S73728x512, .f32⟩
  | .hbm, ⟨12, _⟩ => ⟨S73728x1024, .f32⟩
  | .hbm, ⟨13, _⟩ => ⟨S288x256x1024, .f32⟩
  | .hbm, ⟨14, _⟩ => ⟨S_, .f32⟩
  | .hbm, ⟨15, _⟩ => ⟨S288x256x1024, .f32⟩
  | .hbm, ⟨16, _⟩ => ⟨S_, .i32⟩
  | .hbm, ⟨17, _⟩ => ⟨S288x256x1024, .f32⟩
  | .hbm, ⟨18, _⟩ => ⟨S288, .i32⟩
  | .hbm, ⟨19, _⟩ => ⟨S32x1024x512, .f32⟩
  | .hbm, ⟨20, _⟩ => ⟨S32x1024x512, .f32⟩
  | .hbm, ⟨21, _⟩ => ⟨S32x512x1024, .f32⟩
  | .hbm, ⟨22, _⟩ => ⟨S_, .i32⟩
  | .hbm, ⟨23, _⟩ => ⟨S288x256x1024, .f32⟩
  | .hbm, ⟨24, _⟩ => ⟨S_, .i32⟩
  | .hbm, ⟨25, _⟩ => ⟨S_, .i1⟩
  | .hbm, ⟨26, _⟩ => ⟨S_, .i32⟩
  | .hbm, ⟨27, _⟩ => ⟨S_, .i32⟩
  | .hbm, ⟨28, _⟩ => ⟨S1x256x1024, .f32⟩
  | .hbm, ⟨29, _⟩ => ⟨S256x1024, .f32⟩
  | .hbm, ⟨30, _⟩ => ⟨S1, .i32⟩
  | .hbm, ⟨31, _⟩ => ⟨S_, .i32⟩
  | .hbm, ⟨32, _⟩ => ⟨S_, .i32⟩
  | .hbm, ⟨33, _⟩ => ⟨S_, .i1⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S_, .i32⟩
  | .hbm, ⟨38, _⟩ => ⟨S_, .i32⟩
  | .hbm, ⟨39, _⟩ => ⟨S_, .i1⟩
  | .hbm, ⟨40, _⟩ => ⟨S_, .i32⟩
  | .hbm, ⟨41, _⟩ => ⟨S_, .i32⟩
  | .hbm, ⟨42, _⟩ => ⟨S_, .i32⟩
  | .hbm, ⟨43, _⟩ => ⟨S_, .i32⟩
  | .hbm, ⟨44, _⟩ => ⟨S_, .i32⟩
  | .hbm, ⟨45, _⟩ => ⟨S_, .i32⟩
  | .hbm, ⟨46, _⟩ => ⟨S_, .i32⟩
  | .hbm, ⟨47, _⟩ => ⟨S_, .i1⟩
  | .hbm, ⟨48, _⟩ => ⟨S_, .i32⟩
  | .hbm, ⟨49, _⟩ => ⟨S_, .i32⟩
  | .hbm, ⟨50, _⟩ => ⟨S_, .i32⟩
  | .hbm, ⟨51, _⟩ => ⟨S_, .i32⟩
  | .hbm, ⟨52, _⟩ => ⟨S_, .i32⟩
  | .hbm, ⟨53, _⟩ => ⟨S1x1024x512, .f32⟩
  | .hbm, ⟨54, _⟩ => ⟨S1024x512, .f32⟩
  | .hbm, ⟨55, _⟩ => ⟨S256x512, .f32⟩
  | .hbm, ⟨56, _⟩ => ⟨S256x512, .f32⟩
  | .hbm, ⟨57, _⟩ => ⟨S256x512, .f32⟩
  | .hbm, ⟨58, _⟩ => ⟨S_, .f32⟩
  | .hbm, ⟨59, _⟩ => ⟨S256x512, .f32⟩
  | .hbm, ⟨60, _⟩ => ⟨S256x512, .f32⟩
  | .hbm, ⟨61, _⟩ => ⟨S_, .f32⟩
  | .hbm, ⟨62, _⟩ => ⟨S256x512, .f32⟩
  | .hbm, ⟨63, _⟩ => ⟨S256x512, .f32⟩
  | .hbm, ⟨64, _⟩ => ⟨S256x512, .f32⟩
  | .hbm, ⟨65, _⟩ => ⟨S_, .i32⟩
  | .hbm, ⟨66, _⟩ => ⟨S_, .i1⟩
  | .hbm, ⟨67, _⟩ => ⟨S_, .i32⟩
  | .hbm, ⟨68, _⟩ => ⟨S_, .i32⟩
  | .hbm, ⟨69, _⟩ => ⟨S_, .i32⟩
  | .hbm, ⟨70, _⟩ => ⟨S_, .i32⟩
  | .hbm, ⟨71, _⟩ => ⟨S_, .i32⟩
  | .hbm, ⟨72, _⟩ => ⟨S_, .i1⟩
  | .hbm, ⟨73, _⟩ => ⟨S_, .i32⟩
  | .hbm, ⟨74, _⟩ => ⟨S_, .i32⟩
  | .hbm, ⟨75, _⟩ => ⟨S_, .i32⟩
  | .hbm, ⟨76, _⟩ => ⟨S_, .i32⟩
  | .hbm, ⟨77, _⟩ => ⟨S_, .i32⟩
  | .hbm, ⟨78, _⟩ => ⟨S_, .i32⟩
  | .hbm, ⟨79, _⟩ => ⟨S_, .i32⟩
  | .hbm, ⟨80, _⟩ => ⟨S_, .i1⟩
  | .hbm, ⟨81, _⟩ => ⟨S_, .i32⟩
  | .hbm, ⟨82, _⟩ => ⟨S_, .i32⟩
  | .hbm, ⟨83, _⟩ => ⟨S_, .i32⟩
  | .hbm, ⟨84, _⟩ => ⟨S_, .i32⟩
  | .hbm, ⟨85, _⟩ => ⟨S_, .i32⟩
  | .hbm, ⟨86, _⟩ => ⟨S1x1024x512, .f32⟩
  | .hbm, ⟨87, _⟩ => ⟨S1024x512, .f32⟩
  | .hbm, ⟨88, _⟩ => ⟨S256x512, .f32⟩
  | .hbm, ⟨89, _⟩ => ⟨S256x512, .f32⟩
  | .hbm, ⟨90, _⟩ => ⟨S_, .i32⟩
  | .hbm, ⟨91, _⟩ => ⟨S_, .i1⟩
  | .hbm, ⟨92, _⟩ => ⟨S_, .i32⟩
  | .hbm, ⟨93, _⟩ => ⟨S_, .i32⟩
  | .hbm, ⟨94, _⟩ => ⟨S_, .i32⟩
  | .hbm, ⟨95, _⟩ => ⟨S_, .i32⟩
  | .hbm, ⟨96, _⟩ => ⟨S_, .i32⟩
  | .hbm, ⟨97, _⟩ => ⟨S_, .i1⟩
  | .hbm, ⟨98, _⟩ => ⟨S_, .i32⟩
  | .hbm, ⟨99, _⟩ => ⟨S_, .i32⟩
  | .hbm, ⟨100, _⟩ => ⟨S_, .i32⟩
  | .hbm, ⟨101, _⟩ => ⟨S_, .i32⟩
  | .hbm, ⟨102, _⟩ => ⟨S_, .i32⟩
  | .hbm, ⟨103, _⟩ => ⟨S_, .i32⟩
  | .hbm, ⟨104, _⟩ => ⟨S_, .i32⟩
  | .hbm, ⟨105, _⟩ => ⟨S_, .i1⟩
  | .hbm, ⟨106, _⟩ => ⟨S_, .i32⟩
  | .hbm, ⟨107, _⟩ => ⟨S_, .i32⟩
  | .hbm, ⟨108, _⟩ => ⟨S_, .i32⟩
  | .hbm, ⟨109, _⟩ => ⟨S_, .i32⟩
  | .hbm, ⟨110, _⟩ => ⟨S_, .i32⟩
  | .hbm, ⟨111, _⟩ => ⟨S1x512x1024, .f32⟩
  | .hbm, ⟨112, _⟩ => ⟨S512x1024, .f32⟩
  | .hbm, ⟨113, _⟩ => ⟨S256x1024, .f32⟩
  | .hbm, ⟨114, _⟩ => ⟨S1x256x1024, .f32⟩
  | .hbm, ⟨115, _⟩ => ⟨S_, .i32⟩
  | .hbm, ⟨116, _⟩ => ⟨S_, .i32⟩
  | .hbm, ⟨117, _⟩ => ⟨S288x256x1024, .f32⟩
  | .hbm, ⟨118, _⟩ => ⟨S_, .i32⟩
  | .hbm, ⟨119, _⟩ => ⟨S_, .i32⟩
  | .hbm, ⟨120, _⟩ => ⟨S73728x1024, .f32⟩
  | .hbm, ⟨121, _⟩ => ⟨S73728x1024, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_c : Ref sig .tc := ⟨.hbm, 16, rfl⟩
abbrev main_v9_0 : Ref sig .tc := ⟨.hbm, 17, rfl⟩
abbrev main_v9_1 : Ref sig .tc := ⟨.hbm, 18, rfl⟩
abbrev main_v9_2 : Ref sig .tc := ⟨.hbm, 19, rfl⟩
abbrev main_v9_3 : Ref sig .tc := ⟨.hbm, 20, rfl⟩
abbrev main_v9_4 : Ref sig .tc := ⟨.hbm, 21, rfl⟩
abbrev main_v9_5 : Ref sig .tc := ⟨.hbm, 22, rfl⟩
abbrev main_v9_6 : Ref sig .tc := ⟨.hbm, 23, rfl⟩
abbrev main_while0c_c_6 : Ref sig .tc := ⟨.hbm, 24, rfl⟩
abbrev main_while0c_v12 : Ref sig .tc := ⟨.hbm, 25, rfl⟩
abbrev main_while0b_call0_c : Ref sig .tc := ⟨.hbm, 26, rfl⟩
abbrev main_while0b_call0_c_0 : Ref sig .tc := ⟨.hbm, 27, rfl⟩
abbrev main_while0b_call0_v0 : Ref sig .tc := ⟨.hbm, 28, rfl⟩
abbrev main_while0b_v12 : Ref sig .tc := ⟨.hbm, 29, rfl⟩
abbrev main_while0b_call1_v0 : Ref sig .tc := ⟨.hbm, 30, rfl⟩
abbrev main_while0b_v13 : Ref sig .tc := ⟨.hbm, 31, rfl⟩
abbrev main_while0b_c_6 : Ref sig .tc := ⟨.hbm, 32, rfl⟩
abbrev main_while0b_v14 : Ref sig .tc := ⟨.hbm, 33, rfl⟩
abbrev main_while0b_c_7 : Ref sig .tc := ⟨.hbm, 34, rfl⟩
abbrev main_while0b_v15 : Ref sig .tc := ⟨.hbm, 35, rfl⟩
abbrev main_while0b_v16 : Ref sig .tc := ⟨.hbm, 36, rfl⟩
abbrev main_while0b_c_8 : Ref sig .tc := ⟨.hbm, 37, rfl⟩
abbrev main_while0b_c_9 : Ref sig .tc := ⟨.hbm, 38, rfl⟩
abbrev main_while0b_v17 : Ref sig .tc := ⟨.hbm, 39, rfl⟩
abbrev main_while0b_c_10 : Ref sig .tc := ⟨.hbm, 40, rfl⟩
abbrev main_while0b_c_11 : Ref sig .tc := ⟨.hbm, 41, rfl⟩
abbrev main_while0b_v18 : Ref sig .tc := ⟨.hbm, 42, rfl⟩
abbrev main_while0b_c_12 : Ref sig .tc := ⟨.hbm, 43, rfl⟩
abbrev main_while0b_v19 : Ref sig .tc := ⟨.hbm, 44, rfl⟩
abbrev main_while0b_c_13 : Ref sig .tc := ⟨.hbm, 45, rfl⟩
abbrev main_while0b_c_14 : Ref sig .tc := ⟨.hbm, 46, rfl⟩
abbrev main_while0b_v20 : Ref sig .tc := ⟨.hbm, 47, rfl⟩
abbrev main_while0b_c_15 : Ref sig .tc := ⟨.hbm, 48, rfl⟩
abbrev main_while0b_c_16 : Ref sig .tc := ⟨.hbm, 49, rfl⟩
abbrev main_while0b_v21 : Ref sig .tc := ⟨.hbm, 50, rfl⟩
abbrev main_while0b_c_17 : Ref sig .tc := ⟨.hbm, 51, rfl⟩
abbrev main_while0b_v22 : Ref sig .tc := ⟨.hbm, 52, rfl⟩
abbrev main_while0b_v23 : Ref sig .tc := ⟨.hbm, 53, rfl⟩
abbrev main_while0b_v24 : Ref sig .tc := ⟨.hbm, 54, rfl⟩
abbrev main_while0b_v25 : Ref sig .tc := ⟨.hbm, 55, rfl⟩
abbrev main_while0b_call2_v0 : Ref sig .tc := ⟨.hbm, 56, rfl⟩
abbrev main_while0b_call2_v1 : Ref sig .tc := ⟨.hbm, 57, rfl⟩
abbrev main_while0b_call2_cst : Ref sig .tc := ⟨.hbm, 58, rfl⟩
abbrev main_while0b_call2_v2 : Ref sig .tc := ⟨.hbm, 59, rfl⟩
abbrev main_while0b_call2_v3 : Ref sig .tc := ⟨.hbm, 60, rfl⟩
abbrev main_while0b_call2_cst_0 : Ref sig .tc := ⟨.hbm, 61, rfl⟩
abbrev main_while0b_call2_v4 : Ref sig .tc := ⟨.hbm, 62, rfl⟩
abbrev main_while0b_call2_v5 : Ref sig .tc := ⟨.hbm, 63, rfl⟩
abbrev main_while0b_v26 : Ref sig .tc := ⟨.hbm, 64, rfl⟩
abbrev main_while0b_c_18 : Ref sig .tc := ⟨.hbm, 65, rfl⟩
abbrev main_while0b_v27 : Ref sig .tc := ⟨.hbm, 66, rfl⟩
abbrev main_while0b_c_19 : Ref sig .tc := ⟨.hbm, 67, rfl⟩
abbrev main_while0b_v28 : Ref sig .tc := ⟨.hbm, 68, rfl⟩
abbrev main_while0b_v29 : Ref sig .tc := ⟨.hbm, 69, rfl⟩
abbrev main_while0b_c_20 : Ref sig .tc := ⟨.hbm, 70, rfl⟩
abbrev main_while0b_c_21 : Ref sig .tc := ⟨.hbm, 71, rfl⟩
abbrev main_while0b_v30 : Ref sig .tc := ⟨.hbm, 72, rfl⟩
abbrev main_while0b_c_22 : Ref sig .tc := ⟨.hbm, 73, rfl⟩
abbrev main_while0b_c_23 : Ref sig .tc := ⟨.hbm, 74, rfl⟩
abbrev main_while0b_v31 : Ref sig .tc := ⟨.hbm, 75, rfl⟩
abbrev main_while0b_c_24 : Ref sig .tc := ⟨.hbm, 76, rfl⟩
abbrev main_while0b_v32 : Ref sig .tc := ⟨.hbm, 77, rfl⟩
abbrev main_while0b_c_25 : Ref sig .tc := ⟨.hbm, 78, rfl⟩
abbrev main_while0b_c_26 : Ref sig .tc := ⟨.hbm, 79, rfl⟩
abbrev main_while0b_v33 : Ref sig .tc := ⟨.hbm, 80, rfl⟩
abbrev main_while0b_c_27 : Ref sig .tc := ⟨.hbm, 81, rfl⟩
abbrev main_while0b_c_28 : Ref sig .tc := ⟨.hbm, 82, rfl⟩
abbrev main_while0b_v34 : Ref sig .tc := ⟨.hbm, 83, rfl⟩
abbrev main_while0b_c_29 : Ref sig .tc := ⟨.hbm, 84, rfl⟩
abbrev main_while0b_v35 : Ref sig .tc := ⟨.hbm, 85, rfl⟩
abbrev main_while0b_v36 : Ref sig .tc := ⟨.hbm, 86, rfl⟩
abbrev main_while0b_v37 : Ref sig .tc := ⟨.hbm, 87, rfl⟩
abbrev main_while0b_v38 : Ref sig .tc := ⟨.hbm, 88, rfl⟩
abbrev main_while0b_v39 : Ref sig .tc := ⟨.hbm, 89, rfl⟩
abbrev main_while0b_c_30 : Ref sig .tc := ⟨.hbm, 90, rfl⟩
abbrev main_while0b_v40 : Ref sig .tc := ⟨.hbm, 91, rfl⟩
abbrev main_while0b_c_31 : Ref sig .tc := ⟨.hbm, 92, rfl⟩
abbrev main_while0b_v41 : Ref sig .tc := ⟨.hbm, 93, rfl⟩
abbrev main_while0b_v42 : Ref sig .tc := ⟨.hbm, 94, rfl⟩
abbrev main_while0b_c_32 : Ref sig .tc := ⟨.hbm, 95, rfl⟩
abbrev main_while0b_c_33 : Ref sig .tc := ⟨.hbm, 96, rfl⟩
abbrev main_while0b_v43 : Ref sig .tc := ⟨.hbm, 97, rfl⟩
abbrev main_while0b_c_34 : Ref sig .tc := ⟨.hbm, 98, rfl⟩
abbrev main_while0b_c_35 : Ref sig .tc := ⟨.hbm, 99, rfl⟩
abbrev main_while0b_v44 : Ref sig .tc := ⟨.hbm, 100, rfl⟩
abbrev main_while0b_c_36 : Ref sig .tc := ⟨.hbm, 101, rfl⟩
abbrev main_while0b_v45 : Ref sig .tc := ⟨.hbm, 102, rfl⟩
abbrev main_while0b_c_37 : Ref sig .tc := ⟨.hbm, 103, rfl⟩
abbrev main_while0b_c_38 : Ref sig .tc := ⟨.hbm, 104, rfl⟩
abbrev main_while0b_v46 : Ref sig .tc := ⟨.hbm, 105, rfl⟩
abbrev main_while0b_c_39 : Ref sig .tc := ⟨.hbm, 106, rfl⟩
abbrev main_while0b_c_40 : Ref sig .tc := ⟨.hbm, 107, rfl⟩
abbrev main_while0b_v47 : Ref sig .tc := ⟨.hbm, 108, rfl⟩
abbrev main_while0b_c_41 : Ref sig .tc := ⟨.hbm, 109, rfl⟩
abbrev main_while0b_v48 : Ref sig .tc := ⟨.hbm, 110, rfl⟩
abbrev main_while0b_v49 : Ref sig .tc := ⟨.hbm, 111, rfl⟩
abbrev main_while0b_v50 : Ref sig .tc := ⟨.hbm, 112, rfl⟩
abbrev main_while0b_v51 : Ref sig .tc := ⟨.hbm, 113, rfl⟩
abbrev main_while0b_call3_v0 : Ref sig .tc := ⟨.hbm, 114, rfl⟩
abbrev main_while0b_call3_c : Ref sig .tc := ⟨.hbm, 115, rfl⟩
abbrev main_while0b_call3_c_0 : Ref sig .tc := ⟨.hbm, 116, rfl⟩
abbrev main_while0b_v52 : Ref sig .tc := ⟨.hbm, 117, rfl⟩
abbrev main_while0b_c_42 : Ref sig .tc := ⟨.hbm, 118, rfl⟩
abbrev main_while0b_v53 : Ref sig .tc := ⟨.hbm, 119, rfl⟩
abbrev main_v10 : Ref sig .tc := ⟨.hbm, 120, rfl⟩
abbrev main_v11 : Ref sig .tc := ⟨.hbm, 121, rfl⟩

abbrev nD : Nat := 1
abbrev τ : Topo := Topo.v7x

variable {F : FTy → Type} [FloatOps F]

abbrev main_while0_count : Scf.Loop 32 := ⟨0#32, 288#32, 1#32⟩
-- ==== Kernel7.lean ====
abbrev S32 : Shape := ⟨1, ![32]⟩
abbrev S8x32768 : Shape := ⟨2, ![8, 32768]⟩
abbrev S8x4096 : Shape := ⟨2, ![8, 4096]⟩
abbrev S2x4096 : Shape := ⟨2, ![2, 4096]⟩
abbrev S1 : Shape := ⟨1, ![1]⟩
abbrev S6x4096 : Shape := ⟨2, ![6, 4096]⟩
abbrev S2x32768 : Shape := ⟨2, ![2, 32768]⟩

abbrev nBuf : Space → Nat
  | .hbm => 3
  | .vmem => 4
  | .smem => 1
  | _ => 0

abbrev bufTy : (tb : Table) → Fin (tcTables nBuf tb) → BufTy
  | .hbm, ⟨0, _⟩ => ⟨S8x32768, .i32⟩
  | .hbm, ⟨1, _⟩ => ⟨S8x32768, .i32⟩
  | .hbm, ⟨2, _⟩ => ⟨S2x32768, .i32⟩
  | .local _ .vmem, ⟨0, _⟩ => ⟨S8x4096, .i32⟩
  | .local _ .vmem, ⟨1, _⟩ => ⟨S8x4096, .i32⟩
  | .local _ .vmem, ⟨2, _⟩ => ⟨S8x4096, .i32⟩
  | .local _ .vmem, ⟨3, _⟩ => ⟨S8x4096, .i32⟩
  | .local _ .smem, ⟨0, _⟩ => ⟨S32, .i32⟩
  | _, _ => ⟨S8x32768, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg1 : Ref sig .tc := ⟨.hbm, 0, rfl⟩
abbrev main_v0 : Ref sig .tc := ⟨.hbm, 1, rfl⟩
abbrev main_v1 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S8x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference7Ideal.lean ====
abbrev S32 : Shape := ⟨1, ![32]⟩
abbrev S8x32768 : Shape := ⟨2, ![8, 32768]⟩
abbrev S2x32768 : Shape := ⟨2, ![2, 32768]⟩
abbrev S_ : Shape := ⟨0, ![]⟩
abbrev S2x32768x1 : Shape := ⟨3, ![2, 32768, 1]⟩

abbrev nBuf : Space → Nat
  | .hbm => 14
  | .vmem => 0
  | .smem => 0
  | _ => 0

abbrev bufTy : (tb : Table) → Fin (tcTables nBuf tb) → BufTy
  | .hbm, ⟨0, _⟩ => ⟨S32, .i32⟩
  | .hbm, ⟨1, _⟩ => ⟨S8x32768, .i32⟩
  | .hbm, ⟨2, _⟩ => ⟨S2x32768, .i32⟩
  | .hbm, ⟨3, _⟩ => ⟨S_, .i32⟩
  | .hbm, ⟨4, _⟩ => ⟨S2x32768, .i32⟩
  | .hbm, ⟨5, _⟩ => ⟨S2x32768, .i1⟩
  | .hbm, ⟨6, _⟩ => ⟨S_, .i32⟩
  | .hbm, ⟨7, _⟩ => ⟨S2x32768, .i32⟩
  | .hbm, ⟨8, _⟩ => ⟨S2x32768, .i32⟩
  | .hbm, ⟨9, _⟩ => ⟨S2x32768, .i32⟩
  | .hbm, ⟨10, _⟩ => ⟨S2x32768x1, .i32⟩
  | .hbm, ⟨11, _⟩ => ⟨S2x32768, .i32⟩
  | .hbm, ⟨12, _⟩ => ⟨S2x32768, .i32⟩
  | .hbm, ⟨13, _⟩ => ⟨S2x32768, .i32⟩
  | _, _ => ⟨S32, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_c : Ref sig .tc := ⟨.hbm, 3, rfl⟩
abbrev main_v1 : Ref sig .tc := ⟨.hbm, 4, rfl⟩
abbrev main_v2 : Ref sig .tc := ⟨.hbm, 5, rfl⟩
abbrev main_c_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Proof.RowMath.lean ====
/- The mathematics both programs are shown to compute, over the extended reals and free of any tiling: a row of packed
   bf16 pairs read as floats, the weighted sum of two expert rows with the residual, the LayerNorm of a row, and the
   causal depthwise convolution of the mixers. -/
module

public import Idealize.ShloMosaic.PureOps.Ideal
public import Idealize.ShloMosaic.Lib.Pointwise

@[expose] public section

noncomputable section

open Idealize.ShloMosaic

namespace Cert.RowMath

/-- Entry `l` of a row of 512 words: the low half of word `l` as a bf16 for `l < 512`, the high half of word
    `l - 512` above. -/
def rowEl (row : Fin 512 → BitVec 32) (l : Fin 1024) : EReal :=
  if h : (l : Nat) < 512 then Ideal.ofBits .bf16 ((row ⟨l, h⟩).extractLsb' 0 16)
  else Ideal.ofBits .bf16 ((row ⟨(l : Nat) - 512, by omega⟩).extractLsb' 16 16)

/-- The residual stream scaled by the DeepNorm constant, plus a gated sublayer output. -/
def resEl (x g y : EReal) : EReal := Ideal.ofBits .f32 1071072509#32 * x + (1 + g) * y

/-- The mean of a row of 1024 entries. -/
def meanEl (v : Fin 1024 → EReal) : EReal := Ideal.div (∑ k, v k) (Ideal.ofBits .f32 1149239296#32)

/-- LayerNorm of a row of 1024 entries at entry `l`, with gain `a` and bias `b`. -/
def lnEl (v : Fin 1024 → EReal) (a b : EReal) (l : Fin 1024) : EReal :=
  (v l - meanEl v) * Ideal.rsqrt (meanEl (fun k => (v k - meanEl v) * (v k - meanEl v)) + Ideal.ofBits .f32 925353388#32) * a + b

/-- The end of a layer for one token at entry `l`: the two expert rows `y0` and `y1` combined with the weights `w0` and
    `w1`, gated by `g`, added to the residual row `x`, and normed. -/
def ffnEl (x g : Fin 1024 → EReal) (w0 w1 : EReal) (y0 y1 : Fin 512 → BitVec 32) (a b : Fin 1024 → EReal) (l : Fin 1024) : EReal :=
  lnEl (fun k => resEl (x k) (g k) (w0 * rowEl y0 k + w1 * rowEl y1 k)) (a l) (b l) l

/-- The end of a layer, at batch `b`, token `s`, entry `l`, from the arrays it is computed of: the residual `X`, the packed
    expert rows `Y0` and `Y1`, the combine weights `W`, the modulations `M` (the gate is row 5), and the norm's gain `A`
    and bias `B`. -/
def ffnOut (X : (⟨3, ![4, 8192, 1024]⟩ : Shape).Idx → EReal) (Y0 Y1 : (⟨3, ![4, 8192, 512]⟩ : Shape).Idx → BitVec 32)
    (W : (⟨3, ![4, 8192, 2]⟩ : Shape).Idx → EReal) (M : (⟨3, ![4, 6, 1024]⟩ : Shape).Idx → EReal)
    (A B : (⟨1, ![1024]⟩ : Shape).Idx → EReal) (b : Fin 4) (s : Fin 8192) (l : Fin 1024) : EReal :=
  ffnEl (fun k => X (ix3 b s k)) (fun k => M (ix3 b 5 k)) (W (ix3 b s 0)) (W (ix3 b s 1)) (fun k => Y0 (ix3 b s k))
    (fun k => Y1 (ix3 b s k)) (fun k => A (ix1 k)) (fun k => B (ix1 k)) l

/-- A modulated row times a column: `Σ k, (x k (1 + scale k) + shift k) w k`. -/
def projEl (x sc sh w : Fin 1024 → EReal) : EReal := ∑ k, (x k * (1 + sc k) + sh k) * w k

theorem projEl_congr {x x' sc sc' sh sh' w w' : Fin 1024 → EReal} (hx : ∀ k, x k = x' k) (hc : ∀ k, sc k = sc' k) (hh : ∀ k, sh k = sh' k)
    (hw : ∀ k, w k = w' k) : projEl x sc sh w = projEl x' sc' sh' w' := by
  rw [funext hx, funext hc, funext hh, funext hw]

/-- Token `s - n`'s row of a batch at entry `l`, zero before the first token. -/
def delayed (q : Fin 8192 → Fin 1024 → EReal) (n : Nat) (s : Fin 8192) (l : Fin 1024) : EReal :=
  if n ≤ s.val then q ⟨s.val - n, by omega⟩ l else 0

/-- The first `n + 1` taps of the causal depthwise convolution that looks `K` tokens back, in order. -/
def taps (K : Nat) (w : Nat → Fin 1024 → EReal) (q : Fin 8192 → Fin 1024 → EReal) (s : Fin 8192) (l : Fin 1024) : Nat → EReal
  | 0 => w 0 l * delayed q K s l
  | n + 1 => taps K w q s l n + w (n + 1) l * delayed q (K - (n + 1)) s l

/-- Row `k` of a matrix of `K` rows, at entry `l`; zero past the last row. -/
def rowOf {K : Nat} (W : (⟨2, ![K, 1024]⟩ : Shape).Idx → EReal) (k : Nat) (l : Fin 1024) : EReal :=
  if h : k < K then W (ix2 ⟨k, h⟩ l) else 0

section GatedConv
variable (x : Fin 8192 → Fin 1024 → EReal) (M : Fin 6 → Fin 1024 → EReal) (Win : (⟨2, ![1024, 3072]⟩ : Shape).Idx → EReal)
  (Wdw : (⟨2, ![3, 1024]⟩ : Shape).Idx → EReal) (Wout : (⟨2, ![1024, 1024]⟩ : Shape).Idx → EReal)

/-- The short gated convolution's input projection of token `s` at column `j`. -/
def projB (s : Fin 8192) (j : Fin 3072) : EReal := projEl (x s) (M 1) (M 0) (fun k => Win (ix2 k j))

/-- Its gated values, before the convolution. -/
def gateB (s : Fin 8192) (l : Fin 1024) : EReal :=
  projB x M Win s ⟨1024 + l.val, by omega⟩ * projB x M Win s ⟨2048 + l.val, by omega⟩

/-- Its output. -/
def convB (s : Fin 8192) (l : Fin 1024) : EReal :=
  ∑ k : Fin 1024, (projB x M Win s ⟨k.val, by omega⟩ * taps 2 (rowOf Wdw) (gateB x M Win) s k 2) * Wout (ix2 k l)

/-- A short-gated-convolution sublayer of one batch at token `s`, entry `l`: residual, gate, norm. -/
def subB (A B : (⟨1, ![1024]⟩ : Shape).Idx → EReal) (s : Fin 8192) (l : Fin 1024) : EReal :=
  lnEl (fun k => resEl (x s k) (M 2 k) (convB x M Win Wdw Wout s k)) (A (ix1 l)) (B (ix1 l)) l
end GatedConv

/-- The logistic function. -/
def sigEl (x : EReal) : EReal := Ideal.div 1 (1 + Ideal.exp (-x))

section ConfConv
variable (x : Fin 8192 → Fin 1024 → EReal) (M : Fin 6 → Fin 1024 → EReal) (Win : (⟨2, ![1024, 2048]⟩ : Shape).Idx → EReal)
  (Bin : (⟨1, ![2048]⟩ : Shape).Idx → EReal) (Wdw : (⟨2, ![31, 1024]⟩ : Shape).Idx → EReal) (Bdw G O : (⟨1, ![1024]⟩ : Shape).Idx → EReal)
  (Wout : (⟨2, ![1024, 1024]⟩ : Shape).Idx → EReal) (Bout : (⟨1, ![1024]⟩ : Shape).Idx → EReal)

/-- The Conformer convolution's input projection of token `s` at column `j`. -/
def projA (s : Fin 8192) (j : Fin 2048) : EReal := projEl (x s) (M 1) (M 0) (fun k => Win (ix2 k j)) + Bin (ix1 j)

/-- Its gated values, before the convolution. -/
def gluA (s : Fin 8192) (l : Fin 1024) : EReal :=
  projA x M Win Bin s ⟨l.val, by omega⟩ * sigEl (projA x M Win Bin s ⟨1024 + l.val, by omega⟩)

/-- The normed, activated value of a row `v` at entry `l`. -/
def actEl (v : Fin 1024 → EReal) (g o : EReal) (l : Fin 1024) : EReal := lnEl v g o l * sigEl (lnEl v g o l)

/-- The convolved values, normed and activated. -/
def actA (s : Fin 8192) (l : Fin 1024) : EReal :=
  actEl (fun k => taps 30 (rowOf Wdw) (gluA x M Win Bin) s k 30 + Bdw (ix1 k)) (G (ix1 l)) (O (ix1 l)) l

/-- Its output. -/
def convA (s : Fin 8192) (l : Fin 1024) : EReal :=
  (∑ k : Fin 1024, actA x M Win Bin Wdw Bdw G O s k * Wout (ix2 k l)) + Bout (ix1 l)

/-- A Conformer-convolution sublayer of one batch at token `s`, entry `l`: residual, gate, norm. -/
def subA (A B : (⟨1, ![1024]⟩ : Shape).Idx → EReal) (s : Fin 8192) (l : Fin 1024) : EReal :=
  lnEl (fun k => resEl (x s k) (M 2 k) (convA x M Win Bin Wdw Bdw G O Wout Bout s k)) (A (ix1 l)) (B (ix1 l)) l
end ConfConv

end Cert.RowMath

end
-- ==== Proof.TileStages.lean ====
/- The stages that the calls share, on one tile of 512 tokens, read at an entry: the combine of the two expert rows, the
   residual, and the LayerNorm. -/
module
public import proofs.«01_k».proof.Proof.Gen.Kernel2Ideal.Skeleton
public import proofs.«01_k».proof.Proof.RowMath
public import Idealize.ShloMosaic.Lib.Pointwise
@[expose] public section
set_option maxRecDepth 16384
noncomputable section
open Idealize.ShloMosaic Idealize.ShloMosaic.TcCoe
namespace Cert.TileStages
open Cert.Kernel2Ideal Cert.Kernel2Ideal.Gen Cert.RowMath

/-- The LayerNorm of every row of a tile. -/
def lnTile (v : FVec Ideal S512x1024 .f32) (g b : FVec Ideal S1x1024 .f32) : FVec Ideal S512x1024 .f32 :=
  have mean : FVec Ideal S512x1 .f32 := divf (shapeCast S512x1 (multiReduction .add [1] S512 v 0x00000000#32 reduces_S512x1024_S512 (.inl rfl) rfl) shapeCasts_S512_S512x1) (broadcast S512x1 (Scalar.ofBits .f32 0x44800000#32))
  have d : FVec Ideal S512x1024 .f32 := subf v (broadcastTo S512x1024 mean broadcasts_S512x1_S512x1024)
  have var : FVec Ideal S512x1 .f32 := divf (shapeCast S512x1 (multiReduction .add [1] S512 (mulf d d) 0x00000000#32 reduces_S512x1024_S512 (.inl rfl) rfl) shapeCasts_S512_S512x1) (broadcast S512x1 (Scalar.ofBits .f32 0x44800000#32))
  addf (mulf (mulf d (broadcastTo S512x1024 (rsqrt (addf var (broadcast S512x1 (Scalar.ofBits .f32 0x3727C5AC#32)))) broadcasts_S512x1_S512x1024)) (broadcastTo S512x1024 g broadcasts_S1x1024_S512x1024)) (broadcastTo S512x1024 b broadcasts_S1x1024_S512x1024)

theorem lnTile_at (v : FVec Ideal S512x1024 .f32) (g b : FVec Ideal S1x1024 .f32) (r : Fin 512) (l : Fin 1024) :
    lnTile v g b (ix2 r l) = lnEl (fun k => v (ix2 r k)) (g (ix2 0 l)) (b (ix2 0 l)) l := by
  pointwise [lnTile, lnEl, meanEl]

/-- A weight of 128 equal lanes, over 1024 lanes. -/
def lanes (v : FVec Ideal S512x128 .f32) : FVec Ideal S512x1024 .f32 :=
  concatenate S512x1024 1 [⟨S512x128, v⟩, ⟨S512x128, v⟩, ⟨S512x128, v⟩, ⟨S512x128, v⟩, ⟨S512x128, v⟩, ⟨S512x128, v⟩, ⟨S512x128, v⟩, ⟨S512x128, v⟩] concatenates_S512x128_S512x128_S512x128_S512x128_S512x128_S512x128_S512x128_S512x128_S512x1024_d1

theorem lanes_at (v : FVec Ideal S512x128 .f32) (r : Fin 512) (w : EReal) (h : ∀ k, v (ix2 r k) = w) (l : Fin 1024) :
    lanes v (ix2 r l) = w := by
  pointwise [lanes]
  split_ifs <;> exact h _

/-- The rows of packed words as rows of floats. -/
def rowsTile (y : Vec Ideal S1x512x512 .i32) : FVec Ideal S512x1024 .f32 :=
  have w : IVec S512x512 32 := shapeCast S512x512 y shapeCasts_S1x512x512_S512x512
  have lo : FVec Ideal S512x512 .f32 := unpackElementwise (F := Ideal) 0 w
  have hi : FVec Ideal S512x512 .f32 := unpackElementwise (F := Ideal) 1 w
  concatenate S512x1024 1 [⟨S512x512, lo⟩, ⟨S512x512, hi⟩] concatenates_S512x512_S512x512_S512x1024_d1

theorem rowsTile_at (y : Vec Ideal S1x512x512 .i32) (r : Fin 512) (l : Fin 1024) :
    rowsTile y (ix2 r l) = rowEl (fun k => y (ix3 0 r k)) l := by
  pointwise [rowsTile, rowEl]

/-- The residual stream scaled, plus a gated sublayer output. -/
def resTile (x : FVec Ideal S512x1024 .f32) (g : FVec Ideal S1x1024 .f32) (y : FVec Ideal S512x1024 .f32) : FVec Ideal S512x1024 .f32 :=
  addf (mulf (broadcast S512x1024 (Scalar.ofBits .f32 0x3FD744FD#32)) x) (mulf (broadcastTo S512x1024 (addf (broadcast S1x1024 (Scalar.ofBits .f32 0x3F800000#32)) g) broadcasts_S1x1024_S512x1024) y)

theorem resTile_at (x : FVec Ideal S512x1024 .f32) (g : FVec Ideal S1x1024 .f32) (y : FVec Ideal S512x1024 .f32) (r : Fin 512) (l : Fin 1024) :
    resTile x g y (ix2 r l) = resEl (x (ix2 r l)) (g (ix2 0 l)) (y (ix2 r l)) := by
  pointwise [resTile, resEl]

theorem lane_lo (P3 : Vec Ideal S1x512x256 .f32) (r : Fin 512) (k : Fin 128) :
    extractStridedSlice S512x128 ![0, 0] (k0_pay13 P3) slices_S512x256_o0_0_S512x128 (ix2 r k) = P3 (ix3 0 r ⟨k.val, by omega⟩) := by
  pointwise [k0_pay13]

theorem lane_hi (P3 : Vec Ideal S1x512x256 .f32) (r : Fin 512) (k : Fin 128) :
    extractStridedSlice S512x128 ![0, 128] (k0_pay13 P3) slices_S512x256_o0_128_S512x128 (ix2 r k) = P3 (ix3 0 r ⟨128 + k.val, by omega⟩) := by
  pointwise [k0_pay13]

/-- The combined, normed row that enters the mixer, of one tile of tokens. -/
abbrev tile (P0 : Vec Ideal S1x512x1024 .f32) (P1 P2 : Vec Ideal S1x512x512 .i32) (P3 : Vec Ideal S1x512x256 .f32)
    (P4 : Vec Ideal S1x1x6x1024 .f32) (P5 : Vec Ideal S2x1024 .f32) : FVec Ideal S512x1024 .f32 :=
  k0_pay19 (k0_pay8 P0) (k0_pay10 P4) (k0_pay11 P5) (k0_pay12 P5) (k0_pay14 P3) (k0_pay15 P3 P1) (k0_pay17 P2) (k0_pay18 P2)

theorem tile_at (P0 : Vec Ideal S1x512x1024 .f32) (P1 P2 : Vec Ideal S1x512x512 .i32) (P3 : Vec Ideal S1x512x256 .f32)
    (P4 : Vec Ideal S1x1x6x1024 .f32) (P5 : Vec Ideal S2x1024 .f32) (r : Fin 512) (l : Fin 1024) (w0 w1 : EReal)
    (h0 : ∀ k : Fin 256, k.val < 128 → P3 (ix3 0 r k) = w0) (h1 : ∀ k : Fin 256, 128 ≤ k.val → P3 (ix3 0 r k) = w1) :
    tile P0 P1 P2 P3 P4 P5 (ix2 r l) = ffnEl (fun k => P0 (ix3 0 r k)) (fun k => P4 (ix4 0 0 5 k)) w0 w1
      (fun k => P1 (ix3 0 r k)) (fun k => P2 (ix3 0 r k)) (fun k => P5 (ix2 0 k)) (fun k => P5 (ix2 1 k)) l := by
  refine (show tile P0 P1 P2 P3 P4 P5 (ix2 r l) = lnTile (resTile (k0_pay8 P0) (k0_pay10 P4)
    (addf (mulf (lanes (extractStridedSlice S512x128 ![0, 0] (k0_pay13 P3) slices_S512x256_o0_0_S512x128)) (rowsTile P1))
      (mulf (lanes (extractStridedSlice S512x128 ![0, 128] (k0_pay13 P3) slices_S512x256_o0_128_S512x128)) (rowsTile P2))))
    (k0_pay11 P5) (k0_pay12 P5) (ix2 r l) from rfl).trans ?_
  rw [lnTile_at]
  unfold ffnEl
  have e11 : k0_pay11 P5 (ix2 0 l) = P5 (ix2 0 l) := by pointwise [k0_pay11, k0_pay9]
  have e12 : k0_pay12 P5 (ix2 0 l) = P5 (ix2 1 l) := by pointwise [k0_pay12, k0_pay9]
  rw [e11, e12]
  refine congrArg (fun v => lnEl v _ _ l) (funext fun k => ?_)
  have e8 : k0_pay8 P0 (ix2 r k) = P0 (ix3 0 r k) := by pointwise [k0_pay8]
  have e10 : k0_pay10 P4 (ix2 0 k) = P4 (ix4 0 0 5 k) := by pointwise [k0_pay10]
  rw [resTile_at, e8, e10]
  refine congrArg (resEl _ _) ?_
  show lanes _ (ix2 r k) * rowsTile P1 (ix2 r k) + lanes _ (ix2 r k) * rowsTile P2 (ix2 r k) = _
  rw [rowsTile_at, rowsTile_at, lanes_at _ r w0 (fun k => (lane_lo P3 r k).trans (h0 _ k.isLt)),
    lanes_at _ r w1 (fun k => (lane_hi P3 r k).trans (h1 _ (Nat.le_add_right _ _)))]

end Cert.TileStages
end
-- ==== Proof.FinalKernel.lean ====
/- What the final combine's call computes: each block of the result is the LayerNorm of its tokens' combined rows, and the
   launch leaves the whole array. -/
module
public import proofs.«01_k».proof.Proof.Gen.KernelIdeal.Frame
public import proofs.«01_k».proof.Proof.TileStages
public import Idealize.ShloMosaic.Lib.Pipeline.ValueKit
public import Idealize.ShloMosaic.Lib.Pointwise
public import Idealize.ShloMosaic.Lib.Claim
public import Idealize.ShloMosaic.Lib.StableHlo.ReadAt
@[expose] public section
set_option maxRecDepth 16384
noncomputable section
open Idealize.ShloMosaic Idealize.ShloMosaic.TcCoe Idealize.SL.Sem
namespace Cert.KernelIdeal.FinalValue
open Cert.KernelIdeal Cert.KernelIdeal.Gen Cert.RowMath Cert.TileStages

variable (m : (ℓ : Loc nD τ sig) → Buf (Elt Ideal) ℓ) (c : Dev nD)

theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, t.val % 16, 0] ∧ win0_4.index t = ![0, t.val / 16, 0, 0]
    ∧ win0_5.index t = ![0, 0] ∧ win0_6.index t = ![t.val / 16, t.val % 16, 0] := by
  decide +kernel

theorem w_lo (b : Fin 4) (s : Fin 8192) (k : Fin 256) (hk : k.val < 128) :
    V m c main_v4 (ix3 b s k) = m ((c : Thread nD τ).loc main_arg3) (ix3 b s 0) := by
  unfold V hostOps0
  after_reads_at
  rw [dif_pos hk]
theorem w_hi (b : Fin 4) (s : Fin 8192) (k : Fin 256) (hk : 128 ≤ k.val) :
    V m c main_v4 (ix3 b s k) = m ((c : Thread nD τ).loc main_arg3) (ix3 b s 1) := by
  unfold V hostOps0
  after_reads_at
  rw [dif_neg (by omega)]
theorem md_at (b : Fin 4) (i : Fin 6) (k : Fin 1024) : V m c main_v5 (ix4 0 b i k) = m ((c : Thread nD τ).loc main_arg4) (ix3 b i k) := by
  unfold V hostOps0
  after_reads_at
theorem gain_at (k : Fin 1024) : V m c main_v8 (ix2 0 k) = m ((c : Thread nD τ).loc main_arg5) (ix1 k) := by
  unfold V hostOps0
  after_reads_at
theorem bias_at (k : Fin 1024) : V m c main_v8 (ix2 1 k) = m ((c : Thread nD τ).loc main_arg6) (ix1 k) := by
  unfold V hostOps0
  after_reads_at

/-- What the result array ends holding. -/
def result : Buf (Elt Ideal) ((c : Thread nD τ).loc main_v9) := fun i : S4x8192x1024.Idx =>
  ffnOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (i 0) (i 1) (i 2)

set_option maxHeartbeats 1000000 in
/-- Point `t` computes rows `512 (t mod 16)` on of batch `t / 16`. -/
theorem point (t : Fin cfg0.N) (b : Fin 4) (hb : b.val = t.val / 16) (r : Fin 512) (l : Fin 1024) (s : Fin 8192) (hs : s.val = t.val % 16 * 512 + r.val) :
    k0_pay1 (k0_pay3 (iblk m c 5 t)) (k0_pay4 (iblk m c 5 t)) (k0_pay5 (iblk m c 0 t) (iblk m c 4 t) (iblk m c 3 t) (iblk m c 1 t) (iblk m c 2 t))
      (k0_pay6 (iblk m c 0 t) (iblk m c 4 t) (iblk m c 3 t) (iblk m c 1 t) (iblk m c 2 t)) (ix3 0 r l)
      = ffnOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b s l := by
  obtain ⟨e0, e1, e2, e3, e4, e5, -⟩ := idx t
  have et : tile (iblk m c 0 t) (iblk m c 1 t) (iblk m c 2 t) (iblk m c 3 t) (iblk m c 4 t) (iblk m c 5 t) (ix2 r l)
      = ffnOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b s l := by
    rw [tile_at (w0 := m ((c : Thread nD τ).loc main_arg3) (ix3 b s 0)) (w1 := m ((c : Thread nD τ).loc main_arg3) (ix3 b s 1))]
    · unfold ffnOut
      congr 1
      · funext k; rw [← V_main_arg0 m c]; blk_ext [iblk, e0]
      · funext k; rw [← md_at m c]; blk_ext [iblk, e4]
      · funext k; rw [← V_main_arg1 m c]; blk_ext [iblk, e1]
      · funext k; rw [← V_main_arg2 m c]; blk_ext [iblk, e2]
      · funext k; rw [← gain_at m c]; blk_ext [iblk, e5]
      · funext k; rw [← bias_at m c]; blk_ext [iblk, e5]
    · intro k hk
      rw [← w_lo m c b s k hk]
      blk_ext [iblk, e3]
    · intro k hk
      rw [← w_hi m c b s k hk]
      blk_ext [iblk, e3]
  rw [← et]
  refine (show _ = shapeCast S1x512x1024 (tile (iblk m c 0 t) (iblk m c 1 t) (iblk m c 2 t) (iblk m c 3 t) (iblk m c 4 t) (iblk m c 5 t)) shapeCasts_S512x1024_S1x512x1024 (ix3 0 r l) from rfl).trans ?_
  generalize tile (iblk m c 0 t) (iblk m c 1 t) (iblk m c 2 t) (iblk m c 3 t) (iblk m c 4 t) (iblk m c 5 t) = v
  pointwise

theorem ffnOut_congr (X : S4x8192x1024.Idx → EReal) (Y0 Y1 : S4x8192x512.Idx → BitVec 32)
    (W : S4x8192x2.Idx → EReal) (M : S4x6x1024.Idx → EReal) (A B : S1024.Idx → EReal) {b b' : Fin 4} {s s' : Fin 8192} {l l' : Fin 1024}
    (hb : b.val = b'.val) (hs : s.val = s'.val) (hl : l.val = l'.val) : ffnOut X Y0 Y1 W M A B b s l = ffnOut X Y0 Y1 W M A B b' s' l' := by
  rw [Fin.ext hb, Fin.ext hs, Fin.ext hl]

theorem arr : (dats m 0 c).arrAt 6 cfg0.N = result m c := by
  refine (dats m 0 c).arrAt_eq_of_covers 6 (result m c) (by decide +kernel) fun t hf y => ?_
  blk_simp
  rw [after0_6]
  frame_out
  have e := (idx t).2.2.2.2.2.2
  have hy : y = ix3 (0 : Fin 1) (y 1) (y 2) := by blk_ext
  have ht : t.val < 64 := t.isLt
  have hr : (y (1 : Fin 3)).val < 512 := (y 1).isLt
  rw [hy]
  refine (point m c t ⟨t.val / 16, by omega⟩ rfl (y 1) (y 2) ⟨t.val % 16 * 512 + (y 1).val, by omega⟩ rfl).trans ?_
  refine ffnOut_congr _ _ _ _ _ _ _ ?_ ?_ ?_ <;> blk_simp [e] <;> try rfl

variable (ρ : Dev nD → PrngReg)
/-- The run, read: the result array at the combine, the arguments unchanged. -/
theorem run : θ_run defs (onTc (τ := τ) (main (F := Ideal))) ⟨m, fun _ => 0, ρ⟩ fun r => ∀ c : Dev nD,
    r.2.mem ((c : Thread nD τ).loc main_v9) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6) :=
  (θ_run defs _ _).mono (fun r h c => ⟨((h c).1 6).trans (arr m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c)⟩) (run_main m ρ)

end Cert.KernelIdeal.FinalValue
end
-- ==== Proof.RefStages.lean ====
/- The stages that the references have in common, read at one entry: packed rows unpacked, a layer's expert rows combined
   with the residual, a LayerNorm, a modulation, and the residual with a gated sublayer output. -/
module
public import proofs.«01_k».proof.Proof.Gen.ReferenceIdeal.Run
public import proofs.«01_k».proof.Proof.RowMath
public import Idealize.ShloMosaic.Lib.Pointwise
public import Idealize.ShloMosaic.Lib.BitcastConvert
@[expose] public section
set_option maxRecDepth 16384
noncomputable section
open Idealize.ShloMosaic Idealize.ShloMosaic.TcCoe Idealize.SL.Sem
namespace Cert.RefStages
open Cert.ReferenceIdeal Cert.ReferenceIdeal.Gen Cert.ReferenceIdeal.Value Cert.RowMath

/-- The packed rows of one array as floats, the low halves and then the high halves of a row's words. -/
def rowsAll (y : IVec S4x8192x512 32) : FVec Ideal S4x8192x1024 .f32 :=
  concatenate S4x8192x1024 2 [⟨S4x8192x512, (shapeCast _ (extractStridedSlice S4x8192x512x1 ![0, 0, 0, 0] (extf .f32 (bitcastToFloat (F := Ideal) .bf16 (Host.bitcastConvertNarrow S4x8192x512x2 16 y splits_S4x8192x512_w32_S4x8192x512x2_w16)) bitsLt_bf16_f32) slices_S4x8192x512x2_S4x8192x512x1_0_0_0_0) shapeCasts_S4x8192x512x1_S4x8192x512)⟩, ⟨S4x8192x512, (shapeCast _ (extractStridedSlice S4x8192x512x1 ![0, 0, 0, 1] (extf .f32 (bitcastToFloat (F := Ideal) .bf16 (Host.bitcastConvertNarrow S4x8192x512x2 16 y splits_S4x8192x512_w32_S4x8192x512x2_w16)) bitsLt_bf16_f32) slices_S4x8192x512x2_S4x8192x512x1_0_0_0_1) shapeCasts_S4x8192x512x1_S4x8192x512)⟩] concatenates_S4x8192x512_S4x8192x512_S4x8192x1024_d2

theorem drop_at (b : Fin 4) (s : Fin 8192) (q : Fin 512) (j : Fin 2) :
    splits_S4x8192x512_w32_S4x8192x512x2_w16.drop (ix4 b s q j) = ix3 b s q := by
  funext i
  fin_cases i <;> rfl

theorem rowsAll_at (y : IVec S4x8192x512 32) (b : Fin 4) (s : Fin 8192) (l : Fin 1024) :
    rowsAll y (ix3 b s l) = rowEl (fun q => y (ix3 b s q)) l := by
  pointwise [rowsAll]
  unfold rowEl
  by_cases hl : l.val < 512
  · refine (dif_pos hl).trans (Eq.trans ?_ (dif_pos hl).symm)
    exact congrArg (fun w => Ideal.ofBits .bf16 (BitVec.extractLsb' 0 16 w)) (congrArg y (drop_at b s ⟨l.val, hl⟩ 0))
  · refine (dif_neg hl).trans (Eq.trans ?_ (dif_neg hl).symm)
    exact congrArg (fun w => Ideal.ofBits .bf16 (BitVec.extractLsb' 16 16 w)) (congrArg y (drop_at b s ⟨l.val - 512, by omega⟩ 1))

/-- The residual scaled, plus a sublayer's output gated by row `k` of the modulations. -/
def resAll (k : Nat) (hk : S4x6x1024.Slices ![0, k, 0] S4x1x1024) (x y : FVec Ideal S4x8192x1024 .f32) (md : FVec Ideal S4x6x1024 .f32) : FVec Ideal S4x8192x1024 .f32 :=
  addf (mulf (broadcastInDim S4x8192x1024 ![] bcast_S_S4x8192x1024 (constant S_ .f32 0x3FD744FD#32)) x) (mulf (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 (shapeCast _ (extractStridedSlice S4x1x1024 ![0, k, 0] md hk) shapeCasts_S4x1x1024_S4x1024)))) y)

theorem resAll_at (k : Fin 6) (hk : S4x6x1024.Slices ![0, k.val, 0] S4x1x1024) (x y : FVec Ideal S4x8192x1024 .f32) (md : FVec Ideal S4x6x1024 .f32)
    (b : Fin 4) (s : Fin 8192) (l : Fin 1024) :
    resAll k.val hk x y md (ix3 b s l) = resEl (x (ix3 b s l)) (md (ix3 b k l)) (y (ix3 b s l)) := by
  pointwise [resAll, resEl]

/-- The two expert rows of every token, weighted. -/
def combAll (y0 y1 : FVec Ideal S4x8192x1024 .f32) (w : FVec Ideal S4x8192x2 .f32) : FVec Ideal S4x8192x1024 .f32 :=
  addf (mulf (broadcastInDim S4x8192x1024 ![0, 1, 2] bcast_S4x8192x1_S4x8192x1024_0_1_2 (extractStridedSlice S4x8192x1 ![0, 0, 0] w slices_S4x8192x2_S4x8192x1_0_0_0)) y0) (mulf (broadcastInDim S4x8192x1024 ![0, 1, 2] bcast_S4x8192x1_S4x8192x1024_0_1_2 (extractStridedSlice S4x8192x1 ![0, 0, 1] w slices_S4x8192x2_S4x8192x1_0_0_1)) y1)

theorem combAll_at (y0 y1 : FVec Ideal S4x8192x1024 .f32) (w : FVec Ideal S4x8192x2 .f32) (b : Fin 4) (s : Fin 8192) (l : Fin 1024) :
    combAll y0 y1 w (ix3 b s l) = w (ix3 b s 0) * y0 (ix3 b s l) + w (ix3 b s 1) * y1 (ix3 b s l) := by
  pointwise [combAll]

/-- The LayerNorm over a token's values, with its gain and bias. -/
def normAll (v : FVec Ideal S4x8192x1024 .f32) (g o : FVec Ideal S1024 .f32) : FVec Ideal S4x8192x1024 .f32 :=
  addf (mulf (mulf (subf v (broadcastInDim S4x8192x1024 ![0, 1, 2] bcast_S4x8192x1_S4x8192x1024_0_1_2 (Host.divf (broadcastInDim S4x8192x1 ![0, 1] bcast_S4x8192_S4x8192x1_0_1 (Host.reduceAdd v (constant S_ .f32 0x00000000#32) reducesTo_S4x8192x1024_S4x8192_d2 h_S_)) (broadcastInDim S4x8192x1 ![] bcast_S_S4x8192x1 (constant S_ .f32 0x44800000#32))))) (broadcastInDim S4x8192x1024 ![0, 1, 2] bcast_S4x8192x1_S4x8192x1024_0_1_2 (Host.rsqrt (addf (Host.divf (broadcastInDim S4x8192x1 ![0, 1] bcast_S4x8192_S4x8192x1_0_1 (Host.reduceAdd (mulf (subf v (broadcastInDim S4x8192x1024 ![0, 1, 2] bcast_S4x8192x1_S4x8192x1024_0_1_2 (Host.divf (broadcastInDim S4x8192x1 ![0, 1] bcast_S4x8192_S4x8192x1_0_1 (Host.reduceAdd v (constant S_ .f32 0x00000000#32) reducesTo_S4x8192x1024_S4x8192_d2 h_S_)) (broadcastInDim S4x8192x1 ![] bcast_S_S4x8192x1 (constant S_ .f32 0x44800000#32))))) (subf v (broadcastInDim S4x8192x1024 ![0, 1, 2] bcast_S4x8192x1_S4x8192x1024_0_1_2 (Host.divf (broadcastInDim S4x8192x1 ![0, 1] bcast_S4x8192_S4x8192x1_0_1 (Host.reduceAdd v (constant S_ .f32 0x00000000#32) reducesTo_S4x8192x1024_S4x8192_d2 h_S_)) (broadcastInDim S4x8192x1 ![] bcast_S_S4x8192x1 (constant S_ .f32 0x44800000#32)))))) (constant S_ .f32 0x00000000#32) reducesTo_S4x8192x1024_S4x8192_d2 h_S_)) (broadcastInDim S4x8192x1 ![] bcast_S_S4x8192x1 (constant S_ .f32 0x44800000#32))) (broadcastInDim S4x8192x1 ![] bcast_S_S4x8192x1 (constant S_ .f32 0x3727C5AC#32)))))) (broadcastInDim S4x8192x1024 ![0, 1, 2] bcast_S1x1x1024_S4x8192x1024_0_1_2 (broadcastInDim S1x1x1024 ![2] bcast_S1024_S1x1x1024_2 g))) (broadcastInDim S4x8192x1024 ![0, 1, 2] bcast_S1x1x1024_S4x8192x1024_0_1_2 (broadcastInDim S1x1x1024 ![2] bcast_S1024_S1x1x1024_2 o))

theorem normAll_at (v : FVec Ideal S4x8192x1024 .f32) (g o : FVec Ideal S1024 .f32) (b : Fin 4) (s : Fin 8192) (l : Fin 1024) :
    normAll v g o (ix3 b s l) = lnEl (fun k => v (ix3 b s k)) (g (ix1 l)) (o (ix1 l)) l := by
  pointwise [normAll, lnEl, meanEl]

theorem slices5 : S4x6x1024.Slices ![0, 5, 0] S4x1x1024 := slices_S4x6x1024_S4x1x1024_0_5_0

/-- The end of a layer, for every token. -/
def ffnAll (x : FVec Ideal S4x8192x1024 .f32) (y0 y1 : IVec S4x8192x512 32) (w : FVec Ideal S4x8192x2 .f32) (md : FVec Ideal S4x6x1024 .f32)
    (g o : FVec Ideal S1024 .f32) : FVec Ideal S4x8192x1024 .f32 :=
  normAll (resAll 5 slices5 x (combAll (rowsAll y0) (rowsAll y1) w) md) g o

theorem ffnAll_at (x : FVec Ideal S4x8192x1024 .f32) (y0 y1 : IVec S4x8192x512 32) (w : FVec Ideal S4x8192x2 .f32) (md : FVec Ideal S4x6x1024 .f32)
    (g o : FVec Ideal S1024 .f32) (b : Fin 4) (s : Fin 8192) (l : Fin 1024) :
    ffnAll x y0 y1 w md g o (ix3 b s l) = ffnOut x y0 y1 w md g o b s l := by
  unfold ffnAll ffnOut ffnEl
  rw [normAll_at]
  refine congrArg (fun r => lnEl r _ _ l) (funext fun k => ?_)
  rw [show resAll 5 slices5 x (combAll (rowsAll y0) (rowsAll y1) w) md (ix3 b s k) = _ from resAll_at 5 slices5 _ _ md b s k,
    combAll_at, rowsAll_at, rowsAll_at]

/-- The reference of the final combine. -/
theorem final_eq (m : (ℓ : Loc nD τ sig) → Buf (Elt Ideal) ℓ) (c : Dev nD) :
    res_main_v54 m c = ffnAll (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6)) := rfl

end Cert.RefStages

end
-- ==== Proof.Halo.lean ====
/- Reading a buffer that keeps, above one tile of rows, the last rows of the tile before: a stored piece of whole rows, read
   at an entry, and a load of a tile's worth of rows that starts above it. -/
module
public import proofs.«01_k».proof.Proof.RowMath
public import Idealize.ShloMosaic.Lib.WritesUnit
public import Idealize.ShloMosaic.Lib.Pipeline.ValueKit
public import Idealize.ShloMosaic.Lib.Pipeline.ReadBack
@[expose] public section
noncomputable section
open Idealize.ShloMosaic
namespace Cert.Halo

variable {M H T N : Nat} {Val : EltTy → Type} {sig : RefSig} {κ : Kind} {sp : Space} {e : EltTy}

/-- Row `y` at entry `l` reads the newest piece, rows `H` to `H + T - 1`, where it lies in them. -/
theorem read_in (v : View sig κ sp (⟨2, ![M, N]⟩ : Shape) e) (f : v.ty.Contents Val)
    (inb : ∀ a : Fin 2, (![H, 0] : Fin 2 → Nat) a + (![T, N] : Fin 2 → Nat) a ≤ (![M, N] : Fin 2 → Nat) a)
    (q : (⟨2, ![T, N]⟩ : Shape).Idx → Val e) (L : List (View.Piece Val (⟨2, ![M, N]⟩ : Shape) e)) (y : Fin M) (r : Fin T) (l : Fin N)
    (h : y.val = H + r.val) :
    v.read Val (v.writes Val f ((⟨Rect.unit (s := ⟨2, ![M, N]⟩) ![H, 0] ![T, N] inb, q⟩ : View.Piece Val (⟨2, ![M, N]⟩ : Shape) e) :: L)) (ix2 y l) = q (ix2 r l) :=
  View.read_writes_cons_rows_of_mem v f inb q L (ix2 y l) (ix2 r l) rfl h rfl

/-- A row outside it reads what was there before. -/
theorem read_out (v : View sig κ sp (⟨2, ![M, N]⟩ : Shape) e) (f : v.ty.Contents Val)
    (inb : ∀ a : Fin 2, (![H, 0] : Fin 2 → Nat) a + (![T, N] : Fin 2 → Nat) a ≤ (![M, N] : Fin 2 → Nat) a)
    (q : (⟨2, ![T, N]⟩ : Shape).Idx → Val e) (L : List (View.Piece Val (⟨2, ![M, N]⟩ : Shape) e)) (y : Fin M) (l : Fin N)
    (h : y.val < H ∨ H + T ≤ y.val) :
    v.read Val (v.writes Val f ((⟨Rect.unit (s := ⟨2, ![M, N]⟩) ![H, 0] ![T, N] inb, q⟩ : View.Piece Val (⟨2, ![M, N]⟩ : Shape) e) :: L)) (ix2 y l)
      = v.read Val (v.writes Val f L) (ix2 y l) :=
  View.read_writes_cons_rows_of_not_mem v f inb q L (ix2 y l) rfl rfl h

/-- A load of `T` rows from row `o` is, at row `r`, the buffer's row `o + r`. -/
theorem unit_idx {o : Nat} (inb : ∀ a : Fin 2, (![o, 0] : Fin 2 → Nat) a + (![T, N] : Fin 2 → Nat) a ≤ (![M, N] : Fin 2 → Nat) a)
    (r : Fin T) (l : Fin N) (y : Fin M) (h : y.val = o + r.val) :
    (Rect.unit (s := ⟨2, ![M, N]⟩) ![o, 0] ![T, N] inb).toLoadRect.idx (ix2 r l) = ix2 y l := by
  funext a
  apply Fin.ext
  fin_cases a
  · show o + 1 * r.val = y.val
    omega
  · show 0 + 1 * l.val = l.val
    omega

variable [∀ e, Nonempty (Val e)]

theorem canon_in (inb : ∀ a : Fin 2, (![H, 0] : Fin 2 → Nat) a + (![T, N] : Fin 2 → Nat) a ≤ (![M, N] : Fin 2 → Nat) a)
    (q : (⟨2, ![T, N]⟩ : Shape).Idx → Val e) (L : List (View.Piece Val (⟨2, ![M, N]⟩ : Shape) e)) (y : Fin M) (r : Fin T) (l : Fin N)
    (h : y.val = H + r.val) :
    View.canon ((⟨Rect.unit (s := ⟨2, ![M, N]⟩) ![H, 0] ![T, N] inb, q⟩ : View.Piece Val (⟨2, ![M, N]⟩ : Shape) e) :: L) (ix2 y l) = q (ix2 r l) := by
  rw [← unit_idx inb r l y h]
  exact View.canon_cons_emb (Rect.unit (s := ⟨2, ![M, N]⟩) ![H, 0] ![T, N] inb) q L (ix2 r l)

theorem canon_out (inb : ∀ a : Fin 2, (![H, 0] : Fin 2 → Nat) a + (![T, N] : Fin 2 → Nat) a ≤ (![M, N] : Fin 2 → Nat) a)
    (q : (⟨2, ![T, N]⟩ : Shape).Idx → Val e) (L : List (View.Piece Val (⟨2, ![M, N]⟩ : Shape) e)) (y : Fin M) (l : Fin N)
    (h : y.val < H ∨ H + T ≤ y.val) :
    View.canon ((⟨Rect.unit (s := ⟨2, ![M, N]⟩) ![H, 0] ![T, N] inb, q⟩ : View.Piece Val (⟨2, ![M, N]⟩ : Shape) e) :: L) (ix2 y l)
      = View.canon L (ix2 y l) := by
  refine View.canon_cons_of_not_mem _ L fun hy => ?_
  have h1 : H ≤ y.val ∧ y.val < H + T := (Rect.mem_set_unit (s := ⟨2, ![M, N]⟩) (inb := inb)).mp hy (0 : Fin 2)
  omega

variable {T' o : Nat}

/-- A load of `T'` rows from row `o`, at a row that lies in the newest piece, reads that piece. -/
theorem load_in (v : View sig κ sp (⟨2, ![M, N]⟩ : Shape) e)
    (inb : ∀ a : Fin 2, (![H, 0] : Fin 2 → Nat) a + (![T, N] : Fin 2 → Nat) a ≤ (![M, N] : Fin 2 → Nat) a)
    (inb' : ∀ a : Fin 2, (![o, 0] : Fin 2 → Nat) a + (![T', N] : Fin 2 → Nat) a ≤ (![M, N] : Fin 2 → Nat) a)
    (q : (⟨2, ![T, N]⟩ : Shape).Idx → Val e) (L : List (View.Piece Val (⟨2, ![M, N]⟩ : Shape) e)) (j : Fin T') (r : Fin T) (l : Fin N)
    (h : o + j.val = H + r.val) :
    v.readCov ((⟨Rect.unit (s := ⟨2, ![M, N]⟩) ![H, 0] ![T, N] inb, q⟩ : View.Piece Val (⟨2, ![M, N]⟩ : Shape) e) :: L)
      (Rect.unit (s := ⟨2, ![M, N]⟩) ![o, 0] ![T', N] inb').toLoadRect (ix2 j l) = q (ix2 r l) := by
  rw [View.readCov_eq_canon']
  have hM : o + j.val < M := by have h0 : o + T' ≤ M := inb' 0; omega
  refine (congrArg (View.canon _) (unit_idx inb' j l ⟨o + j.val, hM⟩ rfl)).trans ?_
  exact canon_in inb q L _ r l h

/-- At a row that lies outside it, the pieces before. -/
theorem load_out (v : View sig κ sp (⟨2, ![M, N]⟩ : Shape) e)
    (inb : ∀ a : Fin 2, (![H, 0] : Fin 2 → Nat) a + (![T, N] : Fin 2 → Nat) a ≤ (![M, N] : Fin 2 → Nat) a)
    (inb' : ∀ a : Fin 2, (![o, 0] : Fin 2 → Nat) a + (![T', N] : Fin 2 → Nat) a ≤ (![M, N] : Fin 2 → Nat) a)
    (q : (⟨2, ![T, N]⟩ : Shape).Idx → Val e) (L : List (View.Piece Val (⟨2, ![M, N]⟩ : Shape) e)) (j : Fin T') (l : Fin N)
    (y : Fin M) (hy : y.val = o + j.val) (h : o + j.val < H) :
    v.readCov ((⟨Rect.unit (s := ⟨2, ![M, N]⟩) ![H, 0] ![T, N] inb, q⟩ : View.Piece Val (⟨2, ![M, N]⟩ : Shape) e) :: L)
      (Rect.unit (s := ⟨2, ![M, N]⟩) ![o, 0] ![T', N] inb').toLoadRect (ix2 j l) = View.canon L (ix2 y l) := by
  rw [View.readCov_eq_canon']
  refine (congrArg (View.canon _) (unit_idx inb' j l y hy)).trans ?_
  exact canon_out inb q L _ l (.inl (by omega))

end Cert.Halo
end
-- ==== Proof.MixBKernel.lean ====
/- What the short-gated-convolution mixer's call computes: its payloads at an entry, the rows its scratch carries from one
   tile of tokens to the next, and the array the launch leaves. -/
module
public import proofs.«01_k».proof.Proof.Gen.Kernel2Ideal.Frame
public import proofs.«01_k».proof.Proof.Halo
public import proofs.«01_k».proof.Proof.TileStages
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt
@[expose] public section
set_option maxRecDepth 16384
noncomputable section
open Idealize.ShloMosaic Idealize.ShloMosaic.TcCoe Idealize.SL.Sem
namespace Cert.Kernel2Ideal.MixValue
open Cert.Kernel2Ideal Cert.Kernel2Ideal.Gen Cert.RowMath Cert.TileStages

theorem proj_at (v6 : FVec Ideal S6x1024 .f32) (v8 : FVec Ideal S512x1024 .f32) (v13 v14 v15 : FVec Ideal S1x1024 .f32) (v21 v27 : FVec Ideal S512x1024 .f32)
    (v30 v31 : FVec Ideal S512x512 .f32) (v71 : Vec Ideal S1024x3072 .bf16) (r : Fin 512) (j : Fin 3072) :
    k0_pay20 v6 v8 v13 v14 v15 v21 v27 v30 v31 v71 (ix2 r j)
      = projEl (fun k => k0_pay19 v8 v13 v14 v15 v21 v27 v30 v31 (ix2 r k)) (fun k => v6 (ix2 1 k)) (fun k => v6 (ix2 0 k)) (fun k => v71 (ix2 k j)) := by
  pointwise [k0_pay20, projEl]

theorem gate_at (v6 : FVec Ideal S6x1024 .f32) (v8 : FVec Ideal S512x1024 .f32) (v13 v14 v15 : FVec Ideal S1x1024 .f32) (v21 v27 : FVec Ideal S512x1024 .f32)
    (v30 v31 : FVec Ideal S512x512 .f32) (v71 : Vec Ideal S1024x3072 .bf16) (r : Fin 512) (l : Fin 1024) :
    k0_pay24 (k0_pay22 v6 v8 v13 v14 v15 v21 v27 v30 v31 v71) (ix2 r l)
      = k0_pay20 v6 v8 v13 v14 v15 v21 v27 v30 v31 v71 (ix2 r ⟨1024 + l.val, by omega⟩)
        * k0_pay20 v6 v8 v13 v14 v15 v21 v27 v30 v31 v71 (ix2 r ⟨2048 + l.val, by omega⟩) := by
  pointwise [k0_pay24, k0_pay22]

theorem left_at (v6 : FVec Ideal S6x1024 .f32) (v8 : FVec Ideal S512x1024 .f32) (v13 v14 v15 : FVec Ideal S1x1024 .f32) (v21 v27 : FVec Ideal S512x1024 .f32)
    (v30 v31 : FVec Ideal S512x512 .f32) (v71 : Vec Ideal S1024x3072 .bf16) (r : Fin 512) (l : Fin 1024) :
    k0_pay21 v6 v8 v13 v14 v15 v21 v27 v30 v31 v71 (ix2 r l)
      = k0_pay20 v6 v8 v13 v14 v15 v21 v27 v30 v31 v71 (ix2 r ⟨l.val, by omega⟩) := by
  pointwise [k0_pay21]

theorem out_at (v74 : FVec Ideal S512x1024 .f32) (v78 : Vec Ideal S3x1024 .f32) (v86 v90 v95 : Vec Ideal S512x1024 .f32) (v105 : Vec Ideal S1024x1024 .bf16)
    (r : Fin 512) (l : Fin 1024) :
    k0_pay26 v74 v78 v86 v90 v95 v105 (ix2 r l)
      = ∑ k : Fin 1024, (v74 (ix2 r k) * (v78 (ix2 0 k) * v86 (ix2 r k) + v78 (ix2 1 k) * v90 (ix2 r k) + v78 (ix2 2 k) * v95 (ix2 r k))) * v105 (ix2 k l) := by
  pointwise [k0_pay26]

theorem x1_at (v107 : FVec Ideal S512x1024 .f32) (P7 : Vec Ideal S2x1024 .f32) (v61 : FVec Ideal S512x1024 .f32) (P6 : Vec Ideal S1x1x6x1024 .f32)
    (r : Fin 512) (l : Fin 1024) :
    k0_pay31 v107 (k0_pay27 P7) (k0_pay28 v61) (k0_pay29 (k0_pay7 P6)) (ix3 0 r l)
      = lnEl (fun k => resEl (v61 (ix2 r k)) (P6 (ix4 0 0 2 k)) (v107 (ix2 r k))) (P7 (ix2 0 l)) (P7 (ix2 1 l)) l := by
  pointwise [k0_pay31, k0_pay30, k0_pay27, k0_pay28, k0_pay29, k0_pay7, lnEl, meanEl, resEl]

section Point
variable (m : (ℓ : Loc nD τ sig) → Buf (Elt Ideal) ℓ) (c : Dev nD)

theorem idx : ∀ t : Fin cfg0.N, win0_0.index t = ![t.val / 16, t.val % 16, 0] ∧ win0_1.index t = ![t.val / 16, t.val % 16, 0]
    ∧ win0_2.index t = ![t.val / 16, t.val % 16, 0] ∧ win0_3.index t = ![t.val / 16, t.val % 16, 0] ∧ win0_4.index t = ![0, t.val / 16, 0, 0]
    ∧ win0_5.index t = ![0, 0] ∧ win0_6.index t = ![0, t.val / 16, 0, 0] ∧ win0_7.index t = ![0, 0] ∧ win0_8.index t = ![0, 0]
    ∧ win0_9.index t = ![0, 0] ∧ win0_10.index t = ![0, 0] ∧ win0_14.index t = ![t.val / 16, t.val % 16, 0] := by
  decide +kernel

theorem w_lo (b : Fin 4) (s : Fin 8192) (k : Fin 256) (hk : k.val < 128) :
    V m c main_v4 (ix3 b s k) = m ((c : Thread nD τ).loc main_arg3) (ix3 b s 0) := by
  unfold V hostOps0
  after_reads_at
  rw [dif_pos hk]
theorem w_hi (b : Fin 4) (s : Fin 8192) (k : Fin 256) (hk : 128 ≤ k.val) :
    V m c main_v4 (ix3 b s k) = m ((c : Thread nD τ).loc main_arg3) (ix3 b s 1) := by
  unfold V hostOps0
  after_reads_at
  rw [dif_neg (by omega)]
theorem pm_at (b : Fin 4) (i : Fin 6) (k : Fin 1024) : V m c main_v30 (ix4 0 b i k) = m ((c : Thread nD τ).loc main_arg4) (ix3 b i k) := by
  unfold V hostOps0
  after_reads_at
theorem md_at (b : Fin 4) (i : Fin 6) (k : Fin 1024) : V m c main_v34 (ix4 0 b i k) = m ((c : Thread nD τ).loc main_arg7) (ix3 b i k) := by
  unfold V hostOps0
  after_reads_at
theorem pl0_at (k : Fin 1024) : V m c main_v33 (ix2 0 k) = m ((c : Thread nD τ).loc main_arg5) (ix1 k) := by
  unfold V hostOps0
  after_reads_at
theorem pl1_at (k : Fin 1024) : V m c main_v33 (ix2 1 k) = m ((c : Thread nD τ).loc main_arg6) (ix1 k) := by
  unfold V hostOps0
  after_reads_at
theorem ml0_at (k : Fin 1024) : V m c main_v37 (ix2 0 k) = m ((c : Thread nD τ).loc main_arg8) (ix1 k) := by
  unfold V hostOps0
  after_reads_at
theorem ml1_at (k : Fin 1024) : V m c main_v37 (ix2 1 k) = m ((c : Thread nD τ).loc main_arg9) (ix1 k) := by
  unfold V hostOps0
  after_reads_at
theorem win_at (k : Fin 1024) (j : Fin 3072) : V m c main_v38 (ix2 k j) = m ((c : Thread nD τ).loc main_arg10) (ix2 k j) := by
  unfold V hostOps0
  after_reads_at
theorem wout_at (k l : Fin 1024) : V m c main_v39 (ix2 k l) = m ((c : Thread nD τ).loc main_arg12) (ix2 k l) := by
  unfold V hostOps0
  after_reads_at

/-- The rows of batch `b` that enter the mixer. -/
def xs (b : Fin 4) (s : Fin 8192) (k : Fin 1024) : EReal :=
  ffnOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b s k
/-- The modulations of batch `b`. -/
def ms (b : Fin 4) (i : Fin 6) (k : Fin 1024) : EReal := m ((c : Thread nD τ).loc main_arg7) (ix3 b i k)

variable (t : Fin cfg0.N)

theorem win_pt (k : Fin 1024) (j : Fin 3072) : iblk m c 8 t (ix2 k j) = m ((c : Thread nD τ).loc main_arg10) (ix2 k j) := by
  have e := (idx t).2.2.2.2.2.2.2.2.1
  rw [← win_at m c]; blk_ext [iblk, e]
theorem wdw_pt (i : Fin 3) (k : Fin 1024) : iblk m c 9 t (ix2 i k) = m ((c : Thread nD τ).loc main_arg11) (ix2 i k) := by
  have e := (idx t).2.2.2.2.2.2.2.2.2.1
  rw [← V_main_arg11 m c]; blk_ext [iblk, e]
theorem wout_pt (k l : Fin 1024) : iblk m c 10 t (ix2 k l) = m ((c : Thread nD τ).loc main_arg12) (ix2 k l) := by
  have e := (idx t).2.2.2.2.2.2.2.2.2.2.1
  rw [← wout_at m c]; blk_ext [iblk, e]
theorem gain_pt (l : Fin 1024) : iblk m c 7 t (ix2 0 l) = m ((c : Thread nD τ).loc main_arg8) (ix1 l) := by
  have e := (idx t).2.2.2.2.2.2.2.1
  rw [← ml0_at m c]; blk_ext [iblk, e]
theorem bias_pt (l : Fin 1024) : iblk m c 7 t (ix2 1 l) = m ((c : Thread nD τ).loc main_arg9) (ix1 l) := by
  have e := (idx t).2.2.2.2.2.2.2.1
  rw [← ml1_at m c]; blk_ext [iblk, e]

variable (b : Fin 4) (hb : b.val = t.val / 16)
include hb

set_option maxHeartbeats 1000000 in
theorem tile_pt (r : Fin 512) (l : Fin 1024) (s : Fin 8192) (hs : s.val = t.val % 16 * 512 + r.val) :
    tile (iblk m c 0 t) (iblk m c 1 t) (iblk m c 2 t) (iblk m c 3 t) (iblk m c 4 t) (iblk m c 5 t) (ix2 r l) = xs m c b s l := by
  obtain ⟨e0, e1, e2, e3, e4, e5, -⟩ := idx t
  rw [tile_at (w0 := m ((c : Thread nD τ).loc main_arg3) (ix3 b s 0)) (w1 := m ((c : Thread nD τ).loc main_arg3) (ix3 b s 1))]
  · unfold xs ffnOut
    congr 1
    · funext k; rw [← V_main_arg0 m c]; blk_ext [iblk, e0]
    · funext k; rw [← pm_at m c]; blk_ext [iblk, e4]
    · funext k; rw [← V_main_arg1 m c]; blk_ext [iblk, e1]
    · funext k; rw [← V_main_arg2 m c]; blk_ext [iblk, e2]
    · funext k; rw [← pl0_at m c]; blk_ext [iblk, e5]
    · funext k; rw [← pl1_at m c]; blk_ext [iblk, e5]
  · intro k hk
    rw [← w_lo m c b s k hk]
    blk_ext [iblk, e3]
  · intro k hk
    rw [← w_hi m c b s k hk]
    blk_ext [iblk, e3]

/-- The projection of a tile's tokens. -/
abbrev proj (t : Fin cfg0.N) : FVec Ideal S512x3072 .f32 :=
  k0_pay20 (k0_pay7 (iblk m c 6 t)) (k0_pay8 (iblk m c 0 t)) (k0_pay10 (iblk m c 4 t)) (k0_pay11 (iblk m c 5 t)) (k0_pay12 (iblk m c 5 t)) (k0_pay14 (iblk m c 3 t)) (k0_pay15 (iblk m c 3 t) (iblk m c 1 t)) (k0_pay17 (iblk m c 2 t)) (k0_pay18 (iblk m c 2 t)) (iblk m c 8 t)

/-- Its gated values. -/
abbrev gate (t : Fin cfg0.N) : FVec Ideal S512x1024 .f32 :=
  k0_pay24 (k0_pay22 (k0_pay7 (iblk m c 6 t)) (k0_pay8 (iblk m c 0 t)) (k0_pay10 (iblk m c 4 t)) (k0_pay11 (iblk m c 5 t)) (k0_pay12 (iblk m c 5 t)) (k0_pay14 (iblk m c 3 t)) (k0_pay15 (iblk m c 3 t) (iblk m c 1 t)) (k0_pay17 (iblk m c 2 t)) (k0_pay18 (iblk m c 2 t)) (iblk m c 8 t))

theorem md_pt (i : Fin 6) (k : Fin 1024) : iblk m c 6 t (ix4 0 0 i k) = ms m c b i k := by
  obtain ⟨e0, e1, e2, e3, e4, e5, e6, -⟩ := idx t
  unfold ms; rw [← md_at m c]; blk_ext [iblk, e6]

theorem proj_pt (r : Fin 512) (j : Fin 3072) (s : Fin 8192) (hs : s.val = t.val % 16 * 512 + r.val) :
    proj m c t (ix2 r j) = projB (xs m c b) (ms m c b) (m ((c : Thread nD τ).loc main_arg10)) s j := by
  obtain ⟨e0, e1, e2, e3, e4, e5, e6, e7, e8, -⟩ := idx t
  unfold proj projB
  rw [proj_at]
  have em (i : Fin 6) (k : Fin 1024) : k0_pay7 (iblk m c 6 t) (ix2 i k) = ms m c b i k := by
    rw [← md_pt m c t b hb]
    pointwise [k0_pay7]
  exact projEl_congr (fun k => tile_pt m c t b hb r k s hs) (em 1) (em 0) (fun k => win_pt m c t k j)

theorem gate_pt (r : Fin 512) (l : Fin 1024) (s : Fin 8192) (hs : s.val = t.val % 16 * 512 + r.val) :
    gate m c t (ix2 r l) = gateB (xs m c b) (ms m c b) (m ((c : Thread nD τ).loc main_arg10)) s l := by
  unfold gate gateB
  rw [gate_at, ← proj_pt m c t b hb r _ s hs, ← proj_pt m c t b hb r _ s hs]

end Point

section Carry
variable (m : (ℓ : Loc nD τ sig) → Buf (Elt Ideal) ℓ) (c : Dev nD)

theorem keep_at (v : Vec Ideal S8x1024 .f32) (j : Fin 8) (l : Fin 1024) : k0_pay25 v (ix2 j l) = v (ix2 j l) := by
  pointwise [k0_pay25]
theorem zero_at (j : Fin 8) (l : Fin 1024) : (k0_pay23 (F := Ideal)) (ix2 j l) = 0 := by
  pointwise [k0_pay23]

/-- The last eight rows of the tile before, as the scratch keeps them after a point. -/
theorem carried (t : Fin cfg0.N) (y : Fin 520) (l : Fin 1024) (r : Fin 512) (hy : y.val < 8) (hr : r.val = 504 + y.val) :
    (outsAt0 m c t.val t.isLt).2.2.2.2.2.1 (ix2 y l) = gate m c t (ix2 r l) := by
  by_cases h1 : t.val % 16 = 0
  · by_cases h0 : t.val % 64 = 0
    · rw [outsAt0_A m c t h0 h1]
      dsimp only
      frame_open
      simp (disch := decide) only [↓ View.readCov_skip, ↓ View.readCov_cons_toLoadRect, ↓ View.readCov_fill]
      frame_out
      refine (Halo.canon_in _ _ _ y ⟨y.val, hy⟩ l (by simp)).trans ((keep_at _ _ _).trans ?_)
      exact Halo.load_in _ _ _ _ _ _ r l (by dsimp only; omega)
    · rw [outsAt0_C m c t h0 h1]
      dsimp only
      frame_open
      simp (disch := decide) only [↓ View.readCov_skip, ↓ View.readCov_cons_toLoadRect, ↓ View.readCov_fill]
      frame_out
      refine (Halo.canon_in _ _ _ y ⟨y.val, hy⟩ l (by simp)).trans ((keep_at _ _ _).trans ?_)
      exact Halo.load_in _ _ _ _ _ _ r l (by dsimp only; omega)
  · rw [outsAt0_B m c t (by omega) h1]
    dsimp only
    frame_open
    simp (disch := decide) only [↓ View.readCov_skip, ↓ View.readCov_cons_toLoadRect, ↓ View.readCov_fill]
    frame_out
    refine (Halo.canon_in _ _ _ y ⟨y.val, hy⟩ l (by simp)).trans ((keep_at _ _ _).trans ?_)
    exact Halo.load_in _ _ _ _ _ _ r l (by dsimp only; omega)

/-- The result tile of a point, the convolution reading its gated rows `2` and `1` back as `L6` and `L7`. -/
abbrev x1Tile (t : Fin cfg0.N) (L6 L7 : Vec Ideal S512x1024 .f32) : FVec Ideal S1x512x1024 .f32 :=
  k0_pay31 (k0_pay26 (k0_pay21 (k0_pay7 (iblk m c 6 t)) (k0_pay8 (iblk m c 0 t)) (k0_pay10 (iblk m c 4 t)) (k0_pay11 (iblk m c 5 t)) (k0_pay12 (iblk m c 5 t)) (k0_pay14 (iblk m c 3 t)) (k0_pay15 (iblk m c 3 t) (iblk m c 1 t)) (k0_pay17 (iblk m c 2 t)) (k0_pay18 (iblk m c 2 t)) (iblk m c 8 t)) (iblk m c 9 t) L6 L7 (gate m c t) (iblk m c 10 t))
    (k0_pay27 (iblk m c 7 t)) (k0_pay28 (tile (iblk m c 0 t) (iblk m c 1 t) (iblk m c 2 t) (iblk m c 3 t) (iblk m c 4 t) (iblk m c 5 t))) (k0_pay29 (k0_pay7 (iblk m c 6 t)))

/-- What a load of the gated rows `n` tokens back finds. -/
def Back (n : Nat) (t : Fin cfg0.N) (b : Fin 4) (L : Vec Ideal S512x1024 .f32) : Prop :=
  ∀ (r : Fin 512) (l : Fin 1024) (s : Fin 8192), s.val = t.val % 16 * 512 + r.val →
    L (ix2 r l) = delayed (gateB (xs m c b) (ms m c b) (m ((c : Thread nD τ).loc main_arg10))) n s l

/-- In the first tile of a batch the rows above the tile are zero. -/
theorem back_first (n : Nat) (o : Nat) (ho : o + n = 8) (t : Fin cfg0.N) (b : Fin 4) (hb : b.val = t.val / 16) (h1 : t.val % 16 = 0)
    (v : View sig .tc .vmem S520x1024 .f32) (inb inb' inb'') :
    Back m c n t b (v.readCov [⟨Rect.unit (s := S520x1024) ![8, 0] ![512, 1024] inb, gate m c t⟩, ⟨Rect.unit (s := S520x1024) ![0, 0] ![8, 1024] inb', k0_pay23 (F := Ideal)⟩]
      (Rect.unit (s := S520x1024) ![o, 0] ![512, 1024] inb'').toLoadRect) := by
  intro r l s hs
  unfold delayed
  by_cases h : n ≤ r.val
  · rw [if_pos (by omega)]
    refine (Halo.load_in v inb inb'' _ _ r ⟨r.val - n, by omega⟩ l (by dsimp only; omega)).trans ?_
    exact gate_pt m c t b hb _ l _ (by dsimp only; omega)
  · rw [if_neg (by omega)]
    refine (Halo.load_out v inb inb'' _ _ r l ⟨o + r.val, by omega⟩ rfl (by omega)).trans ?_
    exact (Halo.canon_in inb' _ _ _ ⟨o + r.val, by omega⟩ l (by simp)).trans (zero_at _ _)

/-- In a later tile they are the last rows of the tile before. -/
theorem back_later (n : Nat) (o : Nat) (ho : o + n = 8) (t t' : Fin cfg0.N) (ht : t'.val + 1 = t.val) (b : Fin 4) (hb : b.val = t.val / 16) (h1 : ¬t.val % 16 = 0)
    (v : View sig .tc .vmem S520x1024 .f32) (f : v.ty.Contents (Elt Ideal)) (hf : v.read (Elt Ideal) f = (outsAt0 m c t'.val t'.isLt).2.2.2.2.2.1) (inb inb') :
    Back m c n t b (View.ld (v.read (Elt Ideal) (v.writes (Elt Ideal) f [⟨Rect.unit (s := S520x1024) ![8, 0] ![512, 1024] inb, gate m c t⟩]))
      (Rect.unit (s := S520x1024) ![o, 0] ![512, 1024] inb')) := by
  intro r l s hs
  refine (congrArg (v.read (Elt Ideal) (v.writes (Elt Ideal) f _)) (Halo.unit_idx inb' r l ⟨o + r.val, by omega⟩ rfl)).trans ?_
  unfold delayed
  rw [if_pos (by omega)]
  by_cases h : n ≤ r.val
  · refine (Halo.read_in v f inb _ _ _ ⟨r.val - n, by omega⟩ l (by dsimp only; omega)).trans ?_
    exact gate_pt m c t b hb _ l _ (by dsimp only; omega)
  · refine (Halo.read_out v f inb _ _ _ l (.inl (by dsimp only; omega))).trans ?_
    rw [View.writes_nil, hf]
    refine (carried m c t' ⟨o + r.val, by omega⟩ l ⟨504 + o + r.val, by omega⟩ (by dsimp only; omega) (by dsimp only; omega)).trans ?_
    exact gate_pt m c t' b (by omega) _ l _ (by dsimp only; omega)

/-- The result tile at an entry: the sublayer's value at that token. -/
theorem x1_pt (t : Fin cfg0.N) (b : Fin 4) (hb : b.val = t.val / 16) (L6 L7 : Vec Ideal S512x1024 .f32) (h6 : Back m c 2 t b L6) (h7 : Back m c 1 t b L7)
    (r : Fin 512) (l : Fin 1024) (s : Fin 8192) (hs : s.val = t.val % 16 * 512 + r.val) :
    x1Tile m c t L6 L7 (ix3 0 r l) = subB (xs m c b) (ms m c b) (m ((c : Thread nD τ).loc main_arg10)) (m ((c : Thread nD τ).loc main_arg11))
      (m ((c : Thread nD τ).loc main_arg12)) (m ((c : Thread nD τ).loc main_arg8)) (m ((c : Thread nD τ).loc main_arg9)) s l := by
  have ew (i : Fin 3) (k : Fin 1024) : iblk m c 9 t (ix2 i k) = rowOf (m ((c : Thread nD τ).loc main_arg11)) i.val k :=
    (wdw_pt m c t i k).trans (by unfold rowOf; rw [dif_pos i.isLt])
  unfold x1Tile subB
  rw [x1_at, gain_pt, bias_pt]
  refine congrArg (fun v => lnEl v _ _ l) (funext fun k => ?_)
  rw [tile_pt m c t b hb r k s hs, md_pt m c t b hb, out_at]
  refine congrArg (resEl _ _) (Finset.sum_congr rfl fun q _ => ?_)
  rw [wout_pt, ew, ew, ew, left_at, h6 r q s hs, h7 r q s hs, gate_pt m c t b hb r q s hs]
  refine congrArg (· * _) ?_
  refine congrArg₂ (· * ·) (proj_pt m c t b hb r _ s hs) ?_
  unfold taps taps taps delayed
  simp

/-- Point `t`'s result block at an entry. -/
theorem out_pt (t : Fin cfg0.N) (b : Fin 4) (hb : b.val = t.val / 16) (r : Fin 512) (l : Fin 1024) (s : Fin 8192) (hs : s.val = t.val % 16 * 512 + r.val) :
    (outsAt0 m c t.val t.isLt).1 (ix3 0 r l) = subB (xs m c b) (ms m c b) (m ((c : Thread nD τ).loc main_arg10)) (m ((c : Thread nD τ).loc main_arg11))
      (m ((c : Thread nD τ).loc main_arg12)) (m ((c : Thread nD τ).loc main_arg8)) (m ((c : Thread nD τ).loc main_arg9)) s l := by
  by_cases h1 : t.val % 16 = 0
  · by_cases h0 : t.val % 64 = 0
    · rw [outsAt0_A m c t h0 h1]
      dsimp only
      frame_open
      simp (disch := decide) only [↓ View.readCov_skip, ↓ View.readCov_cons_toLoadRect, ↓ View.readCov_fill]
      frame_out
      exact x1_pt m c t b hb _ _ (back_first m c 2 6 rfl t b hb h1 _ _ _ _) (back_first m c 1 7 rfl t b hb h1 _ _ _ _) r l s hs
    · rw [outsAt0_C m c t h0 h1]
      dsimp only
      frame_open
      simp (disch := decide) only [↓ View.readCov_skip, ↓ View.readCov_cons_toLoadRect, ↓ View.readCov_fill]
      frame_out
      exact x1_pt m c t b hb _ _ (back_first m c 2 6 rfl t b hb h1 _ _ _ _) (back_first m c 1 7 rfl t b hb h1 _ _ _ _) r l s hs
  · rw [outsAt0_B m c t (by omega) h1]
    dsimp only
    frame_open
    simp (disch := decide) only [↓ View.readCov_skip, ↓ View.readCov_cons_toLoadRect, ↓ View.readCov_fill]
    frame_out
    have ht := t.isLt
    refine x1_pt m c t b hb _ _ (back_later m c 2 6 rfl t ⟨t.val - 1, by omega⟩ (by dsimp only; omega) b hb h1 _ _ ?_ _ _)
      (back_later m c 1 7 rfl t ⟨t.val - 1, by omega⟩ (by dsimp only; omega) b hb h1 _ _ ?_ _ _) r l s hs
    · exact read_unread_whole _ _ _
    · exact read_unread_whole _ _ _

theorem subB_congr {b b' : Fin 4} {s s' : Fin 8192} {l l' : Fin 1024} (hb : b.val = b'.val) (hs : s.val = s'.val) (hl : l.val = l'.val)
    (Win : S1024x3072.Idx → EReal) (Wdw : S3x1024.Idx → EReal) (Wout : S1024x1024.Idx → EReal) (A B : S1024.Idx → EReal) :
    subB (xs m c b) (ms m c b) Win Wdw Wout A B s l = subB (xs m c b') (ms m c b') Win Wdw Wout A B s' l' := by
  rw [Fin.ext hb, Fin.ext hs, Fin.ext hl]

/-- What the result array ends holding. -/
def result : Buf (Elt Ideal) ((c : Thread nD τ).loc main_v40_0) := fun i : S4x8192x1024.Idx =>
  subB (xs m c (i 0)) (ms m c (i 0)) (m ((c : Thread nD τ).loc main_arg10)) (m ((c : Thread nD τ).loc main_arg11))
    (m ((c : Thread nD τ).loc main_arg12)) (m ((c : Thread nD τ).loc main_arg8)) (m ((c : Thread nD τ).loc main_arg9)) (i 1) (i 2)

theorem arr : (dats m 0 c).arrAt 14 cfg0.N = result m c := by
  refine (dats m 0 c).arrAt_eq_of_covers 14 (result m c) (by decide +kernel) fun t hf y => ?_
  blk_simp
  rw [after0_14]
  have e := (idx t).2.2.2.2.2.2.2.2.2.2.2
  have hy : y = ix3 (0 : Fin 1) (y 1) (y 2) := by blk_ext
  have ht : t.val < 64 := t.isLt
  have hr : (y (1 : Fin 3)).val < 512 := (y 1).isLt
  rw [hy]
  refine (out_pt m c t ⟨t.val / 16, by omega⟩ rfl (y 1) (y 2) ⟨t.val % 16 * 512 + (y 1).val, by omega⟩ rfl).trans ?_
  refine subB_congr m c ?_ ?_ ?_ _ _ _ _ _ <;> blk_simp [e] <;> try rfl

variable (ρ : Dev nD → PrngReg)
/-- The run, read: the result array at the sublayer, the arguments unchanged. -/
theorem run : θ_run defs (onTc (τ := τ) (main (F := Ideal))) ⟨m, fun _ => 0, ρ⟩ fun r => ∀ c : Dev nD,
    r.2.mem ((c : Thread nD τ).loc main_v40_0) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13)
    ∧ r.2.mem ((c : Thread nD τ).loc main_arg14) = m ((c : Thread nD τ).loc main_arg14)
    ∧ r.2.mem ((c : Thread nD τ).loc main_arg15) = m ((c : Thread nD τ).loc main_arg15)
    ∧ r.2.mem ((c : Thread nD τ).loc main_arg16) = m ((c : Thread nD τ).loc main_arg16) :=
  (θ_run defs _ _).mono (fun r h c => ⟨((h c).1 14).trans (arr m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).1 9).trans (((dats m 0 c).arrAt_in 9 rfl _).trans ((A_eq m c 9).trans (V_main_arg11 m c))),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c),
    ((h c).2 main_arg16 (Pipeline.mem_restRefs_of main_arg16 (by decide) (by decide))).trans (V_main_arg16 m c)⟩) (run_main m ρ)

end Carry
end Cert.Kernel2Ideal.MixValue
end
-- ==== Proof.MixBReference.lean ====
/- What the reference of the short-gated-convolution mixer computes, read at one entry of its result. -/
module
public import proofs.«01_k».proof.Proof.Gen.Reference2Ideal.Run
public import proofs.«01_k».proof.Proof.RefStages
@[expose] public section
set_option maxRecDepth 16384
noncomputable section
open Idealize.ShloMosaic Idealize.ShloMosaic.TcCoe Idealize.SL.Sem Idealize.ShloMosaic.StableHlo
namespace Cert.Reference2Ideal.MixValue
open Cert.Reference2Ideal Cert.Reference2Ideal.Gen Cert.Reference2Ideal.Value Cert.RowMath Cert.RefStages

/-- The input projection of every token. -/
def projAll (x : FVec Ideal S4x8192x1024 .f32) (md : FVec Ideal S4x6x1024 .f32) (win : FVec Ideal S1024x3072 .f32) : FVec Ideal S4x8192x3072 .f32 :=
  Host.dotGeneral dot_S4x8192x1024_S1024x3072_S4x8192x3072_2_0_01_1_n_n none (addf (mulf x (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 (shapeCast _ (extractStridedSlice S4x1x1024 ![0, 1, 0] md slices_S4x6x1024_S4x1x1024_0_1_0) shapeCasts_S4x1x1024_S4x1024))))) (broadcastInDim S4x8192x1024 ![0, 1, 2] bcast_S4x1x1024_S4x8192x1024_0_1_2 (broadcastInDim S4x1x1024 ![0, 2] bcast_S4x1024_S4x1x1024_0_2 (shapeCast _ (extractStridedSlice S4x1x1024 ![0, 0, 0] md slices_S4x6x1024_S4x1x1024_0_0_0) shapeCasts_S4x1x1024_S4x1024)))) win

theorem projAll_at (x : FVec Ideal S4x8192x1024 .f32) (md : FVec Ideal S4x6x1024 .f32) (win : FVec Ideal S1024x3072 .f32)
    (b : Fin 4) (s : Fin 8192) (j : Fin 3072) :
    projAll x md win (ix3 b s j) = projB (fun s k => x (ix3 b s k)) (fun i k => md (ix3 b i k)) win s j := by
  pointwise [projAll, projB, projEl]

/-- The gated values of every token, two rows of zeros before the first. -/
def gateAll (p : FVec Ideal S4x8192x3072 .f32) : FVec Ideal S4x8194x1024 .f32 :=
  pad S4x8194x1024 ![0, 2, 0] ![0, 0, 0] ![0, 0, 0] (mulf (extractStridedSlice S4x8192x1024 ![0, 0, 1024] p slices_S4x8192x3072_S4x8192x1024_0_0_1024) (extractStridedSlice S4x8192x1024 ![0, 0, 2048] p slices_S4x8192x3072_S4x8192x1024_0_0_2048)) (sitofp .f32 (constantI S_ 32 0#32)) pads_S4x8192x1024_S4x8194x1024_000_200_000 h_S_

theorem gateAll_at (p : FVec Ideal S4x8192x3072 .f32) (b : Fin 4) (n : Fin 8194) (l : Fin 1024) :
    gateAll p (ix3 b n l) = if h : 2 ≤ n.val then p (ix3 b ⟨n.val - 2, by omega⟩ ⟨1024 + l.val, by omega⟩) * p (ix3 b ⟨n.val - 2, by omega⟩ ⟨2048 + l.val, by omega⟩) else 0 := by
  pointwise [gateAll]
  by_cases h : 2 ≤ n.val
  · exact (dif_pos (show 2 ≤ n.val ∧ n.val - 2 < 8192 from ⟨h, by omega⟩)).trans (Eq.symm (dif_pos h))
  · refine (dif_neg fun k => h k.1).trans (Eq.trans ?_ (dif_neg h).symm)
    show (((0#32 : BitVec 32).toInt : ℝ) : EReal) = 0
    simp

/-- The convolved values of every token, gated and projected out. -/
def outAll (p : FVec Ideal S4x8192x3072 .f32) (q : FVec Ideal S4x8194x1024 .f32) (wdw : FVec Ideal S3x1024 .f32) (wout : FVec Ideal S1024x1024 .f32) : FVec Ideal S4x8192x1024 .f32 :=
  Host.dotGeneral dot_S4x8192x1024_S1024x1024_S4x8192x1024_2_0_01_1_n_n none (mulf (extractStridedSlice S4x8192x1024 ![0, 0, 0] p slices_S4x8192x3072_S4x8192x1024_0_0_0) (addf (addf (mulf (broadcastInDim S4x8192x1024 ![0, 1, 2] bcast_S1x1x1024_S4x8192x1024_0_1_2 (broadcastInDim S1x1x1024 ![2] bcast_S1024_S1x1x1024_2 (shapeCast _ (extractStridedSlice S1x1024 ![0, 0] wdw slices_S3x1024_S1x1024_0_0) shapeCasts_S1x1024_S1024))) (extractStridedSlice S4x8192x1024 ![0, 0, 0] q slices_S4x8194x1024_S4x8192x1024_0_0_0)) (mulf (broadcastInDim S4x8192x1024 ![0, 1, 2] bcast_S1x1x1024_S4x8192x1024_0_1_2 (broadcastInDim S1x1x1024 ![2] bcast_S1024_S1x1x1024_2 (shapeCast _ (extractStridedSlice S1x1024 ![1, 0] wdw slices_S3x1024_S1x1024_1_0) shapeCasts_S1x1024_S1024))) (extractStridedSlice S4x8192x1024 ![0, 1, 0] q slices_S4x8194x1024_S4x8192x1024_0_1_0))) (mulf (broadcastInDim S4x8192x1024 ![0, 1, 2] bcast_S1x1x1024_S4x8192x1024_0_1_2 (broadcastInDim S1x1x1024 ![2] bcast_S1024_S1x1x1024_2 (shapeCast _ (extractStridedSlice S1x1024 ![2, 0] wdw slices_S3x1024_S1x1024_2_0) shapeCasts_S1x1024_S1024))) (extractStridedSlice S4x8192x1024 ![0, 2, 0] q slices_S4x8194x1024_S4x8192x1024_0_2_0)))) wout

theorem outAll_at (p : FVec Ideal S4x8192x3072 .f32) (q : FVec Ideal S4x8194x1024 .f32) (wdw : FVec Ideal S3x1024 .f32) (wout : FVec Ideal S1024x1024 .f32)
    (b : Fin 4) (s : Fin 8192) (l : Fin 1024) :
    outAll p q wdw wout (ix3 b s l) = ∑ k : Fin 1024, (p (ix3 b s ⟨k.val, by omega⟩)
      * (wdw (ix2 0 k) * q (ix3 b ⟨s.val, by omega⟩ k) + wdw (ix2 1 k) * q (ix3 b ⟨1 + s.val, by omega⟩ k) + wdw (ix2 2 k) * q (ix3 b ⟨2 + s.val, by omega⟩ k))) * wout (ix2 k l) := by
  pointwise [outAll]

theorem slices2 : S4x6x1024.Slices ![0, 2, 0] S4x1x1024 := slices_S4x6x1024_S4x1x1024_0_2_0

/-- The whole sublayer, for every token. -/
def subAll (x : FVec Ideal S4x8192x1024 .f32) (md : FVec Ideal S4x6x1024 .f32) (g o : FVec Ideal S1024 .f32) (win : FVec Ideal S1024x3072 .f32)
    (wdw : FVec Ideal S3x1024 .f32) (wout : FVec Ideal S1024x1024 .f32) : FVec Ideal S4x8192x1024 .f32 :=
  normAll (resAll 2 slices2 x (outAll (projAll x md win) (gateAll (projAll x md win)) wdw wout) md) g o

theorem subAll_at (x : FVec Ideal S4x8192x1024 .f32) (md : FVec Ideal S4x6x1024 .f32) (g o : FVec Ideal S1024 .f32) (win : FVec Ideal S1024x3072 .f32)
    (wdw : FVec Ideal S3x1024 .f32) (wout : FVec Ideal S1024x1024 .f32) (b : Fin 4) (s : Fin 8192) (l : Fin 1024) :
    subAll x md g o win wdw wout (ix3 b s l)
      = subB (fun s k => x (ix3 b s k)) (fun i k => md (ix3 b i k)) win wdw wout g o s l := by
  unfold subAll subB
  rw [normAll_at]
  refine congrArg (fun r => lnEl r _ _ l) (funext fun k => ?_)
  refine (show resAll 2 slices2 x _ md (ix3 b s k) = _ from resAll_at 2 slices2 _ _ md b s k).trans ?_
  refine congrArg (resEl _ _) ?_
  rw [outAll_at]
  unfold convB
  refine Finset.sum_congr rfl fun j _ => ?_
  rw [projAll_at]
  refine congrArg (fun r => _ * r * _) ?_
  have hq : ∀ (n : Fin 8194) (d : Nat), n.val + d = s.val + 2 → d ≤ 2 → gateAll (projAll x md win) (ix3 b n j)
      = delayed (gateB (fun s k => x (ix3 b s k)) (fun i k => md (ix3 b i k)) win) d s j := by
    intro n d hn hd
    rw [gateAll_at]
    unfold delayed gateB
    by_cases h : d ≤ s.val
    · rw [dif_pos (by omega), if_pos h, projAll_at, projAll_at]
      have e : (⟨n.val - 2, by omega⟩ : Fin 8192) = ⟨s.val - d, by omega⟩ := Fin.ext (by show n.val - 2 = s.val - d; omega)
      rw [e]
    · rw [dif_neg (by omega), if_neg h]
  rw [hq ⟨s.val, by omega⟩ 2 rfl (by omega), hq ⟨1 + s.val, by omega⟩ 1 (by show 1 + s.val + 1 = _; omega) (by omega), hq ⟨2 + s.val, by omega⟩ 0 (by show 2 + s.val + 0 = _; omega) (by omega)]
  rfl

section Result
variable (m : (ℓ : Loc nD τ sig) → Buf (Elt Ideal) ℓ) (c : Dev nD)

/-- The residual stream the mixer reads. -/
def stream : FVec Ideal S4x8192x1024 .f32 :=
  ffnAll (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6))

/-- What the reference leaves. -/
def result : FVec Ideal S4x8192x1024 .f32 :=
  subAll (stream m c) (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12))

theorem v54_eq : res_main_v54 (launchContents m c) = stream m c := rfl
theorem v70_eq : res_main_v70 (launchContents m c) = projAll (stream m c) (m ((c.tc : Thread nD τ).loc main_arg7)) (m ((c.tc : Thread nD τ).loc main_arg10)) := rfl
theorem v75_eq : res_main_v75 (launchContents m c) = gateAll (res_main_v70 (launchContents m c)) := rfl
theorem v104_eq : res_main_v104 (launchContents m c) = resAll 2 slices2 (res_main_v54 (launchContents m c))
    (outAll (res_main_v70 (launchContents m c)) (res_main_v75 (launchContents m c)) (m ((c.tc : Thread nD τ).loc main_arg11)) (m ((c.tc : Thread nD τ).loc main_arg12)))
    (m ((c.tc : Thread nD τ).loc main_arg7)) := rfl

theorem res_eq : normAll (res_main_v104 (launchContents m c)) (m ((c.tc : Thread nD τ).loc main_arg8)) (m ((c.tc : Thread nD τ).loc main_arg9)) = result m c := by
  rw [v104_eq, v75_eq, v70_eq, v54_eq]
  rfl
end Result
end Cert.Reference2Ideal.MixValue

end
-- ==== Proof.ConvTile.lean ====
/- The Conformer-convolution mixer on one tile of 512 tokens, read at an entry: its gated values, the 31 taps of its
   convolution over the rows a scratch carries from tile to tile, and what follows them. -/
module
public import proofs.«01_k».proof.Proof.Gen.Kernel3Ideal.Skeleton
public import proofs.«01_k».proof.Proof.Halo
public import proofs.«01_k».proof.Proof.TileStages
public import Idealize.ShloMosaic.Lib.Pointwise
@[expose] public section
set_option maxRecDepth 16384
noncomputable section
open Idealize.ShloMosaic Idealize.ShloMosaic.TcCoe
namespace Cert.ConvTile
open Cert.Kernel3Ideal Cert.Kernel3Ideal.Gen Cert.RowMath Cert.TileStages

/-- The logistic function on a tile. -/
def sigTile (v : FVec Ideal S512x1024 .f32) : FVec Ideal S512x1024 .f32 :=
  divf (broadcast S512x1024 (Scalar.ofBits .f32 0x3F800000#32)) (addf (broadcast S512x1024 (Scalar.ofBits .f32 0x3F800000#32)) (exp (subf (broadcast S512x1024 (Scalar.ofBits .f32 0x00000000#32)) v)))

theorem sigTile_at (v : FVec Ideal S512x1024 .f32) (r : Fin 512) (l : Fin 1024) : sigTile v (ix2 r l) = sigEl (v (ix2 r l)) := by
  pointwise [sigTile, sigEl]
  rw [zero_sub]

/-- The projection of a tile's rows. -/
def projTile (x : FVec Ideal S512x1024 .f32) (md : FVec Ideal S6x1024 .f32) (win : Vec Ideal S1024x2048 .bf16) (bin : Vec Ideal S1x2048 .f32) : FVec Ideal S512x2048 .f32 :=
  addf (matmul dot_S512x1024_S1024x2048_S512x2048_1_0_0_1_n_n none (truncf .bf16 (addf (mulf x (broadcastTo S512x1024 (addf (broadcast S1x1024 (Scalar.ofBits .f32 0x3F800000#32)) (extractStridedSlice S1x1024 ![1, 0] md slices_S6x1024_o1_0_S1x1024)) broadcasts_S1x1024_S512x1024)) (broadcastTo S512x1024 (extractStridedSlice S1x1024 ![0, 0] md slices_S6x1024_o0_0_S1x1024) broadcasts_S1x1024_S512x1024)) bitsLt_bf16_f32) (shapeCast S1024x2048 win shapeCasts_S1024x2048_S1024x2048 : FVec Ideal S1024x2048 .bf16) (constant S512x2048 .f32 0x00000000#32)) (broadcastTo S512x2048 (shapeCast S1x2048 bin shapeCasts_S1x2048_S1x2048) broadcasts_S1x2048_S512x2048)

theorem projTile_at (x : FVec Ideal S512x1024 .f32) (md : FVec Ideal S6x1024 .f32) (win : Vec Ideal S1024x2048 .bf16) (bin : Vec Ideal S1x2048 .f32)
    (r : Fin 512) (j : Fin 2048) :
    projTile x md win bin (ix2 r j) = projEl (fun k => x (ix2 r k)) (fun k => md (ix2 1 k)) (fun k => md (ix2 0 k)) (fun k => win (ix2 k j)) + bin (ix2 0 j) := by
  pointwise [projTile, projEl]

/-- The gated values of a tile, from its projection. -/
def gluTile (p : FVec Ideal S512x2048 .f32) : FVec Ideal S512x1024 .f32 :=
  shapeCast S512x1024 (mulf (extractStridedSlice S512x1024 ![0, 0] p slices_S512x2048_o0_0_S512x1024) (sigTile (extractStridedSlice S512x1024 ![0, 1024] p slices_S512x2048_o0_1024_S512x1024))) shapeCasts_S512x1024_S512x1024

theorem gluTile_at (p : FVec Ideal S512x2048 .f32) (r : Fin 512) (l : Fin 1024) :
    gluTile p (ix2 r l) = p (ix2 r ⟨l.val, by omega⟩) * sigEl (p (ix2 r ⟨1024 + l.val, by omega⟩)) := by
  pointwise [gluTile, sigTile, sigEl]
  rw [zero_sub]

theorem rowSlices : ∀ n : Fin 31, S31x1024.Slices ![n.val, 0] S1x1024 := by decide +kernel

/-- Tap `n` of the convolution on a tile: the weights' row `n` times the rows `L`. -/
def tapTile (W : Vec Ideal S31x1024 .f32) (n : Fin 31) (L : Vec Ideal S512x1024 .f32) : FVec Ideal S512x1024 .f32 :=
  mulf (broadcastTo S512x1024 (extractStridedSlice S1x1024 ![n.val, 0] W (rowSlices n)) broadcasts_S1x1024_S512x1024) L

theorem tapTile_at (W : Vec Ideal S31x1024 .f32) (n : Fin 31) (L : Vec Ideal S512x1024 .f32) (r : Fin 512) (l : Fin 1024) :
    tapTile W n L (ix2 r l) = W (ix2 n l) * L (ix2 r l) := by
  pointwise [tapTile]

/-- The first `n + 1` taps of the convolution on a tile, tap `k` reading the rows `L k`. -/
def tapsTile (W : Vec Ideal S31x1024 .f32) (L : (k : Nat) → k < 31 → Vec Ideal S512x1024 .f32) : (n : Nat) → n < 31 → FVec Ideal S512x1024 .f32
  | 0, h => tapTile W ⟨0, h⟩ (L 0 h)
  | n + 1, h => addf (tapsTile W L n (by omega)) (tapTile W ⟨n + 1, h⟩ (L (n + 1) h))

/-- What a load of the gated rows `n` tokens back finds, at tile `j` of a batch. -/
def Back (G : Fin 8192 → Fin 1024 → EReal) (n j : Nat) (L : Vec Ideal S512x1024 .f32) : Prop :=
  ∀ (r : Fin 512) (l : Fin 1024) (s : Fin 8192), s.val = j * 512 + r.val → L (ix2 r l) = delayed G n s l

theorem tapsTile_at (W : Vec Ideal S31x1024 .f32) (L : (k : Nat) → k < 31 → Vec Ideal S512x1024 .f32) (G : Fin 8192 → Fin 1024 → EReal) (j : Nat)
    (hL : ∀ k h, Back G (30 - k) j (L k h)) (r : Fin 512) (l : Fin 1024) (s : Fin 8192) (hs : s.val = j * 512 + r.val) (n : Nat) (h : n < 31) :
    tapsTile W L n h (ix2 r l) = taps 30 (rowOf W) G s l n := by
  have hW : ∀ k (h : k < 31), rowOf W k l = W (ix2 ⟨k, h⟩ l) := fun k h => dif_pos h
  induction n with
  | zero =>
    unfold tapsTile taps
    rw [tapTile_at, hL 0 h r l s hs, hW 0 h]
  | succ n ih =>
    unfold tapsTile taps
    rw [← ih (by omega), hW (n + 1) h, ← hL (n + 1) h r l s hs, ← tapTile_at]
    rfl

section Carry
variable {sig : RefSig} (G : Fin 8192 → Fin 1024 → EReal) (n o : Nat) (ho : o + n = 32) (j : Nat) (v : View sig .tc .vmem S544x1024 .f32)
  (q : Vec Ideal S512x1024 .f32) (hq : Back G 0 j q)
include ho hq

/-- In the first tile of a batch the rows above the tile are zero. -/
theorem back_first (hj : j = 0) (z : Vec Ideal S32x1024 .f32) (hz : ∀ y l, z (ix2 y l) = 0) (inb inb' inb'') :
    Back G n j (v.readCov [⟨Rect.unit (s := S544x1024) ![32, 0] ![512, 1024] inb, q⟩, ⟨Rect.unit (s := S544x1024) ![0, 0] ![32, 1024] inb', z⟩]
      (Rect.unit (s := S544x1024) ![o, 0] ![512, 1024] inb'').toLoadRect) := by
  intro r l s hs
  unfold delayed
  by_cases h : n ≤ r.val
  · rw [if_pos (by omega)]
    refine (Halo.load_in v inb inb'' _ _ r ⟨r.val - n, by omega⟩ l (by dsimp only; omega)).trans ?_
    refine (hq _ l ⟨s.val - n, by omega⟩ (by dsimp only; omega)).trans ?_
    exact if_pos (Nat.zero_le _)
  · rw [if_neg (by omega)]
    refine (Halo.load_out v inb inb'' _ _ r l ⟨o + r.val, by omega⟩ rfl (by omega)).trans ?_
    exact (Halo.canon_in inb' _ _ _ ⟨o + r.val, by omega⟩ l (by simp)).trans (hz _ _)

/-- In a later tile they are the last rows of the tile before. -/
theorem back_later (hj : 1 ≤ j) (f : v.ty.Contents (Elt Ideal))
    (hf : ∀ (y : Fin 544) (l : Fin 1024) (s : Fin 8192), y.val < 32 → s.val + 32 = j * 512 + y.val → v.read (Elt Ideal) f (ix2 y l) = G s l) (inb inb') :
    Back G n j (View.ld (v.read (Elt Ideal) (v.writes (Elt Ideal) f [⟨Rect.unit (s := S544x1024) ![32, 0] ![512, 1024] inb, q⟩]))
      (Rect.unit (s := S544x1024) ![o, 0] ![512, 1024] inb')) := by
  intro r l s hs
  refine (congrArg (v.read (Elt Ideal) (v.writes (Elt Ideal) f _)) (Halo.unit_idx inb' r l ⟨o + r.val, by omega⟩ rfl)).trans ?_
  unfold delayed
  rw [if_pos (by omega)]
  by_cases h : n ≤ r.val
  · refine (Halo.read_in v f inb _ _ _ ⟨r.val - n, by omega⟩ l (by dsimp only; omega)).trans ?_
    refine (hq _ l ⟨s.val - n, by omega⟩ (by dsimp only; omega)).trans ?_
    exact if_pos (Nat.zero_le _)
  · refine (Halo.read_out v f inb _ _ _ l (.inl (by dsimp only; omega))).trans ?_
    exact hf _ l _ (by dsimp only; omega) (by dsimp only; omega)
end Carry

/-- The convolved values, normed and activated. -/
def actTile (u : FVec Ideal S512x1024 .f32) (vec : FVec Ideal S4x1024 .f32) : FVec Ideal S512x1024 .f32 :=
  have n : FVec Ideal S512x1024 .f32 := lnTile (addf u (broadcastTo S512x1024 (extractStridedSlice S1x1024 ![0, 0] vec slices_S4x1024_o0_0_S1x1024) broadcasts_S1x1024_S512x1024))
    (extractStridedSlice S1x1024 ![1, 0] vec slices_S4x1024_o1_0_S1x1024) (extractStridedSlice S1x1024 ![2, 0] vec slices_S4x1024_o2_0_S1x1024)
  mulf n (sigTile n)

theorem bias_at (u : FVec Ideal S512x1024 .f32) (vec : FVec Ideal S4x1024 .f32) (r : Fin 512) (l : Fin 1024) :
    addf u (broadcastTo S512x1024 (extractStridedSlice S1x1024 ![0, 0] vec slices_S4x1024_o0_0_S1x1024) broadcasts_S1x1024_S512x1024) (ix2 r l)
      = u (ix2 r l) + vec (ix2 0 l) := by
  pointwise []

theorem vrow_at (vec : FVec Ideal S4x1024 .f32) (l : Fin 1024) :
    extractStridedSlice S1x1024 ![1, 0] vec slices_S4x1024_o1_0_S1x1024 (ix2 0 l) = vec (ix2 1 l)
    ∧ extractStridedSlice S1x1024 ![2, 0] vec slices_S4x1024_o2_0_S1x1024 (ix2 0 l) = vec (ix2 2 l) := by
  constructor <;> pointwise []

theorem actTile_at (u : FVec Ideal S512x1024 .f32) (vec : FVec Ideal S4x1024 .f32) (r : Fin 512) (l : Fin 1024) :
    actTile u vec (ix2 r l) = actEl (fun k => u (ix2 r k) + vec (ix2 0 k)) (vec (ix2 1 l)) (vec (ix2 2 l)) l := by
  have e := fun k => bias_at u vec r k
  unfold actEl
  rw [← (vrow_at vec l).1, ← (vrow_at vec l).2, ← funext e, ← lnTile_at, ← sigTile_at]
  rfl

/-- What the convolution gives, projected out. -/
def outTile (a : FVec Ideal S512x1024 .f32) (vec : FVec Ideal S4x1024 .f32) (wout : Vec Ideal S1024x1024 .bf16) : FVec Ideal S512x1024 .f32 :=
  addf (matmul dot_S512x1024_S1024x1024_S512x1024_1_0_0_1_n_n none (truncf .bf16 a bitsLt_bf16_f32) (shapeCast S1024x1024 wout shapeCasts_S1024x1024_S1024x1024 : FVec Ideal S1024x1024 .bf16) (constant S512x1024 .f32 0x00000000#32)) (broadcastTo S512x1024 (extractStridedSlice S1x1024 ![3, 0] vec slices_S4x1024_o3_0_S1x1024) broadcasts_S1x1024_S512x1024)

theorem outTile_at (a : FVec Ideal S512x1024 .f32) (vec : FVec Ideal S4x1024 .f32) (wout : Vec Ideal S1024x1024 .bf16) (r : Fin 512) (l : Fin 1024) :
    outTile a vec wout (ix2 r l) = (∑ k : Fin 1024, a (ix2 r k) * wout (ix2 k l)) + vec (ix2 3 l) := by
  pointwise [outTile]

/-- The sublayer's result on a tile, from the convolved values. -/
def subTile (x : FVec Ideal S512x1024 .f32) (md : FVec Ideal S6x1024 .f32) (mln : FVec Ideal S2x1024 .f32) (vec : FVec Ideal S4x1024 .f32)
    (wout : Vec Ideal S1024x1024 .bf16) (u : FVec Ideal S512x1024 .f32) : FVec Ideal S512x1024 .f32 :=
  lnTile (resTile x (extractStridedSlice S1x1024 ![2, 0] md slices_S6x1024_o2_0_S1x1024) (outTile (actTile u vec) vec wout))
    (extractStridedSlice S1x1024 ![0, 0] mln slices_S2x1024_o0_0_S1x1024) (extractStridedSlice S1x1024 ![1, 0] mln slices_S2x1024_o1_0_S1x1024)

theorem subTile_at (x : FVec Ideal S512x1024 .f32) (md : FVec Ideal S6x1024 .f32) (mln : FVec Ideal S2x1024 .f32) (vec : FVec Ideal S4x1024 .f32)
    (wout : Vec Ideal S1024x1024 .bf16) (u : FVec Ideal S512x1024 .f32) (r : Fin 512) (l : Fin 1024) :
    subTile x md mln vec wout u (ix2 r l) = lnEl (fun k => resEl (x (ix2 r k)) (md (ix2 2 k))
      ((∑ q : Fin 1024, actEl (fun k => u (ix2 r k) + vec (ix2 0 k)) (vec (ix2 1 q)) (vec (ix2 2 q)) q * wout (ix2 q k)) + vec (ix2 3 k)))
      (mln (ix2 0 l)) (mln (ix2 1 l)) l := by
  have e2 (k : Fin 1024) : extractStridedSlice S1x1024 ![2, 0] md slices_S6x1024_o2_0_S1x1024 (ix2 0 k) = md (ix2 2 k) := by pointwise []
  have g0 : extractStridedSlice S1x1024 ![0, 0] mln slices_S2x1024_o0_0_S1x1024 (ix2 0 l) = mln (ix2 0 l) := by pointwise []
  have g1 : extractStridedSlice S1x1024 ![1, 0] mln slices_S2x1024_o1_0_S1x1024 (ix2 0 l) = mln (ix2 1 l) := by pointwise []
  unfold subTile
  refine (lnTile_at _ _ _ r l).trans ?_
  refine (congrArg₂ (fun a b => lnEl _ a b l) g0 g1).trans ?_
  refine congrArg (fun v => lnEl v _ _ l) (funext fun k => ?_)
  refine (resTile_at _ _ _ r k).trans ?_
  refine congrArg₂ (resEl _) (e2 k) ((outTile_at _ vec wout r k).trans ?_)
  refine congrArg (· + _) (Finset.sum_congr rfl fun q _ => ?_)
  rw [actTile_at]

/-- The sublayer on a tile at an entry, as the sublayer of its batch. -/
theorem subTile_eq (x : FVec Ideal S512x1024 .f32) (md : FVec Ideal S6x1024 .f32) (mln : FVec Ideal S2x1024 .f32) (vec : FVec Ideal S4x1024 .f32)
    (wout : Vec Ideal S1024x1024 .bf16) (W : Vec Ideal S31x1024 .f32) (L : (k : Nat) → k < 31 → Vec Ideal S512x1024 .f32) (j : Nat)
    (X : Fin 8192 → Fin 1024 → EReal) (M : Fin 6 → Fin 1024 → EReal) (Win : (⟨2, ![1024, 2048]⟩ : Shape).Idx → EReal)
    (Bin : (⟨1, ![2048]⟩ : Shape).Idx → EReal) (Wdw : (⟨2, ![31, 1024]⟩ : Shape).Idx → EReal) (Bdw G O : (⟨1, ![1024]⟩ : Shape).Idx → EReal)
    (Wout : (⟨2, ![1024, 1024]⟩ : Shape).Idx → EReal) (Bout A B : (⟨1, ![1024]⟩ : Shape).Idx → EReal)
    (hL : ∀ k h, Back (gluA X M Win Bin) (30 - k) j (L k h)) (r : Fin 512) (l : Fin 1024) (s : Fin 8192) (hs : s.val = j * 512 + r.val)
    (hx : ∀ k, x (ix2 r k) = X s k) (hm : ∀ k, md (ix2 2 k) = M 2 k) (hg : mln (ix2 0 l) = A (ix1 l)) (ho : mln (ix2 1 l) = B (ix1 l))
    (hW : ∀ i k, W (ix2 i k) = Wdw (ix2 i k)) (hw : ∀ k q, wout (ix2 k q) = Wout (ix2 k q)) (h0 : ∀ k, vec (ix2 0 k) = Bdw (ix1 k))
    (h1 : ∀ k, vec (ix2 1 k) = G (ix1 k)) (h2 : ∀ k, vec (ix2 2 k) = O (ix1 k)) (h3 : ∀ k, vec (ix2 3 k) = Bout (ix1 k)) :
    subTile x md mln vec wout (tapsTile W L 30 (by omega)) (ix2 r l) = subA X M Win Bin Wdw Bdw G O Wout Bout A B s l := by
  have eW : (W : (⟨2, ![31, 1024]⟩ : Shape).Idx → EReal) = Wdw := funext fun i : (⟨2, ![31, 1024]⟩ : Shape).Idx => by
    rw [eq_ix2 i]
    exact hW _ _
  rw [subTile_at, hg, ho]
  unfold subA convA actA
  refine congrArg (fun v => lnEl v _ _ l) (funext fun k => ?_)
  rw [hx, hm, h3]
  refine congrArg (fun y => resEl _ _ (y + _)) (Finset.sum_congr rfl fun q _ => ?_)
  rw [hw, h1, h2]
  refine congrArg (fun v => actEl v _ _ q * _) (funext fun k => ?_)
  rw [tapsTile_at W L _ j hL r k s hs 30 (by omega), h0]
  exact congrArg (fun w => taps 30 (rowOf w) _ s k 30 + _) eW

end Cert.ConvTile
end
-- ==== Proof.MixAKernel.lean ====
/- What the first Conformer-convolution mixer's call computes: the rows its scratch carries from one tile of tokens to the
   next, and the array the launch leaves. -/
module
public import proofs.«01_k».proof.Proof.Gen.Kernel3Ideal.Frame
public import proofs.«01_k».proof.Proof.ConvTile
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt
@[expose] public section
set_option maxRecDepth 16384
noncomputable section
open Idealize.ShloMosaic Idealize.ShloMosaic.TcCoe Idealize.SL.Sem
namespace Cert.Kernel3Ideal.MixValue
open Cert.Kernel3Ideal Cert.Kernel3Ideal.Gen Cert.RowMath Cert.ConvTile

section Point
variable (m : (ℓ : Loc nD τ sig) → Buf (Elt Ideal) ℓ) (c : Dev nD)

theorem idx : ∀ t : Fin cfg0.N, win0_0.index t = ![t.val / 16, t.val % 16, 0] ∧ win0_1.index t = ![0, t.val / 16, 0, 0]
    ∧ win0_2.index t = ![0, 0] ∧ win0_3.index t = ![0, 0] ∧ win0_4.index t = ![0, 0] ∧ win0_5.index t = ![0, 0] ∧ win0_6.index t = ![0, 0]
    ∧ win0_7.index t = ![0, 0] ∧ win0_11.index t = ![t.val / 16, t.val % 16, 0] := by
  decide +kernel

theorem md_at (b : Fin 4) (i : Fin 6) (k : Fin 1024) : V m c main_v25 (ix4 0 b i k) = m ((c : Thread nD τ).loc main_arg1) (ix3 b i k) := by
  unfold V hostOps0
  after_reads_at
theorem ml0_at (k : Fin 1024) : V m c main_v28 (ix2 0 k) = m ((c : Thread nD τ).loc main_arg2) (ix1 k) := by
  unfold V hostOps0
  after_reads_at
theorem ml1_at (k : Fin 1024) : V m c main_v28 (ix2 1 k) = m ((c : Thread nD τ).loc main_arg3) (ix1 k) := by
  unfold V hostOps0
  after_reads_at
theorem win_at (k : Fin 1024) (j : Fin 2048) : V m c main_v29 (ix2 k j) = m ((c : Thread nD τ).loc main_arg4) (ix2 k j) := by
  unfold V hostOps0
  after_reads_at
theorem bin_at (j : Fin 2048) : V m c main_v30 (ix2 0 j) = m ((c : Thread nD τ).loc main_arg5) (ix1 j) := by
  unfold V hostOps0
  after_reads_at
theorem v0_at (k : Fin 1024) : V m c main_v35 (ix2 0 k) = m ((c : Thread nD τ).loc main_arg7) (ix1 k) := by
  unfold V hostOps0
  after_reads_simp
  clean_types
  pointwise
  after_reads_at
theorem v1_at (k : Fin 1024) : V m c main_v35 (ix2 1 k) = m ((c : Thread nD τ).loc main_arg8) (ix1 k) := by
  unfold V hostOps0
  after_reads_simp
  clean_types
  pointwise
  after_reads_at
theorem v2_at (k : Fin 1024) : V m c main_v35 (ix2 2 k) = m ((c : Thread nD τ).loc main_arg9) (ix1 k) := by
  unfold V hostOps0
  after_reads_simp
  clean_types
  pointwise
  after_reads_at
theorem v3_at (k : Fin 1024) : V m c main_v35 (ix2 3 k) = m ((c : Thread nD τ).loc main_arg11) (ix1 k) := by
  unfold V hostOps0
  after_reads_simp
  clean_types
  pointwise
  after_reads_at
theorem wout_at (k l : Fin 1024) : V m c main_v36 (ix2 k l) = m ((c : Thread nD τ).loc main_arg10) (ix2 k l) := by
  unfold V hostOps0
  after_reads_at

/-- The rows of batch `b` that enter the mixer. -/
def xs (b : Fin 4) (s : Fin 8192) (k : Fin 1024) : EReal := m ((c : Thread nD τ).loc main_arg0) (ix3 b s k)
/-- The modulations of batch `b`. -/
def ms (b : Fin 4) (i : Fin 6) (k : Fin 1024) : EReal := m ((c : Thread nD τ).loc main_arg1) (ix3 b i k)

variable (t : Fin cfg0.N)

theorem ml_pt (l : Fin 1024) : k0_pay24 (iblk m c 2 t) (ix2 0 l) = m ((c : Thread nD τ).loc main_arg2) (ix1 l)
    ∧ k0_pay24 (iblk m c 2 t) (ix2 1 l) = m ((c : Thread nD τ).loc main_arg3) (ix1 l) := by
  have e := (idx t).2.2.1
  rw [← ml0_at m c, ← ml1_at m c]
  constructor
  · refine (show _ = iblk m c 2 t (ix2 0 l) by pointwise [k0_pay24]).trans ?_
    blk_ext [iblk, e]
  · refine (show _ = iblk m c 2 t (ix2 1 l) by pointwise [k0_pay24]).trans ?_
    blk_ext [iblk, e]
theorem win_pt (k : Fin 1024) (j : Fin 2048) : iblk m c 3 t (ix2 k j) = m ((c : Thread nD τ).loc main_arg4) (ix2 k j) := by
  have e := (idx t).2.2.2.1
  rw [← win_at m c]; blk_ext [iblk, e]
theorem bin_pt (j : Fin 2048) : iblk m c 4 t (ix2 0 j) = m ((c : Thread nD τ).loc main_arg5) (ix1 j) := by
  have e := (idx t).2.2.2.2.1
  rw [← bin_at m c]; blk_ext [iblk, e]
theorem wdw_pt (i : Fin 31) (k : Fin 1024) : iblk m c 5 t (ix2 i k) = m ((c : Thread nD τ).loc main_arg6) (ix2 i k) := by
  have e := (idx t).2.2.2.2.2.1
  rw [← V_main_arg6 m c]; blk_ext [iblk, e]
theorem vec_pt (i : Fin 4) (k : Fin 1024) : k0_pay11 (iblk m c 6 t) (ix2 i k) = V m c main_v35 (ix2 i k) := by
  have e := (idx t).2.2.2.2.2.2.1
  refine (show _ = iblk m c 6 t (ix2 i k) by pointwise [k0_pay11]).trans ?_
  blk_ext [iblk, e]
theorem wout_pt (k l : Fin 1024) : iblk m c 7 t (ix2 k l) = m ((c : Thread nD τ).loc main_arg10) (ix2 k l) := by
  have e := (idx t).2.2.2.2.2.2.2.1
  rw [← wout_at m c]; blk_ext [iblk, e]

variable (b : Fin 4) (hb : b.val = t.val / 16)
include hb

theorem tile_pt (r : Fin 512) (l : Fin 1024) (s : Fin 8192) (hs : s.val = t.val % 16 * 512 + r.val) :
    k0_pay9 (iblk m c 0 t) (ix2 r l) = xs m c b s l := by
  have e := (idx t).1
  refine (show _ = iblk m c 0 t (ix3 0 r l) by pointwise [k0_pay9]).trans ?_
  unfold xs; rw [← V_main_arg0 m c]; blk_ext [iblk, e]

theorem md_pt (i : Fin 6) (k : Fin 1024) : k0_pay8 (iblk m c 1 t) (ix2 i k) = ms m c b i k := by
  have e := (idx t).2.1
  refine (show _ = iblk m c 1 t (ix4 0 0 i k) by pointwise [k0_pay8]).trans ?_
  unfold ms; rw [← md_at m c]; blk_ext [iblk, e]

omit hb in
/-- The gated values of a tile's tokens. -/
abbrev gate (t : Fin cfg0.N) : FVec Ideal S512x1024 .f32 :=
  k0_pay15 (k0_pay12 (iblk m c 1 t) (iblk m c 0 t) (iblk m c 3 t) (iblk m c 4 t)) (k0_pay13 (iblk m c 1 t) (iblk m c 0 t) (iblk m c 3 t) (iblk m c 4 t))

omit hb in
/-- The gated values of batch `b`. -/
abbrev glu (b : Fin 4) : Fin 8192 → Fin 1024 → EReal :=
  gluA (xs m c b) (ms m c b) (m ((c : Thread nD τ).loc main_arg4)) (m ((c : Thread nD τ).loc main_arg5))

theorem gate_pt : Back (glu m c b) 0 (t.val % 16) (gate m c t) := by
  intro r l s hs
  refine (show gate m c t (ix2 r l) = gluTile (projTile (k0_pay9 (iblk m c 0 t)) (k0_pay8 (iblk m c 1 t)) (iblk m c 3 t) (iblk m c 4 t)) (ix2 r l) from rfl).trans ?_
  have e (j : Fin 2048) : projTile (k0_pay9 (iblk m c 0 t)) (k0_pay8 (iblk m c 1 t)) (iblk m c 3 t) (iblk m c 4 t) (ix2 r j)
      = projA (xs m c b) (ms m c b) (m ((c : Thread nD τ).loc main_arg4)) (m ((c : Thread nD τ).loc main_arg5)) s j := by
    rw [projTile_at]
    exact congrArg₂ (· + ·) (projEl_congr (fun k => tile_pt m c t b hb r k s hs) (md_pt m c t b hb 1) (md_pt m c t b hb 0) (fun k => win_pt m c t k j))
      (bin_pt m c t j)
  rw [gluTile_at, e, e]
  unfold delayed
  rw [if_pos (Nat.zero_le _)]
  rfl

end Point

section Carry
variable (m : (ℓ : Loc nD τ sig) → Buf (Elt Ideal) ℓ) (c : Dev nD)

theorem keep_at (v : Vec Ideal S32x1024 .f32) (j : Fin 32) (l : Fin 1024) : k0_pay22 v (ix2 j l) = v (ix2 j l) := by
  pointwise [k0_pay22]
theorem zero_at (j : Fin 32) (l : Fin 1024) : (k0_pay14 (F := Ideal)) (ix2 j l) = 0 := by
  pointwise [k0_pay14]
theorem row_at (a : FVec Ideal S512x1024 .f32) (p : FVec Ideal S2x1024 .f32) (x : FVec Ideal S512x1024 .f32) (g : FVec Ideal S1x1024 .f32)
    (r : Fin 512) (l : Fin 1024) : k0_pay28 a p x g (ix3 0 r l) = k0_pay27 a p x g (ix2 r l) := by
  pointwise [k0_pay28]

/-- The last 32 rows of a tile, as the scratch keeps them after its point. -/
theorem carried (t : Fin cfg0.N) (y : Fin 544) (l : Fin 1024) (r : Fin 512) (hy : y.val < 32) (hr : r.val = 480 + y.val) :
    (outsAt0 m c t.val t.isLt).2.2.2.2.2.1 (ix2 y l) = gate m c t (ix2 r l) := by
  by_cases h1 : t.val % 16 = 0
  · by_cases h0 : t.val % 64 = 0
    · rw [outsAt0_A m c t h0 h1]
      dsimp only
      frame_open
      simp (disch := decide) only [↓ View.readCov_skip, ↓ View.readCov_cons_toLoadRect, ↓ View.readCov_fill]
      frame_out
      refine (Halo.canon_in _ _ _ y ⟨y.val, hy⟩ l (by simp)).trans ((keep_at _ _ _).trans ?_)
      exact Halo.load_in _ _ _ _ _ _ r l (by dsimp only; omega)
    · rw [outsAt0_C m c t h0 h1]
      dsimp only
      frame_open
      simp (disch := decide) only [↓ View.readCov_skip, ↓ View.readCov_cons_toLoadRect, ↓ View.readCov_fill]
      frame_out
      refine (Halo.canon_in _ _ _ y ⟨y.val, hy⟩ l (by simp)).trans ((keep_at _ _ _).trans ?_)
      exact Halo.load_in _ _ _ _ _ _ r l (by dsimp only; omega)
  · rw [outsAt0_B m c t (by omega) h1]
    dsimp only
    frame_open
    simp (disch := decide) only [↓ View.readCov_skip, ↓ View.readCov_cons_toLoadRect, ↓ View.readCov_fill]
    frame_out
    refine (Halo.canon_in _ _ _ y ⟨y.val, hy⟩ l (by simp)).trans ((keep_at _ _ _).trans ?_)
    exact Halo.load_in _ _ _ _ _ _ r l (by dsimp only; omega)

/-- The result tile at an entry, from the rows its taps read: the sublayer's value at that token. -/
theorem x1_pt (t : Fin cfg0.N) (b : Fin 4) (hb : b.val = t.val / 16) (L : (k : Nat) → k < 31 → Vec Ideal S512x1024 .f32)
    (hL : ∀ k h, Back (glu m c b) (30 - k) (t.val % 16) (L k h)) (r : Fin 512) (l : Fin 1024) (s : Fin 8192) (hs : s.val = t.val % 16 * 512 + r.val) :
    k0_pay28 (k0_pay23 (k0_pay11 (iblk m c 6 t)) (k0_pay21 (iblk m c 5 t)
        (k0_pay19 (iblk m c 5 t) (k0_pay18 (iblk m c 5 t) (k0_pay16 (iblk m c 5 t) (L 0 (by decide)) (L 1 (by decide)) (L 2 (by decide)) (L 3 (by decide)) (L 4 (by decide)) (L 5 (by decide)))
          (k0_pay17 (iblk m c 5 t)) (L 6 (by decide)) (L 7 (by decide)) (L 8 (by decide)) (L 9 (by decide)) (L 10 (by decide)) (L 11 (by decide)) (L 12 (by decide)) (L 13 (by decide)) (L 14 (by decide)))
          (L 15 (by decide)) (L 16 (by decide)) (L 17 (by decide)) (L 18 (by decide)) (L 19 (by decide)) (L 20 (by decide)) (L 21 (by decide)) (L 22 (by decide)))
        (k0_pay20 (iblk m c 5 t)) (L 23 (by decide)) (L 24 (by decide)) (L 25 (by decide)) (L 26 (by decide)) (L 27 (by decide)) (L 28 (by decide)) (L 29 (by decide)) (L 30 (by decide))) (iblk m c 7 t))
      (k0_pay24 (iblk m c 2 t)) (k0_pay25 (k0_pay9 (iblk m c 0 t))) (k0_pay26 (k0_pay8 (iblk m c 1 t))) (ix3 0 r l)
      = subA (xs m c b) (ms m c b) (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11))
      (m ((c : Thread nD τ).loc main_arg2)) (m ((c : Thread nD τ).loc main_arg3)) s l := by
  refine (row_at _ _ _ _ r l).trans ?_
  refine (show _ = subTile (k0_pay9 (iblk m c 0 t)) (k0_pay8 (iblk m c 1 t)) (k0_pay24 (iblk m c 2 t)) (k0_pay11 (iblk m c 6 t)) (iblk m c 7 t)
    (tapsTile (iblk m c 5 t) L 30 (by omega)) (ix2 r l) from rfl).trans ?_
  exact subTile_eq _ _ _ _ _ _ L (t.val % 16) _ _ _ _ _ _ _ _ _ _ _ _ hL r l s hs (fun k => tile_pt m c t b hb r k s hs) (md_pt m c t b hb 2)
    (ml_pt m c t l).1 (ml_pt m c t l).2 (wdw_pt m c t) (wout_pt m c t) (fun k => (vec_pt m c t 0 k).trans (v0_at m c k))
    (fun k => (vec_pt m c t 1 k).trans (v1_at m c k)) (fun k => (vec_pt m c t 2 k).trans (v2_at m c k)) (fun k => (vec_pt m c t 3 k).trans (v3_at m c k))

theorem inb_at (k : Nat) (h : k < 31) : ∀ i : Fin 2, (![2 + k, 0] : Fin 2 → Nat) i + S512x1024.size i ≤ S544x1024.size i := by
  intro i
  match i with
  | 0 => show 2 + k + 512 ≤ 544; omega
  | 1 => exact Nat.le_refl _

/-- The rows tap `k` reads in the first tile of a batch. -/
def loadF (t : Fin cfg0.N) (k : Nat) (h : k < 31) : Vec Ideal S512x1024 .f32 :=
  if k = 30 then gate m c t else
    (View.whole cc0_scratch0).readCov [⟨Rect.unit (s := S544x1024) ![32, 0] ![512, 1024] inb_S544x1024_S512x1024_32_0, gate m c t⟩,
      ⟨Rect.unit (s := S544x1024) ![0, 0] ![32, 1024] inb_S544x1024_S32x1024_0_0, k0_pay14 (F := Ideal)⟩]
      (Rect.unit (s := S544x1024) ![2 + k, 0] ![512, 1024] (inb_at k h)).toLoadRect

theorem loadF_back (t : Fin cfg0.N) (b : Fin 4) (hb : b.val = t.val / 16) (h1 : t.val % 16 = 0) (k : Nat) (h : k < 31) :
    Back (glu m c b) (30 - k) (t.val % 16) (loadF m c t k h) := by
  unfold loadF
  by_cases hk : k = 30
  · subst hk
    exact gate_pt m c t b hb
  · rw [if_neg hk]
    exact back_first _ _ _ (by omega) _ _ _ (gate_pt m c t b hb) h1 _ zero_at _ _ _

/-- The rows tap `k` reads in a later tile, which finds `f` in the scratch. -/
def loadL (t : Fin cfg0.N) (f : (View.whole (sig := sig) cc0_scratch0).ty.Contents (Elt Ideal)) (k : Nat) (h : k < 31) : Vec Ideal S512x1024 .f32 :=
  if k = 30 then gate m c t else
    View.ld ((View.whole cc0_scratch0).read (Elt Ideal) ((View.whole cc0_scratch0).writes (Elt Ideal) f
      [⟨Rect.unit (s := S544x1024) ![32, 0] ![512, 1024] inb_S544x1024_S512x1024_32_0, gate m c t⟩]))
      (Rect.unit (s := S544x1024) ![2 + k, 0] ![512, 1024] (inb_at k h))

theorem loadL_back (t t' : Fin cfg0.N) (ht : t'.val + 1 = t.val) (b : Fin 4) (hb : b.val = t.val / 16) (h1 : ¬t.val % 16 = 0)
    (f : (View.whole (sig := sig) cc0_scratch0).ty.Contents (Elt Ideal))
    (hf : (View.whole cc0_scratch0).read (Elt Ideal) f = (outsAt0 m c t'.val t'.isLt).2.2.2.2.2.1) (k : Nat) (h : k < 31) :
    Back (glu m c b) (30 - k) (t.val % 16) (loadL m c t f k h) := by
  unfold loadL
  by_cases hk : k = 30
  · subst hk
    exact gate_pt m c t b hb
  · rw [if_neg hk]
    refine back_later _ _ _ (by omega) _ _ _ (gate_pt m c t b hb) (by omega) _ (fun y l s hy hs => ?_) _ _
    rw [hf]
    refine (carried m c t' y l ⟨480 + y.val, by omega⟩ hy rfl).trans ?_
    refine (gate_pt m c t' b (by omega) _ l s (by dsimp only; omega)).trans ?_
    exact if_pos (Nat.zero_le _)

/-- Point `t`'s result block at an entry. -/
theorem out_pt (t : Fin cfg0.N) (b : Fin 4) (hb : b.val = t.val / 16) (r : Fin 512) (l : Fin 1024) (s : Fin 8192) (hs : s.val = t.val % 16 * 512 + r.val) :
    (outsAt0 m c t.val t.isLt).1 (ix3 0 r l) = subA (xs m c b) (ms m c b) (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11))
      (m ((c : Thread nD τ).loc main_arg2)) (m ((c : Thread nD τ).loc main_arg3)) s l := by
  by_cases h1 : t.val % 16 = 0
  · by_cases h0 : t.val % 64 = 0
    · rw [outsAt0_A m c t h0 h1]
      dsimp only
      frame_open
      simp (disch := decide) only [↓ View.readCov_skip, ↓ View.readCov_cons_toLoadRect, ↓ View.readCov_fill]
      frame_out
      exact x1_pt m c t b hb (loadF m c t) (loadF_back m c t b hb h1) r l s hs
    · rw [outsAt0_C m c t h0 h1]
      dsimp only
      frame_open
      simp (disch := decide) only [↓ View.readCov_skip, ↓ View.readCov_cons_toLoadRect, ↓ View.readCov_fill]
      frame_out
      exact x1_pt m c t b hb (loadF m c t) (loadF_back m c t b hb h1) r l s hs
  · rw [outsAt0_B m c t (by omega) h1]
    dsimp only
    frame_open
    simp (disch := decide) only [↓ View.readCov_skip, ↓ View.readCov_cons_toLoadRect, ↓ View.readCov_fill]
    frame_out
    have ht := t.isLt
    generalize hf : Memref.IsWhole.unread _ (outsAt0 m c (t.val - 1) _).2.2.2.2.2.1 = f
    refine x1_pt m c t b hb (loadL m c t f) (loadL_back m c t ⟨t.val - 1, by omega⟩ (by dsimp only; omega) b hb h1 f ?_) r l s hs
    rw [← hf]
    exact read_unread_whole _ _ _

theorem subA_congr {b b' : Fin 4} {s s' : Fin 8192} {l l' : Fin 1024} (hb : b.val = b'.val) (hs : s.val = s'.val) (hl : l.val = l'.val)
    (Win : S1024x2048.Idx → EReal) (Bin : S2048.Idx → EReal) (Wdw : S31x1024.Idx → EReal) (Bdw G O : S1024.Idx → EReal) (Wout : S1024x1024.Idx → EReal)
    (Bout A B : S1024.Idx → EReal) :
    subA (xs m c b) (ms m c b) Win Bin Wdw Bdw G O Wout Bout A B s l = subA (xs m c b') (ms m c b') Win Bin Wdw Bdw G O Wout Bout A B s' l' := by
  rw [Fin.ext hb, Fin.ext hs, Fin.ext hl]

/-- What the result array ends holding. -/
def result : Buf (Elt Ideal) ((c : Thread nD τ).loc main_v37_0) := fun i : S4x8192x1024.Idx =>
  subA (xs m c (i 0)) (ms m c (i 0)) (m ((c : Thread nD τ).loc main_arg4)) (m ((c : Thread nD τ).loc main_arg5)) (m ((c : Thread nD τ).loc main_arg6)) (m ((c : Thread nD τ).loc main_arg7))
      (m ((c : Thread nD τ).loc main_arg8)) (m ((c : Thread nD τ).loc main_arg9)) (m ((c : Thread nD τ).loc main_arg10)) (m ((c : Thread nD τ).loc main_arg11))
      (m ((c : Thread nD τ).loc main_arg2)) (m ((c : Thread nD τ).loc main_arg3)) (i 1) (i 2)

theorem arr : (dats m 0 c).arrAt 11 cfg0.N = result m c := by
  refine (dats m 0 c).arrAt_eq_of_covers 11 (result m c) (by decide +kernel) fun t hf y => ?_
  blk_simp
  rw [after0_11]
  have e := (idx t).2.2.2.2.2.2.2.2
  have hy : y = ix3 (0 : Fin 1) (y 1) (y 2) := by blk_ext
  have ht : t.val < 64 := t.isLt
  have hr : (y (1 : Fin 3)).val < 512 := (y 1).isLt
  rw [hy]
  refine (out_pt m c t ⟨t.val / 16, by omega⟩ rfl (y 1) (y 2) ⟨t.val % 16 * 512 + (y 1).val, by omega⟩ rfl).trans ?_
  refine subA_congr m c ?_ ?_ ?_ _ _ _ _ _ _ _ _ _ _ <;> blk_simp [e] <;> try rfl

variable (ρ : Dev nD → PrngReg)
/-- The run, read: the result array at the sublayer, the arguments unchanged. -/
theorem run : θ_run defs (onTc (τ := τ) (main (F := Ideal))) ⟨m, fun _ => 0, ρ⟩ fun r => ∀ c : Dev nD,
    r.2.mem ((c : Thread nD τ).loc main_v37_0) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13)
    ∧ r.2.mem ((c : Thread nD τ).loc main_arg14) = m ((c : Thread nD τ).loc main_arg14)
    ∧ r.2.mem ((c : Thread nD τ).loc main_arg15) = m ((c : Thread nD τ).loc main_arg15) :=
  (θ_run defs _ _).mono (fun r h c => ⟨((h c).1 11).trans (arr m c),
    ((h c).1 0).trans (((dats m 0 c).arrAt_in 0 rfl _).trans ((A_eq m c 0).trans (V_main_arg0 m c))),
    ((h c).2 main_arg1 (Pipeline.mem_restRefs_of main_arg1 (by decide) (by decide))).trans (V_main_arg1 m c),
    ((h c).2 main_arg2 (Pipeline.mem_restRefs_of main_arg2 (by decide) (by decide))).trans (V_main_arg2 m c),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).1 5).trans (((dats m 0 c).arrAt_in 5 rfl _).trans ((A_eq m c 5).trans (V_main_arg6 m c))),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).2 main_arg12 (Pipeline.mem_restRefs_of main_arg12 (by decide) (by decide))).trans (V_main_arg12 m c),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c)⟩) (run_main m ρ)

end Carry
end Cert.Kernel3Ideal.MixValue
end
-- ==== Proof.MixAReference.lean ====
/- What the reference of the first Conformer-convolution mixer computes, read at one entry of its result. -/
module
public import proofs.«01_k».proof.Proof.Gen.Reference3Ideal.Run
public import proofs.«01_k».proof.Proof.RefStages
@[expose] public section
set_option maxRecDepth 16384
noncomputable section
open Idealize.ShloMosaic Idealize.ShloMosaic.TcCoe Idealize.SL.Sem Idealize.ShloMosaic.StableHlo
namespace Cert.Reference3Ideal.MixValue
open Cert.Reference3Ideal Cert.Reference3Ideal.Gen Cert.Reference3Ideal.Value Cert.RowMath Cert.RefStages

/-- The input projection of every token. -/
def projAll (x : FVec Ideal S4x8192x1024 .f32) (md : FVec Ideal S4x6x1024 .f32) (win : FVec Ideal S1024x2048 .f32) (bin : FVec Ideal S2048 .f32) : FVec Ideal S4x8192x2048 .f32 :=
  addf (Host.dotGeneral dot_S4x8192x1024_S1024x2048_S4x8192x2048_2_0_01_1_n_n none (addf (mulf x (broadcastInDim S4x8192x1024 ![0, 1, 2] bcast_S4x1x1024_S4x8192x1024_0_1_2 (addf (broadcastInDim S4x1x1024 ![] bcast_S_S4x1x1024 (constant S_ .f32 0x3F800000#32)) (broadcastInDim S4x1x1024 ![0, 2] bcast_S4x1024_S4x1x1024_0_2 (shapeCast _ (extractStridedSlice S4x1x1024 ![0, 1, 0] md slices_S4x6x1024_S4x1x1024_0_1_0) shapeCasts_S4x1x1024_S4x1024))))) (broadcastInDim S4x8192x1024 ![0, 1, 2] bcast_S4x1x1024_S4x8192x1024_0_1_2 (broadcastInDim S4x1x1024 ![0, 2] bcast_S4x1024_S4x1x1024_0_2 (shapeCast _ (extractStridedSlice S4x1x1024 ![0, 0, 0] md slices_S4x6x1024_S4x1x1024_0_0_0) shapeCasts_S4x1x1024_S4x1024)))) win) (broadcastInDim S4x8192x2048 ![0, 1, 2] bcast_S1x1x2048_S4x8192x2048_0_1_2 (broadcastInDim S1x1x2048 ![2] bcast_S2048_S1x1x2048_2 bin))

theorem projAll_at (x : FVec Ideal S4x8192x1024 .f32) (md : FVec Ideal S4x6x1024 .f32) (win : FVec Ideal S1024x2048 .f32) (bin : FVec Ideal S2048 .f32)
    (b : Fin 4) (s : Fin 8192) (j : Fin 2048) :
    projAll x md win bin (ix3 b s j) = projA (fun s k => x (ix3 b s k)) (fun i k => md (ix3 b i k)) win bin s j := by
  pointwise [projAll, projA, projEl]

/-- The gated values of every token, thirty rows of zeros before the first. -/
def gluAll (p : FVec Ideal S4x8192x2048 .f32) : FVec Ideal S4x8222x1024 .f32 :=
  pad S4x8222x1024 ![0, 30, 0] ![0, 0, 0] ![0, 0, 0] (mulf (extractStridedSlice S4x8192x1024 ![0, 0, 0] p slices_S4x8192x2048_S4x8192x1024_0_0_0) (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf (extractStridedSlice S4x8192x1024 ![0, 0, 1024] p slices_S4x8192x2048_S4x8192x1024_0_0_1024)))))) (sitofp .f32 (constantI S_ 32 0#32)) pads_S4x8192x1024_S4x8222x1024_000_3000_000 h_S_

theorem gluAll_at (p : FVec Ideal S4x8192x2048 .f32) (b : Fin 4) (n : Fin 8222) (l : Fin 1024) :
    gluAll p (ix3 b n l) = if h : 30 ≤ n.val then p (ix3 b ⟨n.val - 30, by omega⟩ ⟨l.val, by omega⟩) * sigEl (p (ix3 b ⟨n.val - 30, by omega⟩ ⟨1024 + l.val, by omega⟩)) else 0 := by
  pointwise [gluAll, sigEl]
  by_cases h : 30 ≤ n.val
  · exact (dif_pos (show 30 ≤ n.val ∧ n.val - 30 < 8192 from ⟨h, by omega⟩)).trans (Eq.symm (dif_pos h))
  · refine (dif_neg fun k => h k.1).trans (Eq.trans ?_ (dif_neg h).symm)
    show (((0#32 : BitVec 32).toInt : ℝ) : EReal) = 0
    simp

theorem sliceW (k : Nat) (h : k < 31) : S31x1024.Slices ![k, 0] S1x1024 :=
  (by decide +kernel : ∀ k : Fin 31, S31x1024.Slices ![k.val, 0] S1x1024) ⟨k, h⟩
theorem sliceQ (k : Nat) (h : k < 31) : S4x8222x1024.Slices ![0, k, 0] S4x8192x1024 :=
  (by decide +kernel : ∀ k : Fin 31, S4x8222x1024.Slices ![0, k.val, 0] S4x8192x1024) ⟨k, h⟩

/-- One tap of the convolution, for every token. -/
def tapAll (wdw : FVec Ideal S31x1024 .f32) (q : FVec Ideal S4x8222x1024 .f32) (k : Nat) (h : k < 31) : FVec Ideal S4x8192x1024 .f32 :=
  mulf (broadcastInDim S4x8192x1024 ![0, 1, 2] bcast_S1x1x1024_S4x8192x1024_0_1_2 (broadcastInDim S1x1x1024 ![2] bcast_S1024_S1x1x1024_2 (shapeCast _ (extractStridedSlice S1x1024 ![k, 0] wdw (sliceW k h)) shapeCasts_S1x1024_S1024))) (extractStridedSlice S4x8192x1024 ![0, k, 0] q (sliceQ k h))

theorem tapAll_at (wdw : FVec Ideal S31x1024 .f32) (q : FVec Ideal S4x8222x1024 .f32) (k : Nat) (h : k < 31) (b : Fin 4) (s : Fin 8192) (l : Fin 1024) :
    tapAll wdw q k h (ix3 b s l) = wdw (ix2 ⟨k, h⟩ l) * q (ix3 b ⟨k + s.val, by omega⟩ l) := by
  pointwise [tapAll]

/-- The first `n + 1` taps, added in order. -/
def tapsAll (wdw : FVec Ideal S31x1024 .f32) (q : FVec Ideal S4x8222x1024 .f32) : (n : Nat) → n < 31 → FVec Ideal S4x8192x1024 .f32
  | 0, h => tapAll wdw q 0 h
  | n + 1, h => addf (tapsAll wdw q n (by omega)) (tapAll wdw q (n + 1) h)

theorem tapsAll_at (wdw : FVec Ideal S31x1024 .f32) (q : FVec Ideal S4x8222x1024 .f32) (b : Fin 4) (G : Fin 8192 → Fin 1024 → EReal)
    (hq : ∀ (n : Fin 8222) (s : Fin 8192) (l : Fin 1024) (d : Nat), n.val + d = s.val + 30 → d ≤ 30 → q (ix3 b n l) = delayed G d s l)
    (s : Fin 8192) (l : Fin 1024) (n : Nat) (h : n < 31) : tapsAll wdw q n h (ix3 b s l) = taps 30 (rowOf wdw) G s l n := by
  have hW : ∀ k (h : k < 31), rowOf wdw k l = wdw (ix2 ⟨k, h⟩ l) := fun k h => dif_pos h
  induction n with
  | zero =>
    unfold tapsAll taps
    rw [tapAll_at, hq _ s l 30 (by dsimp only; omega) (by omega), hW 0 h]
  | succ n ih =>
    unfold tapsAll taps
    rw [← ih (by omega), hW (n + 1) h, ← hq ⟨n + 1 + s.val, by omega⟩ s l (30 - (n + 1)) (by dsimp only; omega) (by omega), ← tapAll_at]
    rfl

/-- A row added to every token. -/
def rowAll (u : FVec Ideal S4x8192x1024 .f32) (r : FVec Ideal S1024 .f32) : FVec Ideal S4x8192x1024 .f32 :=
  addf u (broadcastInDim S4x8192x1024 ![0, 1, 2] bcast_S1x1x1024_S4x8192x1024_0_1_2 (broadcastInDim S1x1x1024 ![2] bcast_S1024_S1x1x1024_2 r))

theorem rowAll_at (u : FVec Ideal S4x8192x1024 .f32) (r : FVec Ideal S1024 .f32) (b : Fin 4) (s : Fin 8192) (l : Fin 1024) :
    rowAll u r (ix3 b s l) = u (ix3 b s l) + r (ix1 l) := by
  pointwise [rowAll]

/-- Every token's normed values, activated and projected out. -/
def outAll (a : FVec Ideal S4x8192x1024 .f32) (wout : FVec Ideal S1024x1024 .f32) (bout : FVec Ideal S1024 .f32) : FVec Ideal S4x8192x1024 .f32 :=
  addf (Host.dotGeneral dot_S4x8192x1024_S1024x1024_S4x8192x1024_2_0_01_1_n_n none (mulf a (Host.divf (broadcastInDim S4x8192x1024 ![] bcast_S_S4x8192x1024 (constant S_ .f32 0x3F800000#32)) (addf (broadcastInDim S4x8192x1024 ![] bcast_S_S4x8192x1024 (constant S_ .f32 0x3F800000#32)) (Host.exp (Host.negf a))))) wout) (broadcastInDim S4x8192x1024 ![0, 1, 2] bcast_S1x1x1024_S4x8192x1024_0_1_2 (broadcastInDim S1x1x1024 ![2] bcast_S1024_S1x1x1024_2 bout))

theorem outAll_at (a : FVec Ideal S4x8192x1024 .f32) (wout : FVec Ideal S1024x1024 .f32) (bout : FVec Ideal S1024 .f32) (b : Fin 4) (s : Fin 8192) (l : Fin 1024) :
    outAll a wout bout (ix3 b s l) = (∑ k : Fin 1024, (a (ix3 b s k) * sigEl (a (ix3 b s k))) * wout (ix2 k l)) + bout (ix1 l) := by
  pointwise [outAll, sigEl]

theorem slices2 : S4x6x1024.Slices ![0, 2, 0] S4x1x1024 := slices_S4x6x1024_S4x1x1024_0_2_0

/-- The convolved values of every token. -/
def convAll (x : FVec Ideal S4x8192x1024 .f32) (md : FVec Ideal S4x6x1024 .f32) (win : FVec Ideal S1024x2048 .f32) (bin : FVec Ideal S2048 .f32)
    (wdw : FVec Ideal S31x1024 .f32) (bdw : FVec Ideal S1024 .f32) : FVec Ideal S4x8192x1024 .f32 :=
  rowAll (tapsAll wdw (gluAll (projAll x md win bin)) 30 (by omega)) bdw

theorem convAll_at (x : FVec Ideal S4x8192x1024 .f32) (md : FVec Ideal S4x6x1024 .f32) (win : FVec Ideal S1024x2048 .f32) (bin : FVec Ideal S2048 .f32)
    (wdw : FVec Ideal S31x1024 .f32) (bdw : FVec Ideal S1024 .f32) (b : Fin 4) (s : Fin 8192) (l : Fin 1024) :
    convAll x md win bin wdw bdw (ix3 b s l)
      = taps 30 (rowOf wdw) (gluA (fun s k => x (ix3 b s k)) (fun i k => md (ix3 b i k)) win bin) s l 30 + bdw (ix1 l) := by
  unfold convAll
  rw [rowAll_at]
  refine congrArg (· + _) (tapsAll_at wdw _ b _ (fun n s l d hn hd => ?_) s l 30 (by omega))
  rw [gluAll_at]
  unfold delayed gluA
  by_cases h : d ≤ s.val
  · rw [dif_pos (by omega), if_pos h, projAll_at, projAll_at]
    have e : (⟨n.val - 30, by omega⟩ : Fin 8192) = ⟨s.val - d, by omega⟩ := Fin.ext (by show n.val - 30 = s.val - d; omega)
    rw [e]
  · rw [dif_neg (by omega), if_neg h]

/-- The whole sublayer, for every token. -/
def subAll (x : FVec Ideal S4x8192x1024 .f32) (md : FVec Ideal S4x6x1024 .f32) (A B : FVec Ideal S1024 .f32) (win : FVec Ideal S1024x2048 .f32) (bin : FVec Ideal S2048 .f32)
    (wdw : FVec Ideal S31x1024 .f32) (bdw g o : FVec Ideal S1024 .f32) (wout : FVec Ideal S1024x1024 .f32) (bout : FVec Ideal S1024 .f32) : FVec Ideal S4x8192x1024 .f32 :=
  normAll (resAll 2 slices2 x (outAll (normAll (convAll x md win bin wdw bdw) g o) wout bout) md) A B

theorem subAll_at (x : FVec Ideal S4x8192x1024 .f32) (md : FVec Ideal S4x6x1024 .f32) (A B : FVec Ideal S1024 .f32) (win : FVec Ideal S1024x2048 .f32) (bin : FVec Ideal S2048 .f32)
    (wdw : FVec Ideal S31x1024 .f32) (bdw g o : FVec Ideal S1024 .f32) (wout : FVec Ideal S1024x1024 .f32) (bout : FVec Ideal S1024 .f32)
    (b : Fin 4) (s : Fin 8192) (l : Fin 1024) :
    subAll x md A B win bin wdw bdw g o wout bout (ix3 b s l)
      = subA (fun s k => x (ix3 b s k)) (fun i k => md (ix3 b i k)) win bin wdw bdw g o wout bout A B s l := by
  unfold subAll subA
  rw [normAll_at]
  refine congrArg (fun r => lnEl r _ _ l) (funext fun k => ?_)
  refine (show resAll 2 slices2 x _ md (ix3 b s k) = _ from resAll_at 2 slices2 _ _ md b s k).trans ?_
  refine congrArg (resEl _ _) ?_
  rw [outAll_at]
  unfold convA actA actEl
  refine congrArg (· + _) (Finset.sum_congr rfl fun j _ => ?_)
  have e : normAll (convAll x md win bin wdw bdw) g o (ix3 b s j)
      = lnEl (fun k => taps 30 (rowOf wdw) (gluA (fun s k => x (ix3 b s k)) (fun i k => md (ix3 b i k)) win bin) s k 30 + bdw (ix1 k)) (g (ix1 j)) (o (ix1 j)) j :=
    (normAll_at _ g o b s j).trans (congrArg (fun v => lnEl v _ _ j) (funext fun k => convAll_at x md win bin wdw bdw b s k))
  rw [e]

section Result
variable (m : (ℓ : Loc nD τ sig) → Buf (Elt Ideal) ℓ) (c : Dev nD)

/-- What the reference leaves. -/
def result : FVec Ideal S4x8192x1024 .f32 :=
  subAll (m ((c.tc : Thread nD τ).loc main_arg0)) (m ((c.tc : Thread nD τ).loc main_arg1)) (m ((c.tc : Thread nD τ).loc main_arg2)) (m ((c.tc : Thread nD τ).loc main_arg3))
    (m ((c.tc : Thread nD τ).loc main_arg4)) (m ((c.tc : Thread nD τ).loc main_arg5)) (m ((c.tc : Thread nD τ).loc main_arg6)) (m ((c.tc : Thread nD τ).loc main_arg7))
    (m ((c.tc : Thread nD τ).loc main_arg8)) (m ((c.tc : Thread nD τ).loc main_arg9)) (m ((c.tc : Thread nD τ).loc main_arg10)) (m ((c.tc : Thread nD τ).loc main_arg11))

/-- The input projection the reference makes. -/
abbrev proj : FVec Ideal S4x8192x2048 .f32 :=
  projAll (m ((c.tc : Thread nD τ).loc main_arg0)) (m ((c.tc : Thread nD τ).loc main_arg1)) (m ((c.tc : Thread nD τ).loc main_arg4)) (m ((c.tc : Thread nD τ).loc main_arg5))

theorem v18_eq : res_main_v18 (launchContents m c) = proj m c := rfl
theorem v28_eq : res_main_v28 (launchContents m c) = gluAll (res_main_v18 (launchContents m c)) := rfl
theorem v104_eq : res_main_v104 (launchContents m c) = tapsAll (m ((c.tc : Thread nD τ).loc main_arg6)) (res_main_v28 (launchContents m c)) 10 (by omega) := rfl
theorem v181_eq : res_main_v181 (launchContents m c) = tapsAll (m ((c.tc : Thread nD τ).loc main_arg6)) (res_main_v28 (launchContents m c)) 21 (by omega) := by
  unfold res_main_v181
  rw [v104_eq]
  rfl
theorem v247_eq : res_main_v247 (launchContents m c) = rowAll (tapsAll (m ((c.tc : Thread nD τ).loc main_arg6)) (res_main_v28 (launchContents m c)) 30 (by omega))
    (m ((c.tc : Thread nD τ).loc main_arg7)) := by
  unfold res_main_v247
  rw [v181_eq]
  rfl
theorem v271_eq : res_main_v271 (launchContents m c) = normAll (res_main_v247 (launchContents m c)) (m ((c.tc : Thread nD τ).loc main_arg8)) (m ((c.tc : Thread nD τ).loc main_arg9)) := rfl
theorem v283_eq : res_main_v283 (launchContents m c) = resAll 2 slices2 (m ((c.tc : Thread nD τ).loc main_arg0))
    (outAll (res_main_v271 (launchContents m c)) (m ((c.tc : Thread nD τ).loc main_arg10)) (m ((c.tc : Thread nD τ).loc main_arg11))) (m ((c.tc : Thread nD τ).loc main_arg1)) := rfl

theorem res_eq : normAll (res_main_v283 (launchContents m c)) (m ((c.tc : Thread nD τ).loc main_arg2)) (m ((c.tc : Thread nD τ).loc main_arg3)) = result m c := by
  rw [v283_eq, v271_eq, v247_eq, v28_eq, v18_eq]
  rfl
end Result
end Cert.Reference3Ideal.MixValue

end
-- ==== Proof.A2IdealRunA.lean ====
/- The body of the third mixer's call run at the grid's first point: the frame's generated run with the budget its size takes. -/
module

public import proofs.«01_k».proof.Proof.Gen.Kernel5Ideal.Frame.Runs

@[expose] public section

-- membership in a rectangle of production extents (`View.cover_of_tiled`): the elaborator's structural look
-- recurses once per coordinate of the long axes
set_option maxRecDepth 16384

noncomputable section

namespace Cert.Kernel5Ideal.MixFrame

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- The pieces each buffer holds after the body at the grid's first point, and the proof that the body leaves them. -/
noncomputable def kernelRun0_A (c : Dev nD) (i : grid0.Coords) (arg2 : Memref sig .tc .vmem S1x512x1024 .f32) (harg2 : arg2.IsWhole) (arg3 : Memref sig .tc .vmem S1x512x512 .i32) (harg3 : arg3.IsWhole) (arg4 : Memref sig .tc .vmem S1x512x512 .i32) (harg4 : arg4.IsWhole) (arg5 : Memref sig .tc .vmem S1x512x256 .f32) (harg5 : arg5.IsWhole) (arg6 : Memref sig .tc .vmem S1x1x6x1024 .f32) (harg6 : arg6.IsWhole) (arg7 : Memref sig .tc .vmem S2x1024 .f32) (harg7 : arg7.IsWhole) (arg8 : Memref sig .tc .vmem S1x1x6x1024 .f32) (harg8 : arg8.IsWhole) (arg9 : Memref sig .tc .vmem S2x1024 .f32) (harg9 : arg9.IsWhole) (arg10 : Memref sig .tc .vmem S1024x2048 .bf16) (harg10 : arg10.IsWhole) (arg11 : Memref sig .tc .vmem S1x2048 .f32) (harg11 : arg11.IsWhole) (arg12 : Memref sig .tc .vmem S31x1024 .f32) (harg12 : arg12.IsWhole) (arg13 : Memref sig .tc .vmem S4x1024 .f32) (harg13 : arg13.IsWhole) (arg14 : Memref sig .tc .vmem S1024x1024 .bf16) (harg14 : arg14.IsWhole) (arg15 : Memref sig .tc .vmem S48x1024 .bf16) (harg15 : arg15.IsWhole) (arg16 : Memref sig .tc .vmem S48x1 .f32) (harg16 : arg16.IsWhole) (arg17 : Memref sig .tc .vmem S512x512 .bf16) (harg17 : arg17.IsWhole) (arg18 : Memref sig .tc .vmem S1x512x1024 .f32) (harg18 : arg18.IsWhole) (arg19 : Memref sig .tc .vmem S1x512x2x512 .bf16) (harg19 : arg19.IsWhole) (arg20 : Memref sig .tc .vmem S8x512 .i32) (harg20 : arg20.IsWhole) (arg21 : Memref sig .tc .vmem S1x512x256 .f32) (harg21 : arg21.IsWhole) (arg22 : Memref sig .tc .vmem S32x128 .i32) (harg22 : arg22.IsWhole) (arg23 : Memref sig .tc .vmem S544x1024 .f32) (harg23 : arg23.IsWhole) (arg24 : Memref sig .tc .vmem S32x128 .f32) (harg24 : arg24.IsWhole) (hc0 : cond0_0 i) (hc1 : cond0_1 i)
    (x0 : Vec F S1x512x1024 .f32) (x1 : Vec F S1x512x512 .i32) (x2 : Vec F S1x512x512 .i32) (x3 : Vec F S1x512x256 .f32) (x4 : Vec F S1x1x6x1024 .f32) (x5 : Vec F S2x1024 .f32) (x6 : Vec F S1x1x6x1024 .f32) (x7 : Vec F S2x1024 .f32) (x8 : Vec F S1024x2048 .bf16) (x9 : Vec F S1x2048 .f32) (x10 : Vec F S31x1024 .f32) (x11 : Vec F S4x1024 .f32) (x12 : Vec F S1024x1024 .bf16) (x13 : Vec F S48x1024 .bf16) (x14 : Vec F S48x1 .f32) (x15 : Vec F S512x512 .bf16) :
    Σ' (L16 : List (View.Piece (Elt F) S1x512x1024 .f32)), Σ' (L17 : List (View.Piece (Elt F) S1x512x2x512 .bf16)), Σ' (L18 : List (View.Piece (Elt F) S8x512 .i32)), Σ' (L19 : List (View.Piece (Elt F) S1x512x256 .f32)), Σ' (L20 : List (View.Piece (Elt F) S32x128 .i32)), Σ' (LS0 : List (View.Piece (Elt F) S544x1024 .f32)), { LS1 : List (View.Piece (Elt F) S32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ (∃ d, owns (c : Thread nD τ) arg24 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f LS0) ∗ (∃ f, arg24.view.loc (c : Thread nD τ) ↦[arg24.view.set]{fullShare} arg24.view.writes (Elt F) f LS1)) -∗ K ⟨⟩))
          ⊢ wp frame (wpE (defs₀ (F := F)) Variants.none c none) E (cc0_mixer_a2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, fun E K => ?run⟩
  case run =>
    simp only [cc0_mixer_a2_eq_skeleton]; unfold cc0_mixer_a2_skel
    simp only [k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, ⟨%ds1, %fs1, -, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [HS0]; · iexists _; iexact HS0
    iexists _; iexact HS1

end Cert.Kernel5Ideal.MixFrame

end
-- ==== Proof.A2IdealRunB.lean ====
/- The body of the third mixer's call run at a point inside a batch: the frame's generated run with the budget its size takes. -/
module

public import proofs.«01_k».proof.Proof.A2IdealRunA

@[expose] public section

-- membership in a rectangle of production extents (`View.cover_of_tiled`): the elaborator's structural look
-- recurses once per coordinate of the long axes
set_option maxRecDepth 16384

noncomputable section

namespace Cert.Kernel5Ideal.MixFrame

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- The pieces each buffer holds after the body at a point inside a batch, and the proof that the body leaves them. -/
noncomputable def kernelRun0_B (c : Dev nD) (i : grid0.Coords) (arg2 : Memref sig .tc .vmem S1x512x1024 .f32) (harg2 : arg2.IsWhole) (arg3 : Memref sig .tc .vmem S1x512x512 .i32) (harg3 : arg3.IsWhole) (arg4 : Memref sig .tc .vmem S1x512x512 .i32) (harg4 : arg4.IsWhole) (arg5 : Memref sig .tc .vmem S1x512x256 .f32) (harg5 : arg5.IsWhole) (arg6 : Memref sig .tc .vmem S1x1x6x1024 .f32) (harg6 : arg6.IsWhole) (arg7 : Memref sig .tc .vmem S2x1024 .f32) (harg7 : arg7.IsWhole) (arg8 : Memref sig .tc .vmem S1x1x6x1024 .f32) (harg8 : arg8.IsWhole) (arg9 : Memref sig .tc .vmem S2x1024 .f32) (harg9 : arg9.IsWhole) (arg10 : Memref sig .tc .vmem S1024x2048 .bf16) (harg10 : arg10.IsWhole) (arg11 : Memref sig .tc .vmem S1x2048 .f32) (harg11 : arg11.IsWhole) (arg12 : Memref sig .tc .vmem S31x1024 .f32) (harg12 : arg12.IsWhole) (arg13 : Memref sig .tc .vmem S4x1024 .f32) (harg13 : arg13.IsWhole) (arg14 : Memref sig .tc .vmem S1024x1024 .bf16) (harg14 : arg14.IsWhole) (arg15 : Memref sig .tc .vmem S48x1024 .bf16) (harg15 : arg15.IsWhole) (arg16 : Memref sig .tc .vmem S48x1 .f32) (harg16 : arg16.IsWhole) (arg17 : Memref sig .tc .vmem S512x512 .bf16) (harg17 : arg17.IsWhole) (arg18 : Memref sig .tc .vmem S1x512x1024 .f32) (harg18 : arg18.IsWhole) (arg19 : Memref sig .tc .vmem S1x512x2x512 .bf16) (harg19 : arg19.IsWhole) (arg20 : Memref sig .tc .vmem S8x512 .i32) (harg20 : arg20.IsWhole) (arg21 : Memref sig .tc .vmem S1x512x256 .f32) (harg21 : arg21.IsWhole) (arg22 : Memref sig .tc .vmem S32x128 .i32) (harg22 : arg22.IsWhole) (arg23 : Memref sig .tc .vmem S544x1024 .f32) (harg23 : arg23.IsWhole) (arg24 : Memref sig .tc .vmem S32x128 .f32) (harg24 : arg24.IsWhole) (hc0 : ¬cond0_0 i) (hc1 : ¬cond0_1 i)
    (x0 : Vec F S1x512x1024 .f32) (x1 : Vec F S1x512x512 .i32) (x2 : Vec F S1x512x512 .i32) (x3 : Vec F S1x512x256 .f32) (x4 : Vec F S1x1x6x1024 .f32) (x5 : Vec F S2x1024 .f32) (x6 : Vec F S1x1x6x1024 .f32) (x7 : Vec F S2x1024 .f32) (x8 : Vec F S1024x2048 .bf16) (x9 : Vec F S1x2048 .f32) (x10 : Vec F S31x1024 .f32) (x11 : Vec F S4x1024 .f32) (x12 : Vec F S1024x1024 .bf16) (x13 : Vec F S48x1024 .bf16) (x14 : Vec F S48x1 .f32) (x15 : Vec F S512x512 .bf16) (xs0 : Vec F S544x1024 .f32) (xs1 : Vec F S32x128 .f32) :
    Σ' (L16 : List (View.Piece (Elt F) S1x512x1024 .f32)), Σ' (L17 : List (View.Piece (Elt F) S1x512x2x512 .bf16)), Σ' (L18 : List (View.Piece (Elt F) S8x512 .i32)), Σ' (L19 : List (View.Piece (Elt F) S1x512x256 .f32)), Σ' (L20 : List (View.Piece (Elt F) S32x128 .i32)), Σ' (LS0 : List (View.Piece (Elt F) S544x1024 .f32)), { LS1 : List (View.Piece (Elt F) S32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ owns (c : Thread nD τ) arg23 fullShare xs0 ∗ owns (c : Thread nD τ) arg24 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f LS0) ∗ (∃ f, arg24.view.loc (c : Thread nD τ) ↦[arg24.view.set]{fullShare} arg24.view.writes (Elt F) f LS1)) -∗ K ⟨⟩))
          ⊢ wp frame (wpE (defs₀ (F := F)) Variants.none c none) E (cc0_mixer_a2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, fun E K => ?run⟩
  case run =>
    simp only [cc0_mixer_a2_eq_skeleton]; unfold cc0_mixer_a2_skel
    simp only [k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%fs0, %hfs0, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg23.eq_unread hfs0; obtain rfl := harg24.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [HS0]; · iexists _; iexact HS0
    iexists _; iexact HS1

end Cert.Kernel5Ideal.MixFrame

end
-- ==== Proof.A2IdealRunC.lean ====
/- The body of the third mixer's call run at a later batch's first point: the frame's generated run with the budget its size takes. -/
module

public import proofs.«01_k».proof.Proof.A2IdealRunB

@[expose] public section

-- membership in a rectangle of production extents (`View.cover_of_tiled`): the elaborator's structural look
-- recurses once per coordinate of the long axes
set_option maxRecDepth 16384

noncomputable section

namespace Cert.Kernel5Ideal.MixFrame

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 16000000 in
/-- The pieces each buffer holds after the body at a later batch's first point, and the proof that the body leaves them. -/
noncomputable def kernelRun0_C (c : Dev nD) (i : grid0.Coords) (arg2 : Memref sig .tc .vmem S1x512x1024 .f32) (harg2 : arg2.IsWhole) (arg3 : Memref sig .tc .vmem S1x512x512 .i32) (harg3 : arg3.IsWhole) (arg4 : Memref sig .tc .vmem S1x512x512 .i32) (harg4 : arg4.IsWhole) (arg5 : Memref sig .tc .vmem S1x512x256 .f32) (harg5 : arg5.IsWhole) (arg6 : Memref sig .tc .vmem S1x1x6x1024 .f32) (harg6 : arg6.IsWhole) (arg7 : Memref sig .tc .vmem S2x1024 .f32) (harg7 : arg7.IsWhole) (arg8 : Memref sig .tc .vmem S1x1x6x1024 .f32) (harg8 : arg8.IsWhole) (arg9 : Memref sig .tc .vmem S2x1024 .f32) (harg9 : arg9.IsWhole) (arg10 : Memref sig .tc .vmem S1024x2048 .bf16) (harg10 : arg10.IsWhole) (arg11 : Memref sig .tc .vmem S1x2048 .f32) (harg11 : arg11.IsWhole) (arg12 : Memref sig .tc .vmem S31x1024 .f32) (harg12 : arg12.IsWhole) (arg13 : Memref sig .tc .vmem S4x1024 .f32) (harg13 : arg13.IsWhole) (arg14 : Memref sig .tc .vmem S1024x1024 .bf16) (harg14 : arg14.IsWhole) (arg15 : Memref sig .tc .vmem S48x1024 .bf16) (harg15 : arg15.IsWhole) (arg16 : Memref sig .tc .vmem S48x1 .f32) (harg16 : arg16.IsWhole) (arg17 : Memref sig .tc .vmem S512x512 .bf16) (harg17 : arg17.IsWhole) (arg18 : Memref sig .tc .vmem S1x512x1024 .f32) (harg18 : arg18.IsWhole) (arg19 : Memref sig .tc .vmem S1x512x2x512 .bf16) (harg19 : arg19.IsWhole) (arg20 : Memref sig .tc .vmem S8x512 .i32) (harg20 : arg20.IsWhole) (arg21 : Memref sig .tc .vmem S1x512x256 .f32) (harg21 : arg21.IsWhole) (arg22 : Memref sig .tc .vmem S32x128 .i32) (harg22 : arg22.IsWhole) (arg23 : Memref sig .tc .vmem S544x1024 .f32) (harg23 : arg23.IsWhole) (arg24 : Memref sig .tc .vmem S32x128 .f32) (harg24 : arg24.IsWhole) (hc0 : ¬cond0_0 i) (hc1 : cond0_1 i)
    (x0 : Vec F S1x512x1024 .f32) (x1 : Vec F S1x512x512 .i32) (x2 : Vec F S1x512x512 .i32) (x3 : Vec F S1x512x256 .f32) (x4 : Vec F S1x1x6x1024 .f32) (x5 : Vec F S2x1024 .f32) (x6 : Vec F S1x1x6x1024 .f32) (x7 : Vec F S2x1024 .f32) (x8 : Vec F S1024x2048 .bf16) (x9 : Vec F S1x2048 .f32) (x10 : Vec F S31x1024 .f32) (x11 : Vec F S4x1024 .f32) (x12 : Vec F S1024x1024 .bf16) (x13 : Vec F S48x1024 .bf16) (x14 : Vec F S48x1 .f32) (x15 : Vec F S512x512 .bf16) (xs1 : Vec F S32x128 .f32) :
    Σ' (L16 : List (View.Piece (Elt F) S1x512x1024 .f32)), Σ' (L17 : List (View.Piece (Elt F) S1x512x2x512 .bf16)), Σ' (L18 : List (View.Piece (Elt F) S8x512 .i32)), Σ' (L19 : List (View.Piece (Elt F) S1x512x256 .f32)), Σ' (L20 : List (View.Piece (Elt F) S32x128 .i32)), Σ' (LS0 : List (View.Piece (Elt F) S544x1024 .f32)), { LS1 : List (View.Piece (Elt F) S32x128 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d) ∗ (∃ d, owns (c : Thread nD τ) arg22 fullShare d) ∗ (∃ d, owns (c : Thread nD τ) arg23 fullShare d) ∗ owns (c : Thread nD τ) arg24 fullShare xs1
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19) ∗ (∃ f, arg22.view.loc (c : Thread nD τ) ↦[arg22.view.set]{fullShare} arg22.view.writes (Elt F) f L20) ∗ (∃ f, arg23.view.loc (c : Thread nD τ) ↦[arg23.view.set]{fullShare} arg23.view.writes (Elt F) f LS0) ∗ (∃ f, arg24.view.loc (c : Thread nD τ) ↦[arg24.view.set]{fullShare} arg24.view.writes (Elt F) f LS1)) -∗ K ⟨⟩))
          ⊢ wp frame (wpE (defs₀ (F := F)) Variants.none c none) E (cc0_mixer_a2 i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 arg22 harg22 arg23 harg23 arg24 harg24) K } := by
  refine ⟨?_, ?_, ?_, ?_, ?_, ?_, ?_, fun E K => ?run⟩
  case run =>
    simp only [cc0_mixer_a2_eq_skeleton]; unfold cc0_mixer_a2_skel
    simp only [k0_part12_eq_skeleton, k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, ⟨%d20, %f20, -, H20⟩, ⟨%ds0, %fs0, -, HS0⟩, ⟨%fs1, %hfs1, HS1⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg24.eq_unread hfs1
    sl_exec (disch := first | sl_exact hc0 | sl_exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    isplitl [H19]; · iexists _; iexact H19
    isplitl [H20]; · iexists _; iexact H20
    isplitl [HS0]; · iexists _; iexact HS0
    iexists _; iexact HS1

end Cert.Kernel5Ideal.MixFrame

end
-- ==== Proof.A2IdealFrame.lean ====
/- The frame of the third mixer's call: what its buffers hold after each point, the run of the launch, and the unchanged
   arguments. -/
module

public import proofs.«01_k».proof.Proof.A2IdealRunC
public import Idealize.ShloMosaic.Lib.Claim

@[expose] public section

-- membership in a rectangle of production extents (`View.cover_of_tiled`): the elaborator's structural look
-- recurses once per coordinate of the long axes
set_option maxRecDepth 16384

noncomputable section

namespace Cert.Kernel5Ideal.MixFrame

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-- What the five output buffers and the two scratch buffers hold. -/
abbrev Outs (F : FTy → Type) : Type := Vec F S1x512x1024 .f32 × Vec F S1x512x2x512 .bf16 × Vec F S8x512 .i32 × Vec F S1x512x256 .f32 × Vec F S32x128 .i32 × Vec F S544x1024 .f32 × Vec F S32x128 .f32

/-- The buffers' contents, from the pieces a run leaves. -/
def outs (L16 : List (View.Piece (Elt F) S1x512x1024 .f32)) (L17 : List (View.Piece (Elt F) S1x512x2x512 .bf16)) (L18 : List (View.Piece (Elt F) S8x512 .i32)) (L19 : List (View.Piece (Elt F) S1x512x256 .f32)) (L20 : List (View.Piece (Elt F) S32x128 .i32)) (LS0 : List (View.Piece (Elt F) S544x1024 .f32)) (LS1 : List (View.Piece (Elt F) S32x128 .f32)) : Outs F :=
  (VO0_16.read (Elt F) (VO0_16.writes (Elt F) VO0_16.junk L16), VO0_17.read (Elt F) (VO0_17.writes (Elt F) VO0_17.junk L17), VO0_18.read (Elt F) (VO0_18.writes (Elt F) VO0_18.junk L18), VO0_19.read (Elt F) (VO0_19.writes (Elt F) VO0_19.junk L19), VO0_20.read (Elt F) (VO0_20.writes (Elt F) VO0_20.junk L20), VS0_0.read (Elt F) (VS0_0.writes (Elt F) VS0_0.junk LS0), VS0_1.read (Elt F) (VS0_1.writes (Elt F) VS0_1.junk LS1))

/-- The pieces cover their buffers. -/
abbrev Covers (L16 : List (View.Piece (Elt F) S1x512x1024 .f32)) (L17 : List (View.Piece (Elt F) S1x512x2x512 .bf16)) (L18 : List (View.Piece (Elt F) S8x512 .i32)) (L19 : List (View.Piece (Elt F) S1x512x256 .f32)) (L20 : List (View.Piece (Elt F) S32x128 .i32)) (LS0 : List (View.Piece (Elt F) S544x1024 .f32)) (LS1 : List (View.Piece (Elt F) S32x128 .f32)) : Prop :=
  (∀ y, ∃ pc ∈ L16, y ∈ pc.1.set) ∧ (∀ y, ∃ pc ∈ L17, y ∈ pc.1.set) ∧ (∀ y, ∃ pc ∈ L18, y ∈ pc.1.set) ∧ (∀ y, ∃ pc ∈ L19, y ∈ pc.1.set) ∧ (∀ y, ∃ pc ∈ L20, y ∈ pc.1.set) ∧ (∀ y, ∃ pc ∈ LS0, y ∈ pc.1.set) ∧ (∀ y, ∃ pc ∈ LS1, y ∈ pc.1.set)

section Cases
variable (c : Dev nD) (t : Fin cfg0.N)

/-- The run at the grid's first point. -/
def runA (h0 : t.val % 64 = 0) (h1 : t.val % 16 = 0) :=
  kernelRun0_A c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) ((hcond0_0 t).mpr h0) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t)

/-- What it leaves. -/
def outA (h0 : t.val % 64 = 0) (h1 : t.val % 16 = 0) : Outs F :=
  outs (runA m c t h0 h1).1 (runA m c t h0 h1).2.1 (runA m c t h0 h1).2.2.1 (runA m c t h0 h1).2.2.2.1 (runA m c t h0 h1).2.2.2.2.1 (runA m c t h0 h1).2.2.2.2.2.1 (runA m c t h0 h1).2.2.2.2.2.2.1

theorem coversA (h0 : t.val % 64 = 0) (h1 : t.val % 16 = 0) : Covers (runA m c t h0 h1).1 (runA m c t h0 h1).2.1 (runA m c t h0 h1).2.2.1 (runA m c t h0 h1).2.2.2.1 (runA m c t h0 h1).2.2.2.2.1 (runA m c t h0 h1).2.2.2.2.2.1 (runA m c t h0 h1).2.2.2.2.2.2.1 :=
  ⟨View.cover_of_tiledL _ S1x512x1024.size (by sl_kernel_rfl), View.cover_of_tiledL _ S1x512x2x512.size (by sl_kernel_rfl), View.cover_of_tiledBy _ ![1, 512] (by sl_kernel_rfl), View.cover_of_tiledL _ S1x512x128.size (by sl_kernel_rfl), View.cover_of_tiledL _ S32x128.size (by sl_kernel_rfl), View.cover_of_tiledBy _ ![32, 1024] (by sl_kernel_rfl), View.cover_of_tiledL _ S32x128.size (by sl_kernel_rfl)⟩

/-- The run at a point inside a batch. -/
def runB (h0 : ¬t.val % 64 = 0) (h1 : ¬t.val % 16 = 0) (xs0 : Vec F S544x1024 .f32) (xs1 : Vec F S32x128 .f32) :=
  kernelRun0_B c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs0 xs1

/-- What it leaves. -/
def outB (h0 : ¬t.val % 64 = 0) (h1 : ¬t.val % 16 = 0) (xs0 : Vec F S544x1024 .f32) (xs1 : Vec F S32x128 .f32) : Outs F :=
  outs (runB m c t h0 h1 xs0 xs1).1 (runB m c t h0 h1 xs0 xs1).2.1 (runB m c t h0 h1 xs0 xs1).2.2.1 (runB m c t h0 h1 xs0 xs1).2.2.2.1 (runB m c t h0 h1 xs0 xs1).2.2.2.2.1 (runB m c t h0 h1 xs0 xs1).2.2.2.2.2.1 (runB m c t h0 h1 xs0 xs1).2.2.2.2.2.2.1

theorem coversB (h0 : ¬t.val % 64 = 0) (h1 : ¬t.val % 16 = 0) (xs0 : Vec F S544x1024 .f32) (xs1 : Vec F S32x128 .f32) : Covers (runB m c t h0 h1 xs0 xs1).1 (runB m c t h0 h1 xs0 xs1).2.1 (runB m c t h0 h1 xs0 xs1).2.2.1 (runB m c t h0 h1 xs0 xs1).2.2.2.1 (runB m c t h0 h1 xs0 xs1).2.2.2.2.1 (runB m c t h0 h1 xs0 xs1).2.2.2.2.2.1 (runB m c t h0 h1 xs0 xs1).2.2.2.2.2.2.1 :=
  ⟨View.cover_of_tiledL _ S1x512x1024.size (by sl_kernel_rfl), View.cover_of_tiledL _ S1x512x2x512.size (by sl_kernel_rfl), View.cover_of_tiledBy _ ![1, 512] (by sl_kernel_rfl), View.cover_of_tiledL _ S1x512x128.size (by sl_kernel_rfl), View.cover_of_tiledL _ S32x128.size (by sl_kernel_rfl), View.cover_of_tiledBy _ ![32, 1024] (by sl_kernel_rfl), View.cover_of_tiledL _ S32x128.size (by sl_kernel_rfl)⟩

/-- The run at a later batch's first point. -/
def runC (h0 : ¬t.val % 64 = 0) (h1 : t.val % 16 = 0) (xs1 : Vec F S32x128 .f32) :=
  kernelRun0_C c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (ms0_16 t) (hs0_16 t) (ms0_17 t) (hs0_17 t) (ms0_18 t) (hs0_18 t) (ms0_19 t) (hs0_19 t) (ms0_20 t) (hs0_20 t) scM0_0 (Memref.isWhole_whole _) scM0_1 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (iblk m c 8 t) (iblk m c 9 t) (iblk m c 10 t) (iblk m c 11 t) (iblk m c 12 t) (iblk m c 13 t) (iblk m c 14 t) (iblk m c 15 t) xs1

/-- What it leaves. -/
def outC (h0 : ¬t.val % 64 = 0) (h1 : t.val % 16 = 0) (xs1 : Vec F S32x128 .f32) : Outs F :=
  outs (runC m c t h0 h1 xs1).1 (runC m c t h0 h1 xs1).2.1 (runC m c t h0 h1 xs1).2.2.1 (runC m c t h0 h1 xs1).2.2.2.1 (runC m c t h0 h1 xs1).2.2.2.2.1 (runC m c t h0 h1 xs1).2.2.2.2.2.1 (runC m c t h0 h1 xs1).2.2.2.2.2.2.1

theorem coversC (h0 : ¬t.val % 64 = 0) (h1 : t.val % 16 = 0) (xs1 : Vec F S32x128 .f32) : Covers (runC m c t h0 h1 xs1).1 (runC m c t h0 h1 xs1).2.1 (runC m c t h0 h1 xs1).2.2.1 (runC m c t h0 h1 xs1).2.2.2.1 (runC m c t h0 h1 xs1).2.2.2.2.1 (runC m c t h0 h1 xs1).2.2.2.2.2.1 (runC m c t h0 h1 xs1).2.2.2.2.2.2.1 :=
  ⟨View.cover_of_tiledL _ S1x512x1024.size (by sl_kernel_rfl), View.cover_of_tiledL _ S1x512x2x512.size (by sl_kernel_rfl), View.cover_of_tiledBy _ ![1, 512] (by sl_kernel_rfl), View.cover_of_tiledL _ S1x512x128.size (by sl_kernel_rfl), View.cover_of_tiledL _ S32x128.size (by sl_kernel_rfl), View.cover_of_tiledBy _ ![32, 1024] (by sl_kernel_rfl), View.cover_of_tiledL _ S32x128.size (by sl_kernel_rfl)⟩

end Cases

/-- The buffers after each point: the first point starts the scratch, a batch's first point keeps the counts, every other
    point goes on from what the point before left. -/
def outsAt0 (c : Dev nD) : (n : ℕ) → n < cfg0.N → Outs F
  | 0, hn => outA m c ⟨0, hn⟩ (Nat.zero_mod _) (Nat.zero_mod _)
  | n + 1, hn =>
    if h0 : (n + 1) % 64 = 0 then
      if h1 : (n + 1) % 16 = 0 then outA m c ⟨n + 1, hn⟩ h0 h1
      else False.elim (by have hN : n + 1 < 64 := lt_of_lt_of_eq hn (show cfg0.N = 64 from N_0); omega)
    else
      if h1 : (n + 1) % 16 = 0 then outC m c ⟨n + 1, hn⟩ h0 h1 (outsAt0 c n (Nat.lt_of_succ_lt hn)).2.2.2.2.2.2
      else outB m c ⟨n + 1, hn⟩ h0 h1 (outsAt0 c n (Nat.lt_of_succ_lt hn)).2.2.2.2.2.1 (outsAt0 c n (Nat.lt_of_succ_lt hn)).2.2.2.2.2.2

theorem outsAt0_A (c : Dev nD) (t : Fin cfg0.N) (h0 : t.val % 64 = 0) (h1 : t.val % 16 = 0) :
    outsAt0 m c t.val t.isLt = outA m c t h0 h1 := by
  obtain ⟨n, hn⟩ := t
  cases n with
  | zero => exact rfl
  | succ n => exact (dif_pos h0).trans ((dif_pos h1).trans rfl)

theorem outsAt0_B (c : Dev nD) (t : Fin cfg0.N) (h0 : ¬t.val % 64 = 0) (h1 : ¬t.val % 16 = 0) :
    outsAt0 m c t.val t.isLt = outB m c t h0 h1 (outsAt0 m c (t.val - 1) (Nat.lt_of_le_of_lt (Nat.sub_le _ _) t.isLt)).2.2.2.2.2.1 (outsAt0 m c (t.val - 1) (Nat.lt_of_le_of_lt (Nat.sub_le _ _) t.isLt)).2.2.2.2.2.2 := by
  obtain ⟨n, hn⟩ := t
  cases n with
  | zero => exact absurd (Nat.zero_mod _) h0
  | succ n => exact (dif_neg h0).trans ((dif_neg h1).trans rfl)

theorem outsAt0_C (c : Dev nD) (t : Fin cfg0.N) (h0 : ¬t.val % 64 = 0) (h1 : t.val % 16 = 0) :
    outsAt0 m c t.val t.isLt = outC m c t h0 h1 (outsAt0 m c (t.val - 1) (Nat.lt_of_le_of_lt (Nat.sub_le _ _) t.isLt)).2.2.2.2.2.2 := by
  obtain ⟨n, hn⟩ := t
  cases n with
  | zero => exact absurd (Nat.zero_mod _) h0
  | succ n => exact (dif_neg h0).trans ((dif_pos h1).trans rfl)

/-- What the launch holds before position `n`: the scratch at what the point before left. -/
def PhiS (c : Dev nD) : (n : ℕ) → n ≤ cfg0.N → sProp 𝕄
  | 0, _ => Pipeline.ΦA spec0 c
  | n + 1, hn => iprop(iprop(owns (c : Thread nD τ) scM0_0 fullShare ((outsAt0 m c n hn).2.2.2.2.2.1) ∗ owns (c : Thread nD τ) scM0_1 fullShare ((outsAt0 m c n hn).2.2.2.2.2.2)) ∗ (∃ r, prngReg c r))

theorem PhiS_zero (c : Dev nD) (n : ℕ) (h : n ≤ cfg0.N) (hz : n = 0) : PhiS m c n h = Pipeline.ΦA spec0 c := by
  subst hz; rfl

/-- After point `n` (before point `n + 1`): the carried scratch at that point's contents. -/
theorem PhiS_succ (c : Dev nD) (n : ℕ) (hn : n < cfg0.N) :
    PhiS m c (n + 1) hn = iprop(iprop(owns (c : Thread nD τ) scM0_0 fullShare ((outsAt0 m c n hn).2.2.2.2.2.1) ∗ owns (c : Thread nD τ) scM0_1 fullShare ((outsAt0 m c n hn).2.2.2.2.2.2)) ∗ (∃ r, prngReg c r)) := rfl

/-- Before a point that is not the first: the carried scratch at what the point before left. -/
theorem PhiS_pos (c : Dev nD) (n : ℕ) (h : n ≤ cfg0.N) (hz : n ≠ 0) :
    PhiS m c n h = iprop(iprop(owns (c : Thread nD τ) scM0_0 fullShare ((outsAt0 m c (n - 1) (by omega)).2.2.2.2.2.1) ∗ owns (c : Thread nD τ) scM0_1 fullShare ((outsAt0 m c (n - 1) (by omega)).2.2.2.2.2.2)) ∗ (∃ r, prngReg c r)) := by
  cases n with
  | zero => exact absurd rfl hz
  | succ n => rfl

/-! ## The pipeline's proof data -/

/-- The launch's arrays, the buffers after each point, and the invariant between points. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => iblk m c 10 t
    | ⟨11, _⟩ => iblk m c 11 t
    | ⟨12, _⟩ => iblk m c 12 t
    | ⟨13, _⟩ => iblk m c 13 t
    | ⟨14, _⟩ => iblk m c 14 t
    | ⟨15, _⟩ => iblk m c 15 t
    | ⟨16, _⟩ => (outsAt0 m c t.val t.isLt).1
    | ⟨17, _⟩ => (outsAt0 m c t.val t.isLt).2.1
    | ⟨18, _⟩ => (outsAt0 m c t.val t.isLt).2.2.1
    | ⟨19, _⟩ => (outsAt0 m c t.val t.isLt).2.2.2.1
    | ⟨20, _⟩ => (outsAt0 m c t.val t.isLt).2.2.2.2.1
    | ⟨_ + 21, h⟩ => absurd h (Nat.not_lt.2 (Nat.le_add_left _ _))
  Φ t := PhiS m c t.val (Nat.le_of_lt_succ t.isLt)
  q _ := fullShare
  owed _ := 0

/-- The arrays as the launch finds them. -/
theorem A_eq (c : Dev nD) (w : Fin cfg0.W) : (dats m 0 c).A w = V m c (Pipeline.arrRef spec0 w) := by
  dsimp only [dats]

/-- The invariant at a point's start (the proof data at `t.castSucc`), restated at `t.val`. -/
theorem PhiS_castSucc (c : Dev nD) (t : Fin cfg0.N) :
    (dats m 0 c).Φ t.castSucc = PhiS m c t.val (Nat.le_of_lt t.isLt) := by
  dsimp only [dats]; exact Pipeline.Dat.Φ_castSucc (PhiS m c) t

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = iblk m c 4 t := by dsimp only [dats]
theorem after0_5 (c : Dev nD) (t : Fin cfg0.N) : (dats m 0 c).after 5 t = iblk m c 5 t := by dsimp only [dats]
theorem after0_6 (c : Dev nD) (t : Fin cfg0.N) : (dats m 0 c).after 6 t = iblk m c 6 t := by dsimp only [dats]
theorem after0_7 (c : Dev nD) (t : Fin cfg0.N) : (dats m 0 c).after 7 t = iblk m c 7 t := by dsimp only [dats]
theorem after0_8 (c : Dev nD) (t : Fin cfg0.N) : (dats m 0 c).after 8 t = iblk m c 8 t := by dsimp only [dats]
theorem after0_9 (c : Dev nD) (t : Fin cfg0.N) : (dats m 0 c).after 9 t = iblk m c 9 t := by dsimp only [dats]
theorem after0_10 (c : Dev nD) (t : Fin cfg0.N) : (dats m 0 c).after 10 t = iblk m c 10 t := by dsimp only [dats]
theorem after0_11 (c : Dev nD) (t : Fin cfg0.N) : (dats m 0 c).after 11 t = iblk m c 11 t := by dsimp only [dats]
theorem after0_12 (c : Dev nD) (t : Fin cfg0.N) : (dats m 0 c).after 12 t = iblk m c 12 t := by dsimp only [dats]
theorem after0_13 (c : Dev nD) (t : Fin cfg0.N) : (dats m 0 c).after 13 t = iblk m c 13 t := by dsimp only [dats]
theorem after0_14 (c : Dev nD) (t : Fin cfg0.N) : (dats m 0 c).after 14 t = iblk m c 14 t := by dsimp only [dats]
theorem after0_15 (c : Dev nD) (t : Fin cfg0.N) : (dats m 0 c).after 15 t = iblk m c 15 t := by dsimp only [dats]
theorem after0_16 (c : Dev nD) (t : Fin cfg0.N) : (dats m 0 c).after 16 t = (outsAt0 m c t.val t.isLt).1 := by dsimp only [dats]
theorem after0_17 (c : Dev nD) (t : Fin cfg0.N) : (dats m 0 c).after 17 t = (outsAt0 m c t.val t.isLt).2.1 := by dsimp only [dats]
theorem after0_18 (c : Dev nD) (t : Fin cfg0.N) : (dats m 0 c).after 18 t = (outsAt0 m c t.val t.isLt).2.2.1 := by dsimp only [dats]
theorem after0_19 (c : Dev nD) (t : Fin cfg0.N) : (dats m 0 c).after 19 t = (outsAt0 m c t.val t.isLt).2.2.2.1 := by dsimp only [dats]
theorem after0_20 (c : Dev nD) (t : Fin cfg0.N) : (dats m 0 c).after 20 t = (outsAt0 m c t.val t.isLt).2.2.2.2.1 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d
theorem before0_4 (c : Dev nD) (t : Fin cfg0.N) (d) : (dats m 0 c).before 4 t d = iblk m c 4 t :=
  before0_4_of m (dats m 0 c) (A_eq m c 4) (after0_4 m c) t d
theorem before0_5 (c : Dev nD) (t : Fin cfg0.N) (d) : (dats m 0 c).before 5 t d = iblk m c 5 t :=
  before0_5_of m (dats m 0 c) (A_eq m c 5) (after0_5 m c) t d
theorem before0_6 (c : Dev nD) (t : Fin cfg0.N) (d) : (dats m 0 c).before 6 t d = iblk m c 6 t :=
  before0_6_of m (dats m 0 c) (A_eq m c 6) (after0_6 m c) t d
theorem before0_7 (c : Dev nD) (t : Fin cfg0.N) (d) : (dats m 0 c).before 7 t d = iblk m c 7 t :=
  before0_7_of m (dats m 0 c) (A_eq m c 7) (after0_7 m c) t d
theorem before0_8 (c : Dev nD) (t : Fin cfg0.N) (d) : (dats m 0 c).before 8 t d = iblk m c 8 t :=
  before0_8_of m (dats m 0 c) (A_eq m c 8) (after0_8 m c) t d
theorem before0_9 (c : Dev nD) (t : Fin cfg0.N) (d) : (dats m 0 c).before 9 t d = iblk m c 9 t :=
  before0_9_of m (dats m 0 c) (A_eq m c 9) (after0_9 m c) t d
theorem before0_10 (c : Dev nD) (t : Fin cfg0.N) (d) : (dats m 0 c).before 10 t d = iblk m c 10 t :=
  before0_10_of m (dats m 0 c) (A_eq m c 10) (after0_10 m c) t d
theorem before0_11 (c : Dev nD) (t : Fin cfg0.N) (d) : (dats m 0 c).before 11 t d = iblk m c 11 t :=
  before0_11_of m (dats m 0 c) (A_eq m c 11) (after0_11 m c) t d
theorem before0_12 (c : Dev nD) (t : Fin cfg0.N) (d) : (dats m 0 c).before 12 t d = iblk m c 12 t :=
  before0_12_of m (dats m 0 c) (A_eq m c 12) (after0_12 m c) t d
theorem before0_13 (c : Dev nD) (t : Fin cfg0.N) (d) : (dats m 0 c).before 13 t d = iblk m c 13 t :=
  before0_13_of m (dats m 0 c) (A_eq m c 13) (after0_13 m c) t d
theorem before0_14 (c : Dev nD) (t : Fin cfg0.N) (d) : (dats m 0 c).before 14 t d = iblk m c 14 t :=
  before0_14_of m (dats m 0 c) (A_eq m c 14) (after0_14 m c) t d
theorem before0_15 (c : Dev nD) (t : Fin cfg0.N) (d) : (dats m 0 c).before 15 t d = iblk m c 15 t :=
  before0_15_of m (dats m 0 c) (A_eq m c 15) (after0_15 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d))
    ∗ (∃ d, owns (c : Thread nD τ) (ms0_7 t) fullShare ((dats m 0 c).before 7 t d))
    ∗ (∃ d, owns (c : Thread nD τ) (ms0_8 t) fullShare ((dats m 0 c).before 8 t d))
    ∗ (∃ d, owns (c : Thread nD τ) (ms0_9 t) fullShare ((dats m 0 c).before 9 t d))
    ∗ (∃ d, owns (c : Thread nD τ) (ms0_10 t) fullShare ((dats m 0 c).before 10 t d))
    ∗ (∃ d, owns (c : Thread nD τ) (ms0_11 t) fullShare ((dats m 0 c).before 11 t d))
    ∗ (∃ d, owns (c : Thread nD τ) (ms0_12 t) fullShare ((dats m 0 c).before 12 t d))
    ∗ (∃ d, owns (c : Thread nD τ) (ms0_13 t) fullShare ((dats m 0 c).before 13 t d))
    ∗ (∃ d, owns (c : Thread nD τ) (ms0_14 t) fullShare ((dats m 0 c).before 14 t d))
    ∗ (∃ d, owns (c : Thread nD τ) (ms0_15 t) fullShare ((dats m 0 c).before 15 t d))
    ∗ (∃ d, owns (c : Thread nD τ) (ms0_16 t) fullShare ((dats m 0 c).before 16 t d))
    ∗ (∃ d, owns (c : Thread nD τ) (ms0_17 t) fullShare ((dats m 0 c).before 17 t d))
    ∗ (∃ d, owns (c : Thread nD τ) (ms0_18 t) fullShare ((dats m 0 c).before 18 t d))
    ∗ (∃ d, owns (c : Thread nD τ) (ms0_19 t) fullShare ((dats m 0 c).before 19 t d))
    ∗ (∃ d, owns (c : Thread nD τ) (ms0_20 t) fullShare ((dats m 0 c).before 20 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t)
    ∗ owns (c : Thread nD τ) (ms0_6 t) fullShare ((dats m 0 c).after 6 t)
    ∗ owns (c : Thread nD τ) (ms0_7 t) fullShare ((dats m 0 c).after 7 t)
    ∗ owns (c : Thread nD τ) (ms0_8 t) fullShare ((dats m 0 c).after 8 t)
    ∗ owns (c : Thread nD τ) (ms0_9 t) fullShare ((dats m 0 c).after 9 t)
    ∗ owns (c : Thread nD τ) (ms0_10 t) fullShare ((dats m 0 c).after 10 t)
    ∗ owns (c : Thread nD τ) (ms0_11 t) fullShare ((dats m 0 c).after 11 t)
    ∗ owns (c : Thread nD τ) (ms0_12 t) fullShare ((dats m 0 c).after 12 t)
    ∗ owns (c : Thread nD τ) (ms0_13 t) fullShare ((dats m 0 c).after 13 t)
    ∗ owns (c : Thread nD τ) (ms0_14 t) fullShare ((dats m 0 c).after 14 t)
    ∗ owns (c : Thread nD τ) (ms0_15 t) fullShare ((dats m 0 c).after 15 t)
    ∗ owns (c : Thread nD τ) (ms0_16 t) fullShare ((dats m 0 c).after 16 t)
    ∗ owns (c : Thread nD τ) (ms0_17 t) fullShare ((dats m 0 c).after 17 t)
    ∗ owns (c : Thread nD τ) (ms0_18 t) fullShare ((dats m 0 c).after 18 t)
    ∗ owns (c : Thread nD τ) (ms0_19 t) fullShare ((dats m 0 c).after 19 t)
    ∗ owns (c : Thread nD τ) (ms0_20 t) fullShare ((dats m 0 c).after 20 t))

set_option maxHeartbeats 24000000 in
/-- The body at any point, by cases: the run applies, and its pieces cover the buffers. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4, before0_5, before0_6, before0_7, before0_8, before0_9, before0_10, before0_11, before0_12, before0_13, before0_14, before0_15]
  rw [show (dats m 0 c).owesAt () t.succ = (dats m 0 c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  rw [show (dats m 0 c).Φ t.succ = PhiS m c (t.val + 1) t.isLt from rfl, PhiS_succ]
  have hN : t.val < 64 := lt_of_lt_of_eq t.isLt (show cfg0.N = 64 from N_0)
  by_cases h0 : t.val % 64 = 0
  · by_cases h1 : t.val % 16 = 0
    · by_cases hz : t.val = 0
      · rw [PhiS_castSucc m c t, PhiS_zero m c _ _ hz, PhiA0_eq]
        rw [outsAt0_A m c t h0 h1]
        unfold outA outs; dsimp only
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((runA m c t h0 h1).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        isplitl [H17]; · iexists _; iexact H17
        isplitl [H18]; · iexists _; iexact H18
        isplitl [H19]; · iexists _; iexact H19
        isplitl [H20]; · iexists _; iexact H20
        isplitl [HS0]; · iexact HS0
        isplitl [HS1]; · iexact HS1
        iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (coversA m c t h0 h1).2.2.2.2.2.1
            unfold owns; iexists _; isplitr
            swap; · iexact HS1
            ipureintro; exact View.read_writes_of_cover _ _ _ _ _ (coversA m c t h0 h1).2.2.2.2.2.2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]
        · unfold owns; iexists _; isplitr
          swap; · iexact H16
          ipureintro; exact View.read_writes_of_cover _ _ _ _ _ (coversA m c t h0 h1).1
        isplitl [H17]
        · unfold owns; iexists _; isplitr
          swap; · iexact H17
          ipureintro; exact View.read_writes_of_cover _ _ _ _ _ (coversA m c t h0 h1).2.1
        isplitl [H18]
        · unfold owns; iexists _; isplitr
          swap; · iexact H18
          ipureintro; exact View.read_writes_of_cover _ _ _ _ _ (coversA m c t h0 h1).2.2.1
        isplitl [H19]
        · unfold owns; iexists _; isplitr
          swap; · iexact H19
          ipureintro; exact View.read_writes_of_cover _ _ _ _ _ (coversA m c t h0 h1).2.2.2.1
        unfold owns; iexists _; isplitr
        swap; · iexact H20
        ipureintro; exact View.read_writes_of_cover _ _ _ _ _ (coversA m c t h0 h1).2.2.2.2.1
      · exfalso; have hN : t.val < 64 := lt_of_lt_of_eq t.isLt (show cfg0.N = 64 from N_0); omega
    · exfalso; omega
  · by_cases h1 : t.val % 16 = 0
    · by_cases hz : t.val = 0
      · exfalso; have hN : t.val < 64 := lt_of_lt_of_eq t.isLt (show cfg0.N = 64 from N_0); omega
      · rw [PhiS_castSucc m c t, PhiS_pos m c _ _ hz]
        rw [outsAt0_C m c t h0 h1]
        unfold outC outs; dsimp only
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((runC m c t h0 h1 _).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        isplitl [H17]; · iexists _; iexact H17
        isplitl [H18]; · iexists _; iexact H18
        isplitl [H19]; · iexists _; iexact H19
        isplitl [H20]; · iexists _; iexact H20
        isplitl [HS0]; · iexists _; iexact HS0
        isplitl [HS1]; · iexact HS1
        iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (coversC m c t h0 h1 _).2.2.2.2.2.1
            unfold owns; iexists _; isplitr
            swap; · iexact HS1
            ipureintro; exact View.read_writes_of_cover _ _ _ _ _ (coversC m c t h0 h1 _).2.2.2.2.2.2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]
        · unfold owns; iexists _; isplitr
          swap; · iexact H16
          ipureintro; exact View.read_writes_of_cover _ _ _ _ _ (coversC m c t h0 h1 _).1
        isplitl [H17]
        · unfold owns; iexists _; isplitr
          swap; · iexact H17
          ipureintro; exact View.read_writes_of_cover _ _ _ _ _ (coversC m c t h0 h1 _).2.1
        isplitl [H18]
        · unfold owns; iexists _; isplitr
          swap; · iexact H18
          ipureintro; exact View.read_writes_of_cover _ _ _ _ _ (coversC m c t h0 h1 _).2.2.1
        isplitl [H19]
        · unfold owns; iexists _; isplitr
          swap; · iexact H19
          ipureintro; exact View.read_writes_of_cover _ _ _ _ _ (coversC m c t h0 h1 _).2.2.2.1
        unfold owns; iexists _; isplitr
        swap; · iexact H20
        ipureintro; exact View.read_writes_of_cover _ _ _ _ _ (coversC m c t h0 h1 _).2.2.2.2.1
    · by_cases hz : t.val = 0
      · exfalso; have hN : t.val < 64 := lt_of_lt_of_eq t.isLt (show cfg0.N = 64 from N_0); omega
      · rw [PhiS_castSucc m c t, PhiS_pos m c _ _ hz]
        rw [outsAt0_B m c t h0 h1]
        unfold outB outs; dsimp only
        iintro ⟨⟨⟨HS0, HS1⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
        iapply ((runB m c t h0 h1 _ _).2.2.2.2.2.2.2 Set.univ _)
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]; · iexists _; iexact H16
        isplitl [H17]; · iexists _; iexact H17
        isplitl [H18]; · iexists _; iexact H18
        isplitl [H19]; · iexists _; iexact H19
        isplitl [H20]; · iexists _; iexact H20
        isplitl [HS0]; · iexact HS0
        isplitl [HS1]; · iexact HS1
        iintro ⟨H0, H1, H2, H3, H4, H5, H6, H7, H8, H9, H10, H11, H12, H13, H14, H15, ⟨%e16, H16⟩, ⟨%e17, H17⟩, ⟨%e18, H18⟩, ⟨%e19, H19⟩, ⟨%e20, H20⟩, ⟨%es0, HS0⟩, ⟨%es1, HS1⟩⟩
        isplitl [HS0 HS1 Hg]
        · isplitl [HS0 HS1]
          · isplitl [HS0]
            · unfold owns; iexists _; isplitr
              swap; · iexact HS0
              ipureintro; exact View.read_writes_of_cover _ _ _ _ _ (coversB m c t h0 h1 _ _).2.2.2.2.2.1
            unfold owns; iexists _; isplitr
            swap; · iexact HS1
            ipureintro; exact View.read_writes_of_cover _ _ _ _ _ (coversB m c t h0 h1 _ _).2.2.2.2.2.2
          iexact Hg
        isplitl [Ho]; · iexact Ho
        isplitl [H0]; · iexact H0
        isplitl [H1]; · iexact H1
        isplitl [H2]; · iexact H2
        isplitl [H3]; · iexact H3
        isplitl [H4]; · iexact H4
        isplitl [H5]; · iexact H5
        isplitl [H6]; · iexact H6
        isplitl [H7]; · iexact H7
        isplitl [H8]; · iexact H8
        isplitl [H9]; · iexact H9
        isplitl [H10]; · iexact H10
        isplitl [H11]; · iexact H11
        isplitl [H12]; · iexact H12
        isplitl [H13]; · iexact H13
        isplitl [H14]; · iexact H14
        isplitl [H15]; · iexact H15
        isplitl [H16]
        · unfold owns; iexists _; isplitr
          swap; · iexact H16
          ipureintro; exact View.read_writes_of_cover _ _ _ _ _ (coversB m c t h0 h1 _ _).1
        isplitl [H17]
        · unfold owns; iexists _; isplitr
          swap; · iexact H17
          ipureintro; exact View.read_writes_of_cover _ _ _ _ _ (coversB m c t h0 h1 _ _).2.1
        isplitl [H18]
        · unfold owns; iexists _; isplitr
          swap; · iexact H18
          ipureintro; exact View.read_writes_of_cover _ _ _ _ _ (coversB m c t h0 h1 _ _).2.2.1
        isplitl [H19]
        · unfold owns; iexists _; isplitr
          swap; · iexact H19
          ipureintro; exact View.read_writes_of_cover _ _ _ _ _ (coversB m c t h0 h1 _ _).2.2.2.1
        unfold owns; iexists _; isplitr
        swap; · iexact H20
        ipureintro; exact View.read_writes_of_cover _ _ _ _ _ (coversB m c t h0 h1 _ _).2.2.2.2.1

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- What the launch hands the region (`ΦA`) is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives `ΦA` back: the carried scratch's named contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1⟩, Hg⟩
  isplitl [HS0 HS1]
  · isplitl [HS0]
    · iexists _; iexact HS0
    iexists _; iexact HS1
  iexact Hg

/-- The same after the last point. -/
theorem hout (c : Dev nD) : (dats m 0 c).Φ (Fin.last cfg0.N) ⊢ Pipeline.ΦA spec0 c :=
  Phi_out m c _ (by rw [Fin.val_last]; have : cfg0.N = 64 := N_0; omega)

/-! ## The run and the frame -/

-- `θ_run_frame_track`'s implicit arguments are found by unifying its conclusion with this one, which takes unfolding plain
-- definitions in a metavariable's type
set_option backward.isDefEq.respectTransparency.types false in
/-- The launch: it ends with the arrays at what the points left and every counter at zero. -/
theorem run_main_quiescent : θ_run defs (onTc (τ := τ) (main (F := F))) (s₀ m ρ) (fun r => (Pipeline.FramePost cfgs (dats m) 0 (V m)) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hin := hin m) (hout := hout m)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)) :=
  frame_of m ρ (dats m) (A_eq m) (run_main m ρ)

/-- The frame: the call ends, its arguments unchanged, its counters at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21))
      ∧ r.2.sem = fun _ => 0) :=
  θ_run_and (unchanged m ρ) ((θ_run defs _ _).mono (fun _ h => h.2) (run_main_quiescent m ρ))

end Cert.Kernel5Ideal.MixFrame

end
-- ==== Proof.MixA2Kernel.lean ====
/- What the third mixer's call computes, from the second layer's experts on: the rows its scratch carries from one tile of tokens to the
   next, and the array the launch leaves. -/
module
public import proofs.«01_k».proof.Proof.A2IdealFrame
public import proofs.«01_k».proof.Proof.ConvTile
public import proofs.«01_k».proof.Proof.TileStages
public import Idealize.ShloMosaic.Lib.Pipeline.ValueKit
public import Idealize.ShloMosaic.Lib.Pipeline.ReadBack
public import Idealize.ShloMosaic.Lib.Pointwise
public import Idealize.ShloMosaic.Lib.Claim
public import Idealize.ShloMosaic.Lib.StableHlo.ReadAt
@[expose] public section
set_option maxRecDepth 16384
noncomputable section
open Idealize.ShloMosaic Idealize.ShloMosaic.TcCoe Idealize.SL.Sem
namespace Cert.Kernel5Ideal.MixValue
open Cert.Kernel5Ideal Cert.Kernel5Ideal.Gen Cert.Kernel5Ideal.MixFrame Cert.RowMath Cert.ConvTile Cert.TileStages

section Point
variable (m : (ℓ : Loc nD τ sig) → Buf (Elt Ideal) ℓ) (c : Dev nD)

theorem idx : ∀ t : Fin cfg0.N, win0_0.index t = ![t.val / 16, t.val % 16, 0] ∧ win0_1.index t = ![t.val / 16, t.val % 16, 0] ∧ win0_2.index t = ![t.val / 16, t.val % 16, 0]
    ∧ win0_3.index t = ![t.val / 16, t.val % 16, 0] ∧ win0_4.index t = ![0, t.val / 16, 0, 0] ∧ win0_5.index t = ![0, 0]
    ∧ win0_6.index t = ![0, t.val / 16, 0, 0] ∧ win0_7.index t = ![0, 0] ∧ win0_8.index t = ![0, 0]
    ∧ win0_9.index t = ![0, 0] ∧ win0_10.index t = ![0, 0] ∧ win0_11.index t = ![0, 0]
    ∧ win0_12.index t = ![0, 0] ∧ win0_16.index t = ![t.val / 16, t.val % 16, 0] := by
  decide +kernel

theorem w_lo (b : Fin 4) (s : Fin 8192) (k : Fin 256) (hk : k.val < 128) :
    V m c main_v4 (ix3 b s k) = m ((c : Thread nD τ).loc main_arg3) (ix3 b s 0) := by
  unfold V hostOps0
  after_reads_at
  rw [dif_pos hk]
theorem w_hi (b : Fin 4) (s : Fin 8192) (k : Fin 256) (hk : 128 ≤ k.val) :
    V m c main_v4 (ix3 b s k) = m ((c : Thread nD τ).loc main_arg3) (ix3 b s 1) := by
  unfold V hostOps0
  after_reads_at
  rw [dif_neg (by omega)]
theorem pm_at (b : Fin 4) (i : Fin 6) (k : Fin 1024) : V m c main_v30 (ix4 0 b i k) = m ((c : Thread nD τ).loc main_arg4) (ix3 b i k) := by
  unfold V hostOps0
  after_reads_at
theorem pl0_at (k : Fin 1024) : V m c main_v33 (ix2 0 k) = m ((c : Thread nD τ).loc main_arg5) (ix1 k) := by
  unfold V hostOps0
  after_reads_at
theorem pl1_at (k : Fin 1024) : V m c main_v33 (ix2 1 k) = m ((c : Thread nD τ).loc main_arg6) (ix1 k) := by
  unfold V hostOps0
  after_reads_at
theorem md_at (b : Fin 4) (i : Fin 6) (k : Fin 1024) : V m c main_v34 (ix4 0 b i k) = m ((c : Thread nD τ).loc main_arg7) (ix3 b i k) := by
  unfold V hostOps0
  after_reads_at
theorem ml0_at (k : Fin 1024) : V m c main_v37 (ix2 0 k) = m ((c : Thread nD τ).loc main_arg8) (ix1 k) := by
  unfold V hostOps0
  after_reads_at
theorem ml1_at (k : Fin 1024) : V m c main_v37 (ix2 1 k) = m ((c : Thread nD τ).loc main_arg9) (ix1 k) := by
  unfold V hostOps0
  after_reads_at
theorem win_at (k : Fin 1024) (j : Fin 2048) : V m c main_v38 (ix2 k j) = m ((c : Thread nD τ).loc main_arg10) (ix2 k j) := by
  unfold V hostOps0
  after_reads_at
theorem bin_at (j : Fin 2048) : V m c main_v39 (ix2 0 j) = m ((c : Thread nD τ).loc main_arg11) (ix1 j) := by
  unfold V hostOps0
  after_reads_at
theorem v0_at (k : Fin 1024) : V m c main_v44 (ix2 0 k) = m ((c : Thread nD τ).loc main_arg13) (ix1 k) := by
  unfold V hostOps0
  after_reads_simp
  clean_types
  pointwise
  after_reads_at
theorem v1_at (k : Fin 1024) : V m c main_v44 (ix2 1 k) = m ((c : Thread nD τ).loc main_arg14) (ix1 k) := by
  unfold V hostOps0
  after_reads_simp
  clean_types
  pointwise
  after_reads_at
theorem v2_at (k : Fin 1024) : V m c main_v44 (ix2 2 k) = m ((c : Thread nD τ).loc main_arg15) (ix1 k) := by
  unfold V hostOps0
  after_reads_simp
  clean_types
  pointwise
  after_reads_at
theorem v3_at (k : Fin 1024) : V m c main_v44 (ix2 3 k) = m ((c : Thread nD τ).loc main_arg17) (ix1 k) := by
  unfold V hostOps0
  after_reads_simp
  clean_types
  pointwise
  after_reads_at
theorem wout_at (k l : Fin 1024) : V m c main_v45 (ix2 k l) = m ((c : Thread nD τ).loc main_arg16) (ix2 k l) := by
  unfold V hostOps0
  after_reads_at

/-- The rows of batch `b` that enter the mixer. -/
def xs (b : Fin 4) (s : Fin 8192) (k : Fin 1024) : EReal :=
  ffnOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) b s k
/-- The modulations of batch `b`. -/
def ms (b : Fin 4) (i : Fin 6) (k : Fin 1024) : EReal := m ((c : Thread nD τ).loc main_arg7) (ix3 b i k)

variable (t : Fin cfg0.N)

theorem ml_pt (l : Fin 1024) : k0_pay5 (iblk m c 7 t) (ix2 0 l) = m ((c : Thread nD τ).loc main_arg8) (ix1 l)
    ∧ k0_pay5 (iblk m c 7 t) (ix2 1 l) = m ((c : Thread nD τ).loc main_arg9) (ix1 l) := by
  have e := (idx t).2.2.2.2.2.2.2.1
  rw [← ml0_at m c, ← ml1_at m c]
  constructor
  · refine (show _ = iblk m c 7 t (ix2 0 l) by pointwise [k0_pay5]).trans ?_
    blk_ext [iblk, e]
  · refine (show _ = iblk m c 7 t (ix2 1 l) by pointwise [k0_pay5]).trans ?_
    blk_ext [iblk, e]
theorem win_pt (k : Fin 1024) (j : Fin 2048) : iblk m c 8 t (ix2 k j) = m ((c : Thread nD τ).loc main_arg10) (ix2 k j) := by
  have e := (idx t).2.2.2.2.2.2.2.2.1
  rw [← win_at m c]; blk_ext [iblk, e]
theorem bin_pt (j : Fin 2048) : iblk m c 9 t (ix2 0 j) = m ((c : Thread nD τ).loc main_arg11) (ix1 j) := by
  have e := (idx t).2.2.2.2.2.2.2.2.2.1
  rw [← bin_at m c]; blk_ext [iblk, e]
theorem wdw_pt (i : Fin 31) (k : Fin 1024) : iblk m c 10 t (ix2 i k) = m ((c : Thread nD τ).loc main_arg12) (ix2 i k) := by
  have e := (idx t).2.2.2.2.2.2.2.2.2.2.1
  rw [← V_main_arg12 m c]; blk_ext [iblk, e]
theorem vec_pt (i : Fin 4) (k : Fin 1024) : k0_pay17 (iblk m c 11 t) (ix2 i k) = V m c main_v44 (ix2 i k) := by
  have e := (idx t).2.2.2.2.2.2.2.2.2.2.2.1
  refine (show _ = iblk m c 11 t (ix2 i k) by pointwise [k0_pay17]).trans ?_
  blk_ext [iblk, e]
theorem wout_pt (k l : Fin 1024) : iblk m c 12 t (ix2 k l) = m ((c : Thread nD τ).loc main_arg16) (ix2 k l) := by
  have e := (idx t).2.2.2.2.2.2.2.2.2.2.2.2.1
  rw [← wout_at m c]; blk_ext [iblk, e]

variable (b : Fin 4) (hb : b.val = t.val / 16)
include hb

omit hb in
/-- The combined, normed rows of a tile. -/
abbrev rows (t : Fin cfg0.N) : FVec Ideal S512x1024 .f32 :=
  k0_pay15 (k0_pay4 (iblk m c 0 t)) (k0_pay6 (iblk m c 4 t)) (k0_pay7 (iblk m c 5 t)) (k0_pay8 (iblk m c 5 t)) (k0_pay10 (iblk m c 3 t)) (k0_pay11 (iblk m c 3 t) (iblk m c 1 t)) (k0_pay13 (iblk m c 2 t)) (k0_pay14 (iblk m c 2 t))

set_option maxHeartbeats 1000000 in
theorem tile_pt (r : Fin 512) (l : Fin 1024) (s : Fin 8192) (hs : s.val = t.val % 16 * 512 + r.val) :
    rows m c t (ix2 r l) = xs m c b s l := by
  refine (show rows m c t (ix2 r l) = tile (iblk m c 0 t) (iblk m c 1 t) (iblk m c 2 t) (iblk m c 3 t) (iblk m c 4 t) (iblk m c 5 t) (ix2 r l) from rfl).trans ?_
  obtain ⟨e0, e1, e2, e3, e4, e5, -⟩ := idx t
  rw [tile_at (w0 := m ((c : Thread nD τ).loc main_arg3) (ix3 b s 0)) (w1 := m ((c : Thread nD τ).loc main_arg3) (ix3 b s 1))]
  · unfold xs ffnOut
    congr 1
    · funext k; rw [← V_main_arg0 m c]; blk_ext [iblk, e0]
    · funext k; rw [← pm_at m c]; blk_ext [iblk, e4]
    · funext k; rw [← V_main_arg1 m c]; blk_ext [iblk, e1]
    · funext k; rw [← V_main_arg2 m c]; blk_ext [iblk, e2]
    · funext k; rw [← pl0_at m c]; blk_ext [iblk, e5]
    · funext k; rw [← pl1_at m c]; blk_ext [iblk, e5]
  · intro k hk
    rw [← w_lo m c b s k hk]
    blk_ext [iblk, e3]
  · intro k hk
    rw [← w_hi m c b s k hk]
    blk_ext [iblk, e3]

theorem md_pt (i : Fin 6) (k : Fin 1024) : k0_pay3 (iblk m c 6 t) (ix2 i k) = ms m c b i k := by
  have e := (idx t).2.2.2.2.2.2.1
  refine (show _ = iblk m c 6 t (ix4 0 0 i k) by pointwise [k0_pay3]).trans ?_
  unfold ms; rw [← md_at m c]; blk_ext [iblk, e]

omit hb in
/-- The gated values of a tile's tokens. -/
abbrev gate (t : Fin cfg0.N) : FVec Ideal S512x1024 .f32 :=
  k0_pay19 (k0_pay16 (k0_pay3 (iblk m c 6 t)) (k0_pay4 (iblk m c 0 t)) (k0_pay6 (iblk m c 4 t)) (k0_pay7 (iblk m c 5 t)) (k0_pay8 (iblk m c 5 t)) (k0_pay10 (iblk m c 3 t)) (k0_pay11 (iblk m c 3 t) (iblk m c 1 t)) (k0_pay13 (iblk m c 2 t)) (k0_pay14 (iblk m c 2 t)) (iblk m c 8 t) (iblk m c 9 t))

omit hb in
/-- The gated values of batch `b`. -/
abbrev glu (b : Fin 4) : Fin 8192 → Fin 1024 → EReal :=
  gluA (xs m c b) (ms m c b) (m ((c : Thread nD τ).loc main_arg10)) (m ((c : Thread nD τ).loc main_arg11))

theorem gate_pt : Back (glu m c b) 0 (t.val % 16) (gate m c t) := by
  intro r l s hs
  refine (show gate m c t (ix2 r l) = gluTile (projTile (rows m c t) (k0_pay3 (iblk m c 6 t)) (iblk m c 8 t) (iblk m c 9 t)) (ix2 r l) from rfl).trans ?_
  have e (j : Fin 2048) : projTile (rows m c t) (k0_pay3 (iblk m c 6 t)) (iblk m c 8 t) (iblk m c 9 t) (ix2 r j)
      = projA (xs m c b) (ms m c b) (m ((c : Thread nD τ).loc main_arg10)) (m ((c : Thread nD τ).loc main_arg11)) s j := by
    rw [projTile_at]
    exact congrArg₂ (· + ·) (projEl_congr (fun k => tile_pt m c t b hb r k s hs) (md_pt m c t b hb 1) (md_pt m c t b hb 0) (fun k => win_pt m c t k j))
      (bin_pt m c t j)
  rw [gluTile_at, e, e]
  unfold delayed
  rw [if_pos (Nat.zero_le _)]
  rfl

end Point

section Carry
variable (m : (ℓ : Loc nD τ sig) → Buf (Elt Ideal) ℓ) (c : Dev nD)

theorem keep_at (v : Vec Ideal S32x1024 .f32) (j : Fin 32) (l : Fin 1024) : k0_pay27 v (ix2 j l) = v (ix2 j l) := by
  pointwise [k0_pay27]
theorem zero_at (j : Fin 32) (l : Fin 1024) : (k0_pay18 (F := Ideal)) (ix2 j l) = 0 := by
  pointwise [k0_pay18]
theorem row_at (md : FVec Ideal S6x1024 .f32) (x : FVec Ideal S512x1024 .f32) (vec : FVec Ideal S4x1024 .f32) (a : FVec Ideal S512x1024 .bf16)
    (wout : Vec Ideal S1024x1024 .bf16) (p : Vec Ideal S2x1024 .f32) (r : Fin 512) (l : Fin 1024) :
    k0_pay30 md x vec a wout p (ix3 0 r l) = k0_pay29 md x vec a wout p (ix2 r l) := by
  pointwise [k0_pay30]

/-- The last 32 rows of a tile, as the scratch keeps them after its point. -/
theorem carried (t : Fin cfg0.N) (y : Fin 544) (l : Fin 1024) (r : Fin 512) (hy : y.val < 32) (hr : r.val = 480 + y.val) :
    (outsAt0 m c t.val t.isLt).2.2.2.2.2.1 (ix2 y l) = gate m c t (ix2 r l) := by
  by_cases h1 : t.val % 16 = 0
  · by_cases h0 : t.val % 64 = 0
    · rw [outsAt0_A m c t h0 h1]
      unfold outA outs runA
      dsimp only
      frame_open
      simp (disch := decide) only [↓ View.readCov_skip, ↓ View.readCov_cons_toLoadRect, ↓ View.readCov_fill]
      frame_out
      refine (Halo.canon_in _ _ _ y ⟨y.val, hy⟩ l (by simp)).trans ((keep_at _ _ _).trans ?_)
      exact Halo.load_in _ _ _ _ _ _ r l (by dsimp only; omega)
    · rw [outsAt0_C m c t h0 h1]
      unfold outC outs runC
      dsimp only
      frame_open
      simp (disch := decide) only [↓ View.readCov_skip, ↓ View.readCov_cons_toLoadRect, ↓ View.readCov_fill]
      frame_out
      refine (Halo.canon_in _ _ _ y ⟨y.val, hy⟩ l (by simp)).trans ((keep_at _ _ _).trans ?_)
      exact Halo.load_in _ _ _ _ _ _ r l (by dsimp only; omega)
  · rw [outsAt0_B m c t (by omega) h1]
    unfold outB outs runB
    dsimp only
    frame_open
    simp (disch := decide) only [↓ View.readCov_skip, ↓ View.readCov_cons_toLoadRect, ↓ View.readCov_fill]
    frame_out
    refine (Halo.canon_in _ _ _ y ⟨y.val, hy⟩ l (by simp)).trans ((keep_at _ _ _).trans ?_)
    exact Halo.load_in _ _ _ _ _ _ r l (by dsimp only; omega)

/-- The result tile at an entry, from the rows its taps read: the sublayer's value at that token. -/
theorem x1_pt (t : Fin cfg0.N) (b : Fin 4) (hb : b.val = t.val / 16) (L : (k : Nat) → k < 31 → Vec Ideal S512x1024 .f32)
    (hL : ∀ k h, Back (glu m c b) (30 - k) (t.val % 16) (L k h)) (r : Fin 512) (l : Fin 1024) (s : Fin 8192) (hs : s.val = t.val % 16 * 512 + r.val) :
    k0_pay30 (k0_pay3 (iblk m c 6 t)) (rows m c t) (k0_pay17 (iblk m c 11 t))
      (k0_pay28 (k0_pay17 (iblk m c 11 t)) (iblk m c 10 t)
        (k0_pay26 (iblk m c 10 t) (k0_pay24 (iblk m c 10 t) (k0_pay22 (iblk m c 10 t) (k0_pay20 (iblk m c 10 t) (L 0 (by decide)) (L 1 (by decide)) (L 2 (by decide)) (L 3 (by decide)))
            (k0_pay21 (iblk m c 10 t)) (L 4 (by decide)) (L 5 (by decide)) (L 6 (by decide)) (L 7 (by decide)) (L 8 (by decide)) (L 9 (by decide)) (L 10 (by decide)) (L 11 (by decide)))
          (k0_pay23 (iblk m c 10 t) (L 12 (by decide))) (L 13 (by decide)) (L 14 (by decide)) (L 15 (by decide)) (L 16 (by decide)) (L 17 (by decide)) (L 18 (by decide)) (L 19 (by decide)) (L 20 (by decide)))
          (k0_pay25 (iblk m c 10 t)) (L 21 (by decide)) (L 22 (by decide)) (L 23 (by decide)) (L 24 (by decide)) (L 25 (by decide)) (L 26 (by decide)) (L 27 (by decide)) (L 28 (by decide)) (L 29 (by decide)))
        (L 30 (by decide))) (iblk m c 12 t) (iblk m c 7 t) (ix3 0 r l)
      = subA (xs m c b) (ms m c b) (m ((c : Thread nD τ).loc main_arg10)) (m ((c : Thread nD τ).loc main_arg11)) (m ((c : Thread nD τ).loc main_arg12)) (m ((c : Thread nD τ).loc main_arg13))
      (m ((c : Thread nD τ).loc main_arg14)) (m ((c : Thread nD τ).loc main_arg15)) (m ((c : Thread nD τ).loc main_arg16)) (m ((c : Thread nD τ).loc main_arg17))
      (m ((c : Thread nD τ).loc main_arg8)) (m ((c : Thread nD τ).loc main_arg9)) s l := by
  refine (row_at _ _ _ _ _ _ r l).trans ?_
  refine (show _ = subTile (rows m c t) (k0_pay3 (iblk m c 6 t)) (k0_pay5 (iblk m c 7 t)) (k0_pay17 (iblk m c 11 t)) (iblk m c 12 t)
    (tapsTile (iblk m c 10 t) L 30 (by omega)) (ix2 r l) from rfl).trans ?_
  exact subTile_eq _ _ _ _ _ _ L (t.val % 16) _ _ _ _ _ _ _ _ _ _ _ _ hL r l s hs (fun k => tile_pt m c t b hb r k s hs) (md_pt m c t b hb 2)
    (ml_pt m c t l).1 (ml_pt m c t l).2 (wdw_pt m c t) (wout_pt m c t) (fun k => (vec_pt m c t 0 k).trans (v0_at m c k))
    (fun k => (vec_pt m c t 1 k).trans (v1_at m c k)) (fun k => (vec_pt m c t 2 k).trans (v2_at m c k)) (fun k => (vec_pt m c t 3 k).trans (v3_at m c k))

theorem inb_at (k : Nat) (h : k < 31) : ∀ i : Fin 2, (![2 + k, 0] : Fin 2 → Nat) i + S512x1024.size i ≤ S544x1024.size i := by
  intro i
  match i with
  | 0 => show 2 + k + 512 ≤ 544; omega
  | 1 => exact Nat.le_refl _

/-- The rows tap `k` reads in the first tile of a batch. -/
def loadF (t : Fin cfg0.N) (k : Nat) (h : k < 31) : Vec Ideal S512x1024 .f32 :=
  if k = 30 then gate m c t else
    (View.whole cc0_scratch0).readCov [⟨Rect.unit (s := S544x1024) ![32, 0] ![512, 1024] inb_S544x1024_S512x1024_32_0, gate m c t⟩,
      ⟨Rect.unit (s := S544x1024) ![0, 0] ![32, 1024] inb_S544x1024_S32x1024_0_0, k0_pay18 (F := Ideal)⟩]
      (Rect.unit (s := S544x1024) ![2 + k, 0] ![512, 1024] (inb_at k h)).toLoadRect

theorem loadF_back (t : Fin cfg0.N) (b : Fin 4) (hb : b.val = t.val / 16) (h1 : t.val % 16 = 0) (k : Nat) (h : k < 31) :
    Back (glu m c b) (30 - k) (t.val % 16) (loadF m c t k h) := by
  unfold loadF
  by_cases hk : k = 30
  · subst hk
    exact gate_pt m c t b hb
  · rw [if_neg hk]
    exact back_first _ _ _ (by omega) _ _ _ (gate_pt m c t b hb) h1 _ zero_at _ _ _

/-- The rows tap `k` reads in a later tile, which finds `f` in the scratch. -/
def loadL (t : Fin cfg0.N) (f : (View.whole (sig := sig) cc0_scratch0).ty.Contents (Elt Ideal)) (k : Nat) (h : k < 31) : Vec Ideal S512x1024 .f32 :=
  if k = 30 then gate m c t else
    View.ld ((View.whole cc0_scratch0).read (Elt Ideal) ((View.whole cc0_scratch0).writes (Elt Ideal) f
      [⟨Rect.unit (s := S544x1024) ![32, 0] ![512, 1024] inb_S544x1024_S512x1024_32_0, gate m c t⟩]))
      (Rect.unit (s := S544x1024) ![2 + k, 0] ![512, 1024] (inb_at k h))

theorem loadL_back (t t' : Fin cfg0.N) (ht : t'.val + 1 = t.val) (b : Fin 4) (hb : b.val = t.val / 16) (h1 : ¬t.val % 16 = 0)
    (f : (View.whole (sig := sig) cc0_scratch0).ty.Contents (Elt Ideal))
    (hf : (View.whole cc0_scratch0).read (Elt Ideal) f = (outsAt0 m c t'.val t'.isLt).2.2.2.2.2.1) (k : Nat) (h : k < 31) :
    Back (glu m c b) (30 - k) (t.val % 16) (loadL m c t f k h) := by
  unfold loadL
  by_cases hk : k = 30
  · subst hk
    exact gate_pt m c t b hb
  · rw [if_neg hk]
    refine back_later _ _ _ (by omega) _ _ _ (gate_pt m c t b hb) (by omega) _ (fun y l s hy hs => ?_) _ _
    rw [hf]
    refine (carried m c t' y l ⟨480 + y.val, by omega⟩ hy rfl).trans ?_
    refine (gate_pt m c t' b (by omega) _ l s (by dsimp only; omega)).trans ?_
    exact if_pos (Nat.zero_le _)

/-- Point `t`'s result block at an entry. -/
theorem out_pt (t : Fin cfg0.N) (b : Fin 4) (hb : b.val = t.val / 16) (r : Fin 512) (l : Fin 1024) (s : Fin 8192) (hs : s.val = t.val % 16 * 512 + r.val) :
    (outsAt0 m c t.val t.isLt).1 (ix3 0 r l) = subA (xs m c b) (ms m c b) (m ((c : Thread nD τ).loc main_arg10)) (m ((c : Thread nD τ).loc main_arg11)) (m ((c : Thread nD τ).loc main_arg12)) (m ((c : Thread nD τ).loc main_arg13))
      (m ((c : Thread nD τ).loc main_arg14)) (m ((c : Thread nD τ).loc main_arg15)) (m ((c : Thread nD τ).loc main_arg16)) (m ((c : Thread nD τ).loc main_arg17))
      (m ((c : Thread nD τ).loc main_arg8)) (m ((c : Thread nD τ).loc main_arg9)) s l := by
  by_cases h1 : t.val % 16 = 0
  · by_cases h0 : t.val % 64 = 0
    · rw [outsAt0_A m c t h0 h1]
      unfold outA outs runA
      dsimp only
      frame_open
      simp (disch := decide) only [↓ View.readCov_skip, ↓ View.readCov_cons_toLoadRect, ↓ View.readCov_fill]
      frame_out
      exact x1_pt m c t b hb (loadF m c t) (loadF_back m c t b hb h1) r l s hs
    · rw [outsAt0_C m c t h0 h1]
      unfold outC outs runC
      dsimp only
      frame_open
      simp (disch := decide) only [↓ View.readCov_skip, ↓ View.readCov_cons_toLoadRect, ↓ View.readCov_fill]
      frame_out
      exact x1_pt m c t b hb (loadF m c t) (loadF_back m c t b hb h1) r l s hs
  · rw [outsAt0_B m c t (by omega) h1]
    unfold outB outs runB
    dsimp only
    frame_open
    simp (disch := decide) only [↓ View.readCov_skip, ↓ View.readCov_cons_toLoadRect, ↓ View.readCov_fill]
    frame_out
    have ht := t.isLt
    generalize hf : Memref.IsWhole.unread _ (outsAt0 m c (t.val - 1) _).2.2.2.2.2.1 = f
    refine x1_pt m c t b hb (loadL m c t f) (loadL_back m c t ⟨t.val - 1, by omega⟩ (by dsimp only; omega) b hb h1 f ?_) r l s hs
    rw [← hf]
    exact read_unread_whole _ _ _

theorem subA_congr {b b' : Fin 4} {s s' : Fin 8192} {l l' : Fin 1024} (hb : b.val = b'.val) (hs : s.val = s'.val) (hl : l.val = l'.val)
    (Win : S1024x2048.Idx → EReal) (Bin : S2048.Idx → EReal) (Wdw : S31x1024.Idx → EReal) (Bdw G O : S1024.Idx → EReal) (Wout : S1024x1024.Idx → EReal)
    (Bout A B : S1024.Idx → EReal) :
    subA (xs m c b) (ms m c b) Win Bin Wdw Bdw G O Wout Bout A B s l = subA (xs m c b') (ms m c b') Win Bin Wdw Bdw G O Wout Bout A B s' l' := by
  rw [Fin.ext hb, Fin.ext hs, Fin.ext hl]

/-- What the result array ends holding. -/
def result : Buf (Elt Ideal) ((c : Thread nD τ).loc main_v46_0) := fun i : S4x8192x1024.Idx =>
  subA (xs m c (i 0)) (ms m c (i 0)) (m ((c : Thread nD τ).loc main_arg10)) (m ((c : Thread nD τ).loc main_arg11)) (m ((c : Thread nD τ).loc main_arg12)) (m ((c : Thread nD τ).loc main_arg13))
      (m ((c : Thread nD τ).loc main_arg14)) (m ((c : Thread nD τ).loc main_arg15)) (m ((c : Thread nD τ).loc main_arg16)) (m ((c : Thread nD τ).loc main_arg17))
      (m ((c : Thread nD τ).loc main_arg8)) (m ((c : Thread nD τ).loc main_arg9)) (i 1) (i 2)

theorem arr : (dats m 0 c).arrAt 16 cfg0.N = result m c := by
  refine (dats m 0 c).arrAt_eq_of_covers 16 (result m c) (by decide +kernel) fun t hf y => ?_
  blk_simp
  rw [after0_16]
  have e := (idx t).2.2.2.2.2.2.2.2.2.2.2.2.2
  have hy : y = ix3 (0 : Fin 1) (y 1) (y 2) := by blk_ext
  have ht : t.val < 64 := t.isLt
  have hr : (y (1 : Fin 3)).val < 512 := (y 1).isLt
  rw [hy]
  refine (out_pt m c t ⟨t.val / 16, by omega⟩ rfl (y 1) (y 2) ⟨t.val % 16 * 512 + (y 1).val, by omega⟩ rfl).trans ?_
  refine subA_congr m c ?_ ?_ ?_ _ _ _ _ _ _ _ _ _ _ <;> blk_simp [e] <;> try rfl

variable (ρ : Dev nD → PrngReg)
/-- The run, read: the result array at the sublayer, the arguments unchanged. -/
theorem run : θ_run defs (onTc (τ := τ) (main (F := Ideal))) ⟨m, fun _ => 0, ρ⟩ fun r => ∀ c : Dev nD,
    r.2.mem ((c : Thread nD τ).loc main_v46_0) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5)
    ∧ r.2.mem ((c : Thread nD τ).loc main_arg6) = m ((c : Thread nD τ).loc main_arg6)
    ∧ r.2.mem ((c : Thread nD τ).loc main_arg7) = m ((c : Thread nD τ).loc main_arg7)
    ∧ r.2.mem ((c : Thread nD τ).loc main_arg8) = m ((c : Thread nD τ).loc main_arg8)
    ∧ r.2.mem ((c : Thread nD τ).loc main_arg9) = m ((c : Thread nD τ).loc main_arg9)
    ∧ r.2.mem ((c : Thread nD τ).loc main_arg10) = m ((c : Thread nD τ).loc main_arg10)
    ∧ r.2.mem ((c : Thread nD τ).loc main_arg11) = m ((c : Thread nD τ).loc main_arg11)
    ∧ r.2.mem ((c : Thread nD τ).loc main_arg12) = m ((c : Thread nD τ).loc main_arg12)
    ∧ r.2.mem ((c : Thread nD τ).loc main_arg13) = m ((c : Thread nD τ).loc main_arg13)
    ∧ r.2.mem ((c : Thread nD τ).loc main_arg14) = m ((c : Thread nD τ).loc main_arg14)
    ∧ r.2.mem ((c : Thread nD τ).loc main_arg15) = m ((c : Thread nD τ).loc main_arg15)
    ∧ r.2.mem ((c : Thread nD τ).loc main_arg16) = m ((c : Thread nD τ).loc main_arg16)
    ∧ r.2.mem ((c : Thread nD τ).loc main_arg17) = m ((c : Thread nD τ).loc main_arg17)
    ∧ r.2.mem ((c : Thread nD τ).loc main_arg18) = m ((c : Thread nD τ).loc main_arg18)
    ∧ r.2.mem ((c : Thread nD τ).loc main_arg19) = m ((c : Thread nD τ).loc main_arg19)
    ∧ r.2.mem ((c : Thread nD τ).loc main_arg20) = m ((c : Thread nD τ).loc main_arg20)
    ∧ r.2.mem ((c : Thread nD τ).loc main_arg21) = m ((c : Thread nD τ).loc main_arg21) :=
  (θ_run defs _ _).mono (fun r h c => ⟨((h c).1 16).trans (arr m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).1 2).trans (((dats m 0 c).arrAt_in 2 rfl _).trans ((A_eq m c 2).trans (V_main_arg2 m c))),
    ((h c).2 main_arg3 (Pipeline.mem_restRefs_of main_arg3 (by decide) (by decide))).trans (V_main_arg3 m c),
    ((h c).2 main_arg4 (Pipeline.mem_restRefs_of main_arg4 (by decide) (by decide))).trans (V_main_arg4 m c),
    ((h c).2 main_arg5 (Pipeline.mem_restRefs_of main_arg5 (by decide) (by decide))).trans (V_main_arg5 m c),
    ((h c).2 main_arg6 (Pipeline.mem_restRefs_of main_arg6 (by decide) (by decide))).trans (V_main_arg6 m c),
    ((h c).2 main_arg7 (Pipeline.mem_restRefs_of main_arg7 (by decide) (by decide))).trans (V_main_arg7 m c),
    ((h c).2 main_arg8 (Pipeline.mem_restRefs_of main_arg8 (by decide) (by decide))).trans (V_main_arg8 m c),
    ((h c).2 main_arg9 (Pipeline.mem_restRefs_of main_arg9 (by decide) (by decide))).trans (V_main_arg9 m c),
    ((h c).2 main_arg10 (Pipeline.mem_restRefs_of main_arg10 (by decide) (by decide))).trans (V_main_arg10 m c),
    ((h c).2 main_arg11 (Pipeline.mem_restRefs_of main_arg11 (by decide) (by decide))).trans (V_main_arg11 m c),
    ((h c).1 10).trans (((dats m 0 c).arrAt_in 10 rfl _).trans ((A_eq m c 10).trans (V_main_arg12 m c))),
    ((h c).2 main_arg13 (Pipeline.mem_restRefs_of main_arg13 (by decide) (by decide))).trans (V_main_arg13 m c),
    ((h c).2 main_arg14 (Pipeline.mem_restRefs_of main_arg14 (by decide) (by decide))).trans (V_main_arg14 m c),
    ((h c).2 main_arg15 (Pipeline.mem_restRefs_of main_arg15 (by decide) (by decide))).trans (V_main_arg15 m c),
    ((h c).2 main_arg16 (Pipeline.mem_restRefs_of main_arg16 (by decide) (by decide))).trans (V_main_arg16 m c),
    ((h c).2 main_arg17 (Pipeline.mem_restRefs_of main_arg17 (by decide) (by decide))).trans (V_main_arg17 m c),
    ((h c).2 main_arg18 (Pipeline.mem_restRefs_of main_arg18 (by decide) (by decide))).trans (V_main_arg18 m c),
    ((h c).2 main_arg19 (Pipeline.mem_restRefs_of main_arg19 (by decide) (by decide))).trans (V_main_arg19 m c),
    ((h c).2 main_arg20 (Pipeline.mem_restRefs_of main_arg20 (by decide) (by decide))).trans (V_main_arg20 m c),
    ((h c).2 main_arg21 (Pipeline.mem_restRefs_of main_arg21 (by decide) (by decide))).trans (V_main_arg21 m c)⟩) (run_main m ρ)

end Carry
end Cert.Kernel5Ideal.MixValue
end
-- ==== Proof.MixA2Reference.lean ====
/- What the reference of the second Conformer-convolution mixer computes: the first mixer's reference applied to the stream the previous layer's feed-forward leaves. -/
module
public import proofs.«01_k».proof.Proof.Gen.Reference5Ideal.Run
public import proofs.«01_k».proof.Proof.MixAReference
@[expose] public section
set_option maxRecDepth 16384
noncomputable section
open Idealize.ShloMosaic Idealize.ShloMosaic.TcCoe Idealize.SL.Sem Idealize.ShloMosaic.StableHlo
namespace Cert.Reference5Ideal.MixValue
open Cert.Reference5Ideal Cert.Reference5Ideal.Gen Cert.Reference5Ideal.Value Cert.RowMath Cert.RefStages
open Cert.Reference3Ideal.MixValue (projAll gluAll tapsAll rowAll outAll subAll slices2)

variable (m : (ℓ : Loc nD τ sig) → Buf (Elt Ideal) ℓ) (c : Dev nD)

/-- The residual stream the mixer reads. -/
def stream : FVec Ideal S4x8192x1024 .f32 :=
  ffnAll (m ((c.tc : Thread nD τ).loc main_arg0)) (m ((c.tc : Thread nD τ).loc main_arg1))
      (m ((c.tc : Thread nD τ).loc main_arg2)) (m ((c.tc : Thread nD τ).loc main_arg3)) (m ((c.tc : Thread nD τ).loc main_arg4))
      (m ((c.tc : Thread nD τ).loc main_arg5)) (m ((c.tc : Thread nD τ).loc main_arg6))

/-- What the reference leaves. -/
def result : FVec Ideal S4x8192x1024 .f32 :=
  subAll (stream m c) (m ((c.tc : Thread nD τ).loc main_arg7)) (m ((c.tc : Thread nD τ).loc main_arg8)) (m ((c.tc : Thread nD τ).loc main_arg9))
    (m ((c.tc : Thread nD τ).loc main_arg10)) (m ((c.tc : Thread nD τ).loc main_arg11)) (m ((c.tc : Thread nD τ).loc main_arg12)) (m ((c.tc : Thread nD τ).loc main_arg13))
    (m ((c.tc : Thread nD τ).loc main_arg14)) (m ((c.tc : Thread nD τ).loc main_arg15)) (m ((c.tc : Thread nD τ).loc main_arg16)) (m ((c.tc : Thread nD τ).loc main_arg17))

theorem v54_eq : res_main_v54 (launchContents m c) = stream m c := rfl
theorem v73_eq : res_main_v73 (launchContents m c) = projAll (res_main_v54 (launchContents m c)) (m ((c.tc : Thread nD τ).loc main_arg7))
    (m ((c.tc : Thread nD τ).loc main_arg10)) (m ((c.tc : Thread nD τ).loc main_arg11)) := rfl
theorem v83_eq : res_main_v83 (launchContents m c) = gluAll (res_main_v73 (launchContents m c)) := rfl
theorem v159_eq : res_main_v159 (launchContents m c) = tapsAll (m ((c.tc : Thread nD τ).loc main_arg12)) (res_main_v83 (launchContents m c)) 10 (by omega) := rfl
theorem v236_eq : res_main_v236 (launchContents m c) = tapsAll (m ((c.tc : Thread nD τ).loc main_arg12)) (res_main_v83 (launchContents m c)) 21 (by omega) := by
  unfold res_main_v236
  rw [v159_eq]
  rfl
theorem v302_eq : res_main_v302 (launchContents m c) = rowAll (tapsAll (m ((c.tc : Thread nD τ).loc main_arg12)) (res_main_v83 (launchContents m c)) 30 (by omega))
    (m ((c.tc : Thread nD τ).loc main_arg13)) := by
  unfold res_main_v302
  rw [v236_eq]
  rfl
theorem v326_eq : res_main_v326 (launchContents m c) = normAll (res_main_v302 (launchContents m c)) (m ((c.tc : Thread nD τ).loc main_arg14)) (m ((c.tc : Thread nD τ).loc main_arg15)) := rfl
theorem v338_eq : res_main_v338 (launchContents m c) = resAll 2 slices2 (res_main_v54 (launchContents m c))
    (outAll (res_main_v326 (launchContents m c)) (m ((c.tc : Thread nD τ).loc main_arg16)) (m ((c.tc : Thread nD τ).loc main_arg17))) (m ((c.tc : Thread nD τ).loc main_arg7)) := rfl

theorem res_eq : normAll (res_main_v338 (launchContents m c)) (m ((c.tc : Thread nD τ).loc main_arg8)) (m ((c.tc : Thread nD τ).loc main_arg9)) = result m c := by
  rw [v338_eq, v326_eq, v302_eq, v83_eq, v73_eq, v54_eq]
  rfl
end Cert.Reference5Ideal.MixValue

end
-- ==== Proof.ExpertRun.lean ====
/- One step of the experts' call, run once for each way its two tests can fall: the block is used and its expert differs
   from the block before (the expert's weights are taken up first), the block is used and its expert is the same, or the
   block is not used. Over any float values. -/
module
public import proofs.«01_k».proof.Defs
public import proofs.«01_k».proof.Proof.Gen.Kernel4Ideal
public import proofs.«01_k».proof.Proof.Gen.Kernel4Ideal.Launch
public import proofs.«01_k».proof.Proof.Gen.Kernel4Ideal.Skeleton
public import Idealize.ShloMosaic.Lib.Pipeline.Kit
public import Idealize.ShloMosaic.Lib.Pipeline.TableIdle
public import Idealize.ShloMosaic.Lib.Pipeline.FrameBody
public import Idealize.ShloMosaic.Lib.Writes
public import Idealize.ShloMosaic.Lib.Ring
public import Idealize.ShloMosaic.Lib.Exec
public import Idealize.ShloMosaic.Lib.Affine
public import Idealize.ShloMosaic.Lib.Tactic
public import Idealize.ShloMosaic.PureOps.Ideal
public import Idealize.ShloMosaic.Adequacy
public import Idealize.ShloMosaic.Init
@[expose] public section
set_option maxRecDepth 16384
set_option Elab.async false
noncomputable section
namespace Cert.Kernel4Ideal.Expert
open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

/-- The experts' names, block by block. -/
abbrev tbE : Memref sig .tc .smem S288 .i32 := Memref.whole main_arg0
/-- How many blocks are used. -/
abbrev tbN : Memref sig .tc .smem S1 .i32 := Memref.whole main_arg1
/-- The scratch of the gate and up weights. -/
abbrev scW : Memref sig .tc .vmem S1024x1024 .bf16 := Memref.whole cc0_scratch0
/-- The scratch of the down weights. -/
abbrev scD : Memref sig .tc .vmem S512x1024 .bf16 := Memref.whole cc0_scratch1

/-- The block of this point is used. -/
abbrev Used (i : grid0.Coords) (T1 : S1.Idx → Elt F .i32) : Prop := k0_cond1 i (View.readAt (Elt F) (tbN).view (Rect.unit (s := S1) ![0] S1.size inb_S1_S1_0).toLoadRect T1 (Shape.Idx.first (numel1_S1.symm ▸ Nat.one_pos))) = 1#1
/-- The point is the first, or its expert differs from that of the point before. -/
abbrev Fresh (i : grid0.Coords) (T0 : S288.Idx → Elt F .i32) : Prop := (Scalar.cmpi .ne (Scalar.extui (Scalar.ori (Scalar.cmpi .eq (BitVec.ofNat 32 (i 0).val) 0#32) (Scalar.cmpi .ne (View.readAt (Elt F) (tbE).view (Rect.unit (s := S288) (k0_off3 i) S1.size (k0_off3_inb i)).toLoadRect T0 (Shape.Idx.first (numel1_S1.symm ▸ Nat.one_pos))) (View.readAt (Elt F) (tbE).view (Rect.unit (s := S288) (k0_off2 i) S1.size (k0_off2_inb i)).toLoadRect T0 (Shape.Idx.first (numel1_S1.symm ▸ Nat.one_pos)))))) 0#32) = 1#1

variable (c : Dev nD) (i : grid0.Coords) (arg3 : Memref sig .tc .vmem S256x512 .i32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S256x1024 .bf16) (harg7 : arg7.IsWhole) (T0 : (S288.Idx → Elt F .i32)) (T1 : (S1.Idx → Elt F .i32))
  (x0 : (S256x512.Idx → Elt F .i32)) (x1 : (S1x1024x512.Idx → Elt F .f32)) (x2 : (S1x1024x512.Idx → Elt F .f32)) (x3 : (S1x512x1024.Idx → Elt F .f32))

/-- One staging buffer of the output, through which its contents are stated. -/
abbrev vout : View sig .tc .vmem S256x1024 .bf16 := (Memref.whole cc0_stg4_0 : Memref sig .tc .vmem S256x1024 .bf16).view

set_option backward.proofsInPublic true in
set_option maxHeartbeats 8000000 in
/-- A used block whose expert is new: the weights taken up, then the block computed. The pieces stored into the output and what
    the two scratches hold afterwards are found by the run. -/
noncomputable def runNew
      (k0_h1 : Used i T1) (hc1 : Fresh i T0) :
    Σ' (out0 : List (View.Piece (Elt F) S256x1024 .bf16)) (out1 : Buf (Elt F) ((c : Thread nD τ).loc cc0_scratch0)), { out2 : Buf (Elt F) ((c : Thread nD τ).loc cc0_scratch1) //
      ∀ (xa0 : Buf (Elt F) ((c : Thread nD τ).loc cc0_scratch0)) (xa1 : Buf (Elt F) ((c : Thread nD τ).loc cc0_scratch1)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbE.view.loc (c : Thread nD τ) ↦{fullShare.right} T0)
          ∗ (tbN.view.loc (c : Thread nD τ) ↦{fullShare.right} T1)
          ∗ (∃ d, owns (c : Thread nD τ) arg7 fullShare d)
          ∗ (scW.view.loc (c : Thread nD τ) ↦{fullShare} xa0)
          ∗ (scD.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbE.view.loc (c : Thread nD τ) ↦{fullShare.right} T0)
              ∗ (tbN.view.loc (c : Thread nD τ) ↦{fullShare.right} T1)
              ∗ (∃ f, arg7.view.loc (c : Thread nD τ) ↦[arg7.view.set]{fullShare} arg7.view.writes (Elt F) f out0)
              ∗ (scW.view.loc (c : Thread nD τ) ↦{fullShare} out1)
              ∗ (scD.view.loc (c : Thread nD τ) ↦{fullShare} out2)) -∗ K ⟨⟩))
          ⊢ wp frame (wpE (defs₀ (F := F)) Variants.none c none) Set.univ (cc0_experts i tbE (Memref.isWhole_whole _) tbN (Memref.isWhole_whole _) arg3 harg3 arg4 harg4 arg5 harg5 arg6 harg6 arg7 harg7 scW (Memref.isWhole_whole _) scD (Memref.isWhole_whole _)) K } :=
  ⟨_, _, _, fun (xa0 : Buf (Elt F) ((c : Thread nD τ).loc cc0_scratch0)) (xa1 : Buf (Elt F) ((c : Thread nD τ).loc cc0_scratch1)) K => by
    unfold owns
    rw [cc0_experts_eq_skeleton]; unfold cc0_experts_skel
    iintro ⟨H0, H1, H2, H3, HT0, HT1, ⟨%d4, %f4, -, HO4⟩, HS0, HS1, Hk⟩
    have hS0 : scW.IsWhole := Memref.isWhole_whole _
    have hS1 : scD.IsWhole := Memref.isWhole_whole _
    have hT0 : tbE.IsWhole := Memref.isWhole_whole _
    have hT1 : tbN.IsWhole := Memref.isWhole_whole _
    sl_exec! (disch := first | (guard_target = k0_cond1 _ _ = _; exact k0_h1) | (guard_target = Scalar.cmpi = _; exact hc1))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

/-- The stored pieces tile the block. -/
theorem coverNew
      (k0_h1 : Used i T1) (hc1 : Fresh i T0) (y : S256x1024.Idx) :
    ∃ pc ∈ (runNew c i arg3 harg3 arg4 harg4 arg5 harg5 arg6 harg6 arg7 harg7 T0 T1 x0 x1 x2 x3 k0_h1 hc1).1, y ∈ pc.1.set :=
  View.cover_of_tiledL (runNew c i arg3 harg3 arg4 harg4 arg5 harg5 arg6 harg6 arg7 harg7 T0 T1 x0 x1 x2 x3 k0_h1 hc1).1 S256x1024.size (by sl_kernel_rfl) y

/-- What is left in the output's staging buffer. -/
def outNew
      (k0_h1 : Used i T1) (hc1 : Fresh i T0) : (S256x1024.Idx → Elt F .bf16) :=
  vout.read (Elt F) (vout.writes (Elt F) vout.junk (runNew c i arg3 harg3 arg4 harg4 arg5 harg5 arg6 harg6 arg7 harg7 T0 T1 x0 x1 x2 x3 k0_h1 hc1).1)

set_option backward.proofsInPublic true in
set_option maxHeartbeats 8000000 in
/-- A used block whose expert is that of the block before: computed from what the scratches hold. -/
noncomputable def runSame
      (xa0 : Buf (Elt F) ((c : Thread nD τ).loc cc0_scratch0)) (xa1 : Buf (Elt F) ((c : Thread nD τ).loc cc0_scratch1)) (k0_h1 : Used i T1) (hc1 : ¬Fresh i T0) :
    Σ' (out0 : List (View.Piece (Elt F) S256x1024 .bf16)) (out1 : Buf (Elt F) ((c : Thread nD τ).loc cc0_scratch0)), { out2 : Buf (Elt F) ((c : Thread nD τ).loc cc0_scratch1) //
      ∀ (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbE.view.loc (c : Thread nD τ) ↦{fullShare.right} T0)
          ∗ (tbN.view.loc (c : Thread nD τ) ↦{fullShare.right} T1)
          ∗ (∃ d, owns (c : Thread nD τ) arg7 fullShare d)
          ∗ (scW.view.loc (c : Thread nD τ) ↦{fullShare} xa0)
          ∗ (scD.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbE.view.loc (c : Thread nD τ) ↦{fullShare.right} T0)
              ∗ (tbN.view.loc (c : Thread nD τ) ↦{fullShare.right} T1)
              ∗ (∃ f, arg7.view.loc (c : Thread nD τ) ↦[arg7.view.set]{fullShare} arg7.view.writes (Elt F) f out0)
              ∗ (scW.view.loc (c : Thread nD τ) ↦{fullShare} out1)
              ∗ (scD.view.loc (c : Thread nD τ) ↦{fullShare} out2)) -∗ K ⟨⟩))
          ⊢ wp frame (wpE (defs₀ (F := F)) Variants.none c none) Set.univ (cc0_experts i tbE (Memref.isWhole_whole _) tbN (Memref.isWhole_whole _) arg3 harg3 arg4 harg4 arg5 harg5 arg6 harg6 arg7 harg7 scW (Memref.isWhole_whole _) scD (Memref.isWhole_whole _)) K } :=
  ⟨_, _, _, fun K => by
    unfold owns
    rw [cc0_experts_eq_skeleton]; unfold cc0_experts_skel
    iintro ⟨H0, H1, H2, H3, HT0, HT1, ⟨%d4, %f4, -, HO4⟩, HS0, HS1, Hk⟩
    have hS0 : scW.IsWhole := Memref.isWhole_whole _
    have hS1 : scD.IsWhole := Memref.isWhole_whole _
    have hT0 : tbE.IsWhole := Memref.isWhole_whole _
    have hT1 : tbN.IsWhole := Memref.isWhole_whole _
    sl_exec! (disch := first | (guard_target = k0_cond1 _ _ = _; exact k0_h1) | (guard_target = ¬(Scalar.cmpi = _); exact hc1))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]; · iexists _; iexact HO4
    isplitl [HS0]; · iexact HS0
    iexact HS1⟩

/-- The stored pieces tile the block. -/
theorem coverSame
      (xa0 : Buf (Elt F) ((c : Thread nD τ).loc cc0_scratch0)) (xa1 : Buf (Elt F) ((c : Thread nD τ).loc cc0_scratch1)) (k0_h1 : Used i T1) (hc1 : ¬Fresh i T0) (y : S256x1024.Idx) :
    ∃ pc ∈ (runSame c i arg3 harg3 arg4 harg4 arg5 harg5 arg6 harg6 arg7 harg7 T0 T1 x0 x1 x2 x3 xa0 xa1 k0_h1 hc1).1, y ∈ pc.1.set :=
  View.cover_of_tiledL (runSame c i arg3 harg3 arg4 harg4 arg5 harg5 arg6 harg6 arg7 harg7 T0 T1 x0 x1 x2 x3 xa0 xa1 k0_h1 hc1).1 S256x1024.size (by sl_kernel_rfl) y

/-- What is left in the output's staging buffer. -/
def outSame
      (xa0 : Buf (Elt F) ((c : Thread nD τ).loc cc0_scratch0)) (xa1 : Buf (Elt F) ((c : Thread nD τ).loc cc0_scratch1)) (k0_h1 : Used i T1) (hc1 : ¬Fresh i T0) : (S256x1024.Idx → Elt F .bf16) :=
  vout.read (Elt F) (vout.writes (Elt F) vout.junk (runSame c i arg3 harg3 arg4 harg4 arg5 harg5 arg6 harg6 arg7 harg7 T0 T1 x0 x1 x2 x3 xa0 xa1 k0_h1 hc1).1)

set_option backward.proofsInPublic true in
set_option maxHeartbeats 8000000 in
/-- An unused block: nothing is stored. -/
noncomputable def runIdle
      (xa0 : Buf (Elt F) ((c : Thread nD τ).loc cc0_scratch0)) (xa1 : Buf (Elt F) ((c : Thread nD τ).loc cc0_scratch1)) (k0_h1 : ¬Used i T1) :
    Σ' (out0 : Buf (Elt F) ((c : Thread nD τ).loc cc0_scratch0)), { out1 : Buf (Elt F) ((c : Thread nD τ).loc cc0_scratch1) //
      ∀ (y4 : (S256x1024.Idx → Elt F .bf16)) (K : PUnit → sProp 𝕄),
        iprop((arg3.view.loc (c : Thread nD τ) ↦[arg3.view.set]{fullShare} arg3.view.rep x0)
          ∗ (arg4.view.loc (c : Thread nD τ) ↦[arg4.view.set]{fullShare} arg4.view.rep x1)
          ∗ (arg5.view.loc (c : Thread nD τ) ↦[arg5.view.set]{fullShare} arg5.view.rep x2)
          ∗ (arg6.view.loc (c : Thread nD τ) ↦[arg6.view.set]{fullShare} arg6.view.rep x3)
          ∗ (tbE.view.loc (c : Thread nD τ) ↦{fullShare.right} T0)
          ∗ (tbN.view.loc (c : Thread nD τ) ↦{fullShare.right} T1)
          ∗ owns (c : Thread nD τ) arg7 fullShare y4
          ∗ (scW.view.loc (c : Thread nD τ) ↦{fullShare} xa0)
          ∗ (scD.view.loc (c : Thread nD τ) ↦{fullShare} xa1)
          ∗ (iprop((arg3.view.loc (c : Thread nD τ) ↦[arg3.view.set]{fullShare} arg3.view.rep x0)
              ∗ (arg4.view.loc (c : Thread nD τ) ↦[arg4.view.set]{fullShare} arg4.view.rep x1)
              ∗ (arg5.view.loc (c : Thread nD τ) ↦[arg5.view.set]{fullShare} arg5.view.rep x2)
              ∗ (arg6.view.loc (c : Thread nD τ) ↦[arg6.view.set]{fullShare} arg6.view.rep x3)
              ∗ (tbE.view.loc (c : Thread nD τ) ↦{fullShare.right} T0)
              ∗ (tbN.view.loc (c : Thread nD τ) ↦{fullShare.right} T1)
              ∗ owns (c : Thread nD τ) arg7 fullShare y4
              ∗ (scW.view.loc (c : Thread nD τ) ↦{fullShare} out0)
              ∗ (scD.view.loc (c : Thread nD τ) ↦{fullShare} out1)) -∗ K ⟨⟩))
          ⊢ wp frame (wpE (defs₀ (F := F)) Variants.none c none) Set.univ (cc0_experts i tbE (Memref.isWhole_whole _) tbN (Memref.isWhole_whole _) arg3 harg3 arg4 harg4 arg5 harg5 arg6 harg6 arg7 harg7 scW (Memref.isWhole_whole _) scD (Memref.isWhole_whole _)) K } :=
  ⟨_, _, fun (y4 : (S256x1024.Idx → Elt F .bf16)) K => by
    unfold owns
    rw [cc0_experts_eq_skeleton]; unfold cc0_experts_skel
    iintro ⟨H0, H1, H2, H3, HT0, HT1, ⟨%f4, %hf4, HO4⟩, HS0, HS1, Hk⟩
    obtain rfl := harg7.eq_unread hf4
    have hS0 : scW.IsWhole := Memref.isWhole_whole _
    have hS1 : scD.IsWhole := Memref.isWhole_whole _
    have hT0 : tbE.IsWhole := Memref.isWhole_whole _
    have hT1 : tbN.IsWhole := Memref.isWhole_whole _
    sl_exec! (disch := first | (guard_target = ¬(k0_cond1 _ _ = _); exact k0_h1))
    sl_step
    iapply Hk
    isplitl [H0]; · iexact H0
    isplitl [H1]; · iexact H1
    isplitl [H2]; · iexact H2
    isplitl [H3]; · iexact H3
    isplitl [HT0]; · iexact HT0
    isplitl [HT1]; · iexact HT1
    isplitl [HO4]
    · iexists _; isplitr; · ipureintro; exact harg7.read_unread _
      iexact HO4
    isplitl [HS0]; · iexact HS0
    iexact HS1⟩

end Cert.Kernel4Ideal.Expert
-- ==== Proof.ExpertSched.lean ====
/- When a block of the experts' call is used, when its expert is new, which blocks its windows read, and when its output
   block is written back: from the words of the two tables. -/
module
public import proofs.«01_k».proof.Proof.ExpertRun
public import Idealize.ShloMosaic.Lib.Pointwise
@[expose] public section
set_option maxRecDepth 16384
set_option Elab.async false
noncomputable section
namespace Cert.Kernel4Ideal.Expert
open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

variable (a : (pcfg0 (F := F)).Adm)

/-- How many blocks are used. -/
def nU : BitVec 32 := a.1 (1 : Fin 2) (ix1 (0 : Fin 1))
/-- Block `j`'s expert. -/
def eW (j : Fin 288) : BitVec 32 := a.1 (0 : Fin 2) (ix1 j)

abbrev cfgA : Pipeline.Cfg sig Λ₀ := cfg0 (F := F) a
abbrev crd (t : Fin (cfgA a).N) : (cfgA a).grid.Coords := (cfgA a).grid.coords t

theorem crd_val (t : Fin (cfgA a).N) : (crd a t 0).val = t.val := (by decide +kernel : ∀ t : Fin grid0.N, (grid0.coords t 0).val = t.val) t
theorem lt288 (t : Fin (cfgA a).N) : t.val < 288 := lt_of_lt_of_eq t.isLt N_0

theorem count_of (pf : pre0.Contents (Elt F)) : pf.at (1 : Fin 2) (Rect.unit (s := S1) ![0] S1.size inb_S1_S1_0) numel1_S1 = pf (1 : Fin 2) (ix1 (0 : Fin 1)) := by
  refine congrArg (pf (1 : Fin 2)) (funext fun x => Fin.ext ?_)
  fin_cases x; rfl
theorem count_at : a.1.at (1 : Fin 2) (Rect.unit (s := S1) ![0] S1.size inb_S1_S1_0) numel1_S1 = nU a := count_of a.1
theorem count_read : View.readAt (Elt F) tbN.view (Rect.unit (s := S1) ![0] S1.size inb_S1_S1_0).toLoadRect (a.1 (1 : Fin 2)) (Shape.Idx.first (numel1_S1.symm ▸ Nat.one_pos)) = nU a := count_at a

theorem first1 (h : 0 < S1.numel) : ((Shape.Idx.first h : S1.Idx) 0).val = 0 := by
  have := ((Shape.Idx.first h : S1.Idx) 0).isLt
  have e : S1.size 0 = 1 := rfl
  omega

theorem name_of (pf : pre0.Contents (Elt F)) (off : Fin 1 → Nat) (inb : ∀ x, off x + S1.size x ≤ S288.size x) (j : Fin 288) (e : off 0 = j.val) :
    pf.at (0 : Fin 2) (Rect.unit (s := S288) off S1.size inb) numel1_S1 = pf (0 : Fin 2) (ix1 j) := by
  refine congrArg (pf (0 : Fin 2)) (funext fun x => Fin.ext ?_)
  obtain rfl : x = (0 : Fin 1) := Subsingleton.elim (α := Fin 1) _ _
  refine (congrArg (fun z => off 0 + 1 * z) (first1 (numel1_S1.symm ▸ Nat.one_pos))).trans ?_
  show off 0 + 1 * 0 = j.val
  rw [e]; omega
theorem name_read (off : Fin 1 → Nat) (inb : ∀ x, off x + S1.size x ≤ S288.size x) (h : 0 < S1.numel) (j : Fin 288) (e : off 0 = j.val) :
    View.readAt (Elt F) tbE.view (Rect.unit (s := S288) off S1.size inb).toLoadRect (a.1 (0 : Fin 2)) (Shape.Idx.first h) = eW a j := name_of a.1 off inb j e

theorem toInt_small (n : Nat) (h : n < 288) : (BitVec.ofNat 32 n).toInt = n := by
  rw [BitVec.toInt_ofNat']; simp only [Int.bmod]; omega

theorem bit_true (b : Bool) : BitVec.ofBool b = 1#1 ↔ b = true := by cases b <;> decide

theorem cond_iff (i : grid0.Coords) (v : BitVec 32) : k0_cond1 i v = 1#1 ↔ ((i 0).val : Int) < v.toInt := by
  have h : (i 0).val < 288 := (i 0).isLt
  have e : k0_cond1 i v = BitVec.ofBool ((BitVec.ofNat 32 (i 0).val).slt v) := by
    unfold k0_cond1
    dsimp only [Scalar.cmpi, Scalar.extui]
    show IntOp.cmpi CmpIPredicate.ne (BitVec.setWidth 32 (BitVec.ofBool ((BitVec.ofNat 32 (i 0).val).slt v))) 0#32 = _
    cases (BitVec.ofNat 32 (i 0).val).slt v <;> rfl
  rw [e, bit_true, BitVec.slt_iff_toInt_lt, toInt_small _ h]

theorem used_iff (t : Fin (cfgA a).N) : Used (crd a t) (a.1 (1 : Fin 2)) ↔ (t.val : Int) < (nU a).toInt := by
  show k0_cond1 (crd a t) (View.readAt (Elt F) tbN.view (Rect.unit (s := S1) ![0] S1.size inb_S1_S1_0).toLoadRect (a.1 (1 : Fin 2)) (Shape.Idx.first (numel1_S1.symm ▸ Nat.one_pos))) = 1#1 ↔ _
  rw [count_read, cond_iff, crd_val]

theorem idle4 (t : Fin (cfgA a).N) : (cfgA a).idle (4 : Fin 5) ((cfgA a).grid.coords t) = !decide ((t.val : Int) < (nU a).toInt) := by
  show (!(k0_cond1 (crd a t) (a.1.atD (1 : Fin 2) ![0]) == 1#1)) = _
  have e : a.1.atD (1 : Fin 2) ![0] = nU a := by
    unfold Pipeline.Prefetch.Contents.atD
    refine (dif_pos (show ∀ x : Fin 1, (![0] : Fin 1 → Nat) x + 1 ≤ (![1] : Fin 1 → Nat) x by decide)).trans ?_
    refine congrArg (a.1 (1 : Fin 2)) (funext fun x => Fin.ext ?_)
    fin_cases x; rfl
  rw [e]
  congr 1
  rw [Bool.eq_iff_iff]
  simp only [beq_iff_eq, decide_eq_true_eq]
  rw [cond_iff, crd_val]

theorem off2_val (i : grid0.Coords) : k0_off2 i 0 = (i 0).val - 1 := (by decide +kernel : ∀ i : grid0.Coords, k0_off2 i 0 = (i 0).val - 1) i
theorem off3_val (i : grid0.Coords) : k0_off3 i 0 = (i 0).val := (by decide +kernel : ∀ i : grid0.Coords, k0_off3 i 0 = (i 0).val) i

theorem fresh_bits (n : Nat) (h : n < 288) (x y : BitVec 32) :
    Scalar.cmpi .ne (Scalar.extui (Scalar.ori (Scalar.cmpi .eq (BitVec.ofNat 32 n) 0#32) (Scalar.cmpi .ne x y)) : BitVec 32) 0#32 = 1#1 ↔ n = 0 ∨ x ≠ y := by
  have e : (BitVec.ofNat 32 n == 0#32) = decide (n = 0) := by
    rw [Bool.eq_iff_iff]; simp only [beq_iff_eq, decide_eq_true_eq, ← BitVec.toNat_inj, BitVec.toNat_ofNat]; omega
  have e2 : (x != y) = decide (x ≠ y) := by simp [bne, beq_eq_decide]
  show IntOp.cmpi CmpIPredicate.ne (BitVec.setWidth 32 (BitVec.ofBool (BitVec.ofNat 32 n == 0#32) ||| BitVec.ofBool (x != y))) 0#32 = 1#1 ↔ _
  rw [e, e2]
  rw [(by decide : ∀ p q : Bool, IntOp.cmpi CmpIPredicate.ne (BitVec.setWidth 32 (BitVec.ofBool p ||| BitVec.ofBool q)) 0#32 = 1#1 ↔ p = true ∨ q = true)]
  simp only [decide_eq_true_eq]

/-- The point before. -/
abbrev prev (t : Fin (cfgA a).N) : Fin (cfgA a).N := ⟨t.val - 1, lt_of_le_of_lt (Nat.sub_le _ _) t.isLt⟩
/-- A point's expert. -/
abbrev eP (t : Fin (cfgA a).N) : BitVec 32 := eW a ⟨t.val, lt288 a t⟩

theorem fresh_iff (t : Fin (cfgA a).N) : Fresh (crd a t) (a.1 (0 : Fin 2)) ↔ t.val = 0 ∨ eP a t ≠ eP a (prev a t) := by
  unfold Fresh
  rw [name_read a _ _ _ ⟨t.val, lt288 a t⟩ (by rw [off3_val, crd_val]), name_read a _ _ _ ⟨t.val - 1, by have := lt288 a t; omega⟩ (by rw [off2_val, crd_val]), crd_val]
  exact fresh_bits _ (lt288 a t) _ _

/-- The point whose rows a point's windows 0 and 4 hold: itself, the last used one from there on. -/
def pt (t : Fin (cfgA a).N) : Fin (cfgA a).N := ⟨min t.val ((nU a).toInt - 1).toNat, lt_of_le_of_lt (Nat.min_le_left _ _) t.isLt⟩

theorem row_bits (n : Nat) (h : n < 288) (v : BitVec 32) (hv : 1 ≤ v.toInt) :
    (Scalar.minsi (BitVec.ofNat 32 n) (Scalar.subi v 1#32)).toNat = min n (v.toInt - 1).toNat := by
  have hs : (v - 1#32).toInt = v.toInt - 1 := by
    rw [BitVec.toInt_sub]; have := v.toInt_lt; have : (1#32 : BitVec 32).toInt = 1 := by decide
    rw [this, Int.bmod_eq_of_le (by omega) (by omega)]
  show (if (BitVec.ofNat 32 n).slt (v - 1#32) then BitVec.ofNat 32 n else v - 1#32).toNat = _
  have e1 : (BitVec.ofNat 32 n).toNat = n := by rw [BitVec.toNat_ofNat]; omega
  have e2 : ((v - 1#32).toNat : Int) = (v - 1#32).toInt := (BitVec.toInt_eq_toNat_of_msb (by rw [BitVec.msb_eq_toInt, decide_eq_false_iff_not]; omega)).symm
  split <;> rename_i hc <;> rw [BitVec.slt_iff_toInt_lt, toInt_small _ h, hs] at hc <;> omega

variable (hn : 1 ≤ (nU a).toInt)

include hn in
theorem idx0 (t : Fin (cfgA a).N) : ((cfgA a).win (0 : Fin 5)).index t = ![(pt a t).val, 0] := by
  show ![(Scalar.minsi (BitVec.ofNat 32 (crd a t 0).val) (Scalar.subi (a.1.at (1 : Fin 2) (Rect.unit (s := S1) ![0] S1.size inb_S1_S1_0) numel1_S1) 1#32)).toNat, (0#32 : BitVec 32).toNat] = _
  rw [count_at, row_bits _ (by rw [crd_val]; exact lt288 a t) _ hn, crd_val]; rfl
include hn in
theorem idx4 (t : Fin (cfgA a).N) : ((cfgA a).win (4 : Fin 5)).index t = ![(pt a t).val, 0] := idx0 a hn t

theorem idx1 (t : Fin (cfgA a).N) : ((cfgA a).win (1 : Fin 5)).index t = ![(eP a t).toNat, 0, 0] := by
  show ![(a.1.at (0 : Fin 2) (Rect.unit (s := S288) (k0_off1 (crd a t)) S1.size (k0_off1_inb (crd a t))) numel1_S1).toNat, 0, 0] = _
  rw [show a.1.at (0 : Fin 2) (Rect.unit (s := S288) (k0_off1 (crd a t)) S1.size (k0_off1_inb (crd a t))) numel1_S1 = eP a t from
    name_read a _ _ _ ⟨t.val, lt288 a t⟩ ((off3_val (crd a t)).trans (crd_val a t))]
theorem idx2 (t : Fin (cfgA a).N) : ((cfgA a).win (2 : Fin 5)).index t = ![(eP a t).toNat, 0, 0] := idx1 a t
theorem idx3 (t : Fin (cfgA a).N) : ((cfgA a).win (3 : Fin 5)).index t = ![(eP a t).toNat, 0, 0] := idx1 a t

include hn in
/-- Whether the output's block is written back after a point. -/
theorem flush4 (t : Fin (cfgA a).N) : ((cfgA a).win (4 : Fin 5)).flush t = decide ((t.val + 1 : Int) < (nU a).toInt ∨ t.val + 1 = 288) := by
  rw [Window.flush_eq_flushF]
  unfold Window.flushF
  rw [Bool.eq_iff_iff]
  simp only [Bool.and_eq_true, Bool.or_eq_true, decide_eq_true_eq]
  have h288 : (cfgA a).N = 288 := N_0
  have ht := lt288 a t
  constructor
  · rintro ⟨-, h | ⟨h, x, hx⟩⟩
    · exact .inr (h.trans h288)
    · rw [idx4 a hn, idx4 a hn] at hx
      refine .inl ?_
      by_contra hc
      apply hx
      have : (pt a ⟨t.val + 1, h⟩).val = (pt a t).val := by unfold pt; simp only; omega
      rw [this]
  · rintro (h | h)
    · refine ⟨trivial, ?_⟩
      by_cases hN : t.val + 1 = 288
      · exact .inl (hN.trans h288.symm)
      · have hN' : t.val + 1 < (cfgA a).N := by omega
        refine .inr ⟨hN', (0 : Fin 2), ?_⟩
        rw [idx4 a hn, idx4 a hn]
        show (pt a ⟨t.val + 1, hN'⟩).val ≠ (pt a t).val
        unfold pt; simp only; omega
    · exact ⟨trivial, .inl (h.trans h288.symm)⟩

include hn in
/-- Whether the output's buffer holds nothing stored, before each point. -/
theorem fresh4 (n : Nat) (h : n ≤ (cfgA a).N) : (cfgA a).fresh (4 : Fin 5) n = decide ((n : Int) < (nU a).toInt ∨ n = 288) := by
  refine (cfgA a).fresh_tab (4 : Fin 5) (fun n => decide ((n : Int) < (nU a).toInt ∨ n = 288)) ?_ (fun t => ?_) n h
  · simp only [decide_eq_true_eq]; left; simp only [Nat.cast_zero]; omega
  · rw [flush4 a hn, idle4]
    have := lt288 a t
    rw [Bool.eq_iff_iff]
    simp only [Bool.or_eq_true, Bool.and_eq_true, Bool.not_eq_true', decide_eq_true_eq, decide_eq_false_iff_not]
    omega

end Cert.Kernel4Ideal.Expert
-- ==== Proof.ExpertPre.lean ====
/- What the precondition says of the experts' tables, and that the pipeline's blocks then lie in its arrays. -/
module
public import proofs.«01_k».proof.Proof.ExpertSched
public import proofs.«01_k».proof.Proof.Gen.Pre_blocks_named
public import Idealize.ShloMosaic.Lib.Pointwise
@[expose] public section
set_option maxRecDepth 16384
set_option Elab.async false
noncomputable section
namespace Cert.Kernel4Ideal.Expert
open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- What the precondition says. -/
structure Named (T0 : S288.Idx → BitVec 32) (T1 : S1.Idx → BitVec 32) : Prop where
  lt : ∀ j : Fin 288, (T0 (ix1 j)).toNat < 32
  pos : 1 ≤ (T1 (ix1 (0 : Fin 1))).toInt

theorem bits_name (x y : BitVec 32) (h : IntOp.andi (IntOp.andi (IntOp.cmpi .sge x 0#32) (IntOp.cmpi .slt x 32#32)) (IntOp.cmpi .sge y 1#32) = 1#1) :
    x.toNat < 32 ∧ 1 ≤ y.toInt := by
  have e : ∀ p q r : Bool, (BitVec.ofBool p &&& BitVec.ofBool q) &&& BitVec.ofBool r = 1#1 → p = true ∧ q = true ∧ r = true := by decide
  obtain ⟨h1, h2, h3⟩ := e ((0#32).sle x) (x.slt 32#32) ((1#32).sle y) h
  rw [BitVec.sle_iff_toInt_le] at h1 h3
  rw [BitVec.slt_iff_toInt_lt] at h2
  have e0 : (0#32 : BitVec 32).toInt = 0 := by decide
  have e1 : (1#32 : BitVec 32).toInt = 1 := by decide
  have e2 : (32#32 : BitVec 32).toInt = 32 := by decide
  have := x.isLt
  have h4 := BitVec.toInt_eq_toNat_cond x
  refine ⟨?_, by omega⟩
  split at h4 <;> omega

theorem named (T0 : S288.Idx → BitVec 32) (T1 : S1.Idx → BitVec 32) (x2) (x3 x4) (x5)
    (h : Cert.Pre_blocks_named.fn (F := F) T0 T1 x2 x3 x4 x5 = fun _ => 1#1) : Named T0 T1 := by
  have hj : ∀ j : Fin 288, _ := fun j => bits_name (T0 (ix1 j)) (T1 (ix1 (0 : Fin 1))) (by
    refine Eq.trans ?_ (congrFun h (ix1 j))
    pointwise [Cert.Pre_blocks_named.fn])
  exact ⟨fun j => (hj j).1, (hj 0).2⟩

theorem ok_of (pf : pre0.Contents (Elt F)) (h : Named (pf (0 : Fin 2)) (pf (1 : Fin 2))) : ok0 pf := by
  have hi : ∀ i : grid0.Coords, (i 0).val < 288 := fun i => (i 0).isLt
  have e0 : ∀ i, cc0_transform_0 inb_S1_S1_0 numel1_S1 pf i = ![min (i 0).val ((pf (1 : Fin 2) (ix1 (0 : Fin 1)) : BitVec 32).toInt - 1).toNat, 0] := fun i => by
    show ![(Scalar.minsi (BitVec.ofNat 32 (i 0).val) (Scalar.subi (pf.at (1 : Fin 2) (Rect.unit (s := S1) ![0] S1.size inb_S1_S1_0) numel1_S1) 1#32)).toNat, (0#32 : BitVec 32).toNat] = _
    rw [count_of, row_bits _ (hi i) _ h.pos]; rfl
  have e1 : ∀ i, cc0_transform_1 k0_off1_inb numel1_S1 pf i = ![(pf (0 : Fin 2) (ix1 ⟨(i 0).val, hi i⟩) : BitVec 32).toNat, 0, 0] := fun i => by
    show ![(pf.at (0 : Fin 2) (Rect.unit (s := S288) (k0_off1 i) S1.size (k0_off1_inb i)) numel1_S1).toNat, 0, 0] = _
    rw [name_of pf (k0_off1 i) (k0_off1_inb i) ⟨(i 0).val, hi i⟩ (off3_val i)]
  have row : ∀ i, ∀ x : Fin 2, (cc0_transform_0 inb_S1_S1_0 numel1_S1 pf i x + 1) * S256x512.size x ≤ S73728x512.size x := fun i x => by
    rw [e0]; have := hi i
    fin_cases x
    · show (min (i 0).val _ + 1) * 256 ≤ 73728; omega
    · show (0 + 1) * 512 ≤ 512; omega
  have rowOut : ∀ i, ∀ x : Fin 2, (cc0_transform_4 inb_S1_S1_0 numel1_S1 pf i x + 1) * S256x1024.size x ≤ S73728x1024.size x := fun i x => by
    show (cc0_transform_0 inb_S1_S1_0 numel1_S1 pf i x + 1) * S256x1024.size x ≤ S73728x1024.size x
    rw [e0]; have := hi i
    fin_cases x
    · show (min (i 0).val _ + 1) * 256 ≤ 73728; omega
    · show (0 + 1) * 1024 ≤ 1024; omega
  have wt : ∀ i, ∀ x : Fin 3, (cc0_transform_1 k0_off1_inb numel1_S1 pf i x + 1) * S1x1024x512.size x ≤ S32x1024x512.size x := fun i x => by
    rw [e1]; have := h.lt ⟨(i 0).val, hi i⟩
    fin_cases x
    · show ((pf (0 : Fin 2) (ix1 ⟨(i 0).val, hi i⟩) : BitVec 32).toNat + 1) * 1 ≤ 32; omega
    · show (0 + 1) * 1024 ≤ 1024; omega
    · show (0 + 1) * 512 ≤ 512; omega
  have wtD : ∀ i, ∀ x : Fin 3, (cc0_transform_3 k0_off1_inb numel1_S1 pf i x + 1) * S1x512x1024.size x ≤ S32x512x1024.size x := fun i x => by
    show (cc0_transform_1 k0_off1_inb numel1_S1 pf i x + 1) * S1x512x1024.size x ≤ S32x512x1024.size x
    rw [e1]; have := h.lt ⟨(i 0).val, hi i⟩
    fin_cases x
    · show ((pf (0 : Fin 2) (ix1 ⟨(i 0).val, hi i⟩) : BitVec 32).toNat + 1) * 1 ≤ 32; omega
    · show (0 + 1) * 512 ≤ 512; omega
    · show (0 + 1) * 1024 ≤ 1024; omega
  exact ⟨fun i => ⟨row i, .inl rfl⟩, fun i => ⟨wt i, .inl rfl⟩, fun i => ⟨wt i, .inl rfl⟩, fun i => ⟨wtD i, .inl rfl⟩,
    fun i => ⟨rowOut i, .inr (Affine.block_words_dvd (s := S73728x1024) (p := EltTy.packing .bf16) (by decide) (by decide))⟩⟩

end Cert.Kernel4Ideal.Expert
-- ==== Proof.ExpertTile.lean ====
/- What one used step of the experts' call leaves: the scratches at the step's own expert's weights, the output at the step's
   rows put through them; the same whether the weights were taken up at this step or before. -/
module
public import proofs.«01_k».proof.Proof.ExpertRun
public import Idealize.ShloMosaic.Lib.Pipeline.ReadBack
public import Idealize.ShloMosaic.Lib.VecWindow
@[expose] public section
set_option maxRecDepth 16384
set_option Elab.async false
noncomputable section
namespace Cert.Kernel4Ideal.Expert
open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (UR sig nD τ) ℕ

variable (c : Dev nD) (i : grid0.Coords) (arg3 : Memref sig .tc .vmem S256x512 .i32) (harg3 : arg3.IsWhole) (arg4 : Memref sig .tc .vmem S1x1024x512 .f32) (harg4 : arg4.IsWhole) (arg5 : Memref sig .tc .vmem S1x1024x512 .f32) (harg5 : arg5.IsWhole) (arg6 : Memref sig .tc .vmem S1x512x1024 .f32) (harg6 : arg6.IsWhole) (arg7 : Memref sig .tc .vmem S256x1024 .bf16) (harg7 : arg7.IsWhole) (T0 : (S288.Idx → Elt F .i32)) (T1 : (S1.Idx → Elt F .i32))
  (x0 : (S256x512.Idx → Elt F .i32)) (x1 : (S1x1024x512.Idx → Elt F .f32)) (x2 : (S1x1024x512.Idx → Elt F .f32)) (x3 : (S1x512x1024.Idx → Elt F .f32))

/-- The gate and up weights side by side, as stored. -/
def wPieces : List (View.Piece (Elt F) S1024x1024 .bf16) :=
  [⟨Rect.unit ![0, 512] S1024x512.size inb_S1024x1024_S1024x512_0_512, k0_pay2 x2⟩,
    ⟨Rect.unit ![0, 0] S1024x512.size inb_S1024x1024_S1024x512_0_0, k0_pay1 x1⟩]
/-- The down weights, as stored. -/
def dPieces : List (View.Piece (Elt F) S512x1024 .bf16) :=
  [⟨Rect.unit ![0, 0] S512x1024.size inb_S512x1024_S512x1024_0_0, k0_pay3 x3⟩]
/-- The first scratch once they are taken up. -/
def wBuf : Buf (Elt F) ((c : Thread nD τ).loc cc0_scratch0) := (View.whole cc0_scratch0).writes (Elt F) (View.whole cc0_scratch0).junk (wPieces x1 x2)
/-- The second. -/
def dBuf : Buf (Elt F) ((c : Thread nD τ).loc cc0_scratch1) := (View.whole cc0_scratch1).writes (Elt F) (View.whole cc0_scratch1).junk (dPieces x3)
/-- A block's rows put through its expert's weights. -/
def tile : S256x1024.Idx → Elt F .bf16 := k0_pay4 x0 (View.canon (wPieces x1 x2)) (View.canon (dPieces x3))

theorem full_idx {s : Shape} {off : Fin s.rank → ℕ} (inb : ∀ a, off a + s.size a ≤ s.size a) (y : s.Idx) :
    (Rect.unit off s.size inb).toLoadRect.idx y = y :=
  funext fun a => Fin.ext (by
    show off a + 1 * (y a).val = (y a).val
    have := inb a; omega)

/-- A load of a whole buffer that holds `x` reads `x`. -/
theorem load_whole {s : Shape} {κ : Kind} {sp : Space} {e : EltTy} (v : View sig κ sp s e) (x : s.Idx → Elt F e) {off : Fin s.rank → ℕ} (inb : ∀ a, off a + s.size a ≤ s.size a) :
    v.readAt (Elt F) (Rect.unit off s.size inb).toLoadRect (v.rep x) = x := by
  rw [View.readAt_rep]
  exact funext fun y => congrArg x (full_idx inb y)

theorem runNew_w (k0_h1 : Used i T1) (hc1 : Fresh i T0) : (runNew c i arg3 harg3 arg4 harg4 arg5 harg5 arg6 harg6 arg7 harg7 T0 T1 x0 x1 x2 x3 k0_h1 hc1).2.1 = wBuf c x1 x2 := by
  unfold runNew
  dsimp only
  unfold runNew.sl.HS0_2 wBuf wPieces
  exact congrArg₂ (fun a b => (View.whole cc0_scratch0).writes (Elt F) (View.whole cc0_scratch0).junk
    [⟨Rect.unit ![0, 512] S1024x512.size inb_S1024x1024_S1024x512_0_512, k0_pay2 a⟩,
      ⟨Rect.unit ![0, 0] S1024x512.size inb_S1024x1024_S1024x512_0_0, k0_pay1 b⟩]) (load_whole arg5.view x2 _) (load_whole arg4.view x1 _)
theorem runNew_d (k0_h1 : Used i T1) (hc1 : Fresh i T0) : (runNew c i arg3 harg3 arg4 harg4 arg5 harg5 arg6 harg6 arg7 harg7 T0 T1 x0 x1 x2 x3 k0_h1 hc1).2.2.1 = dBuf c x3 := by
  unfold runNew
  dsimp only
  unfold runNew.sl.HS1_1 dBuf dPieces
  exact congrArg (fun a => (View.whole cc0_scratch1).writes (Elt F) (View.whole cc0_scratch1).junk
    [⟨Rect.unit ![0, 0] S512x1024.size inb_S512x1024_S512x1024_0_0, k0_pay3 a⟩]) (load_whole arg6.view x3 _)

/-- What the step reads of the scratches it has just filled. -/
theorem v20_eq : runNew.sl.v20 arg4 arg5 x1 x2 = View.canon (wPieces x1 x2) := by
  unfold runNew.sl.v20
  rw [View.readCov_eq_canon']
  refine funext fun y => (congrArg _ (full_idx (s := S1024x1024) _ y)).trans ?_
  unfold runNew.sl.HS0_2 wPieces
  exact congrFun (congrArg₂ (fun a b => View.canon (Val := Elt F) (s := S1024x1024) (e := .bf16)
    [⟨Rect.unit ![0, 512] S1024x512.size inb_S1024x1024_S1024x512_0_512, k0_pay2 a⟩,
      ⟨Rect.unit ![0, 0] S1024x512.size inb_S1024x1024_S1024x512_0_0, k0_pay1 b⟩]) (load_whole arg5.view x2 _) (load_whole arg4.view x1 _)) y
theorem v34_eq : runNew.sl.v34 arg6 x3 = View.canon (dPieces x3) := by
  unfold runNew.sl.v34
  rw [View.readCov_eq_canon']
  refine funext fun y => (congrArg _ (full_idx (s := S512x1024) _ y)).trans ?_
  unfold runNew.sl.HS1_1 dPieces
  exact congrFun (congrArg (fun a => View.canon (Val := Elt F) (s := S512x1024) (e := .bf16)
    [⟨Rect.unit ![0, 0] S512x1024.size inb_S512x1024_S512x1024_0_0, k0_pay3 a⟩]) (load_whole arg6.view x3 _)) y

/-- One store of the whole block leaves what was stored. -/
theorem out_whole (w : S256x1024.Idx → Elt F .bf16) :
    View.canon (s := S256x1024) [⟨Rect.unit ![0, 0] S256x1024.size inb_S256x1024_S256x1024_0_0, w⟩] = w :=
  View.canon_cons_unit_lit (S := S256x1024) inb_S256x1024_S256x1024_0_0 w [] (by decide)

theorem outNew_eq (k0_h1 : Used i T1) (hc1 : Fresh i T0) : outNew c i arg3 harg3 arg4 harg4 arg5 harg5 arg6 harg6 arg7 harg7 T0 T1 x0 x1 x2 x3 k0_h1 hc1 = tile x0 x1 x2 x3 := by
  unfold outNew
  rw [View.read_writes_junk_eq_canon]
  unfold runNew
  dsimp only
  unfold runNew.sl.HO4_1
  rw [v20_eq, v34_eq]
  refine (out_whole _).trans ?_
  exact congrArg (fun a => k0_pay4 a (View.canon (wPieces x1 x2)) (View.canon (dPieces x3))) (load_whole arg3.view x0 _)

theorem outSame_eq (k0_h1 : Used i T1) (hc1 : ¬Fresh i T0) :
    outSame c i arg3 harg3 arg4 harg4 arg5 harg5 arg6 harg6 arg7 harg7 T0 T1 x0 x1 x2 x3 (wBuf c x1 x2) (dBuf c x3) k0_h1 hc1 = tile x0 x1 x2 x3 := by
  unfold outSame
  rw [View.read_writes_junk_eq_canon]
  unfold runSame
  dsimp only
  unfold runSame.sl.HO4_1
  refine (out_whole _).trans ?_
  have hw : View.readAt (Elt F) scW.view (Rect.unit ![0, 0] S1024x1024.size inb_S1024x1024_S1024x1024_0_0).toLoadRect (wBuf c x1 x2) = View.canon (wPieces x1 x2) :=
    (View.readAt_writes_junk_eq_canon scW.view (wPieces x1 x2) _).trans (funext fun y => congrArg _ (full_idx (s := S1024x1024) _ y))
  have hd : View.readAt (Elt F) scD.view (Rect.unit ![0, 0] S512x1024.size inb_S512x1024_S512x1024_0_0).toLoadRect (dBuf c x3) = View.canon (dPieces x3) :=
    (View.readAt_writes_junk_eq_canon scD.view (dPieces x3) _).trans (funext fun y => congrArg _ (full_idx (s := S512x1024) _ y))
  unfold tile
  rw [← hw, ← hd]
  exact congrArg (fun a => k0_pay4 a _ _) (load_whole arg3.view x0 _)
theorem runSame_w (xa0) (xa1) (k0_h1 : Used i T1) (hc1 : ¬Fresh i T0) : (runSame c i arg3 harg3 arg4 harg4 arg5 harg5 arg6 harg6 arg7 harg7 T0 T1 x0 x1 x2 x3 xa0 xa1 k0_h1 hc1).2.1 = xa0 := rfl
theorem runSame_d (xa0) (xa1) (k0_h1 : Used i T1) (hc1 : ¬Fresh i T0) : (runSame c i arg3 harg3 arg4 harg4 arg5 harg5 arg6 harg6 arg7 harg7 T0 T1 x0 x1 x2 x3 xa0 xa1 k0_h1 hc1).2.2.1 = xa1 := rfl
theorem runIdle_w (xa0) (xa1) (k0_h1 : ¬Used i T1) : (runIdle c i arg3 harg3 arg4 harg4 arg5 harg5 arg6 harg6 arg7 harg7 T0 T1 x0 x1 x2 x3 xa0 xa1 k0_h1).1 = xa0 := rfl
theorem runIdle_d (xa0) (xa1) (k0_h1 : ¬Used i T1) : (runIdle c i arg3 harg3 arg4 harg4 arg5 harg5 arg6 harg6 arg7 harg7 T0 T1 x0 x1 x2 x3 xa0 xa1 k0_h1).2.1 = xa1 := rfl
end Cert.Kernel4Ideal.Expert
-- ==== Proof.ExpertFrame.lean ====
/- The experts' call launched at tables that name blocks of its arrays and use at least one block: it terminates, and leaves
   every argument as it was. Over any float values. -/
module
public import proofs.«01_k».proof.Proof.ExpertTile
public import proofs.«01_k».proof.Proof.ExpertSched
public import Idealize.ShloMosaic.Lib.Pipeline.Quiescent
public import Idealize.ShloMosaic.Lib.Claim
public import Idealize.ShloMosaic.Lib.Pipeline.ValueKit
@[expose] public section
set_option maxRecDepth 16384
set_option Elab.async false
noncomputable section
namespace Cert.Kernel4Ideal.Expert
open Cert.Kernel4Ideal Cert.Kernel4Ideal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

/-- The rounds library's resources, for the pipeline's staging cells. -/
abbrev EP : Emb (UR sig nD τ) 𝕄 := emb₁

variable (a : (pcfg0 (F := F)).Adm) (m : (ℓ : Loc nD τ sig) → Buf (Elt F) ℓ) (ρ : Dev nD → PrngReg)

abbrev pcs : Fin 1 → Pipeline.Cfg sig Λ₀ := Pipeline.pin (pcfgs (F := F)) fun _ => a

abbrev ms0 (t : Fin (cfgA a).N) : Memref sig .tc .vmem S256x512 .i32 := spec0_0.stage ((cfgA a).slots t (0 : Fin 5))
abbrev hs0 (t : Fin (cfgA a).N) : (ms0 a t).IsWhole := hstage0_0 (((cfgA a).slots t (0 : Fin 5)).cast nbuf0_0)
abbrev ms1 (t : Fin (cfgA a).N) : Memref sig .tc .vmem S1x1024x512 .f32 := spec0_1.stage ((cfgA a).slots t (1 : Fin 5))
abbrev hs1 (t : Fin (cfgA a).N) : (ms1 a t).IsWhole := hstage0_1 (((cfgA a).slots t (1 : Fin 5)).cast nbuf0_1)
abbrev ms2 (t : Fin (cfgA a).N) : Memref sig .tc .vmem S1x1024x512 .f32 := spec0_2.stage ((cfgA a).slots t (2 : Fin 5))
abbrev hs2 (t : Fin (cfgA a).N) : (ms2 a t).IsWhole := hstage0_2 (((cfgA a).slots t (2 : Fin 5)).cast nbuf0_2)
abbrev ms3 (t : Fin (cfgA a).N) : Memref sig .tc .vmem S1x512x1024 .f32 := spec0_3.stage ((cfgA a).slots t (3 : Fin 5))
abbrev hs3 (t : Fin (cfgA a).N) : (ms3 a t).IsWhole := hstage0_3 (((cfgA a).slots t (3 : Fin 5)).cast nbuf0_3)
abbrev ms4 (t : Fin (cfgA a).N) : Memref sig .tc .vmem S256x1024 .bf16 := spec0_4.stage ((cfgA a).slots t (4 : Fin 5))
abbrev hs4 (t : Fin (cfgA a).N) : (ms4 a t).IsWhole := hstage0_4 (((cfgA a).slots t (4 : Fin 5)).cast nbuf0_4)

/-- Window `w`'s block at point `t`. -/
def iblk (c : Dev nD) (w : Fin (cfgA a).W) (t : Fin (cfgA a).N) : (((cfgA a).win w).xblock (crd a t)).Idx → Elt F ((cfgA a).win w).elt :=
  (((cfgA a).win w).blk t).view.read (Elt F) ((s₀ m ρ).mem (((cfgA a).win w).arr.view.loc (c : Thread nD τ)))

theorem same1 (c : Dev nD) {t t' : Fin (cfgA a).N} (h : eP a t' = eP a t) : iblk a m ρ c (1 : Fin 5) t' = iblk a m ρ c (1 : Fin 5) t := by
  have e := idx1 a t; have e' := idx1 a t'; rw [h] at e'
  exact funext fun y => by blk_ext [iblk, e, e']
theorem same2 (c : Dev nD) {t t' : Fin (cfgA a).N} (h : eP a t' = eP a t) : iblk a m ρ c (2 : Fin 5) t' = iblk a m ρ c (2 : Fin 5) t := by
  have e := idx2 a t; have e' := idx2 a t'; rw [h] at e'
  exact funext fun y => by blk_ext [iblk, e, e']
theorem same3 (c : Dev nD) {t t' : Fin (cfgA a).N} (h : eP a t' = eP a t) : iblk a m ρ c (3 : Fin 5) t' = iblk a m ρ c (3 : Fin 5) t := by
  have e := idx3 a t; have e' := idx3 a t'; rw [h] at e'
  exact funext fun y => by blk_ext [iblk, e, e']

theorem pt_used (t : Fin (cfgA a).N) (h : (t.val : Int) < (nU a).toInt) : pt a t = t := Fin.ext (by unfold pt; simp only; omega)
theorem pt_prev (hn : 1 ≤ (nU a).toInt) (t : Fin (cfgA a).N) (h : ¬(t.val : Int) < (nU a).toInt) : pt a (prev a t) = pt a t :=
  Fin.ext (by unfold pt; simp only; omega)

/-- What point `t`'s output block is: that of the last used point from there on. -/
def outAt (c : Dev nD) (t : Fin (cfgA a).N) : S256x1024.Idx → Elt F .bf16 :=
  tile (iblk a m ρ c (0 : Fin 5) t) (iblk a m ρ c (1 : Fin 5) t) (iblk a m ρ c (2 : Fin 5) t) (iblk a m ρ c (3 : Fin 5) t)

/-- Before point `k`: after a used point, the scratches hold that point's weights. -/
def Phi (c : Dev nD) (k : Fin ((cfgA a).N + 1)) : sProp 𝕄 :=
  iprop((∃ x, ⌜∀ h : 0 < k.val, (k.val : Int) ≤ (nU a).toInt → x = wBuf c (iblk a m ρ c (1 : Fin 5) ⟨k.val - 1, by omega⟩) (iblk a m ρ c (2 : Fin 5) ⟨k.val - 1, by omega⟩)⌝ ∗ (scW.view.loc (c : Thread nD τ) ↦{fullShare} x))
    ∗ (∃ x, ⌜∀ h : 0 < k.val, (k.val : Int) ≤ (nU a).toInt → x = dBuf c (iblk a m ρ c (3 : Fin 5) ⟨k.val - 1, by omega⟩)⌝ ∗ (scD.view.loc (c : Thread nD τ) ↦{fullShare} x))
    ∗ (tbE.view.loc (c : Thread nD τ) ↦{fullShare.right} a.1 (0 : Fin 2)) ∗ (tbN.view.loc (c : Thread nD τ) ↦{fullShare.right} a.1 (1 : Fin 2)))

/-- The pipeline's data on core `c`. -/
def dats (_ : Fin 1) (c : Dev nD) : Dat τ (Elt F) Unit ℕ (UR sig nD τ) ℕ (cfgA a) c where
  A w := (s₀ m ρ).mem (((cfgA a).win w).arr.view.loc (c : Thread nD τ))
  after w t := match w with
    | ⟨0, _⟩ => iblk a m ρ c (0 : Fin 5) t
    | ⟨1, _⟩ => iblk a m ρ c (1 : Fin 5) t
    | ⟨2, _⟩ => iblk a m ρ c (2 : Fin 5) t
    | ⟨3, _⟩ => iblk a m ρ c (3 : Fin 5) t
    | ⟨4, _⟩ => outAt a m ρ c (pt a t)
  Φ t := Phi a m ρ c t
  q _ := fullShare
  owed _ := 0

theorem after_0 (c : Dev nD) (t : Fin (cfgA a).N) : (dats a m ρ 0 c).after (0 : Fin 5) t = iblk a m ρ c (0 : Fin 5) t := rfl
theorem after_1 (c : Dev nD) (t : Fin (cfgA a).N) : (dats a m ρ 0 c).after (1 : Fin 5) t = iblk a m ρ c (1 : Fin 5) t := rfl
theorem after_2 (c : Dev nD) (t : Fin (cfgA a).N) : (dats a m ρ 0 c).after (2 : Fin 5) t = iblk a m ρ c (2 : Fin 5) t := rfl
theorem after_3 (c : Dev nD) (t : Fin (cfgA a).N) : (dats a m ρ 0 c).after (3 : Fin 5) t = iblk a m ρ c (3 : Fin 5) t := rfl
theorem after_4 (c : Dev nD) (t : Fin (cfgA a).N) : (dats a m ρ 0 c).after (4 : Fin 5) t = outAt a m ρ c (pt a t) := rfl
theorem before_0 (c : Dev nD) (t : Fin (cfgA a).N) (d) : (dats a m ρ 0 c).before (0 : Fin 5) t d = iblk a m ρ c (0 : Fin 5) t :=
  ((dats a m ρ 0 c).before_in_eq_fetched (0 : Fin 5) rfl (fun _ => rfl) (fun _ _ _ => rfl) (fun t => by rw [after_0]; unfold Dat.blockOf iblk; rfl) t d).trans
    (by unfold Dat.fetched Dat.blockOf iblk; rfl)
theorem before_1 (c : Dev nD) (t : Fin (cfgA a).N) (d) : (dats a m ρ 0 c).before (1 : Fin 5) t d = iblk a m ρ c (1 : Fin 5) t :=
  ((dats a m ρ 0 c).before_in_eq_fetched (1 : Fin 5) rfl (fun _ => rfl) (fun _ _ _ => rfl) (fun t => by rw [after_1]; unfold Dat.blockOf iblk; rfl) t d).trans
    (by unfold Dat.fetched Dat.blockOf iblk; rfl)
theorem before_2 (c : Dev nD) (t : Fin (cfgA a).N) (d) : (dats a m ρ 0 c).before (2 : Fin 5) t d = iblk a m ρ c (2 : Fin 5) t :=
  ((dats a m ρ 0 c).before_in_eq_fetched (2 : Fin 5) rfl (fun _ => rfl) (fun _ _ _ => rfl) (fun t => by rw [after_2]; unfold Dat.blockOf iblk; rfl) t d).trans
    (by unfold Dat.fetched Dat.blockOf iblk; rfl)
theorem before_3 (c : Dev nD) (t : Fin (cfgA a).N) (d) : (dats a m ρ 0 c).before (3 : Fin 5) t d = iblk a m ρ c (3 : Fin 5) t :=
  ((dats a m ρ 0 c).before_in_eq_fetched (3 : Fin 5) rfl (fun _ => rfl) (fun _ _ _ => rfl) (fun t => by rw [after_3]; unfold Dat.blockOf iblk; rfl) t d).trans
    (by unfold Dat.fetched Dat.blockOf iblk; rfl)

variable (hn : 1 ≤ (nU a).toInt)

include hn in
theorem before_4 (c : Dev nD) (t : Fin (cfgA a).N) (d) :
    (dats a m ρ 0 c).before (4 : Fin 5) t d = if (cfgA a).fresh (4 : Fin 5) t.val then d else outAt a m ρ c (pt a (prev a t)) := by
  rw [(dats a m ρ 0 c).before_out_traj (4 : Fin 5) rfl (fun _ _ => rfl) ?_ t.val t rfl d, after_4]
  intro t ht hi hf
  rw [idle4] at hi
  rw [after_4, after_4, ← pt_prev a hn t (by simpa using hi)]

abbrev bodyAt (t : Fin (cfgA a).N) : Prog (TpuEff nD τ sig (Elt F) Λ₀ .tc) PUnit :=
  cc0_experts (crd a t) (Memref.whole main_arg0) (Memref.isWhole_whole _) (Memref.whole main_arg1) (Memref.isWhole_whole _) (ms0 a t) (hs0 a t) (ms1 a t) (hs1 a t) (ms2 a t) (hs2 a t) (ms3 a t) (hs3 a t) (ms4 a t) (hs4 a t) (Memref.whole cc0_scratch0) (Memref.isWhole_whole _) (Memref.whole cc0_scratch1) (Memref.isWhole_whole _)

set_option maxHeartbeats 4000000 in
include hn in
/-- One step from what stands before it to what stands after it. -/
theorem sound_body (c : Dev nD) (t : Fin (cfgA a).N) :
    iprop((dats a m ρ 0 c).Φ t.castSucc ∗ (dats a m ρ 0 c).owesAt () t.castSucc
        ∗ (∃ d, owns (c : Thread nD τ) (ms0 a t) fullShare ((dats a m ρ 0 c).before (0 : Fin 5) t d))
        ∗ (∃ d, owns (c : Thread nD τ) (ms1 a t) fullShare ((dats a m ρ 0 c).before (1 : Fin 5) t d))
        ∗ (∃ d, owns (c : Thread nD τ) (ms2 a t) fullShare ((dats a m ρ 0 c).before (2 : Fin 5) t d))
        ∗ (∃ d, owns (c : Thread nD τ) (ms3 a t) fullShare ((dats a m ρ 0 c).before (3 : Fin 5) t d))
        ∗ (∃ d, owns (c : Thread nD τ) (ms4 a t) fullShare ((dats a m ρ 0 c).before (4 : Fin 5) t d)))
      ⊢ wp frame (wpE (defs₀ (F := F)) Variants.none c none) Set.univ (bodyAt a t) fun _ =>
          iprop((dats a m ρ 0 c).Φ t.succ ∗ (dats a m ρ 0 c).owesAt () t.succ
            ∗ bigSep Finset.univ fun w : Fin (cfgA a).W =>
                match (cfgA a).idle w ((cfgA a).grid.coords t) with
                | true =>
                  match ((cfgA a).win w).flush t with
                  | false => iprop(∃ d, owns (c : Thread nD τ) (((cfgA a).win w).stage ((cfgA a).slots t w)) fullShare ((dats a m ρ 0 c).before w t d))
                  | true => owns (c : Thread nD τ) (((cfgA a).win w).stage ((cfgA a).slots t w)) fullShare ((dats a m ρ 0 c).after w t)
                | false => owns (c : Thread nD τ) (((cfgA a).win w).stage ((cfgA a).slots t w)) fullShare ((dats a m ρ 0 c).after w t)) := by
  rw [bigSep_W0]
  have i4 := idle4 a t
  have fr4 := fresh4 a hn t.val (Nat.le_of_lt t.isLt)
  have lt := lt288 a t
  by_cases k0_h1 : Used (crd a t) (a.1 (1 : Fin 2))
  · have hu := (used_iff a t).1 k0_h1
    rw [show (!decide ((t.val : Int) < (nU a).toInt)) = false by simp [hu]] at i4
    rw [show decide ((t.val : Int) < (nU a).toInt ∨ t.val = 288) = true by simp [hu]] at fr4
    have ept : pt a t = t := pt_used a t hu
    by_cases hc1 : Fresh (crd a t) (a.1 (0 : Fin 2))
    · rewrite [i4]
      simp only [before_0, before_1, before_2, before_3, before_4 a m ρ hn, after_0, after_1, after_2, after_3, after_4, ept]
      simp only [fr4, Bool.false_eq_true, ↓reduceIte]
      rewrite [show (dats a m ρ 0 c).Φ t.succ = Phi a m ρ c t.succ from rfl, show (dats a m ρ 0 c).Φ t.castSucc = Phi a m ρ c t.castSucc from rfl,
        show (dats a m ρ 0 c).owesAt () t.succ = (dats a m ρ 0 c).owesAt () t.castSucc from rfl]
      unfold Phi
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
      iapply ((runNew c (crd a t) (ms0 a t) (hs0 a t) (ms1 a t) (hs1 a t) (ms2 a t) (hs2 a t) (ms3 a t) (hs3 a t) (ms4 a t) (hs4 a t) (a.1 (0 : Fin 2)) (a.1 (1 : Fin 2)) (iblk a m ρ c (0 : Fin 5) t) (iblk a m ρ c (1 : Fin 5) t) (iblk a m ρ c (2 : Fin 5) t) (iblk a m ρ c (3 : Fin 5) t) k0_h1 hc1).2.2.2 a0 a1 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      iintro ⟨H0, H1, H2, H3, HT0, HT1, ⟨%e4, H4⟩, HS0, HS1⟩
      isplitl [HS0 HS1 HT0 HT1]
      · isplitl [HS0]
        · iexists _; isplitr; swap
          · iexact HS0
          · ipureintro; intro h0 hk; exact runNew_w  ..
        isplitl [HS1]
        · iexists _; isplitr; swap
          · iexact HS1
          · ipureintro; intro h0 hk; exact runNew_d ..
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact (View.read_writes_of_cover _ _ _ _ _ (coverNew c _ _ _ _ _ _ _ _ _ _ _ _ _ _ _ _ _ _ _)).trans (outNew_eq (hc1 := hc1) ..)
    · rewrite [i4]
      have hs := fun h => hc1 ((fresh_iff a t).2 h)
      have h0 : 0 < t.val := Nat.pos_of_ne_zero fun h => hs (.inl h)
      have he : eP a (prev a t) = eP a t := by by_contra h; exact hs (.inr fun e => h e.symm)
      simp only [before_0, before_1, before_2, before_3, before_4 a m ρ hn, after_0, after_1, after_2, after_3, after_4, ept]
      simp only [fr4, Bool.false_eq_true, ↓reduceIte]
      rewrite [show (dats a m ρ 0 c).Φ t.succ = Phi a m ρ c t.succ from rfl, show (dats a m ρ 0 c).Φ t.castSucc = Phi a m ρ c t.castSucc from rfl,
        show (dats a m ρ 0 c).owesAt () t.succ = (dats a m ρ 0 c).owesAt () t.castSucc from rfl]
      unfold Phi
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
      have ea0 : a0 = wBuf c (iblk a m ρ c (1 : Fin 5) t) (iblk a m ρ c (2 : Fin 5) t) := by
        rw [ha0 h0 (by show (t.val : Int) ≤ _; omega), ← same1 a m ρ c he, ← same2 a m ρ c he]; rfl
      have ea1 : a1 = dBuf c (iblk a m ρ c (3 : Fin 5) t) := by
        rw [ha1 h0 (by show (t.val : Int) ≤ _; omega), ← same3 a m ρ c he]; rfl
      subst ea0 ea1
      iapply ((runSame c (crd a t) (ms0 a t) (hs0 a t) (ms1 a t) (hs1 a t) (ms2 a t) (hs2 a t) (ms3 a t) (hs3 a t) (ms4 a t) (hs4 a t) (a.1 (0 : Fin 2)) (a.1 (1 : Fin 2)) (iblk a m ρ c (0 : Fin 5) t) (iblk a m ρ c (1 : Fin 5) t) (iblk a m ρ c (2 : Fin 5) t) (iblk a m ρ c (3 : Fin 5) t) _ _ k0_h1 hc1).2.2.2 _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexists _; iexact H4
      isplitl [HS0]; · iexact HS0
      isplitl [HS1]; · iexact HS1
      iintro ⟨H0, H1, H2, H3, HT0, HT1, ⟨%e4, H4⟩, HS0, HS1⟩
      isplitl [HS0 HS1 HT0 HT1]
      · isplitl [HS0]
        · iexists _; isplitr; swap
          · iexact HS0
          · ipureintro; intro h0 hk; exact runSame_w ..
        isplitl [HS1]
        · iexists _; isplitr; swap
          · iexact HS1
          · ipureintro; intro h0 hk; exact runSame_d ..
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      unfold owns; iexists _; isplitr; swap
      · iexact H4
      · ipureintro; exact (View.read_writes_of_cover _ _ _ _ _ (coverSame c _ _ _ _ _ _ _ _ _ _ _ _ _ _ _ _ _ _ _ _ _)).trans (outSame_eq (hc1 := hc1) ..)
  · have hu : ¬(t.val : Int) < (nU a).toInt := fun h => k0_h1 ((used_iff a t).2 h)
    rw [show (!decide ((t.val : Int) < (nU a).toInt)) = true by simp [hu]] at i4
    rw [show decide ((t.val : Int) < (nU a).toInt ∨ t.val = 288) = false by simp [hu]; omega] at fr4
    have hp := pt_prev a hn t hu
    have hk' : ∀ {P : Prop}, ((t.val + 1 : Nat) : Int) ≤ (nU a).toInt → P := fun h => absurd h (by push_cast; omega)
    cases f4 : ((cfgA a).win (4 : Fin 5)).flush t
    · rewrite [i4]
      simp only [before_0, before_1, before_2, before_3, before_4 a m ρ hn, after_0, after_1, after_2, after_3, after_4, f4]
      simp only [fr4, Bool.false_eq_true, ↓reduceIte]
      rewrite [show (dats a m ρ 0 c).Φ t.succ = Phi a m ρ c t.succ from rfl, show (dats a m ρ 0 c).Φ t.castSucc = Phi a m ρ c t.castSucc from rfl,
        show (dats a m ρ 0 c).owesAt () t.succ = (dats a m ρ 0 c).owesAt () t.castSucc from rfl]
      unfold Phi
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
      iapply ((runIdle c (crd a t) (ms0 a t) (hs0 a t) (ms1 a t) (hs1 a t) (ms2 a t) (hs2 a t) (ms3 a t) (hs3 a t) (ms4 a t) (hs4 a t) (a.1 (0 : Fin 2)) (a.1 (1 : Fin 2)) (iblk a m ρ c (0 : Fin 5) t) (iblk a m ρ c (1 : Fin 5) t) (iblk a m ρ c (2 : Fin 5) t) (iblk a m ρ c (3 : Fin 5) t) a0 a1 k0_h1).2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      iintro ⟨H0, H1, H2, H3, HT0, HT1, H4, HS0, HS1⟩
      isplitl [HS0 HS1 HT0 HT1]
      · isplitl [HS0]
        · iexists _; isplitr; swap
          · iexact HS0
          · ipureintro; intro h0 hk; exact hk' hk
        isplitl [HS1]
        · iexists _; isplitr; swap
          · iexact HS1
          · ipureintro; intro h0 hk; exact hk' hk
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      first | (iexists d4; iexact H4) | iexact H4 | (rewrite [hp]; iexact H4)
    · rewrite [i4]
      simp only [before_0, before_1, before_2, before_3, before_4 a m ρ hn, after_0, after_1, after_2, after_3, after_4, f4]
      simp only [fr4, Bool.false_eq_true, ↓reduceIte]
      rewrite [show (dats a m ρ 0 c).Φ t.succ = Phi a m ρ c t.succ from rfl, show (dats a m ρ 0 c).Φ t.castSucc = Phi a m ρ c t.castSucc from rfl,
        show (dats a m ρ 0 c).owesAt () t.succ = (dats a m ρ 0 c).owesAt () t.castSucc from rfl]
      unfold Phi
      iintro ⟨⟨⟨%a0, %ha0, HS0⟩, ⟨%a1, %ha1, HS1⟩, HT0, HT1⟩, Ho, ⟨%d0, H0⟩, ⟨%d1, H1⟩, ⟨%d2, H2⟩, ⟨%d3, H3⟩, ⟨%d4, H4⟩⟩
      iapply ((runIdle c (crd a t) (ms0 a t) (hs0 a t) (ms1 a t) (hs1 a t) (ms2 a t) (hs2 a t) (ms3 a t) (hs3 a t) (ms4 a t) (hs4 a t) (a.1 (0 : Fin 2)) (a.1 (1 : Fin 2)) (iblk a m ρ c (0 : Fin 5) t) (iblk a m ρ c (1 : Fin 5) t) (iblk a m ρ c (2 : Fin 5) t) (iblk a m ρ c (3 : Fin 5) t) a0 a1 k0_h1).2.2 _ _)
      isplitl [H0]; · iapply rep_of_owns; iexact H0
      isplitl [H1]; · iapply rep_of_owns; iexact H1
      isplitl [H2]; · iapply rep_of_owns; iexact H2
      isplitl [H3]; · iapply rep_of_owns; iexact H3
      isplitl [HT0]; · iexact HT0
      isplitl [HT1]; · iexact HT1
      isplitl [H4]; · iexact H4
      isplitl [HS0]; · iexact HS0
      isplitl [HS1]; · iexact HS1
      iintro ⟨H0, H1, H2, H3, HT0, HT1, H4, HS0, HS1⟩
      isplitl [HS0 HS1 HT0 HT1]
      · isplitl [HS0]
        · iexists _; isplitr; swap
          · iexact HS0
          · ipureintro; intro h0 hk; exact hk' hk
        isplitl [HS1]
        · iexists _; isplitr; swap
          · iexact HS1
          · ipureintro; intro h0 hk; exact hk' hk
        isplitl [HT0]
        · iexact HT0
        iexact HT1
      isplitl [Ho]; · iexact Ho
      isplitl [H0]; · iapply owns_of_rep; iexact H0
      isplitl [H1]; · iapply owns_of_rep; iexact H1
      isplitl [H2]; · iapply owns_of_rep; iexact H2
      isplitl [H3]; · iapply owns_of_rep; iexact H3
      first | (iexists d4; iexact H4) | iexact H4 | (rewrite [hp]; iexact H4)
include hn in
/-- Every step does. -/
theorem body_obligation (c : Dev nD) : BodyObligation (dats a m ρ 0 c) (defs₀ (F := F)) Variants.none () Set.univ := fun t => by
  rw [bigSep_W0]
  exact sound_body a m ρ hn c t

/-- The resources at launch. -/
def u₀ : UR sig nD τ :=
  initOf (Pipeline.cells (pcs a) ((launch0 (F := F)).cellOf_inj fun _ => a))
    (Pipeline.launchToks (pcs a) ((launch0 (F := F)).cellOf_inj fun _ => a))

theorem share_eq (c : Dev nD) (w : Fin (cfgA a).W) : (dats a m ρ 0 c).share w = fullShare := by unfold Dat.share; split <;> rfl

/-- The tables, one by one. -/
theorem prefHeld_eq (c : Dev nD) (q : Fin 2 → PosShare TreeShare) (v : pre0.Contents (Elt F)) :
    (Pipeline.prefHeld (Ix := Unit) (Name := ℕ) (U := UR sig nD τ) (Lvl := ℕ) pre0 c q v : sProp 𝕄)
      = iprop((((c : Thread nD τ).loc main_arg0) ↦{q 0} v 0) ∗ (((c : Thread nD τ).loc main_arg1) ↦{q 1} v 1)) := by
  unfold Pipeline.prefHeld
  rw [show (Finset.univ : Finset (Fin 2)) = insert (0 : Fin 2) {(1 : Fin 2)} from by decide,
    bigSep_insert (by decide), bigSep_singleton]
  rfl

/-- What stands before the first step, from the tables and the scratches. -/
theorem phi0_intro (c : Dev nD) :
    iprop(BI.emp ∗ Pipeline.prefHeld pre0 c (fun _ => fullShare.right) a.1 ∗ Pipeline.scopedRest spec0 c) ⊢ (dats a m ρ 0 c).Φ 0 := by
  rw [prefHeld_eq, scopedRest0_eq, show (dats a m ρ 0 c).Φ 0 = Phi a m ρ c 0 from rfl]
  unfold Phi
  iintro ⟨-, ⟨HT0, HT1⟩, ⟨%a0, HS0⟩, ⟨%a1, HS1⟩⟩
  isplitl [HS0]
  · iexists a0; isplitr; swap
    · iexact HS0
    · ipureintro; intro h; exact absurd h (lt_irrefl 0)
  isplitl [HS1]
  · iexists a1; isplitr; swap
    · iexact HS1
    · ipureintro; intro h; exact absurd h (lt_irrefl 0)
  isplitl [HT0]
  · iexact HT0
  iexact HT1

/-- What stands after the last gives the scratches back. -/
theorem phiN_exit (c : Dev nD) : (dats a m ρ 0 c).Φ (Fin.last (cfgA a).N) ⊢ iprop(BI.emp ∗ Pipeline.scopedRest spec0 c) := by
  rw [scopedRest0_eq, show (dats a m ρ 0 c).Φ (Fin.last (cfgA a).N) = Phi a m ρ c (Fin.last _) from rfl]
  unfold Phi
  iintro ⟨⟨%a0, -, HS0⟩, ⟨%a1, -, HS1⟩, -, -⟩
  isplitr; · iempintro
  isplitl [HS0]
  · iexists a0; iexact HS0
  iexists a1; iexact HS1

/-- Every array at what the pipeline computes, every table as it was. -/
def QC : PUnit × MemSt nD τ sig (Elt F) → Prop := fun r =>
  ∀ c : Dev nD, (∀ w : Fin (cfgA a).W, r.2.mem (((cfgA a).win w).arr.view.loc (c : Thread nD τ)) = (dats a m ρ 0 c).arrAt w (cfgA a).N)
    ∧ ∀ j, r.2.mem ((c : Thread nD τ).loc (pre0.ref j)) = a.1 j

include hn in
set_option backward.isDefEq.respectTransparency.types false in
set_option maxHeartbeats 4000000 in
/-- From any memory whose tables are these, the call ends with each array at the computed contents and every counter at zero. -/
theorem run_main_quiescent (hp : ∀ (c : Dev nD) (j : Fin 2), m ((c : Thread nD τ).loc (pre0.ref j)) = a.1 j) : θ_run (defs (F := F)) (onTc (τ := τ) (main (F := F))) (s₀ m ρ) (fun r => QC a m ρ r ∧ r.2.sem = fun _ => 0) :=
  Pipeline.θ_run_region_noSem_pf_quiescent pcfgs (fun _ => a) (dats a m ρ) () ((launch0 (F := F)).cellOf_inj fun _ => a) (0 : Fin 1)
    (launch0 (F := F)).win.to₀ (launch0 (F := F)).pre EP defs₀ Variants.none m ρ main
    (hbody := fun c => (body_obligation a m ρ hn c).loose) (hne := (launch0 (F := F)).block_pos)
    (harr := (launch0 (F := F)).arr_whole) (hstage := (launch0 (F := F)).stage_whole) (howed := fun _ _ => rfl)
    (u₀ := u₀ a) (hu₀ := .rfl)
    (V := fun c b => m ((c : Thread nD τ).loc b))
    (hmain := fun c Q => by
      delta main; simp only [Prog.bind_lift, Prog.pure_eq_ret]
      iintro ⟨Hk, Hb⟩; iapply Hk; iexact Hb)
    (hsplit := fun c => Pipeline.arrays_split (pcs a) (dats a m ρ) 0 (launch0 (F := F)).win.arr_inj c (launch0 (F := F)).arr_whole
      (share_eq a m ρ c) _ _ fun _ => rfl)
    (hpf := hp)
    (X := fun _ => iprop(emp)) (Y := fun _ => iprop(emp)) (Z := fun _ => iprop(emp))
    (hX := fun c => by rw [unscopedRestP0_eq]; iintro -; isplitr <;> iempintro)
    (hin := phi0_intro a m ρ)
    (hout := phiN_exit a m ρ)
    (QY := fun _ _ => True)
    (hY := fun c s' => by
      iintro ⟨-, -, HSI⟩; imodintro
      isplitr; · ipureintro; trivial
      iexact HSI)
    (hQ := fun _ h hz => ⟨fun c => ⟨(h c).1, (h c).2.1⟩, hz⟩)

include hn in
/-- The same, the counters left out. -/
theorem run_main (hp : ∀ (c : Dev nD) (j : Fin 2), m ((c : Thread nD τ).loc (pre0.ref j)) = a.1 j) : θ_run (defs (F := F)) (onTc (τ := τ) (main (F := F))) (s₀ m ρ) (QC a m ρ) :=
  (θ_run defs _ _).mono (fun _ h => h.1) (run_main_quiescent a m ρ hn hp)

include hn in
/-- The arguments end unchanged. -/
theorem unchanged (hp : ∀ (c : Dev nD) (j : Fin 2), m ((c : Thread nD τ).loc (pre0.ref j)) = a.1 j) :
    θ_run (defs (F := F)) (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 0).trans (hp c 0).symm, ((h c).2 1).trans (hp c 1).symm, ((h c).1 (0 : Fin 5)).trans ((dats a m ρ 0 c).arrAt_in (0 : Fin 5) rfl _), ((h c).1 (1 : Fin 5)).trans ((dats a m ρ 0 c).arrAt_in (1 : Fin 5) rfl _), ((h c).1 (2 : Fin 5)).trans ((dats a m ρ 0 c).arrAt_in (2 : Fin 5) rfl _), ((h c).1 (3 : Fin 5)).trans ((dats a m ρ 0 c).arrAt_in (3 : Fin 5) rfl _)⟩) (run_main a m ρ hn hp)

include hn in
/-- The same, with the counters. -/
theorem frame (hp : ∀ (c : Dev nD) (j : Fin 2), m ((c : Thread nD τ).loc (pre0.ref j)) = a.1 j) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (unchanged a m ρ hn hp) ((θ_run defs _ _).mono (fun _ h => h.2) (run_main_quiescent a m ρ hn hp))

end Cert.Kernel4Ideal.Expert
-- ==== Proof.ExpertMath.lean ====
/- What the experts' call is shown to compute, over the extended reals: a row through one expert's gated feed-forward. -/
module
public import proofs.«01_k».proof.Proof.RowMath
@[expose] public section
noncomputable section
open Idealize.ShloMosaic
namespace Cert.ExpertMath
open Cert.RowMath

/-- Entry `j` of a row times a matrix of 512 columns. -/
def colEl (x : Fin 1024 → EReal) (w : Fin 1024 → Fin 512 → EReal) (j : Fin 512) : EReal := ∑ k, x k * w k j
/-- The gated hidden entry: the gate's projection times its own sigmoid, times the other projection. -/
def hidEl (x : Fin 1024 → EReal) (wg wu : Fin 1024 → Fin 512 → EReal) (j : Fin 512) : EReal :=
  (colEl x wg j * sigEl (colEl x wg j)) * colEl x wu j
/-- Entry `l` of the row that the expert makes of `x`. -/
def expertEl (x : Fin 1024 → EReal) (wg wu : Fin 1024 → Fin 512 → EReal) (wd : Fin 512 → Fin 1024 → EReal) (l : Fin 1024) : EReal :=
  ∑ j, hidEl x wg wu j * wd j l

/-- Row `r` of block `n`, of packed rows `Y`, through the expert `e n`. -/
def expertOut (Y : (⟨2, ![73728, 512]⟩ : Shape).Idx → BitVec 32) (e : Fin 288 → Fin 32)
    (Wg Wu : (⟨3, ![32, 1024, 512]⟩ : Shape).Idx → EReal) (Wd : (⟨3, ![32, 512, 1024]⟩ : Shape).Idx → EReal)
    (n : Fin 288) (r : Fin 256) (l : Fin 1024) : EReal :=
  expertEl (rowEl fun q => Y (ix2 ⟨n.val * 256 + r.val, by omega⟩ q)) (fun k j => Wg (ix3 (e n) k j)) (fun k j => Wu (ix3 (e n) k j))
    (fun j l => Wd (ix3 (e n) j l)) l

end Cert.ExpertMath
end
-- ==== Proof.ExpertValue.lean ====
/- What the experts' call computes: every row of a used block put through the block's expert. -/
module
public import proofs.«01_k».proof.Proof.ExpertFrame
public import proofs.«01_k».proof.Proof.ExpertMath
public import Idealize.ShloMosaic.Lib.Pointwise
@[expose] public section
set_option maxRecDepth 16384
noncomputable section
open Idealize.ShloMosaic Idealize.ShloMosaic.TcCoe Idealize.ShloMosaic.Tactic Idealize.SL.Sem
namespace Cert.Kernel4Ideal.Expert
open Cert.Kernel4Ideal Cert.Kernel4Ideal.Gen Cert.RowMath Cert.ExpertMath

/-- The step's value of what it loads. -/
theorem pay4_at (x : Vec Ideal S256x512 .i32) (w : Vec Ideal S1024x1024 .bf16) (d : Vec Ideal S512x1024 .bf16) (r : Fin 256) (l : Fin 1024) :
    k0_pay4 x w d (ix2 r l) = expertEl (rowEl fun q => x (ix2 r q)) (fun k j => w (ix2 k ⟨j.val, by omega⟩)) (fun k j => w (ix2 k ⟨512 + j.val, by omega⟩)) (fun j l => d (ix2 j l)) l := by
  pointwise [k0_pay4, expertEl, hidEl, colEl, sigEl, rowEl]
  simp only [zero_sub]

section columns
variable {Val : EltTy → Type} [∀ e, Nonempty (Val e)] {e : EltTy} {M N T H : Nat}

/-- Inside the columns that the last store filled, what it stored. -/
theorem cols_in (inb : ∀ x : Fin 2, (![0, H] : Fin 2 → Nat) x + (![M, T] : Fin 2 → Nat) x ≤ (![M, N] : Fin 2 → Nat) x)
    (q : (⟨2, ![M, T]⟩ : Shape).Idx → Val e) (L : List (View.Piece Val (⟨2, ![M, N]⟩ : Shape) e)) (y : Fin M) (l : Fin N) (r : Fin T) (h : l.val = H + r.val) :
    View.canon ((⟨Rect.unit (s := ⟨2, ![M, N]⟩) ![0, H] ![M, T] inb, q⟩ : View.Piece Val (⟨2, ![M, N]⟩ : Shape) e) :: L) (ix2 y l) = q (ix2 y r) := by
  have hx : (Rect.unit (s := ⟨2, ![M, N]⟩) ![0, H] ![M, T] inb).emb (ix2 y r) = ix2 y l := by
    refine funext fun x => Fin.ext ?_
    rw [Rect.emb_apply]
    fin_cases x
    · show 0 + 1 * y.val = y.val; omega
    · show H + 1 * r.val = l.val; omega
  rw [← hx]
  exact View.canon_cons_emb (Rect.unit (s := ⟨2, ![M, N]⟩) ![0, H] ![M, T] inb) q L (ix2 y r)
/-- Before them, what stood there. -/
theorem cols_out (inb : ∀ x : Fin 2, (![0, H] : Fin 2 → Nat) x + (![M, T] : Fin 2 → Nat) x ≤ (![M, N] : Fin 2 → Nat) x)
    (q : (⟨2, ![M, T]⟩ : Shape).Idx → Val e) (L : List (View.Piece Val (⟨2, ![M, N]⟩ : Shape) e)) (y : Fin M) (l : Fin N) (h : l.val < H) :
    View.canon ((⟨Rect.unit (s := ⟨2, ![M, N]⟩) ![0, H] ![M, T] inb, q⟩ : View.Piece Val (⟨2, ![M, N]⟩ : Shape) e) :: L) (ix2 y l) = View.canon L (ix2 y l) := by
  refine View.canon_cons_of_not_mem _ L fun hy => ?_
  have h1 : H ≤ l.val ∧ l.val < H + T := (Rect.mem_set_unit (s := ⟨2, ![M, N]⟩) (inb := inb)).mp hy (1 : Fin 2)
  omega
/-- One store of a whole array, at an entry. -/
theorem whole_in (inb : ∀ x : Fin 2, (![0, 0] : Fin 2 → Nat) x + (![M, N] : Fin 2 → Nat) x ≤ (![M, N] : Fin 2 → Nat) x)
    (q : (⟨2, ![M, N]⟩ : Shape).Idx → Val e) (y : Fin M) (l : Fin N) :
    View.canon [(⟨Rect.unit (s := ⟨2, ![M, N]⟩) ![0, 0] ![M, N] inb, q⟩ : View.Piece Val (⟨2, ![M, N]⟩ : Shape) e)] (ix2 y l) = q (ix2 y l) :=
  cols_in inb q [] y l l (Nat.zero_add _).symm
end columns

section pieces
variable (x1 x2 : Vec Ideal S1x1024x512 .f32) (x3 : Vec Ideal S1x512x1024 .f32)

theorem pay1_at (k : Fin 1024) (j : Fin 512) : k0_pay1 x1 (ix2 k j) = x1 (ix3 0 k j) := by pointwise [k0_pay1]
theorem pay2_at (k : Fin 1024) (j : Fin 512) : k0_pay2 x2 (ix2 k j) = x2 (ix3 0 k j) := by pointwise [k0_pay2]
theorem pay3_at (j : Fin 512) (l : Fin 1024) : k0_pay3 x3 (ix2 j l) = x3 (ix3 0 j l) := by pointwise [k0_pay3]

theorem w_up (k : Fin 1024) (j : Fin 512) : View.canon (wPieces (F := Ideal) x1 x2) (ix2 k ⟨512 + j.val, by omega⟩) = x2 (ix3 0 k j) := by
  unfold wPieces
  exact (cols_in (Val := Elt Ideal) (e := .bf16) (M := 1024) (N := 1024) (T := 512) (H := 512) inb_S1024x1024_S1024x512_0_512 (k0_pay2 x2) _ k ⟨512 + j.val, by omega⟩ j rfl).trans (pay2_at x2 k j)
theorem w_gate (k : Fin 1024) (j : Fin 512) : View.canon (wPieces (F := Ideal) x1 x2) (ix2 k ⟨j.val, by omega⟩) = x1 (ix3 0 k j) := by
  unfold wPieces
  refine (cols_out (Val := Elt Ideal) (e := .bf16) (M := 1024) (N := 1024) (T := 512) (H := 512) inb_S1024x1024_S1024x512_0_512 (k0_pay2 x2) _ k ⟨j.val, by omega⟩ j.isLt).trans ?_
  exact (cols_in (Val := Elt Ideal) (e := .bf16) (M := 1024) (N := 1024) (T := 512) (H := 0) inb_S1024x1024_S1024x512_0_0 (k0_pay1 x1) [] k ⟨j.val, by omega⟩ j (Nat.zero_add _).symm).trans (pay1_at x1 k j)
theorem w_down (j : Fin 512) (l : Fin 1024) : View.canon (dPieces (F := Ideal) x3) (ix2 j l) = x3 (ix3 0 j l) := by
  unfold dPieces
  exact (whole_in (Val := Elt Ideal) (e := .bf16) (M := 512) (N := 1024) inb_S512x1024_S512x1024_0_0 (k0_pay3 x3) j l).trans (pay3_at x3 j l)

/-- A block's rows through the weights loaded. -/
theorem tile_at (x0 : Vec Ideal S256x512 .i32) (r : Fin 256) (l : Fin 1024) :
    tile (F := Ideal) x0 x1 x2 x3 (ix2 r l) = expertEl (rowEl fun q => x0 (ix2 r q)) (fun k j => x1 (ix3 0 k j)) (fun k j => x2 (ix3 0 k j)) (fun j l => x3 (ix3 0 j l)) l := by
  unfold tile
  refine (pay4_at x0 _ _ r l).trans ?_
  simp only [w_up, w_gate, w_down]
end pieces

variable (a : (pcfg0 (F := Ideal)).Adm) (m : (ℓ : Loc nD τ sig) → Buf (Elt Ideal) ℓ) (ρ : Dev nD → PrngReg) (c : Dev nD)
variable (e : Fin 288 → Fin 32)

/-- The result at an entry of a block. -/
abbrev want (n : Fin 288) (r : Fin 256) (l : Fin 1024) : EReal :=
  expertOut (m ((c : Thread nD τ).loc main_arg2)) e (m ((c : Thread nD τ).loc main_arg3)) (m ((c : Thread nD τ).loc main_arg4)) (m ((c : Thread nD τ).loc main_arg5)) n r l

/-- The rows of the result, block by block. -/
def result : Buf (Elt Ideal) ((c : Thread nD τ).loc main_v0) :=
  fun i => want m c e ⟨(i 0).val / 256, by have h : (i 0).val < 73728 := (i 0).isLt; omega⟩ ⟨(i 0).val % 256, by omega⟩ ⟨(i 1).val, (i 1).isLt⟩

variable (he : ∀ n, eW a n = BitVec.ofNat 32 (e n).val) (hn : 1 ≤ (nU a).toInt)

theorem ofNat_toNat (q : Fin 32) : (BitVec.ofNat 32 q.val).toNat = q.val := by
  rw [BitVec.toNat_ofNat]; omega

include he in
theorem name_val (t : Fin (cfgA a).N) : (eP a t).toNat = (e ⟨t.val, lt288 a t⟩).val := (congrArg BitVec.toNat (he _)).trans (ofNat_toNat _)

include hn in
theorem rows_pt (t : Fin (cfgA a).N) (ht : pt a t = t) (r : Fin 256) (q : Fin 512) :
    iblk a m ρ c (0 : Fin 5) t (ix2 r q) = m ((c : Thread nD τ).loc main_arg2) (ix2 ⟨t.val * 256 + r.val, by have := lt288 a t; omega⟩ q) := by
  have e := idx0 a hn t
  rw [ht] at e
  blk_ext [iblk, e]
include he in
theorem gate_pt (t : Fin (cfgA a).N) (k : Fin 1024) (j : Fin 512) :
    iblk a m ρ c (1 : Fin 5) t (ix3 0 k j) = m ((c : Thread nD τ).loc main_arg3) (ix3 (e ⟨t.val, lt288 a t⟩) k j) := by
  have e := idx1 a t
  rw [name_val a _ he t] at e
  blk_ext [iblk, e]
include he in
theorem up_pt (t : Fin (cfgA a).N) (k : Fin 1024) (j : Fin 512) :
    iblk a m ρ c (2 : Fin 5) t (ix3 0 k j) = m ((c : Thread nD τ).loc main_arg4) (ix3 (e ⟨t.val, lt288 a t⟩) k j) := by
  have e := idx2 a t
  rw [name_val a _ he t] at e
  blk_ext [iblk, e]
include he in
theorem down_pt (t : Fin (cfgA a).N) (j : Fin 512) (l : Fin 1024) :
    iblk a m ρ c (3 : Fin 5) t (ix3 0 j l) = m ((c : Thread nD τ).loc main_arg5) (ix3 (e ⟨t.val, lt288 a t⟩) j l) := by
  have e := idx3 a t
  rw [name_val a _ he t] at e
  blk_ext [iblk, e]

include he hn in
theorem outAt_at (t : Fin (cfgA a).N) (ht : pt a t = t) (r : Fin 256) (l : Fin 1024) :
    outAt a m ρ c t (ix2 r l) = want m c e ⟨t.val, lt288 a t⟩ r l := by
  unfold outAt
  refine (tile_at _ _ _ _ r l).trans ?_
  unfold want expertOut
  simp only [rows_pt a m ρ c hn t ht, gate_pt a m ρ c e he t, up_pt a m ρ c e he t, down_pt a m ρ c e he t]

theorem pt_pt (t : Fin (cfgA a).N) : pt a (pt a t) = pt a t := Fin.ext (by unfold pt; simp only; omega)

theorem want_congr {n n' : Fin 288} {r r' : Fin 256} {l l' : Fin 1024} (hn : n.val = n'.val) (hr : r.val = r'.val) (hl : l.val = l'.val) :
    want m c e n r l = want m c e n' r' l' := by
  rw [Fin.ext hn, Fin.ext hr, Fin.ext hl]

theorem div_of (p r : ℕ) (h : r < 256) : (p * 256 + r) / 256 = p := by omega
theorem mod_of (p r : ℕ) (h : r < 256) : (p * 256 + r) % 256 = r := by omega

include he hn in
theorem arr_of_flush (t : Fin (cfgA a).N) (hf : ((cfgA a).win (4 : Fin 5)).flush t = true) (i : S73728x1024.Idx) (hi : i ∈ (((cfgA a).win (4 : Fin 5)).blk t).view.set) :
    (dats a m ρ 0 c).arrAt (4 : Fin 5) (cfgA a).N i = result m c e i := by
  refine (dats a m ρ 0 c).arrAt_forall_of_flushed (4 : Fin 5) (fun i v => v = result m c e i) (fun t hf y => ?_) (cfgA a).N t i t.isLt hf hi
  have ei := idx4 a hn t
  have hy : y = ix2 (⟨(y (0 : Fin 2)).val, (y (0 : Fin 2)).isLt⟩ : Fin 256) (⟨(y (1 : Fin 2)).val, (y (1 : Fin 2)).isLt⟩ : Fin 1024) := by blk_ext
  blk_simp
  rw [after_4]
  frame_out
  rw [hy]
  refine (outAt_at a m ρ c e he hn (pt a t) (pt_pt a t) _ _).trans ?_
  have hr : (y (0 : Fin 2)).val < 256 := (y (0 : Fin 2)).isLt
  refine want_congr m c e ?_ ?_ ?_ <;> blk_simp [ei]
  · exact (div_of _ _ hr).symm
  · exact (mod_of _ _ hr).symm

include he hn in
/-- The result array at a row of a used block. -/
theorem arr_at (s : Fin 73728) (l : Fin 1024) (hs : ((s.val / 256 : ℕ) : Int) < (nU a).toInt) :
    (dats a m ρ 0 c).arrAt (4 : Fin 5) (cfgA a).N (ix2 s l) = want m c e ⟨s.val / 256, by omega⟩ ⟨s.val % 256, by omega⟩ l := by
  have hN : (cfgA a).N = 288 := N_0
  obtain ⟨t, hf, ht⟩ : ∃ t : Fin (cfgA a).N, ((cfgA a).win (4 : Fin 5)).flush t = true ∧ (pt a t).val = s.val / 256 := by
    by_cases h : ((s.val / 256 : ℕ) : Int) + 1 < (nU a).toInt
    · refine ⟨⟨s.val / 256, by omega⟩, ?_, ?_⟩
      · rw [flush4 a hn]; exact decide_eq_true (.inl h)
      · unfold pt; simp only; omega
    · refine ⟨⟨287, by omega⟩, ?_, ?_⟩
      · rw [flush4 a hn]; exact decide_eq_true (.inr rfl)
      · unfold pt; simp only; omega
  have ei := idx4 a hn t
  have hi : (ix2 s l : S73728x1024.Idx) = (((cfgA a).win (4 : Fin 5)).blk t).view.emb (ix2 (⟨s.val % 256, by omega⟩ : Fin 256) l) := by
    blk_ext [ei]
  refine (arr_of_flush a m ρ c e he hn t hf (ix2 s l) (hi ▸ View.emb_mem_set _ _)).trans ?_
  exact want_congr m c e rfl rfl rfl

end Cert.Kernel4Ideal.Expert
end
-- ==== Proof.ExpertReference.lean ====
/- What the experts' reference computes: its loop over the blocks, trip by trip, each trip one block through its expert. -/
module
public import proofs.«01_k».proof.Proof.Gen.Reference4Ideal.Run
public import proofs.«01_k».proof.Proof.ExpertMath
public import Idealize.ShloMosaic.Lib.Pointwise
public import Idealize.ShloMosaic.Lib.BitcastConvert
@[expose] public section
set_option maxRecDepth 16384
noncomputable section
open Idealize.ShloMosaic Idealize.ShloMosaic.TcCoe Idealize.SL.Sem
namespace Cert.Reference4Ideal.Expert
open Cert.Reference4Ideal Cert.Reference4Ideal.Gen Cert.Reference4Ideal.Value Cert.RowMath Cert.ExpertMath Idealize.ShloMosaic.StableHlo

section stages
variable {F : FTy → Type} [FloatOps F]

/-- All the packed rows as floats, the low halves and then the high halves of a row's words. -/
def rowsAll (y : IVec S73728x512 32) : FVec F S73728x1024 .f32 :=
  concatenate S73728x1024 1 [⟨S73728x512, (shapeCast _ (extractStridedSlice S73728x512x1 ![0, 0, 0] (extf .f32 (bitcastToFloat .bf16 (Host.bitcastConvertNarrow S73728x512x2 16 y splits_S73728x512_w32_S73728x512x2_w16)) bitsLt_bf16_f32) slices_S73728x512x2_S73728x512x1_0_0_0) shapeCasts_S73728x512x1_S73728x512)⟩, ⟨S73728x512, (shapeCast _ (extractStridedSlice S73728x512x1 ![0, 0, 1] (extf .f32 (bitcastToFloat .bf16 (Host.bitcastConvertNarrow S73728x512x2 16 y splits_S73728x512_w32_S73728x512x2_w16)) bitsLt_bf16_f32) slices_S73728x512x2_S73728x512x1_0_0_1) shapeCasts_S73728x512x1_S73728x512)⟩] concatenates_S73728x512_S73728x512_S73728x1024_d1
/-- The same, block by block. -/
def blocksAll (y : IVec S73728x512 32) : FVec F S288x256x1024 .f32 := shapeCast _ (rowsAll y) shapeCasts_S73728x1024_S288x256x1024

/-- Three scalars as the start of a slice. -/
def starts (p q r : IVec S_ 32) : Fin 3 → Int := fun k => ((![p, q, r] : Fin 3 → IVec S_ 32) k (Shape.Idx.first h_S_)).toInt
/-- The scalar zero. -/
def z0 : IVec S_ 32 := constantI S_ 32 0#32
/-- An index read from the end where it is negative, of an axis of `n`. -/
def wrap (n : BitVec 32) (e : IVec S_ 32) : IVec S_ 32 := select (cmpi .slt e (constantI S_ 32 0#32)) (addi e (constantI S_ 32 n)) e
/-- Block `i` of the rows. -/
def xBlk (i : IVec S_ 32) (x : FVec F S288x256x1024 .f32) : FVec F S256x1024 .f32 :=
  shapeCast S256x1024 (Host.dynamicSlice S1x256x1024 x (starts i z0 z0) sliceFits_S288x256x1024_S1x256x1024) shapeCasts_S1x256x1024_S256x1024
/-- Block `i`'s expert. -/
def nameOf (i : IVec S_ 32) (e : IVec S288 32) : IVec S_ 32 :=
  shapeCast S_ (Host.dynamicSlice S1 e (fun k => ((![i] : Fin 1 → IVec S_ 32) k (Shape.Idx.first h_S_)).toInt) sliceFits_S288_S1) shapeCasts_S1_S_
/-- Expert `e`'s gate, or its up projection. -/
def wUp (e : IVec S_ 32) (w : FVec F S32x1024x512 .f32) : FVec F S1024x512 .f32 :=
  shapeCast S1024x512 (Host.dynamicSlice S1x1024x512 w (starts (wrap 32#32 e) (wrap 1024#32 z0) (wrap 512#32 z0)) sliceFits_S32x1024x512_S1x1024x512) shapeCasts_S1x1024x512_S1024x512
/-- Expert `e`'s down projection. -/
def wDown (e : IVec S_ 32) (w : FVec F S32x512x1024 .f32) : FVec F S512x1024 .f32 :=
  shapeCast S512x1024 (Host.dynamicSlice S1x512x1024 w (starts (wrap 32#32 e) (wrap 512#32 z0) (wrap 1024#32 z0)) sliceFits_S32x512x1024_S1x512x1024) shapeCasts_S1x512x1024_S512x1024
/-- A value times its own sigmoid. -/
def siluAll (g : FVec F S256x512 .f32) : FVec F S256x512 .f32 :=
  mulf g (Host.divf (broadcastInDim S256x512 ![] bcast_S_S256x512 (constant S_ .f32 0x3F800000#32)) (addf (broadcastInDim S256x512 ![] bcast_S_S256x512 (constant S_ .f32 0x3F800000#32)) (Host.exp (Host.negf g))))
/-- One block through one expert. -/
def blockOut (x : FVec F S256x1024 .f32) (wg wu : FVec F S1024x512 .f32) (wd : FVec F S512x1024 .f32) : FVec F S256x1024 .f32 :=
  Host.dotGeneral dot_S256x512_S512x1024_S256x1024_1_0_0_1_n_n none (mulf (siluAll (Host.dotGeneral dot_S256x1024_S1024x512_S256x512_1_0_0_1_n_n none x wg)) (Host.dotGeneral dot_S256x1024_S1024x512_S256x512_1_0_0_1_n_n none x wu)) wd
/-- What trip `i` writes. -/
def made (i : IVec S_ 32) (x : FVec F S288x256x1024 .f32) (e : IVec S288 32) (wg wu : FVec F S32x1024x512 .f32) (wd : FVec F S32x512x1024 .f32) : FVec F S256x1024 .f32 :=
  blockOut (xBlk i x) (wUp (nameOf i e) wg) (wUp (nameOf i e) wu) (wDown (nameOf i e) wd)

theorem step_eq (V : Valuation τ sig (Elt F)) : step_main_v9_6 V
    = Host.dynamicUpdateSlice (V (Proc.devRef .tc main_v9_6)) (broadcastInDim S1x256x1024 ![1, 2] bcast_S256x1024_S1x256x1024_1_2
        (made (V (Proc.devRef .tc main_v9_5)) (V (Proc.devRef .tc main_v9_0)) (V (Proc.devRef .tc main_v9_1)) (V (Proc.devRef .tc main_v9_2))
          (V (Proc.devRef .tc main_v9_3)) (V (Proc.devRef .tc main_v9_4)))) (starts (V (Proc.devRef .tc main_v9_5)) z0 z0) updateFits_S288x256x1024_S1x256x1024 := by
  unfold step_main_v9_6 made blockOut siluAll res_main_while0b_v25 xBlk wUp wDown nameOf res_main_while0b_v12 res_main_while0b_v13
  rfl

variable (m : (ℓ : Loc nD τ sig) → Buf (Elt F) ℓ) (c : Dev nD)

/-- The buffers before trip `k`. -/
abbrev before (k : ℕ) : Valuation τ sig (Elt F) := STEP^[k] (entryContents preI m c)

/-- What no trip changes, and the trip's number. -/
structure Holds (V : Valuation τ sig (Elt F)) (k : ℕ) : Prop where
  n : V (Proc.devRef .tc main_v9_5) = constantI S_ 32 (BitVec.ofNat 32 k)
  x : V (Proc.devRef .tc main_v9_0) = blocksAll (m ((c : Thread nD τ).loc main_arg2))
  e : V (Proc.devRef .tc main_v9_1) = m ((c : Thread nD τ).loc main_arg0)
  g : V (Proc.devRef .tc main_v9_2) = m ((c : Thread nD τ).loc main_arg3)
  u : V (Proc.devRef .tc main_v9_3) = m ((c : Thread nD τ).loc main_arg4)
  d : V (Proc.devRef .tc main_v9_4) = m ((c : Thread nD τ).loc main_arg5)

set_option maxRecDepth 65536 in
theorem holds_zero : Holds m c (before m c 0) 0 := by
  constructor <;> (show entryContents preI m c _ = _; simp only [entryContents, afterL_cons, afterL_nil]; after_reads_simp) <;> rfl

theorem holds : ∀ k, Holds m c (before m c k) k
  | 0 => holds_zero m c
  | k + 1 => by
    have h := holds k
    unfold before
    rw [Function.iterate_succ_apply']
    exact ⟨(STEP_main_v9_5 _).trans (by
        unfold step_main_v9_5
        refine (congrArg (fun v => id (addi v (constantI S_ 32 1#32))) h.n).trans (funext fun i => ?_)
        show BitVec.ofNat 32 k + 1#32 = BitVec.ofNat 32 (k + 1)
        simp only [BitVec.ofNat_add]),
      (STEP_main_v9_0 _).trans h.x, (STEP_main_v9_1 _).trans h.e, (STEP_main_v9_2 _).trans h.g, (STEP_main_v9_3 _).trans h.u, (STEP_main_v9_4 _).trans h.d⟩

end stages

theorem clamp_in (v : Int) (n N : ℕ) (h : v = n) (hn : n ≤ N) (k : ℕ) : (min (max v 0) (N : Int)).toNat + k = n + k := by omega

/-- A slice of one block, at an entry. -/
theorem slice_at {α : Type} {N A B : ℕ} (x : (⟨3, ![N, A, B]⟩ : Shape).Idx → α) (st : Fin 3 → Int)
    (h : (⟨3, ![N, A, B]⟩ : Shape).Slices (fun _ => 0) ⟨3, ![1, A, B]⟩) (n : Fin N) (h0 : st 0 = n.val) (h1 : st 1 = 0) (h2 : st 2 = 0) (r : Fin A) (l : Fin B) :
    Host.dynamicSlice ⟨3, ![1, A, B]⟩ x st h (ix3 0 r l) = x (ix3 n r l) := by
  have hn := n.isLt
  unfold Host.dynamicSlice extractStridedSlice
  refine congrArg x (funext fun a => Fin.ext ?_)
  match a with
  | ⟨0, _⟩ => exact clamp_in (st 0) n.val (N - 1) h0 (by omega) 0
  | ⟨1, _⟩ => exact (clamp_in (st 1) 0 (A - A) h1 (by omega) r.val).trans (Nat.zero_add _)
  | ⟨2, _⟩ => exact (clamp_in (st 2) 0 (B - B) h2 (by omega) l.val).trans (Nat.zero_add _)

theorem toInt_small (n : Nat) (h : n < 288) : (BitVec.ofNat 32 n).toInt = n := by
  rw [BitVec.toInt_ofNat']; simp only [Int.bmod]; omega

theorem wrap_bits : ∀ e : Fin 32, (Scalar.select (IntOp.cmpi .slt (BitVec.ofNat 32 e.val) 0#32) (IntOp.addi (BitVec.ofNat 32 e.val) 32#32) (BitVec.ofNat 32 e.val)).toInt = e.val := by decide

theorem wrap_at (e : IVec S_ 32) (q : Fin 32) (h : e (Shape.Idx.first h_S_) = BitVec.ofNat 32 q.val) : (wrap 32#32 e (Shape.Idx.first h_S_)).toInt = q.val := by
  refine Eq.trans ?_ (wrap_bits q)
  rw [← h]; rfl

theorem drop_at (s : Fin 73728) (q : Fin 512) (j : Fin 2) : splits_S73728x512_w32_S73728x512x2_w16.drop (ix3 s q j) = ix2 s q := by
  funext i
  fin_cases i <;> rfl

theorem rowsAll_at (y : IVec S73728x512 32) (s : Fin 73728) (l : Fin 1024) : rowsAll (F := Ideal) y (ix2 s l) = rowEl (fun q => y (ix2 s q)) l := by
  pointwise [rowsAll]
  unfold rowEl
  by_cases hl : l.val < 512
  · refine (dif_pos hl).trans (Eq.trans ?_ (dif_pos hl).symm)
    exact congrArg (fun w => Ideal.ofBits .bf16 (BitVec.extractLsb' 0 16 w)) (congrArg y (drop_at s ⟨l.val, hl⟩ 0))
  · refine (dif_neg hl).trans (Eq.trans ?_ (dif_neg hl).symm)
    exact congrArg (fun w => Ideal.ofBits .bf16 (BitVec.extractLsb' 16 16 w)) (congrArg y (drop_at s ⟨l.val - 512, by omega⟩ 1))

theorem blocksAll_at (y : IVec S73728x512 32) (n : Fin 288) (r : Fin 256) (l : Fin 1024) :
    blocksAll (F := Ideal) y (ix3 n r l) = rowEl (fun q => y (ix2 ⟨n.val * 256 + r.val, by omega⟩ q)) l := by
  rw [← rowsAll_at]
  pointwise [blocksAll]

theorem blockOut_at (x : FVec Ideal S256x1024 .f32) (wg wu : FVec Ideal S1024x512 .f32) (wd : FVec Ideal S512x1024 .f32) (r : Fin 256) (l : Fin 1024) :
    blockOut x wg wu wd (ix2 r l) = expertEl (fun k => x (ix2 r k)) (fun k j => wg (ix2 k j)) (fun k j => wu (ix2 k j)) (fun j l => wd (ix2 j l)) l := by
  pointwise [blockOut, siluAll, expertEl, hidEl, colEl, sigEl]

theorem xBlk_at (x : FVec Ideal S288x256x1024 .f32) (n : Fin 288) (r : Fin 256) (l : Fin 1024) :
    xBlk (constantI S_ 32 (BitVec.ofNat 32 n.val)) x (ix2 r l) = x (ix3 n r l) := by
  refine Eq.trans ?_ (slice_at x (starts (constantI S_ 32 (BitVec.ofNat 32 n.val)) z0 z0) sliceFits_S288x256x1024_S1x256x1024 n (toInt_small n.val n.isLt) rfl rfl r l)
  unfold xBlk
  generalize Host.dynamicSlice S1x256x1024 x _ _ = u
  pointwise

theorem nameOf_at (e : IVec S288 32) (n : Fin 288) (i : S_.Idx) : nameOf (constantI S_ 32 (BitVec.ofNat 32 n.val)) e i = e (ix1 n) := by
  refine congrArg e (funext fun a => Fin.ext ?_)
  obtain rfl : a = (0 : Fin 1) := Subsingleton.elim (α := Fin 1) _ _
  have hn := n.isLt
  exact (clamp_in (BitVec.ofNat 32 n.val).toInt n.val 287 (toInt_small n.val n.isLt) (by omega) _).trans (by
    have h : ∀ q : Fin 1, n.val + q.val = n.val := fun q => by omega
    exact h _)

theorem wUp_at (e : IVec S_ 32) (q : Fin 32) (h : e (Shape.Idx.first h_S_) = BitVec.ofNat 32 q.val) (w : FVec Ideal S32x1024x512 .f32) (k : Fin 1024) (j : Fin 512) :
    wUp e w (ix2 k j) = w (ix3 q k j) := by
  refine Eq.trans ?_ (slice_at w (starts (wrap 32#32 e) (wrap 1024#32 z0) (wrap 512#32 z0)) sliceFits_S32x1024x512_S1x1024x512 q (wrap_at e q h) rfl rfl k j)
  unfold wUp
  generalize Host.dynamicSlice S1x1024x512 w _ _ = u
  pointwise

theorem wDown_at (e : IVec S_ 32) (q : Fin 32) (h : e (Shape.Idx.first h_S_) = BitVec.ofNat 32 q.val) (w : FVec Ideal S32x512x1024 .f32) (k : Fin 512) (j : Fin 1024) :
    wDown e w (ix2 k j) = w (ix3 q k j) := by
  refine Eq.trans ?_ (slice_at w (starts (wrap 32#32 e) (wrap 512#32 z0) (wrap 1024#32 z0)) sliceFits_S32x512x1024_S1x512x1024 q (wrap_at e q h) rfl rfl k j)
  unfold wDown
  generalize Host.dynamicSlice S1x512x1024 w _ _ = u
  pointwise

/-- What trip `n` writes, at an entry. -/
theorem made_at (y : IVec S73728x512 32) (E : IVec S288 32) (wg wu : FVec Ideal S32x1024x512 .f32) (wd : FVec Ideal S32x512x1024 .f32)
    (e : Fin 288 → Fin 32) (he : ∀ n, E (ix1 n) = BitVec.ofNat 32 (e n).val) (n : Fin 288) (r : Fin 256) (l : Fin 1024) :
    made (constantI S_ 32 (BitVec.ofNat 32 n.val)) (blocksAll y) E wg wu wd (ix2 r l) = expertOut y e wg wu wd n r l := by
  have hq := (nameOf_at E n (Shape.Idx.first h_S_)).trans (he n)
  unfold made expertOut
  rw [blockOut_at]
  simp only [xBlk_at, blocksAll_at, wUp_at _ (e n) hq, wDown_at _ (e n) hq]

variable (m : (ℓ : Loc nD τ sig) → Buf (Elt Ideal) ℓ) (c : Dev nD) (e : Fin 288 → Fin 32)
  (he : ∀ n, m ((c : Thread nD τ).loc main_arg0) (ix1 n) = BitVec.ofNat 32 (e n).val)

/-- The result at an entry of a block. -/
abbrev want (n : Fin 288) (r : Fin 256) (l : Fin 1024) : EReal :=
  expertOut (m ((c : Thread nD τ).loc main_arg2)) e (m ((c : Thread nD τ).loc main_arg3)) (m ((c : Thread nD τ).loc main_arg4)) (m ((c : Thread nD τ).loc main_arg5)) n r l

theorem in_range (v : Int) (n N w q : ℕ) (h : v = n) (hn : n ≤ N) (h1 : n ≤ q) (h2 : q < n + w) :
    (min (max v 0) (N : Int)).toNat ≤ q ∧ q < (min (max v 0) (N : Int)).toNat + w := by omega
theorem sub_in (v : Int) (n N q k : ℕ) (h : v = n) (hn : n ≤ N) (e : q = n + k) : q - (min (max v 0) (N : Int)).toNat = k := by omega
theorem only_in (v : Int) (n N q : ℕ) (h : v = n) (hn : n ≤ N) (e : (min (max v 0) (N : Int)).toNat ≤ q ∧ q < (min (max v 0) (N : Int)).toNat + 1) : q = n := by omega

/-- An update of one block, at an entry. -/
theorem update_at {α : Type} (x : S288x256x1024.Idx → α) (v : S1x256x1024.Idx → α) (st : Fin 3 → Int) (h : S288x256x1024.Slices (fun _ => 0) S1x256x1024)
    (n : Fin 288) (h0 : st 0 = n.val) (h1 : st 1 = 0) (h2 : st 2 = 0) (q : Fin 288) (r : Fin 256) (l : Fin 1024) :
    Host.dynamicUpdateSlice x v st h (ix3 q r l) = if q = n then v (ix3 0 r l) else x (ix3 q r l) := by
  have hn := n.isLt
  have hr := r.isLt
  have hl := l.isLt
  by_cases hq : q = n
  · subst hq
    rw [if_pos rfl]
    unfold Host.dynamicUpdateSlice updateSlice
    refine (dif_pos fun a => ?_).trans (congrArg v (funext fun a => Fin.ext ?_))
    · match a with
      | ⟨0, _⟩ => exact in_range (st 0) q.val 287 1 q.val h0 (by omega) (by omega) (by omega)
      | ⟨1, _⟩ => exact in_range (st 1) 0 0 256 r.val h1 (by omega) (by omega) (by omega)
      | ⟨2, _⟩ => exact in_range (st 2) 0 0 1024 l.val h2 (by omega) (by omega) (by omega)
    · match a with
      | ⟨0, _⟩ => exact sub_in (st 0) q.val 287 q.val 0 h0 (by omega) (by omega)
      | ⟨1, _⟩ => exact sub_in (st 1) 0 0 r.val r.val h1 (by omega) (by omega)
      | ⟨2, _⟩ => exact sub_in (st 2) 0 0 l.val l.val h2 (by omega) (by omega)
  · rw [if_neg hq]
    unfold Host.dynamicUpdateSlice updateSlice
    refine dif_neg fun hin => hq (Fin.ext ?_)
    exact only_in (st 0) n.val 287 q.val h0 (by omega) (hin 0)

include he in
/-- Before trip `k`, the blocks up to `k` are done. -/
theorem done : ∀ k, k ≤ 288 → ∀ n : Fin 288, n.val < k → ∀ (r : Fin 256) (l : Fin 1024), before m c k (Proc.devRef .tc main_v9_6) (ix3 n r l) = want m c e n r l
  | 0, _, n, h, _, _ => absurd h (Nat.not_lt_zero _)
  | k + 1, hk, n, h, r, l => by
    have hh := holds m c k
    have hs : before m c (k + 1) (Proc.devRef .tc main_v9_6) = step_main_v9_6 (before m c k) := by
      unfold before
      rw [Function.iterate_succ_apply']
      exact STEP_main_v9_6 _
    rw [hs, step_eq, hh.n, hh.x, hh.e, hh.g, hh.u, hh.d]
    refine (update_at _ _ (starts (constantI S_ 32 (BitVec.ofNat 32 k)) z0 z0) _ ⟨k, by omega⟩ (toInt_small k (by omega)) rfl rfl n r l).trans ?_
    by_cases hq : n = ⟨k, by omega⟩
    · rw [if_pos hq, hq]
      refine Eq.trans ?_ (made_at (m ((c : Thread nD τ).loc main_arg2)) (m ((c : Thread nD τ).loc main_arg0)) (m ((c : Thread nD τ).loc main_arg3))
        (m ((c : Thread nD τ).loc main_arg4)) (m ((c : Thread nD τ).loc main_arg5)) e he ⟨k, by omega⟩ r l)
      generalize made (F := Ideal) _ _ _ _ _ _ = u
      pointwise
    · rw [if_neg hq]
      exact done k (by omega) n (by have : n.val ≠ k := fun h' => hq (Fin.ext h'); omega) r l

include he in
/-- The result at an entry. -/
theorem out_at (s : Fin 73728) (l : Fin 1024) :
    out_main_v11 (before m c 288) (ix2 s l) = want m c e ⟨s.val / 256, by omega⟩ ⟨s.val % 256, by omega⟩ l := by
  rw [← done m c e he 288 le_rfl ⟨s.val / 256, by omega⟩ (by show s.val / 256 < 288; omega)]
  unfold out_main_v11
  generalize before m c 288 (Proc.devRef .tc main_v9_6) = u
  pointwise

end Cert.Reference4Ideal.Expert
end
-- ==== Proof.ExpertClaim.lean ====
/- The experts' claims: both runs under the precondition, and one array at every row of a used block. -/
module
public import proofs.«01_k».proof.Defs
public import proofs.«01_k».proof.Proof.ExpertPre
public import proofs.«01_k».proof.Proof.ExpertValue
public import proofs.«01_k».proof.Proof.ExpertReference
public import proofs.«01_k».proof.Proof.Gen.Kernel4
public import proofs.«01_k».proof.Proof.Gen.On_rows_used
public import Idealize.ShloMosaic.Lib.Pointwise
public import Idealize.ShloMosaic.Lib.Quiescent
@[expose] public section
set_option maxRecDepth 16384
noncomputable section
namespace Cert.Kernel4Ideal.Expert
open Cert.Kernel4Ideal Cert.Kernel4Ideal.Gen
open Idealize.ShloMosaic
open Idealize.ShloMosaic.TcCoe Idealize.ShloMosaic.Tactic
open Idealize.SL.Sem

/-- A row below the used rows lies in a used block. -/
theorem block_used (s : ℕ) (hs : s < 73728) (y : BitVec 32) (hy : 1 ≤ y.toInt)
    (h : IntOp.cmpi .slt (BitVec.ofNat 32 s) (IntOp.muli y 256#32) = 1#1) : ((s / 256 : ℕ) : Int) < y.toInt := by
  have e : ∀ p : Bool, BitVec.ofBool p = 1#1 → p = true := by decide
  have h1 := e ((BitVec.ofNat 32 s).slt (y * 256#32)) h
  rw [BitVec.slt_iff_toInt_lt] at h1
  by_cases hb : 288 ≤ y.toInt
  · omega
  have e1 : (BitVec.ofNat 32 s).toInt = (s : Int) := by
    rw [BitVec.toInt_eq_toNat_of_lt (by rw [BitVec.toNat_ofNat]; omega), BitVec.toNat_ofNat]; omega
  have e2 : (256#32 : BitVec 32).toInt = 256 := by decide
  have e3 : (y * 256#32).toInt = y.toInt * 256 := by
    rw [BitVec.toInt_mul, e2, Int.bmod_eq_of_le (by omega) (by omega)]
  rw [e1, e3] at h1
  omega

theorem row_used (T0 : S288.Idx → BitVec 32) (T1 : S1.Idx → BitVec 32) (x2) (x3 x4) (x5) (hT : Named T0 T1) (s : Fin 73728) (l : Fin 1024)
    (h : Cert.On_rows_used.fn (F := Ideal) T0 T1 x2 x3 x4 x5 (ix2 s l) = 1#1) : ((s.val / 256 : ℕ) : Int) < (T1 (ix1 (0 : Fin 1))).toInt := by
  refine block_used s.val s.isLt _ hT.pos (Eq.trans ?_ h)
  pointwise [Cert.On_rows_used.fn]

section tables
variable {F : FTy → Type} [FloatOps F]
variable (m : (ℓ : Loc nD τ sig) → Buf (Elt F) ℓ)

/-- The tables the launch reads. -/
abbrev tabs : pre0.Contents (Elt F) := fun j => m (((0 : Dev nD) : Thread nD τ).loc (pre0.ref j))

/-- The precondition, of the tables. -/
abbrev Good : Prop := Named (tabs m (0 : Fin 2)) (tabs m (1 : Fin 2))

/-- The tables with their blocks in range. -/
def adm (h : Good m) : (pcfg0 (F := F)).Adm := ⟨tabs m, ok_of _ h⟩

theorem adm_ref (h : Good m) (c : Dev nD) (j : Fin 2) : m ((c : Thread nD τ).loc (pre0.ref j)) = (adm m h).1 j := by
  obtain rfl : c = 0 := Subsingleton.elim _ _
  rfl

/-- Each block's expert, as a number. -/
def who (h : Good m) : Fin 288 → Fin 32 := fun n => ⟨(tabs m (0 : Fin 2) (ix1 n) : BitVec 32).toNat, h.lt n⟩

theorem who_name (h : Good m) (n : Fin 288) : eW (adm m h) n = BitVec.ofNat 32 (who m h n).val := by
  refine BitVec.eq_of_toNat_eq ?_
  rw [BitVec.toNat_ofNat]
  exact (Nat.mod_eq_of_lt (BitVec.isLt _)).symm

theorem arg0_name (h : Good m) (c : Dev nD) (n : Fin 288) : (m ((c : Thread nD τ).loc main_arg0) (ix1 n) : BitVec 32) = BitVec.ofNat 32 (who m h n).val := by
  obtain rfl : c = 0 := Subsingleton.elim _ _
  exact who_name m h n

end tables

theorem good_bits (m : (ℓ : Loc Cert.Kernel4.nD Cert.Kernel4.τ Cert.Kernel4.sig) → Buf (Elt Bits) ℓ)
    (h : Cert.Pre_Kernel4 (hPre_blocks_named := Cert.Pre_blocks_named.Gen.facts) m) : Good (F := Bits) m :=
  named _ _ _ _ _ _ (h 0)

theorem good_ideal (m : (ℓ : Loc nD τ sig) → Buf (Elt Ideal) ℓ)
    (h : Cert.Pre_Kernel4Ideal (hPre_blocks_named := Cert.Pre_blocks_named.Gen.facts) m) : Good m := named _ _ _ _ _ _ (h 0)

end Cert.Kernel4Ideal.Expert

namespace Cert.Proof.Expert
open Cert.Kernel4Ideal.Expert
open Idealize.ShloMosaic Idealize.ShloMosaic.TcCoe Idealize.SL.Sem

set_option maxHeartbeats 1000000 in
/-- The call's body as printed is the idealised one's, no rule having applied. -/
theorem bodies_same : Cert.Kernel4.defs₀ (F := Bits) = Cert.Kernel4Ideal.defs₀ (F := Bits) :=
  congrArg (Defs.onTc (nD := 1) (τ := Cert.Kernel4.τ)) (funext fun ℓ => funext fun x => match ℓ, x with | ⟨0, _⟩, (t, s) => rfl)

set_option maxHeartbeats 1000000 in
theorem defs_same : Cert.Kernel4.defs (F := Bits) = Cert.Kernel4Ideal.defs (F := Bits) :=
  congrArg (Pipeline.defs (Cert.Kernel4.pcfgs (F := Bits))) bodies_same

set_option maxHeartbeats 1000000 in
/-- So the call as printed runs as that one does, at the machine's floats. -/
theorem frame_kernel : Cert.quiescent_Kernel4 (hKernel4 := Cert.Kernel4.Gen.facts) (hPre_blocks_named := Cert.Pre_blocks_named.Gen.facts) := by
  intro m ρ h
  have hg := good_bits m h
  rw [defs_same]
  exact frame (F := Bits) (adm m hg) m ρ hg.pos (adm_ref m hg)

theorem frame_ideal : Cert.quiescent_Kernel4Ideal (hKernel4Ideal := Cert.Kernel4Ideal.Gen.facts) (hPre_blocks_named := Cert.Pre_blocks_named.Gen.facts) :=
  fun m ρ h => frame (adm m (good_ideal m h)) m ρ (good_ideal m h).pos (adm_ref m (good_ideal m h))

/-- The reference is a host program: it writes only its own values and signals nothing. -/
theorem frame_reference : Cert.quiescent_Reference4Ideal (hReference4Ideal := Cert.Reference4Ideal.Gen.facts) (hPre_blocks_named := Cert.Pre_blocks_named.Gen.facts) :=
  fun m ρ _ => (θ_run Cert.Reference4Ideal.defs _ _).mono
    (fun r h => ⟨fun c => (h c).2, Idealize.ShloMosaic.sem_eq_zero_of_no_sems (by decide) r.2⟩)
    (Cert.Reference4Ideal.Value.run (F := Ideal) m ρ)

/-- The experts' call and its reference compute one array, at the rows of the used blocks. -/
theorem algebraic : Cert.algebraic_Kernel4Ideal_Reference4Ideal_on_rows_used (hKernel4Ideal := Cert.Kernel4Ideal.Gen.facts)
    (hReference4Ideal := Cert.Reference4Ideal.Gen.facts) (hPre_blocks_named := Cert.Pre_blocks_named.Gen.facts)
    (hOn_rows_used := Cert.On_rows_used.Gen.facts) := by
  intro m ρ m' ρ' hpre hagree
  have hg := good_ideal m hpre
  refine ⟨fun c => result m c (who m hg), ?_, ?_⟩
  · refine (θ_run Cert.Kernel4Ideal.defs _ _).mono (fun r h c => ⟨fun i hi => ?_, h.2 c⟩)
      (θ_run_and (run_main (adm m hg) m ρ hg.pos (adm_ref m hg)) (unchanged (adm m hg) m ρ hg.pos (adm_ref m hg)))
    obtain rfl : c = 0 := Subsingleton.elim _ _
    obtain ⟨s, l, rfl⟩ : ∃ s l, i = ix2 s l := ⟨i 0, i 1, eq_ix2 i⟩
    exact (congrFun ((h.1 0).1 (4 : Fin 5)) (ix2 s l)).trans
      (arr_at (adm m hg) m ρ 0 (who m hg) (who_name m hg) hg.pos s l (row_used _ _ _ _ _ _ hg s l hi))
  · refine (θ_run Cert.Reference4Ideal.defs _ _).mono (fun r h c => ⟨fun i hi => ?_, (h c).2⟩)
      (Cert.Reference4Ideal.Value.run (F := Ideal) m' ρ')
    obtain ⟨s, l, rfl⟩ : ∃ s l, i = ix2 s l := ⟨i 0, i 1, eq_ix2 i⟩
    obtain ⟨h0, h1, h2, h3, h4, h5⟩ := hagree c
    refine (congrFun (h c).1 (ix2 s l)).trans ((Cert.Reference4Ideal.Expert.out_at m' c (who m hg)
      (fun n => (congrFun h0 (ix1 n)).trans (arg0_name m hg c n)) s l).trans ?_)
    unfold Cert.Reference4Ideal.Expert.want
    rw [h2, h3, h4, h5]
    rfl

end Cert.Proof.Expert
end
-- ==== Proof.AdaKernel.lean ====
/- What the modulations' call computes: each block of the result is the activated condition times a block of one layer's weights, plus
   its biases; the launch leaves the whole array, and the line after it splits each row in six. -/
module
public import proofs.«01_k».proof.Proof.Gen.Kernel6Ideal.Frame
public import proofs.«01_k».proof.Proof.RowMath
public import Idealize.ShloMosaic.Lib.Pipeline.ValueKit
public import Idealize.ShloMosaic.Lib.Pointwise
public import Idealize.ShloMosaic.Lib.Claim
public import Idealize.ShloMosaic.Lib.StableHlo.ReadAt
@[expose] public section
set_option maxRecDepth 16384
noncomputable section
open Idealize.ShloMosaic Idealize.ShloMosaic.TcCoe Idealize.SL.Sem

namespace Cert.AdaMath
open Cert.RowMath

/-- Entry `n` of a layer's modulations for batch entry `b`. -/
def adaEl (x : (⟨2, ![4, 1024]⟩ : Shape).Idx → EReal) (w : (⟨3, ![4, 1024, 6144]⟩ : Shape).Idx → EReal) (z : (⟨2, ![4, 6144]⟩ : Shape).Idx → EReal)
    (i b : Fin 4) (n : Fin 6144) : EReal :=
  (∑ k : Fin 1024, (x (ix2 b k) * sigEl (x (ix2 b k))) * w (ix3 i k n)) + z (ix2 i n)
end Cert.AdaMath

namespace Cert.Kernel6Ideal.AdaValue
open Cert.Kernel6Ideal Cert.Kernel6Ideal.Gen Cert.RowMath Cert.AdaMath

variable (m : (ℓ : Loc nD τ sig) → Buf (Elt Ideal) ℓ) (c : Dev nD)

theorem idx : ∀ t : Fin cfg0.N, win0_0.index t = ![0, 0] ∧ win0_1.index t = ![t.val / 4, 0, t.val % 4]
    ∧ win0_2.index t = ![t.val / 4, 0, t.val % 4] ∧ win0_3.index t = ![t.val / 4, 0, t.val % 4] := by
  decide +kernel

theorem bias_at (i : Fin 4) (n : Fin 6144) : V m c main_v0 (ix3 i 0 n) = m ((c : Thread nD τ).loc main_arg2) (ix2 i n) := by
  unfold V V0 hostOps0
  after_reads_at

/-- What the launch leaves. -/
def left : Buf (Elt Ideal) ((c : Thread nD τ).loc main_v1) := fun i : S4x4x6144.Idx =>
  adaEl (m ((c : Thread nD τ).loc main_arg0)) (m ((c : Thread nD τ).loc main_arg1)) (m ((c : Thread nD τ).loc main_arg2)) (i 0) (i 1) (i 2)

theorem pay_at (x : Vec Ideal S4x1024 .f32) (w : Vec Ideal S1x1024x1536 .f32) (z : Vec Ideal S1x1x1536 .f32) (b : Fin 4) (q : Fin 1536) :
    k0_pay1 x w z (ix3 0 b q) = (∑ k : Fin 1024, (x (ix2 b k) * sigEl (x (ix2 b k))) * w (ix3 0 k q)) + z (ix3 0 0 q) := by
  pointwise [k0_pay1, sigEl, zero_sub]

/-- Point `t` computes entries `1536 (t mod 4)` on of layer `t / 4`. -/
theorem point (t : Fin cfg0.N) (i : Fin 4) (hi : i.val = t.val / 4) (b : Fin 4) (q : Fin 1536) (n : Fin 6144) (hn : n.val = t.val % 4 * 1536 + q.val) :
    k0_pay1 (iblk m c 0 t) (iblk m c 1 t) (iblk m c 2 t) (ix3 0 b q)
      = adaEl (m ((c : Thread nD τ).loc main_arg0)) (m ((c : Thread nD τ).loc main_arg1)) (m ((c : Thread nD τ).loc main_arg2)) i b n := by
  obtain ⟨e0, e1, e2, -⟩ := idx t
  have hx : ∀ k : Fin 1024, iblk m c 0 t (ix2 b k) = m ((c : Thread nD τ).loc main_arg0) (ix2 b k) := by
    intro k; rw [← V_main_arg0 m c]; blk_ext [iblk, e0]
  have hw : ∀ k : Fin 1024, iblk m c 1 t (ix3 0 k q) = m ((c : Thread nD τ).loc main_arg1) (ix3 i k n) := by
    intro k; rw [← V_main_arg1 m c]; blk_ext [iblk, e1]
  have hz : iblk m c 2 t (ix3 0 0 q) = m ((c : Thread nD τ).loc main_arg2) (ix2 i n) := by
    rw [← bias_at m c]; blk_ext [iblk, e2]
  refine (pay_at _ _ _ b q).trans ?_
  unfold adaEl
  rw [hz]
  refine congrArg (· + _) (Finset.sum_congr rfl fun k _ => ?_)
  rw [hx, hw]

theorem adaEl_congr (x : (⟨2, ![4, 1024]⟩ : Shape).Idx → EReal) (w : (⟨3, ![4, 1024, 6144]⟩ : Shape).Idx → EReal) (z : (⟨2, ![4, 6144]⟩ : Shape).Idx → EReal)
    {i i' b b' : Fin 4} {n n' : Fin 6144} (hi : i.val = i'.val) (hb : b.val = b'.val) (hn : n.val = n'.val) : adaEl x w z i b n = adaEl x w z i' b' n' := by
  rw [Fin.ext hi, Fin.ext hb, Fin.ext hn]

theorem arr : (dats m 0 c).arrAt 3 cfg0.N = left m c := by
  refine (dats m 0 c).arrAt_eq_of_covers 3 (left m c) (by decide +kernel) fun t hf y => ?_
  blk_simp
  rw [after0_3]
  frame_out
  have e := (idx t).2.2.2
  have hy : y = ix3 (0 : Fin 1) (y 1) (y 2) := by blk_ext
  have ht : t.val < 16 := t.isLt
  have hq : (y (2 : Fin 3)).val < 1536 := (y 2).isLt
  rw [hy]
  refine (point m c t ⟨t.val / 4, by omega⟩ rfl (y 1) (y 2) ⟨t.val % 4 * 1536 + (y 2).val, by omega⟩ rfl).trans ?_
  refine adaEl_congr _ _ _ ?_ ?_ ?_ <;> blk_simp [e] <;> try rfl

/-- What the result array ends holding. -/
def result : Buf (Elt Ideal) ((c : Thread nD τ).loc main_v2) := shapeCast S4x4x6x1024 (left m c) shapeCasts_S4x4x6144_S4x4x6x1024

theorem tail_eq : Pipeline.afterTail₀ cfgs (dats m) 0 (V0 m) [hostOps1] c main_v2 = result m c := by
  unfold Pipeline.afterTail₀ hostOps1
  after_results
  unfold result
  rw [← arr m c]
  exact congrArg (fun a => shapeCast S4x4x6x1024 a shapeCasts_S4x4x6144_S4x4x6x1024)
    (Pipeline.withArrays_arr spec0 launch0.win.arr_inj c (V0 m c) (fun w => (dats m 0 c).arrAt w cfg0.N) 3)

variable (ρ : Dev nD → PrngReg)
/-- The run, read: the result array at the modulations, the arguments unchanged. -/
theorem run : θ_run defs (onTc (τ := τ) (main (F := Ideal))) ⟨m, fun _ => 0, ρ⟩ fun r => ∀ c : Dev nD,
    r.2.mem ((c : Thread nD τ).loc main_v2) = result m c
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨((h c).2 main_v2 (Pipeline.mem_restRefs_of main_v2 (by decide) (by decide))).trans (tail_eq m c),
    ((h c).1 0).trans (((dats m 0 c).arrAt_in 0 rfl _).trans ((A_eq m c 0).trans (V_main_arg0 m c))),
    ((h c).1 1).trans (((dats m 0 c).arrAt_in 1 rfl _).trans ((A_eq m c 1).trans (V_main_arg1 m c))),
    ((h c).2 main_arg2 (Pipeline.mem_restRefs_of main_arg2 (by decide) (by decide))).trans (W_main_arg2 m (dats m) c)⟩) (run_main m ρ)

end Cert.Kernel6Ideal.AdaValue
end
-- ==== Proof.AdaReference.lean ====
/- What the modulations' reference computes, read at one entry of its result. -/
module
public import proofs.«01_k».proof.Proof.Gen.Reference6Ideal.Run
public import proofs.«01_k».proof.Proof.AdaKernel
@[expose] public section
set_option maxRecDepth 16384
noncomputable section
open Idealize.ShloMosaic Idealize.ShloMosaic.TcCoe Idealize.SL.Sem Idealize.ShloMosaic.StableHlo
namespace Cert.Reference6Ideal.AdaValue
open Cert.Reference6Ideal Cert.Reference6Ideal.Gen Cert.Reference6Ideal.Value Cert.RowMath Cert.AdaMath

theorem sliceW (i : Fin 4) : S4x1024x6144.Slices ![i.val, 0, 0] S1x1024x6144 :=
  (by decide +kernel : ∀ i : Fin 4, S4x1024x6144.Slices ![i.val, 0, 0] S1x1024x6144) i
theorem sliceZ (i : Fin 4) : S4x6144.Slices ![i.val, 0] S1x6144 :=
  (by decide +kernel : ∀ i : Fin 4, S4x6144.Slices ![i.val, 0] S1x6144) i

/-- A layer's modulations, for every batch entry. -/
def layerAll (x : FVec Ideal S4x1024 .f32) (w : FVec Ideal S4x1024x6144 .f32) (z : FVec Ideal S4x6144 .f32) (i : Fin 4) : FVec Ideal S4x6144 .f32 :=
  addf (Host.dotGeneral dot_S4x1024_S1024x6144_S4x6144_1_0_0_1_n_n none (mulf x (Host.divf (broadcastInDim S4x1024 ![] bcast_S_S4x1024 (constant S_ .f32 0x3F800000#32)) (addf (broadcastInDim S4x1024 ![] bcast_S_S4x1024 (constant S_ .f32 0x3F800000#32)) (Host.exp (Host.negf x)))))
      (shapeCast _ (extractStridedSlice S1x1024x6144 ![i.val, 0, 0] w (sliceW i)) shapeCasts_S1x1024x6144_S1024x6144))
    (broadcastInDim S4x6144 ![0, 1] bcast_S1x6144_S4x6144_0_1 (broadcastInDim S1x6144 ![1] bcast_S6144_S1x6144_1 (shapeCast _ (extractStridedSlice S1x6144 ![i.val, 0] z (sliceZ i)) shapeCasts_S1x6144_S6144)))

theorem layerAll_at (x : FVec Ideal S4x1024 .f32) (w : FVec Ideal S4x1024x6144 .f32) (z : FVec Ideal S4x6144 .f32) (i b : Fin 4) (n : Fin 6144) :
    layerAll x w z i (ix2 b n) = adaEl x w z i b n := by
  pointwise [layerAll, adaEl, sigEl]

/-- The layers, stacked. -/
def stackAll (u : Fin 4 → FVec Ideal S4x6144 .f32) : FVec Ideal S4x4x6144 .f32 :=
  concatenate S4x4x6144 0 [⟨S1x4x6144, broadcastInDim S1x4x6144 ![1, 2] bcast_S4x6144_S1x4x6144_1_2 (u 0)⟩, ⟨S1x4x6144, broadcastInDim S1x4x6144 ![1, 2] bcast_S4x6144_S1x4x6144_1_2 (u 1)⟩,
    ⟨S1x4x6144, broadcastInDim S1x4x6144 ![1, 2] bcast_S4x6144_S1x4x6144_1_2 (u 2)⟩, ⟨S1x4x6144, broadcastInDim S1x4x6144 ![1, 2] bcast_S4x6144_S1x4x6144_1_2 (u 3)⟩]
    concatenates_S1x4x6144_S1x4x6144_S1x4x6144_S1x4x6144_S4x4x6144_d0

theorem stackAll_at (u : Fin 4 → FVec Ideal S4x6144 .f32) (i b : Fin 4) (n : Fin 6144) : stackAll u (ix3 i b n) = u i (ix2 b n) := by
  fin_cases i <;> pointwise [stackAll]

variable (m : (ℓ : Loc nD τ sig) → Buf (Elt Ideal) ℓ) (c : Dev nD)

/-- What the reference leaves. -/
def result : FVec Ideal S4x4x6x1024 .f32 :=
  shapeCast S4x4x6x1024 (stackAll (layerAll (m ((c.tc : Thread nD τ).loc main_arg0)) (m ((c.tc : Thread nD τ).loc main_arg1)) (m ((c.tc : Thread nD τ).loc main_arg2))))
    shapeCasts_S4x4x6144_S4x4x6x1024

theorem stack_eq (x : FVec Ideal S4x1024 .f32) (w : FVec Ideal S4x1024x6144 .f32) (z : FVec Ideal S4x6144 .f32) :
    stackAll (layerAll x w z) = fun i : S4x4x6144.Idx => adaEl x w z (i 0) (i 1) (i 2) := by
  refine funext fun i : S4x4x6144.Idx => ?_
  obtain ⟨b, s, l, rfl⟩ : ∃ b s l, i = ix3 b s l := ⟨i 0, i 1, i 2, eq_ix3 i⟩
  exact (stackAll_at _ b s l).trans (layerAll_at x w z b s l)
end Cert.Reference6Ideal.AdaValue

end
-- ==== Proof.DestKernel.lean ====
/- What the places' call computes: each pair's place is its expert's start plus its rank among the expert's rows. -/
module
public import proofs.«01_k».proof.Proof.Gen.Kernel7Ideal.Frame
public import Idealize.ShloMosaic.Lib.Pipeline.ValueKit
public import Idealize.ShloMosaic.Lib.Pointwise
public import Idealize.ShloMosaic.Lib.Claim
public import Idealize.ShloMosaic.Lib.StableHlo.ReadAt
public import Idealize.ShloMosaic.Lib.WritesUnit
@[expose] public section
set_option maxRecDepth 16384
noncomputable section
open Idealize.ShloMosaic Idealize.ShloMosaic.TcCoe Idealize.SL.Sem

namespace Cert.Kernel7Ideal.DestValue
open Cert.Kernel7Ideal Cert.Kernel7Ideal.Gen

section body
variable (c : Dev nD) (i : grid0.Coords) (arg2 : Memref sig .tc .vmem S8x4096 .i32) (harg2 : arg2.IsWhole) (arg3 : Memref sig .tc .vmem S8x4096 .i32) (harg3 : arg3.IsWhole)
  (x : Vec Ideal S8x4096 .i32) (T : S32.Idx → BitVec 32) (w : Fin 32 → BitVec 32)

/-- A block's first two rows: the starts the table gives the experts named there, plus the ranks. -/
def top : IVec S2x4096 32 :=
  k0_pay7 (F := Ideal) x (k0_pay1 (F := Ideal) x)
    (k0_pay5 (F := Ideal) (k0_pay1 (F := Ideal) x)
      (k0_pay4 (F := Ideal) (k0_pay1 (F := Ideal) x) (k0_pay2 (F := Ideal) x (w 0) (w 1) (w 2) (w 3) (w 4) (w 5) (w 6)) (k0_pay3 (F := Ideal) x)
        (w 7) (w 8) (w 9) (w 10) (w 11) (w 12) (w 13) (w 14) (w 15))
      16#32 (w 16) (w 17) (w 18) (w 19) (w 20) (w 21) (w 22) (w 23))
    (k0_pay6 (k0_pay1 (F := Ideal) x)) (w 24) (w 25) (w 26) (w 27) (w 28) (w 29) (w 30) (w 31)

theorem top_at (r : Fin 2) (q : Fin 4096) (n : Fin 32) (hn : x (ix2 ⟨r.val, by omega⟩ q) = BitVec.ofNat 32 n.val) :
    top x w (ix2 r q) = w n + x (ix2 ⟨2 + r.val, by omega⟩ q) := by
  pointwise [top, k0_pay7, k0_pay6, k0_pay5, k0_pay4, k0_pay3, k0_pay2, k0_pay1]
  rw [hn]
  generalize x (ix2 ⟨2 + r.val, _⟩ q) = y
  fin_cases n <;> rfl

/-- A word of the table, read. -/
theorem word (k : ℕ) (hk : k < 32) (inb : ∀ a : Fin S32.rank, (![k] : Fin 1 → ℕ) a + S1.size a ≤ S32.size a) (h : 0 < (Rect.unit (s := S32) ![k] S1.size inb).shape.numel) :
    View.readAt (Elt Ideal) tbM0_0.view (Rect.unit (s := S32) ![k] S1.size inb).toLoadRect T (Shape.Idx.first (s := (Rect.unit (s := S32) ![k] S1.size inb).shape) h) = T (ix1 ⟨k, hk⟩) := by
  refine congrArg T (funext fun a => Fin.ext ?_)
  obtain rfl : a = (0 : Fin 1) := Subsingleton.elim (α := Fin 1) _ _
  show k + 1 * 0 = k
  omega

theorem full_idx {s : Shape} {off : Fin s.rank → ℕ} (inb : ∀ a, off a + s.size a ≤ s.size a) (y : s.Idx) :
    (Rect.unit off s.size inb).toLoadRect.idx y = y :=
  funext fun a => Fin.ext (by
    show off a + 1 * (y a).val = (y a).val
    have := inb a; omega)

/-- The block, loaded. -/
theorem block : arg2.view.readAt (Elt Ideal) (Rect.unit (s := S8x4096) ![0, 0] S8x4096.size inb_S8x4096_S8x4096_0_0).toLoadRect (harg2.unread x) = x := by
  refine funext fun y => ?_
  refine (congrFun (harg2.read_unread (Val := Elt Ideal) x) _).trans ?_
  exact congrArg x (full_idx inb_S8x4096_S8x4096_0_0 y)

/-- Of the two stores, the first two rows are the earlier one's. -/
theorem rows_at (f : VO0_1.ty.Contents (Elt Ideal)) (P : S6x4096.Idx → BitVec 32) (Q : S2x4096.Idx → BitVec 32) (r : Fin 2) (q : Fin 4096) :
    VO0_1.read (Elt Ideal) (VO0_1.writes (Elt Ideal) f [⟨Rect.unit (s := S8x4096) ![2, 0] ![6, 4096] inb_S8x4096_S6x4096_2_0, P⟩,
      ⟨Rect.unit (s := S8x4096) ![0, 0] ![2, 4096] inb_S8x4096_S2x4096_0_0, Q⟩]) (ix2 ⟨r.val, by omega⟩ q) = Q (ix2 r q) := by
  rw [View.read_writes_cons_rows_of_not_mem (o := 2) (W := 6) VO0_1 f inb_S8x4096_S6x4096_2_0 P _ _ rfl rfl (.inl r.isLt),
    View.read_writes_cons_rows_of_mem (o := 0) VO0_1 f inb_S8x4096_S2x4096_0_0 Q _ _ (ix2 r q) rfl (Nat.zero_add _).symm rfl]

theorem out_at (r : Fin 2) (q : Fin 4096) : out0_A_1 (F := Ideal) c i arg2 harg2 arg3 harg3 x T (ix2 ⟨r.val, by omega⟩ q) = top x (fun k => T (ix1 k)) (ix2 r q) := by
  unfold out0_A_1 kernelRun0_A
  dsimp only
  refine (rows_at _ _ _ r q).trans (congrFun ?_ _)
  unfold kernelRun0_A.sl.r_7 kernelRun0_A.sl.r_8 kernelRun0_A.sl.r_30 kernelRun0_A.sl.r_31 kernelRun0_A.sl.r_20 kernelRun0_A.sl.r_9 kernelRun0_A.sl.r_10 kernelRun0_A.sl.r kernelRun0_A.sl.r_1 kernelRun0_A.sl.r_2 kernelRun0_A.sl.r_3 kernelRun0_A.sl.r_4 kernelRun0_A.sl.r_5 kernelRun0_A.sl.r_6 kernelRun0_A.sl.r_11 kernelRun0_A.sl.r_12 kernelRun0_A.sl.r_13 kernelRun0_A.sl.r_14 kernelRun0_A.sl.r_15 kernelRun0_A.sl.r_16 kernelRun0_A.sl.r_17 kernelRun0_A.sl.r_18 kernelRun0_A.sl.r_19 kernelRun0_A.sl.r_21 kernelRun0_A.sl.r_22 kernelRun0_A.sl.r_23 kernelRun0_A.sl.r_24 kernelRun0_A.sl.r_25 kernelRun0_A.sl.r_26 kernelRun0_A.sl.r_27 kernelRun0_A.sl.r_28 kernelRun0_A.sl.r_29 kernelRun0_A.sl.r_32 kernelRun0_A.sl.r_33 kernelRun0_A.sl.r_34 kernelRun0_A.sl.r_35 kernelRun0_A.sl.r_36 kernelRun0_A.sl.r_37 kernelRun0_A.sl.r_38
  unfold kernelRun0_A.sl.r_8
  try unfold kernelRun0_A.sl.r_7
  rw [block arg2 harg2 x]
  simp (decide := true) only [word T]
  rfl
end body

section launch
variable (m : (ℓ : Loc nD τ sig) → Buf (Elt Ideal) ℓ) (hO : Ok (F := Ideal) m) (c : Dev nD)

/-- The starts. -/
abbrev starts : S32.Idx → BitVec 32 := m ((c : Thread nD τ).loc main_arg0)
/-- The experts named (the first two rows) and the ranks (the next two). -/
abbrev pairs : S8x32768.Idx → BitVec 32 := m ((c : Thread nD τ).loc main_arg1)

theorem lt8 (t : Fin (cfgM m hO).N) : t.val < 8 := t.isLt

theorem idx1 (t : Fin (cfgM m hO).N) : ((cfgM m hO).win 1).index t = ![0, t.val] :=
  (by decide +kernel : ∀ t : Fin grid0.N, cc0_transform_1 (grid0.coords t) = ![0, t.val]) t
theorem idx0 (t : Fin (cfgM m hO).N) : ((cfgM m hO).win 0).index t = ![0, t.val] :=
  (by decide +kernel : ∀ t : Fin grid0.N, cc0_transform_0 (grid0.coords t) = ![0, t.val]) t

/-- An entry of the result: whichever expert is named there, its start plus the rank. -/
def Right (i : S8x32768.Idx) (v : BitVec 32) : Prop :=
  ∀ (r : Fin 2) (s : Fin 32768) (n : Fin 32), i = ix2 ⟨r.val, by omega⟩ s → pairs m c (ix2 ⟨r.val, by omega⟩ s) = BitVec.ofNat 32 n.val →
    v = starts m c (ix1 n) + pairs m c (ix2 ⟨2 + r.val, by omega⟩ s)

theorem blk_at (t : Fin (cfgM m hO).N) (k : Fin 8) (q : Fin 4096) (s : Fin 32768) (hs : s.val = t.val * 4096 + q.val) :
    iblk m hO c 0 t (ix2 k q) = pairs m c (ix2 k s) := by
  have e := idx0 m hO t
  rw [show pairs m c = V m c main_arg1 from (V_main_arg1 m c).symm]
  blk_ext [iblk, e]

theorem tbl_eq : tbl m 0 = starts m c := by
  obtain rfl : c = 0 := Subsingleton.elim _ _
  exact V_main_arg0 m 0

theorem arr_right (t : Fin (cfgM m hO).N) (hf : ((cfgM m hO).win 1).flush t = true) (i : S8x32768.Idx) (hi : i ∈ (((cfgM m hO).win 1).blk t).view.set) :
    Right m c i ((dats m hO 0 c).arrAt 1 (cfgM m hO).N i) := by
  refine (dats m hO 0 c).arrAt_forall_of_flushed 1 (fun i v => Right m c i v) (fun t hf y => ?_) (cfgM m hO).N t i t.isLt hf hi
  intro r s n hrs hn
  have e := idx1 m hO t
  have h0 := congrArg Fin.val (congrFun hrs (0 : Fin 2))
  have h1 := congrArg Fin.val (congrFun hrs (1 : Fin 2))
  blk_simp [e] at h0 h1
  have hy : y = ix2 (⟨r.val, by omega⟩ : Fin 8) (⟨(y (1 : Fin 2)).val, (y (1 : Fin 2)).isLt⟩ : Fin 4096) := by
    blk_ext [h0]
  blk_simp
  rw [after0_1]
  unfold outsAt0
  rw [hy]
  have hb := fun k => blk_at m hO c t k ⟨(y (1 : Fin 2)).val, (y (1 : Fin 2)).isLt⟩ s h1.symm
  refine (out_at c _ _ _ _ _ _ _ r _).trans ((top_at _ _ r _ n ((hb _).trans hn)).trans ?_)
  rw [hb, tbl_eq m c]

theorem arr_at (r : Fin 2) (s : Fin 32768) (n : Fin 32) (hn : pairs m c (ix2 ⟨r.val, by omega⟩ s) = BitVec.ofNat 32 n.val) :
    (dats m hO 0 c).arrAt 1 (cfgM m hO).N (ix2 ⟨r.val, by omega⟩ s) = starts m c (ix1 n) + pairs m c (ix2 ⟨2 + r.val, by omega⟩ s) := by
  have hN : (cfgM m hO).N = 8 := rfl
  obtain ⟨t, ht⟩ : ∃ t : Fin (cfgM m hO).N, t.val = s.val / 4096 := ⟨⟨s.val / 4096, by omega⟩, rfl⟩
  have e := idx1 m hO t
  have hi : (ix2 ⟨r.val, by omega⟩ s : S8x32768.Idx) = (((cfgM m hO).win 1).blk t).view.emb (ix2 (⟨r.val, by omega⟩ : Fin 8) (⟨s.val % 4096, by omega⟩ : Fin 4096)) := by
    blk_ext [e, ht]
  exact arr_right m hO c t (flush0_1 _ t) _ (hi ▸ View.emb_mem_set _ _) r s n rfl hn

/-- What the launch leaves. -/
def left : S8x32768.Idx → BitVec 32 := (dats m hO 0 c).arrAt 1 (cfgM m hO).N

/-- The result array, from the launch's. -/
theorem tail_eq : Pipeline.afterTail pcfgs (fun _ => adm m hO) (dats m hO) 0 (V0 m) [hostOps1] c main_v1
    = extractStridedSlice S2x32768 ![0, 0] (left m hO c) slices_S8x32768_S2x32768_0_0 := by
  unfold Pipeline.afterTail hostOps1
  after_results
  exact congrArg (fun a : S8x32768.Idx → BitVec 32 => extractStridedSlice S2x32768 ![0, 0] a slices_S8x32768_S2x32768_0_0)
    (Pipeline.withArrays_arr spec0 (launch0 (F := Ideal)).win.arr_inj c (V0 m c) (fun w => (dats m hO 0 c).arrAt w (cfgM m hO).N) 1)

variable (ρ : Dev nD → PrngReg)
/-- The run, read: the right entry wherever an expert is named; the arguments unchanged. -/
theorem run : θ_run defs (onTc (τ := τ) (main (F := Ideal))) ⟨m, fun _ => 0, ρ⟩ fun r => ∀ c : Dev nD,
    (∀ (k : Fin 2) (s : Fin 32768) (n : Fin 32), pairs m c (ix2 ⟨k.val, by omega⟩ s) = BitVec.ofNat 32 n.val →
      r.2.mem ((c : Thread nD τ).loc main_v1) (ix2 k s) = starts m c (ix1 n) + pairs m c (ix2 ⟨2 + k.val, by omega⟩ s))
    ∧ r.2.mem ((c : Thread nD τ).loc main_arg0) = m ((c : Thread nD τ).loc main_arg0)
    ∧ r.2.mem ((c : Thread nD τ).loc main_arg1) = m ((c : Thread nD τ).loc main_arg1) := by
  have hO : Ok (F := Ideal) m := trivial
  refine (θ_run (defs (F := Ideal)) _ _).mono (fun r h c => ⟨fun k s n hn => ?_, h.2 c⟩) (θ_run_and (run_main (F := Ideal) m ρ hO) (unchanged (F := Ideal) m ρ hO))
  refine (congrFun (((h.1 c).2 main_v1 (by decide : main_v1 ∈ Pipeline.restRefs sig spec0)).trans (tail_eq m hO c)) (ix2 k s)).trans ?_
  refine Eq.trans ?_ ((show left m hO c (ix2 ⟨k.val, by omega⟩ s) = _ from arr_at m hO c k s n hn))
  generalize left m hO c = a
  pointwise
end launch

end Cert.Kernel7Ideal.DestValue
end
-- ==== Proof.DestReference.lean ====
/- What the places' reference computes wherever an expert is named, and what the mask says there. -/
module
public import proofs.«01_k».proof.Proof.Gen.Reference7Ideal.Run
public import proofs.«01_k».proof.Proof.Gen.On_experts_named
public import proofs.«01_k».proof.Proof.DestKernel
public import Idealize.ShloMosaic.Lib.ValueIdxCore
@[expose] public section
set_option maxRecDepth 16384
noncomputable section
open Idealize.ShloMosaic Idealize.ShloMosaic.TcCoe Idealize.SL.Sem Idealize.ShloMosaic.StableHlo
namespace Cert.Reference7Ideal.DestValue
open Cert.Reference7Ideal Cert.Reference7Ideal.Gen Cert.Reference7Ideal.Value

/-- An expert's number: as an index it is itself. -/
theorem name_index : ∀ n : Fin 32, (Scalar.select (IntOp.cmpi .slt (BitVec.ofNat 32 n.val) 0#32) (IntOp.addi (BitVec.ofNat 32 n.val) 32#32) (BitVec.ofNat 32 n.val)).toInt.toNat = n.val := by
  decide +kernel

/-- The experts' numbers as the reference's indexing takes them. -/
def index (E : IVec S8x32768 32) : IVec S2x32768x1 32 :=
  broadcastInDim S2x32768x1 ![0, 1] bcast_S2x32768_S2x32768x1_0_1 (select (cmpi .slt (extractStridedSlice S2x32768 ![0, 0] E slices_S8x32768_S2x32768_0_0) (broadcastInDim S2x32768 ![] bcast_S_S2x32768 (constantI S_ 32 0#32))) (addi (extractStridedSlice S2x32768 ![0, 0] E slices_S8x32768_S2x32768_0_0) (broadcastInDim S2x32768 ![] bcast_S_S2x32768 (constantI S_ 32 32#32))) (extractStridedSlice S2x32768 ![0, 0] E slices_S8x32768_S2x32768_0_0))

theorem index_at (E : IVec S8x32768 32) (k : Fin 2) (s : Fin 32768) (n : Fin 32) (hn : E (ix2 ⟨k.val, by omega⟩ s) = BitVec.ofNat 32 n.val) :
    (index E (ix3 k s 0)).toInt.toNat = n.val := by
  refine Eq.trans ?_ (name_index n)
  rw [← hn]
  pointwise [index]

/-- What the reference leaves. -/
def result (P : IVec S32 32) (E : IVec S8x32768 32) : IVec S2x32768 32 :=
  addi (Host.gather gather_S32_S2x32768x1_S2x32768_n_0_n_n_0_2_1 P (index E)) (extractStridedSlice S2x32768 ![2, 0] E slices_S8x32768_S2x32768_2_0)

theorem result_at (P : IVec S32 32) (E : IVec S8x32768 32) (k : Fin 2) (s : Fin 32768) (n : Fin 32) (hn : E (ix2 ⟨k.val, by omega⟩ s) = BitVec.ofNat 32 n.val) :
    result P E (ix2 k s) = P (ix1 n) + E (ix2 ⟨2 + k.val, by omega⟩ s) := by
  have hg : Host.gather gather_S32_S2x32768x1_S2x32768_n_0_n_n_0_2_1 P (index E) (ix2 k s) = P (ix1 n) := by
    refine (ValueIdx.gather_take_apply (by decide) gather_S32_S2x32768x1_S2x32768_n_0_n_n_0_2_1_wf P (index E) (ix2 k s)).trans ?_
    have e : (ValueIdx.takeIdx (ix2 k s) : S2x32768x1.Idx) = ix3 k s 0 := by blk_ext
    have hi := index_at E k s n hn
    refine congrArg (fun j => P (ix1 j)) (Fin.ext ?_)
    show min (index E (ValueIdx.takeIdx (ix2 k s))).toInt.toNat 31 = n.val
    rw [e, hi]
    omega
  have hr : extractStridedSlice S2x32768 ![2, 0] E slices_S8x32768_S2x32768_2_0 (ix2 k s) = E (ix2 ⟨2 + k.val, by omega⟩ s) := by pointwise
  exact congrArg₂ (· + ·) hg hr

/-- Where the mask is set an expert is named. -/
theorem named_bits (x : BitVec 32) (h : IntOp.andi (IntOp.cmpi .sge x 0#32) (IntOp.cmpi .slt x 32#32) = 1#1) : ∃ n : Fin 32, x = BitVec.ofNat 32 n.val := by
  have e : ∀ p q : Bool, BitVec.ofBool p &&& BitVec.ofBool q = 1#1 → p = true ∧ q = true := by decide
  obtain ⟨h0, h1⟩ := e ((0#32 : BitVec 32).sle x) (x.slt 32#32) h
  rw [BitVec.sle_iff_toInt_le] at h0
  rw [BitVec.slt_iff_toInt_lt] at h1
  have e0 : (0#32 : BitVec 32).toInt = 0 := by decide
  have e1 : (32#32 : BitVec 32).toInt = 32 := by decide
  rw [e0] at h0
  rw [e1] at h1
  have hx := BitVec.toInt_eq_toNat_cond (x := x)
  have hl : x.toNat < 2 ^ 32 := x.isLt
  have hlt : x.toNat < 32 := by split at hx <;> omega
  refine ⟨⟨x.toNat, hlt⟩, BitVec.eq_of_toNat_eq ?_⟩
  rw [BitVec.toNat_ofNat]
  exact (Nat.mod_eq_of_lt hl).symm

theorem named (P : IVec S32 32) (E : IVec S8x32768 32) (k : Fin 2) (s : Fin 32768)
    (h : Cert.On_experts_named.fn (F := Ideal) P E (ix2 k s) = 1#1) : ∃ n : Fin 32, E (ix2 ⟨k.val, by omega⟩ s) = BitVec.ofNat 32 n.val := by
  refine named_bits _ (Eq.trans ?_ h)
  pointwise [Cert.On_experts_named.fn]
end Cert.Reference7Ideal.DestValue

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Frame.Runs
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Frame.Runs
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Reference7Ideal.Run
public import proofs.«01_k».proof.Proof.Gen.On_experts_named
public import proofs.«01_k».proof.Proof.FinalKernel
public import proofs.«01_k».proof.Proof.RefStages
public import proofs.«01_k».proof.Proof.MixBKernel
public import proofs.«01_k».proof.Proof.MixBReference
public import proofs.«01_k».proof.Proof.MixAKernel
public import proofs.«01_k».proof.Proof.MixAReference
public import proofs.«01_k».proof.Proof.A2BitsFrame
public import proofs.«01_k».proof.Proof.MixA2Kernel
public import proofs.«01_k».proof.Proof.MixA2Reference
public import proofs.«01_k».proof.Proof.ExpertClaim
public import proofs.«01_k».proof.Proof.AdaReference
public import proofs.«01_k».proof.Proof.DestReference
public import Idealize.ShloMosaic.Lib.Quiescent
public import Idealize.ShloMosaic.Lib.Bf16Pair
public import Idealize.ShloMosaic.Lib.Bf16PairInverse
public import Idealize.ShloMosaic.Adequacy
public import Idealize.ShloMosaic.Init

@[expose] public section

noncomputable section

namespace Cert.Proof

open Idealize.ShloMosaic Idealize.SL.Sem

/-- The final combine's reference: a host program, which writes only its own values and signals nothing. -/
theorem frameR : Cert.quiescent_ReferenceIdeal (hReferenceIdeal := Cert.ReferenceIdeal.Gen.facts) :=
  fun m ρ _ => (θ_run Cert.ReferenceIdeal.defs _ _).mono
    (fun r h => ⟨fun c => (h c).2, Idealize.ShloMosaic.sem_eq_zero_of_no_sems (by decide) r.2⟩)
    (Cert.ReferenceIdeal.Value.run (F := Ideal) m ρ)

/-- The gated-convolution mixer's reference, likewise. -/
theorem frameR2 : Cert.quiescent_Reference2Ideal (hReference2Ideal := Cert.Reference2Ideal.Gen.facts) :=
  fun m ρ _ => (θ_run Cert.Reference2Ideal.defs _ _).mono
    (fun r h => ⟨fun c => (h c).2, Idealize.ShloMosaic.sem_eq_zero_of_no_sems (by decide) r.2⟩)
    (Cert.Reference2Ideal.Value.run (F := Ideal) m ρ)

/-- The first Conformer mixer's reference, likewise. -/
theorem frameR3 : Cert.quiescent_Reference3Ideal (hReference3Ideal := Cert.Reference3Ideal.Gen.facts) :=
  fun m ρ _ => (θ_run Cert.Reference3Ideal.defs _ _).mono
    (fun r h => ⟨fun c => (h c).2, Idealize.ShloMosaic.sem_eq_zero_of_no_sems (by decide) r.2⟩)
    (Cert.Reference3Ideal.Value.run (F := Ideal) m ρ)

/-- The second Conformer mixer's reference, likewise. -/
theorem frameR5 : Cert.quiescent_Reference5Ideal (hReference5Ideal := Cert.Reference5Ideal.Gen.facts) :=
  fun m ρ _ => (θ_run Cert.Reference5Ideal.defs _ _).mono
    (fun r h => ⟨fun c => (h c).2, Idealize.ShloMosaic.sem_eq_zero_of_no_sems (by decide) r.2⟩)
    (Cert.Reference5Ideal.Value.run (F := Ideal) m ρ)

theorem frameR6 : Cert.quiescent_Reference6Ideal (hReference6Ideal := Cert.Reference6Ideal.Gen.facts) :=
  fun m ρ _ => (θ_run Cert.Reference6Ideal.defs _ _).mono
    (fun r h => ⟨fun c => (h c).2, Idealize.ShloMosaic.sem_eq_zero_of_no_sems (by decide) r.2⟩)
    (Cert.Reference6Ideal.Value.run (F := Ideal) m ρ)

theorem frameR7 : Cert.quiescent_Reference7Ideal (hReference7Ideal := Cert.Reference7Ideal.Gen.facts) :=
  fun m ρ _ => (θ_run Cert.Reference7Ideal.defs _ _).mono
    (fun r h => ⟨fun c => (h c).2, Idealize.ShloMosaic.sem_eq_zero_of_no_sems (by decide) r.2⟩)
    (Cert.Reference7Ideal.Value.run (F := Ideal) m ρ)

/-- The final combine and its reference compute one array. -/
theorem algebraic : Cert.algebraic_KernelIdeal_ReferenceIdeal (hKernelIdeal := Cert.KernelIdeal.Gen.facts)
    (hReferenceIdeal := Cert.ReferenceIdeal.Gen.facts) := by
  intro m ρ m' ρ' _ hagree
  refine ⟨fun c => Cert.KernelIdeal.FinalValue.result m c, Cert.KernelIdeal.FinalValue.run m ρ, ?_⟩
  refine (θ_run Cert.ReferenceIdeal.defs _ _).mono (fun r h c => ⟨(h c).1.trans ((Cert.RefStages.final_eq m' c).trans ?_), (h c).2⟩)
    (Cert.ReferenceIdeal.Value.run (F := Ideal) m' ρ')
  obtain ⟨h0, h1, h2, h3, h4, h5, h6⟩ := hagree c
  rw [h0, h1, h2, h3, h4, h5, h6]
  refine funext fun i : Cert.ReferenceIdeal.S4x8192x1024.Idx => ?_
  obtain ⟨b, s, l, rfl⟩ : ∃ b s l, i = ix3 b s l := ⟨i 0, i 1, i 2, eq_ix3 i⟩
  rw [Cert.RefStages.ffnAll_at]
  rfl

/-- The gated-convolution mixer reads its stored words as what they pack. -/
theorem preserves2 : Cert.preserves_Kernel2_Kernel2Ideal :=
  open Cert.Kernel2Ideal IdealRules.bf16_pair in
  ⟨bufferStatement S4x8192x2x512 S4x8192x1x512, bufferStatement S1x512x2x512 S1x512x1x512, packStatement S512x512,
    statement S1x512x2x512 S1x512x1x512⟩

/-- The gated-convolution mixer and its reference compute one array. -/
theorem algebraic2 : Cert.algebraic_Kernel2Ideal_Reference2Ideal (hKernel2Ideal := Cert.Kernel2Ideal.Gen.facts)
    (hReference2Ideal := Cert.Reference2Ideal.Gen.facts) := by
  intro m ρ m' ρ' _ hagree
  refine ⟨fun c => Cert.Kernel2Ideal.MixValue.result m c, Cert.Kernel2Ideal.MixValue.run m ρ, ?_⟩
  refine (θ_run Cert.Reference2Ideal.defs _ _).mono
    (fun r h c => ⟨(h c).1.trans ((Cert.Reference2Ideal.MixValue.res_eq m' c).trans ?_), (h c).2⟩)
    (Cert.Reference2Ideal.Value.run (F := Ideal) m' ρ')
  obtain ⟨h0, h1, h2, h3, h4, h5, h6, h7, h8, h9, h10, h11, h12, -⟩ := hagree c
  unfold Cert.Reference2Ideal.MixValue.result Cert.Reference2Ideal.MixValue.stream
  rw [h0, h1, h2, h3, h4, h5, h6, h7, h8, h9, h10, h11, h12]
  refine funext fun i : Cert.Reference2Ideal.S4x8192x1024.Idx => ?_
  obtain ⟨b, s, l, rfl⟩ : ∃ b s l, i = ix3 b s l := ⟨i 0, i 1, i 2, eq_ix3 i⟩
  rw [Cert.Reference2Ideal.MixValue.subAll_at]
  exact congrArg (fun X => Cert.RowMath.subB X (Cert.Kernel2Ideal.MixValue.ms m c b) _ _ _ _ _ s l)
    (funext fun s => funext fun k => Cert.RefStages.ffnAll_at _ _ _ _ _ _ _ b s k)

/-- The first Conformer mixer reads its stored words as what they pack. -/
theorem preserves3 : Cert.preserves_Kernel3_Kernel3Ideal :=
  open Cert.Kernel3Ideal IdealRules.bf16_pair in
  ⟨bufferStatement S4x8192x2x512 S4x8192x1x512, bufferStatement S1x512x2x512 S1x512x1x512, packStatement S512x512,
    statement S1x512x2x512 S1x512x1x512⟩

/-- The first Conformer mixer and its reference compute one array. -/
theorem algebraic3 : Cert.algebraic_Kernel3Ideal_Reference3Ideal (hKernel3Ideal := Cert.Kernel3Ideal.Gen.facts)
    (hReference3Ideal := Cert.Reference3Ideal.Gen.facts) := by
  intro m ρ m' ρ' _ hagree
  refine ⟨fun c => Cert.Kernel3Ideal.MixValue.result m c, Cert.Kernel3Ideal.MixValue.run m ρ, ?_⟩
  refine (θ_run Cert.Reference3Ideal.defs _ _).mono
    (fun r h c => ⟨(h c).1.trans ((Cert.Reference3Ideal.MixValue.res_eq m' c).trans ?_), (h c).2⟩)
    (Cert.Reference3Ideal.Value.run (F := Ideal) m' ρ')
  obtain ⟨h0, h1, h2, h3, h4, h5, h6, h7, h8, h9, h10, h11, -⟩ := hagree c
  unfold Cert.Reference3Ideal.MixValue.result
  rw [h0, h1, h2, h3, h4, h5, h6, h7, h8, h9, h10, h11]
  refine funext fun i : Cert.Reference3Ideal.S4x8192x1024.Idx => ?_
  obtain ⟨b, s, l, rfl⟩ : ∃ b s l, i = ix3 b s l := ⟨i 0, i 1, i 2, eq_ix3 i⟩
  rw [Cert.Reference3Ideal.MixValue.subAll_at]
  rfl

/-- The second Conformer mixer reads its stored words as what they pack. -/
theorem preserves5 : Cert.preserves_Kernel5_Kernel5Ideal :=
  open Cert.Kernel5Ideal IdealRules.bf16_pair in
  ⟨bufferStatement S4x8192x2x512 S4x8192x1x512, bufferStatement S1x512x2x512 S1x512x1x512, packStatement S512x512,
    statement S1x512x2x512 S1x512x1x512⟩

/-- The second Conformer mixer and its reference compute one array. -/
theorem algebraic5 : Cert.algebraic_Kernel5Ideal_Reference5Ideal (hKernel5Ideal := Cert.Kernel5Ideal.Gen.facts)
    (hReference5Ideal := Cert.Reference5Ideal.Gen.facts) := by
  intro m ρ m' ρ' _ hagree
  refine ⟨fun c => Cert.Kernel5Ideal.MixValue.result m c, Cert.Kernel5Ideal.MixValue.run m ρ, ?_⟩
  refine (θ_run Cert.Reference5Ideal.defs _ _).mono
    (fun r h c => ⟨(h c).1.trans ((Cert.Reference5Ideal.MixValue.res_eq m' c).trans ?_), (h c).2⟩)
    (Cert.Reference5Ideal.Value.run (F := Ideal) m' ρ')
  obtain ⟨h0, h1, h2, h3, h4, h5, h6, h7, h8, h9, h10, h11, h12, h13, h14, h15, h16, h17, -⟩ := hagree c
  unfold Cert.Reference5Ideal.MixValue.result Cert.Reference5Ideal.MixValue.stream
  rw [h0, h1, h2, h3, h4, h5, h6, h7, h8, h9, h10, h11, h12, h13, h14, h15, h16, h17]
  refine funext fun i : Cert.Reference5Ideal.S4x8192x1024.Idx => ?_
  obtain ⟨b, s, l, rfl⟩ : ∃ b s l, i = ix3 b s l := ⟨i 0, i 1, i 2, eq_ix3 i⟩
  refine (Cert.Reference3Ideal.MixValue.subAll_at _ _ _ _ _ _ _ _ _ _ _ _ b s l).trans ?_
  exact congrArg (fun X => Cert.RowMath.subA X (Cert.Kernel5Ideal.MixValue.ms m c b) _ _ _ _ _ _ _ _ _ _ s l)
    (funext fun s => funext fun k => Cert.RefStages.ffnAll_at _ _ _ _ _ _ _ b s k)

/-- The modulations' call and its reference compute one array. -/
theorem algebraic6 : Cert.algebraic_Kernel6Ideal_Reference6Ideal (hKernel6Ideal := Cert.Kernel6Ideal.Gen.facts)
    (hReference6Ideal := Cert.Reference6Ideal.Gen.facts) := by
  intro m ρ m' ρ' _ hagree
  refine ⟨fun c => Cert.Kernel6Ideal.AdaValue.result m c, Cert.Kernel6Ideal.AdaValue.run m ρ, ?_⟩
  refine (θ_run Cert.Reference6Ideal.defs _ _).mono
    (fun r h c => ⟨(h c).1.trans (Eq.trans (b := Cert.Reference6Ideal.AdaValue.result m' c) rfl ?_), (h c).2⟩)
    (Cert.Reference6Ideal.Value.run (F := Ideal) m' ρ')
  obtain ⟨h0, h1, h2⟩ := hagree c
  unfold Cert.Reference6Ideal.AdaValue.result
  rw [h0, h1, h2, Cert.Reference6Ideal.AdaValue.stack_eq]
  rfl

/-- The places' call and its reference compute one array, wherever an expert is named. -/
theorem algebraic7 : Cert.algebraic_Kernel7Ideal_Reference7Ideal_on_experts_named (hKernel7Ideal := Cert.Kernel7Ideal.Gen.facts)
    (hReference7Ideal := Cert.Reference7Ideal.Gen.facts) (hOn_experts_named := Cert.On_experts_named.Gen.facts) := by
  intro m ρ m' ρ' _ hagree
  refine ⟨fun c => Cert.Reference7Ideal.DestValue.result (Cert.Kernel7Ideal.DestValue.starts m c) (Cert.Kernel7Ideal.DestValue.pairs m c), ?_, ?_⟩
  · refine (θ_run Cert.Kernel7Ideal.defs _ _).mono (fun r h c => ⟨fun i hi => ?_, (h c).2⟩) (Cert.Kernel7Ideal.DestValue.run m ρ)
    obtain ⟨k, s, rfl⟩ : ∃ k s, i = ix2 k s := ⟨i 0, i 1, eq_ix2 i⟩
    obtain ⟨n, hn⟩ := Cert.Reference7Ideal.DestValue.named _ _ k s hi
    exact ((h c).1 k s n hn).trans (Cert.Reference7Ideal.DestValue.result_at _ _ k s n hn).symm
  · refine (θ_run Cert.Reference7Ideal.defs _ _).mono (fun r h c => ⟨fun i _ => ?_, (h c).2⟩)
      (Cert.Reference7Ideal.Value.run (F := Ideal) m' ρ')
    obtain ⟨h0, h1⟩ := hagree c
    refine congrFun ((h c).1.trans ?_) i
    rw [h0, h1]
    rfl

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel4.Gen.facts, Cert.Kernel4Ideal.Gen.facts, Cert.Reference4Ideal.Gen.facts,
  Cert.Kernel7.Gen.facts, Cert.Kernel7Ideal.Gen.facts, Cert.Reference7Ideal.Gen.facts,
  Cert.Pre_blocks_named.Gen.facts, Cert.On_rows_used.Gen.facts, Cert.On_experts_named.Gen.facts,
  fun m ρ _ => Cert.Kernel.Gen.frame m ρ, fun m ρ _ => Cert.KernelIdeal.Gen.frame m ρ, frameR,
  fun m ρ _ => Cert.Kernel2.Gen.frame m ρ, fun m ρ _ => Cert.Kernel2Ideal.Gen.frame m ρ, frameR2,
  fun m ρ _ => Cert.Kernel3.Gen.frame m ρ, fun m ρ _ => Cert.Kernel3Ideal.Gen.frame m ρ, frameR3,
  fun m ρ _ => Cert.Kernel5.MixFrame.frame m ρ, fun m ρ _ => Cert.Kernel5Ideal.MixFrame.frame m ρ, frameR5,
  fun m ρ _ => Cert.Kernel6.Gen.frame m ρ, fun m ρ _ => Cert.Kernel6Ideal.Gen.frame m ρ, frameR6,
  Expert.frame_kernel, Expert.frame_ideal, Expert.frame_reference,
  fun m ρ _ => Cert.Kernel7.Gen.frame m ρ trivial, fun m ρ _ => Cert.Kernel7Ideal.Gen.frame m ρ trivial, frameR7,
  trivial, algebraic, preserves2, algebraic2, preserves3, algebraic3, preserves5, algebraic5,
  trivial, algebraic6, trivial, Expert.algebraic, trivial, algebraic7⟩

end Cert.Proof

end
